-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_v89) = v1 c
          ∧ r.2.mem ((c.tc : Thread Cert.ReferenceIdeal.nD Cert.ReferenceIdeal.τ).loc Cert.ReferenceIdeal.main_v92) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v42) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v26) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v39) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v4_0)) (v1 : (c : Dev Cert.Kernel5Ideal.nD) → Buf (Elt Ideal) ((c.tc : Thread Cert.Kernel5Ideal.nD Cert.Kernel5Ideal.τ).loc Cert.Kernel5Ideal.main_v4_1)) (v2 : (c : Dev Cert.Kernel5Ideal.nD) → Buf (Elt Ideal) ((c.tc : Thread Cert.Kernel5Ideal.nD Cert.Kernel5Ideal.τ).loc Cert.Kernel5Ideal.main_v4_2)) (v3 : (c : Dev Cert.Kernel5Ideal.nD) → Buf (Elt Ideal) ((c.tc : Thread Cert.Kernel5Ideal.nD Cert.Kernel5Ideal.τ).loc Cert.Kernel5Ideal.main_v4_3)) (v4 : (c : Dev Cert.Kernel5Ideal.nD) → Buf (Elt Ideal) ((c.tc : Thread Cert.Kernel5Ideal.nD Cert.Kernel5Ideal.τ).loc Cert.Kernel5Ideal.main_v4_4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4_0) = v0 c
          ∧ r.2.mem ((c.tc : Thread Cert.Kernel5Ideal.nD Cert.Kernel5Ideal.τ).loc Cert.Kernel5Ideal.main_v4_1) = v1 c
          ∧ r.2.mem ((c.tc : Thread Cert.Kernel5Ideal.nD Cert.Kernel5Ideal.τ).loc Cert.Kernel5Ideal.main_v4_2) = v2 c
          ∧ r.2.mem ((c.tc : Thread Cert.Kernel5Ideal.nD Cert.Kernel5Ideal.τ).loc Cert.Kernel5Ideal.main_v4_3) = v3 c
          ∧ r.2.mem ((c.tc : Thread Cert.Kernel5Ideal.nD Cert.Kernel5Ideal.τ).loc Cert.Kernel5Ideal.main_v4_4) = v4 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v37) = v0 c
          ∧ r.2.mem ((c.tc : Thread Cert.Reference5Ideal.nD Cert.Reference5Ideal.τ).loc Cert.Reference5Ideal.main_v38) = v1 c
          ∧ r.2.mem ((c.tc : Thread Cert.Reference5Ideal.nD Cert.Reference5Ideal.τ).loc Cert.Reference5Ideal.main_v39) = v2 c
          ∧ r.2.mem ((c.tc : Thread Cert.Reference5Ideal.nD Cert.Reference5Ideal.τ).loc Cert.Reference5Ideal.main_v40) = v3 c
          ∧ r.2.mem ((c.tc : Thread Cert.Reference5Ideal.nD Cert.Reference5Ideal.τ).loc Cert.Reference5Ideal.main_v36) = v4 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v9_0)) (v1 : (c : Dev Cert.Kernel6Ideal.nD) → Buf (Elt Ideal) ((c.tc : Thread Cert.Kernel6Ideal.nD Cert.Kernel6Ideal.τ).loc Cert.Kernel6Ideal.main_v9_1)) (v2 : (c : Dev Cert.Kernel6Ideal.nD) → Buf (Elt Ideal) ((c.tc : Thread Cert.Kernel6Ideal.nD Cert.Kernel6Ideal.τ).loc Cert.Kernel6Ideal.main_v9_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v9_0) = v0 c
          ∧ r.2.mem ((c.tc : Thread Cert.Kernel6Ideal.nD Cert.Kernel6Ideal.τ).loc Cert.Kernel6Ideal.main_v9_1) = v1 c
          ∧ r.2.mem ((c.tc : Thread Cert.Kernel6Ideal.nD Cert.Kernel6Ideal.τ).loc Cert.Kernel6Ideal.main_v9_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v85) = v0 c
          ∧ r.2.mem ((c.tc : Thread Cert.Reference6Ideal.nD Cert.Reference6Ideal.τ).loc Cert.Reference6Ideal.main_v87) = v1 c
          ∧ r.2.mem ((c.tc : Thread Cert.Reference6Ideal.nD Cert.Reference6Ideal.τ).loc Cert.Reference6Ideal.main_v88) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal (hKernelIdeal := hKernelIdeal) (hReferenceIdeal := hReferenceIdeal)
    ∧ algebraic_Kernel2Ideal_Reference2Ideal (hKernel2Ideal := hKernel2Ideal) (hReference2Ideal := hReference2Ideal)
    ∧ algebraic_Kernel3Ideal_Reference3Ideal (hKernel3Ideal := hKernel3Ideal) (hReference3Ideal := hReference3Ideal)
    ∧ algebraic_Kernel4Ideal_Reference4Ideal (hKernel4Ideal := hKernel4Ideal) (hReference4Ideal := hReference4Ideal)
    ∧ algebraic_Kernel5Ideal_Reference5Ideal (hKernel5Ideal := hKernel5Ideal) (hReference5Ideal := hReference5Ideal)
    ∧ algebraic_Kernel6Ideal_Reference6Ideal (hKernel6Ideal := hKernel6Ideal) (hReference6Ideal := hReference6Ideal)
-- ==== Kernel.lean ====
abbrev S2x64x1024x128 : Shape := ⟨4, ![2, 64, 1024, 128]⟩
abbrev S2x8192x256 : Shape := ⟨3, ![2, 8192, 256]⟩
abbrev S2x64x256x128 : Shape := ⟨4, ![2, 64, 256, 128]⟩
abbrev S16 : Shape := ⟨1, ![16]⟩
abbrev S4x1024x5632 : Shape := ⟨3, ![4, 1024, 5632]⟩
abbrev S4x2816x1024 : Shape := ⟨3, ![4, 2816, 1024]⟩
abbrev S4x4 : Shape := ⟨2, ![4, 4]⟩
abbrev S4x4x128 : Shape := ⟨3, ![4, 4, 128]⟩
abbrev S4x512 : Shape := ⟨2, ![4, 512]⟩
abbrev S2x8192x1024 : Shape := ⟨3, ![2, 8192, 1024]⟩
abbrev S1024x5632 : Shape := ⟨2, ![1024, 5632]⟩
abbrev S2816x1024 : Shape := ⟨2, ![2816, 1024]⟩
abbrev S1x8x1024x128 : Shape := ⟨4, ![1, 8, 1024, 128]⟩
abbrev S1x128x256 : Shape := ⟨3, ![1, 128, 256]⟩
abbrev S1x1024x256 : Shape := ⟨3, ![1, 1024, 256]⟩
abbrev S1x1x256x128 : Shape := ⟨4, ![1, 1, 256, 128]⟩
abbrev S1x8x256x128 : Shape := ⟨4, ![1, 8, 256, 128]⟩
abbrev S1x128x5632 : Shape := ⟨3, ![1, 128, 5632]⟩
abbrev S1x352x1024 : Shape := ⟨3, ![1, 352, 1024]⟩
abbrev S1x1024x1024 : Shape := ⟨3, ![1, 1024, 1024]⟩
abbrev S128x5632 : Shape := ⟨2, ![128, 5632]⟩
abbrev S352x1024 : Shape := ⟨2, ![352, 1024]⟩
abbrev S1280x256 : Shape := ⟨2, ![1280, 256]⟩
abbrev S10x256x128 : Shape := ⟨3, ![10, 256, 128]⟩
abbrev S128x256 : Shape := ⟨2, ![128, 256]⟩
abbrev S1024x256 : Shape := ⟨2, ![1024, 256]⟩
abbrev S256x128 : Shape := ⟨2, ![256, 128]⟩
abbrev S1x256x128 : Shape := ⟨3, ![1, 256, 128]⟩
abbrev S8x256x128 : Shape := ⟨3, ![8, 256, 128]⟩
abbrev S128x512 : Shape := ⟨2, ![128, 512]⟩
abbrev S64x512 : Shape := ⟨2, ![64, 512]⟩
abbrev S16x384 : Shape := ⟨2, ![16, 384]⟩
abbrev S1x1x64x128 : Shape := ⟨4, ![1, 1, 64, 128]⟩
abbrev S64x128 : Shape := ⟨2, ![64, 128]⟩
abbrev S384x128 : Shape := ⟨2, ![384, 128]⟩
abbrev S384x512 : Shape := ⟨2, ![384, 512]⟩
abbrev S1x512 : Shape := ⟨2, ![1, 512]⟩
abbrev S16x8x512 : Shape := ⟨3, ![16, 8, 512]⟩
abbrev S8x512 : Shape := ⟨2, ![8, 512]⟩
abbrev S512 : Shape := ⟨1, ![512]⟩
abbrev S1x64x128 : Shape := ⟨3, ![1, 64, 128]⟩
abbrev S64x384 : Shape := ⟨2, ![64, 384]⟩
abbrev S80x384 : Shape := ⟨2, ![80, 384]⟩
abbrev S80x512 : Shape := ⟨2, ![80, 512]⟩
abbrev S128x128 : Shape := ⟨2, ![128, 128]⟩
abbrev S1x128x128 : Shape := ⟨3, ![1, 128, 128]⟩

abbrev nBuf : Space → Nat
  | .hbm => 12
  | .vmem => 27
  | .smem => 0
  | _ => 0

abbrev bufTy : (tb : Table) → Fin (tcTables nBuf tb) → BufTy
  | .hbm, ⟨0, _⟩ => ⟨S2x64x1024x128, .bf16⟩
  | .hbm, ⟨1, _⟩ => ⟨S2x8192x256, .bf16⟩
  | .hbm, ⟨2, _⟩ => ⟨S2x64x256x128, .bf16⟩
  | .hbm, ⟨3, _⟩ => ⟨S16, .f32⟩
  | .hbm, ⟨4, _⟩ => ⟨S4x1024x5632, .f32⟩
  | .hbm, ⟨5, _⟩ => ⟨S4x2816x1024, .f32⟩
  | .hbm, ⟨6, _⟩ => ⟨S4x4, .f32⟩
  | .hbm, ⟨7, _⟩ => ⟨S4x4x128, .f32⟩
  | .hbm, ⟨8, _⟩ => ⟨S4x512, .f32⟩
  | .hbm, ⟨9, _⟩ => ⟨S2x8192x1024, .bf16⟩
  | .hbm, ⟨10, _⟩ => ⟨S1024x5632, .bf16⟩
  | .hbm, ⟨11, _⟩ => ⟨S2816x1024, .bf16⟩
  | .local _ .vmem, ⟨0, _⟩ => ⟨S1x8x1024x128, .bf16⟩
  | .local _ .vmem, ⟨1, _⟩ => ⟨S1x8x1024x128, .bf16⟩
  | .local _ .vmem, ⟨2, _⟩ => ⟨S1x128x256, .bf16⟩
  | .local _ .vmem, ⟨3, _⟩ => ⟨S1x128x256, .bf16⟩
  | .local _ .vmem, ⟨4, _⟩ => ⟨S1x1024x256, .bf16⟩
  | .local _ .vmem, ⟨5, _⟩ => ⟨S1x1024x256, .bf16⟩
  | .local _ .vmem, ⟨6, _⟩ => ⟨S1x128x256, .bf16⟩
  | .local _ .vmem, ⟨7, _⟩ => ⟨S1x128x256, .bf16⟩
  | .local _ .vmem, ⟨8, _⟩ => ⟨S1x1x256x128, .bf16⟩
  | .local _ .vmem, ⟨9, _⟩ => ⟨S1x1x256x128, .bf16⟩
  | .local _ .vmem, ⟨10, _⟩ => ⟨S1x8x256x128, .bf16⟩
  | .local _ .vmem, ⟨11, _⟩ => ⟨S1x8x256x128, .bf16⟩
  | .local _ .vmem, ⟨12, _⟩ => ⟨S1x1x256x128, .bf16⟩
  | .local _ .vmem, ⟨13, _⟩ => ⟨S1x1x256x128, .bf16⟩
  | .local _ .vmem, ⟨14, _⟩ => ⟨S4x512, .f32⟩
  | .local _ .vmem, ⟨15, _⟩ => ⟨S1x128x5632, .f32⟩
  | .local _ .vmem, ⟨16, _⟩ => ⟨S1x128x5632, .f32⟩
  | .local _ .vmem, ⟨17, _⟩ => ⟨S1x352x1024, .f32⟩
  | .local _ .vmem, ⟨18, _⟩ => ⟨S1x352x1024, .f32⟩
  | .local _ .vmem, ⟨19, _⟩ => ⟨S1x1024x1024, .bf16⟩
  | .local _ .vmem, ⟨20, _⟩ => ⟨S1x1024x1024, .bf16⟩
  | .local _ .vmem, ⟨21, _⟩ => ⟨S128x5632, .bf16⟩
  | .local _ .vmem, ⟨22, _⟩ => ⟨S128x5632, .bf16⟩
  | .local _ .vmem, ⟨23, _⟩ => ⟨S352x1024, .bf16⟩
  | .local _ .vmem, ⟨24, _⟩ => ⟨S352x1024, .bf16⟩
  | .local _ .vmem, ⟨25, _⟩ => ⟨S1280x256, .bf16⟩
  | .local _ .vmem, ⟨26, _⟩ => ⟨S10x256x128, .bf16⟩
  | _, _ => ⟨S2x64x1024x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_scratch0 : Ref sig .tc := ⟨.vmem, 25, rfl⟩
abbrev cc0_scratch1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24

abbrev nD : Nat := 1
abbrev τ : Topo := Topo.v7x

variable {F : FTy → Type} [FloatOps F]

abbrev grid0 : Pipeline.Grid := ⟨2, ![2, 8], ![false, false]⟩

def k0_cond1 (i : grid0.Coords) : BitVec 1 :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_3 : BitVec 32 := 0#32
  let v12 : BitVec 1 := Scalar.cmpi .eq v11 c0_i32_3
  let v13 : BitVec 32 := Scalar.extui v12
  let c0_i32_4 : BitVec 32 := 0#32
  let v14 : BitVec 1 := Scalar.cmpi .ne v13 c0_i32_4
  v14

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c8_i32 : BitVec 32 := 8#32
  let v1 : BitVec 32 := Scalar.muli v0 c8_i32
  let c63_i32 : BitVec 32 := 63#32
  let v2 : BitVec 32 := Scalar.minsi v1 c63_i32
  let c0_i32 : BitVec 32 := 0#32
  let c0_i32_0 : BitVec 32 := 0#32
  ![arg0.toNat, v2.toNat, c0_i32.toNat]

def cc0_transform_4 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  let c0_i32_2 : BitVec 32 := 0#32
  ![arg0.toNat, v2.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c8_i32 : BitVec 32 := 8#32
  let v1 : BitVec 32 := Scalar.muli v0 c8_i32
  let c63_i32 : BitVec 32 := 63#32
  let v2 : BitVec 32 := Scalar.minsi v1 c63_i32
  let c0_i32 : BitVec 32 := 0#32
  let c0_i32_0 : BitVec 32 := 0#32
  let c0_i32_1 : BitVec 32 := 0#32
  ![arg0.toNat, v2.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c2_i32 c0_i32_1
  let v9 : BitVec 32 := Scalar.extui v8
  let c0_i32_2 : BitVec 32 := 0#32
  let v10 : BitVec 1 := Scalar.cmpi .slt c2_i32 c0_i32_2
  let v11 : BitVec 32 := Scalar.extui v10
  let v12 : BitVec 32 := Scalar.subi v9 v11
  let v13 : BitVec 1 := Scalar.cmpi .ne v7 v12
  let v14 : BitVec 32 := Scalar.remsi v1 c2_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c1_i32_4 : BitVec 32 := 1#32
  let c0_i32_5 : BitVec 32 := 0#32
  let c0_i32_6 : BitVec 32 := 0#32
  ![c1_i32_4.toNat, v18.toNat, c0_i32_5.toNat]

def cc0_transform_9 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c2_i32 c0_i32_1
  let v9 : BitVec 32 := Scalar.extui v8
  let c0_i32_2 : BitVec 32 := 0#32
  let v10 : BitVec 1 := Scalar.cmpi .slt c2_i32 c0_i32_2
  let v11 : BitVec 32 := Scalar.extui v10
  let v12 : BitVec 32 := Scalar.subi v9 v11
  let v13 : BitVec 1 := Scalar.cmpi .ne v7 v12
  let v14 : BitVec 32 := Scalar.remsi v1 c2_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c1_i32_4 : BitVec 32 := 1#32
  let c0_i32_5 : BitVec 32 := 0#32
  let c0_i32_6 : BitVec 32 := 0#32
  ![c1_i32_4.toNat, v18.toNat, c0_i32_5.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c2_i32 c0_i32_1
  let v9 : BitVec 32 := Scalar.extui v8
  let c0_i32_2 : BitVec 32 := 0#32
  let v10 : BitVec 1 := Scalar.cmpi .slt c2_i32 c0_i32_2
  let v11 : BitVec 32 := Scalar.extui v10
  let v12 : BitVec 32 := Scalar.subi v9 v11
  let v13 : BitVec 1 := Scalar.cmpi .ne v7 v12
  let v14 : BitVec 32 := Scalar.remsi v1 c2_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c0_i32_4 : BitVec 32 := 0#32
  let c0_i32_5 : BitVec 32 := 0#32
  ![v18.toNat, c0_i32_4.toNat]

def cc0_transform_12 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c2_i32 c0_i32_1
  let v9 : BitVec 32 := Scalar.extui v8
  let c0_i32_2 : BitVec 32 := 0#32
  let v10 : BitVec 1 := Scalar.cmpi .slt c2_i32 c0_i32_2
  let v11 : BitVec 32 := Scalar.extui v10
  let v12 : BitVec 32 := Scalar.subi v9 v11
  let v13 : BitVec 1 := Scalar.cmpi .ne v7 v12
  let v14 : BitVec 32 := Scalar.remsi v1 c2_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c0_i32_4 : BitVec 32 := 0#32
  let c0_i32_5 : BitVec 32 := 0#32
  ![v18.toNat, c0_i32_4.toNat]

abbrev stage0_0 : Fin 2 → Memref sig .tc .vmem S1x8x1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S4x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x128x5632 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x352x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1024x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S128x5632 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S352x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S2x64x1024x128 : Shape := ⟨4, ![2, 64, 1024, 128]⟩
abbrev S2x8192x256 : Shape := ⟨3, ![2, 8192, 256]⟩
abbrev S2x64x256x128 : Shape := ⟨4, ![2, 64, 256, 128]⟩
abbrev S16 : Shape := ⟨1, ![16]⟩
abbrev S4x1024x5632 : Shape := ⟨3, ![4, 1024, 5632]⟩
abbrev S4x2816x1024 : Shape := ⟨3, ![4, 2816, 1024]⟩
abbrev S2x64x4x4x64x128 : Shape := ⟨6, ![2, 64, 4, 4, 64, 128]⟩
abbrev S2x64x128x4x4x64 : Shape := ⟨6, ![2, 64, 128, 4, 4, 64]⟩
abbrev S_ : Shape := ⟨0, ![]⟩
abbrev S2x8192x4x64 : Shape := ⟨4, ![2, 8192, 4, 64]⟩
abbrev S2x64x4x64x128 : Shape := ⟨5, ![2, 64, 4, 64, 128]⟩
abbrev S2x64x128x4x64 : Shape := ⟨5, ![2, 64, 128, 4, 64]⟩
abbrev S2x8448x4x64 : Shape := ⟨4, ![2, 8448, 4, 64]⟩
abbrev S2x66x128x4x64 : Shape := ⟨5, ![2, 66, 128, 4, 64]⟩
abbrev S2x64x384x4x64 : Shape := ⟨5, ![2, 64, 384, 4, 64]⟩
abbrev S2x64x4x384x128x4 : Shape := ⟨6, ![2, 64, 4, 384, 128, 4]⟩
abbrev S2x64x4x4x128x384 : Shape := ⟨6, ![2, 64, 4, 4, 128, 384]⟩
abbrev S128 : Shape := ⟨1, ![128]⟩
abbrev S384 : Shape := ⟨1, ![384]⟩
abbrev S1x384 : Shape := ⟨2, ![1, 384]⟩
abbrev S128x1 : Shape := ⟨2, ![128, 1]⟩
abbrev S128x384 : Shape := ⟨2, ![128, 384]⟩
abbrev S64 : Shape := ⟨1, ![64]⟩
abbrev S64x1 : Shape := ⟨2, ![64, 1]⟩
abbrev S64x384 : Shape := ⟨2, ![64, 384]⟩
abbrev S1x128x384 : Shape := ⟨3, ![1, 128, 384]⟩
abbrev S64x1x384 : Shape := ⟨3, ![64, 1, 384]⟩
abbrev S64x128x384 : Shape := ⟨3, ![64, 128, 384]⟩
abbrev S1x64x1x1x128x384 : Shape := ⟨6, ![1, 64, 1, 1, 128, 384]⟩
abbrev S4x4 : Shape := ⟨2, ![4, 4]⟩
abbrev S1x1x4x4x1 : Shape := ⟨5, ![1, 1, 4, 4, 1]⟩
abbrev S2x64x4x4x128 : Shape := ⟨5, ![2, 64, 4, 4, 128]⟩
abbrev S2x64x4x4x128x1 : Shape := ⟨6, ![2, 64, 4, 4, 128, 1]⟩
abbrev S2x64x4x64x4x128 : Shape := ⟨6, ![2, 64, 4, 64, 4, 128]⟩
abbrev S2x64x128x4x4 : Shape := ⟨5, ![2, 64, 128, 4, 4]⟩
abbrev S2x64x128x4x4x1 : Shape := ⟨6, ![2, 64, 128, 4, 4, 1]⟩
abbrev S2x8192x1024 : Shape := ⟨3, ![2, 8192, 1024]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩

abbrev nBuf : Space → Nat
  | .hbm => 119
  | .vmem => 0
  | .smem => 0
  | _ => 0

abbrev bufTy : (tb : Table) → Fin (tcTables nBuf tb) → BufTy
  | .hbm, ⟨0, _⟩ => ⟨S2x64x1024x128, .bf16⟩
  | .hbm, ⟨1, _⟩ => ⟨S2x8192x256, .bf16⟩
  | .hbm, ⟨2, _⟩ => ⟨S2x64x256x128, .bf16⟩
  | .hbm, ⟨3, _⟩ => ⟨S16, .f32⟩
  | .hbm, ⟨4, _⟩ => ⟨S4x1024x5632, .f32⟩
  | .hbm, ⟨5, _⟩ => ⟨S4x2816x1024, .f32⟩
  | .hbm, ⟨6, _⟩ => ⟨S2x64x1024x128, .f32⟩
  | .hbm, ⟨7, _⟩ => ⟨S2x64x4x4x64x128, .f32⟩
  | .hbm, ⟨8, _⟩ => ⟨S2x64x128x4x4x64, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S2x64x128x4x4x64, .f32⟩
  | .hbm, ⟨14, _⟩ => ⟨S2x64x128x4x4x64, .f32⟩
  | .hbm, ⟨15, _⟩ => ⟨S2x8192x256, .f32⟩
  | .hbm, ⟨16, _⟩ => ⟨S2x8192x4x64, .f32⟩
  | .hbm, ⟨17, _⟩ => ⟨S2x64x256x128, .f32⟩
  | .hbm, ⟨18, _⟩ => ⟨S2x64x4x64x128, .f32⟩
  | .hbm, ⟨19, _⟩ => ⟨S2x64x128x4x64, .f32⟩
  | .hbm, ⟨20, _⟩ => ⟨S2x8192x4x64, .f32⟩
  | .hbm, ⟨21, _⟩ => ⟨S_, .i32⟩
  | .hbm, ⟨22, _⟩ => ⟨S_, .f32⟩
  | .hbm, ⟨23, _⟩ => ⟨S2x8448x4x64, .f32⟩
  | .hbm, ⟨24, _⟩ => ⟨S2x66x128x4x64, .f32⟩
  | .hbm, ⟨25, _⟩ => ⟨S2x64x128x4x64, .f32⟩
  | .hbm, ⟨26, _⟩ => ⟨S2x64x128x4x64, .f32⟩
  | .hbm, ⟨27, _⟩ => ⟨S2x64x128x4x64, .f32⟩
  | .hbm, ⟨28, _⟩ => ⟨S2x64x384x4x64, .f32⟩
  | .hbm, ⟨29, _⟩ => ⟨S_, .i32⟩
  | .hbm, ⟨30, _⟩ => ⟨S_, .f32⟩
  | .hbm, ⟨31, _⟩ => ⟨S2x8448x4x64, .f32⟩
  | .hbm, ⟨32, _⟩ => ⟨S2x66x128x4x64, .f32⟩
  | .hbm, ⟨33, _⟩ => ⟨S2x64x128x4x64, .f32⟩
  | .hbm, ⟨34, _⟩ => ⟨S2x64x128x4x64, .f32⟩
  | .hbm, ⟨35, _⟩ => ⟨S2x64x128x4x64, .f32⟩
  | .hbm, ⟨36, _⟩ => ⟨S2x64x384x4x64, .f32⟩
  | .hbm, ⟨37, _⟩ => ⟨S2x64x4x384x128x4, .f32⟩
  | .hbm, ⟨38, _⟩ => ⟨S2x64x4x4x128x384, .f32⟩
  | .hbm, ⟨39, _⟩ => ⟨S_, .f32⟩
  | .hbm, ⟨40, _⟩ => ⟨S2x64x4x4x128x384, .f32⟩
  | .hbm, ⟨41, _⟩ => ⟨S2x64x4x4x128x384, .f32⟩
  | .hbm, ⟨42, _⟩ => ⟨S128, .i32⟩
  | .hbm, ⟨43, _⟩ => ⟨S384, .i32⟩
  | .hbm, ⟨44, _⟩ => ⟨S1x384, .i32⟩
  | .hbm, ⟨45, _⟩ => ⟨S_, .i32⟩
  | .hbm, ⟨46, _⟩ => ⟨S1x384, .i32⟩
  | .hbm, ⟨47, _⟩ => ⟨S1x384, .i32⟩
  | .hbm, ⟨48, _⟩ => ⟨S128x1, .i32⟩
  | .hbm, ⟨49, _⟩ => ⟨S128x384, .i32⟩
  | .hbm, ⟨50, _⟩ => ⟨S128x384, .i32⟩
  | .hbm, ⟨51, _⟩ => ⟨S128x384, .i32⟩
  | .hbm, ⟨52, _⟩ => ⟨S128x384, .i32⟩
  | .hbm, ⟨53, _⟩ => ⟨S_, .i32⟩
  | .hbm, ⟨54, _⟩ => ⟨S128x384, .i32⟩
  | .hbm, ⟨55, _⟩ => ⟨S128x384, .i1⟩
  | .hbm, ⟨56, _⟩ => ⟨S64, .i32⟩
  | .hbm, ⟨57, _⟩ => ⟨S64x1, .i32⟩
  | .hbm, ⟨58, _⟩ => ⟨S_, .i32⟩
  | .hbm, ⟨59, _⟩ => ⟨S64x1, .i32⟩
  | .hbm, ⟨60, _⟩ => ⟨S64x1, .i32⟩
  | .hbm, ⟨61, _⟩ => ⟨S_, .i32⟩
  | .hbm, ⟨62, _⟩ => ⟨S64x1, .i32⟩
  | .hbm, ⟨63, _⟩ => ⟨S64x1, .i32⟩
  | .hbm, ⟨64, _⟩ => ⟨S1x384, .i32⟩
  | .hbm, ⟨65, _⟩ => ⟨S64x384, .i32⟩
  | .hbm, ⟨66, _⟩ => ⟨S64x384, .i32⟩
  | .hbm, ⟨67, _⟩ => ⟨S64x384, .i32⟩
  | .hbm, ⟨68, _⟩ => ⟨S_, .i32⟩
  | .hbm, ⟨69, _⟩ => ⟨S64x384, .i32⟩
  | .hbm, ⟨70, _⟩ => ⟨S64x384, .i1⟩
  | .hbm, ⟨71, _⟩ => ⟨S_, .i32⟩
  | .hbm, ⟨72, _⟩ => ⟨S64x384, .i32⟩
  | .hbm, ⟨73, _⟩ => ⟨S64x384, .i1⟩
  | .hbm, ⟨74, _⟩ => ⟨S64x384, .i1⟩
  | .hbm, ⟨75, _⟩ => ⟨S1x128x384, .i1⟩
  | .hbm, ⟨76, _⟩ => ⟨S64x1x384, .i1⟩
  | .hbm, ⟨77, _⟩ => ⟨S64x128x384, .i1⟩
  | .hbm, ⟨78, _⟩ => ⟨S64x128x384, .i1⟩
  | .hbm, ⟨79, _⟩ => ⟨S64x128x384, .i1⟩
  | .hbm, ⟨80, _⟩ => ⟨S1x64x1x1x128x384, .i1⟩
  | .hbm, ⟨81, _⟩ => ⟨S_, .f32⟩
  | .hbm, ⟨82, _⟩ => ⟨S_, .f32⟩
  | .hbm, ⟨83, _⟩ => ⟨S2x64x4x4x128x384, .i1⟩
  | .hbm, ⟨84, _⟩ => ⟨S2x64x4x4x128x384, .f32⟩
  | .hbm, ⟨85, _⟩ => ⟨S2x64x4x4x128x384, .f32⟩
  | .hbm, ⟨86, _⟩ => ⟨S4x4, .f32⟩
  | .hbm, ⟨87, _⟩ => ⟨S1x1x4x4x1, .f32⟩
  | .hbm, ⟨88, _⟩ => ⟨S_, .f32⟩
  | .hbm, ⟨89, _⟩ => ⟨S2x64x4x4x128, .f32⟩
  | .hbm, ⟨90, _⟩ => ⟨S2x64x4x4x128, .f32⟩
  | .hbm, ⟨91, _⟩ => ⟨S2x64x4x4x128, .f32⟩
  | .hbm, ⟨92, _⟩ => ⟨S2x64x4x4x128x1, .f32⟩
  | .hbm, ⟨93, _⟩ => ⟨S2x64x4x4x128x384, .f32⟩
  | .hbm, ⟨94, _⟩ => ⟨S2x64x4x4x128x384, .f32⟩
  | .hbm, ⟨95, _⟩ => ⟨S2x64x4x4x128x384, .f32⟩
  | .hbm, ⟨96, _⟩ => ⟨S_, .f32⟩
  | .hbm, ⟨97, _⟩ => ⟨S2x64x4x4x128, .f32⟩
  | .hbm, ⟨98, _⟩ => ⟨S2x64x4x4x128, .f32⟩
  | .hbm, ⟨99, _⟩ => ⟨S2x64x4x4x128, .f32⟩
  | .hbm, ⟨100, _⟩ => ⟨S2x64x4x4x128, .f32⟩
  | .hbm, ⟨101, _⟩ => ⟨S2x64x4x4x128, .f32⟩
  | .hbm, ⟨102, _⟩ => ⟨S2x64x4x64x4x128, .f32⟩
  | .hbm, ⟨103, _⟩ => ⟨S2x64x128x4x4x64, .f32⟩
  | .hbm, ⟨104, _⟩ => ⟨S_, .f32⟩
  | .hbm, ⟨105, _⟩ => ⟨S2x64x4x4x128, .f32⟩
  | .hbm, ⟨106, _⟩ => ⟨S2x64x4x4x128, .f32⟩
  | .hbm, ⟨107, _⟩ => ⟨S2x64x128x4x4, .f32⟩
  | .hbm, ⟨108, _⟩ => ⟨S2x64x128x4x4x1, .f32⟩
  | .hbm, ⟨109, _⟩ => ⟨S2x64x128x4x4x64, .f32⟩
  | .hbm, ⟨110, _⟩ => ⟨S2x64x128x4x4x64, .f32⟩
  | .hbm, ⟨111, _⟩ => ⟨S2x8192x1024, .f32⟩
  | .hbm, ⟨112, _⟩ => ⟨S2x8192x1024, .bf16⟩
  | .hbm, ⟨113, _⟩ => ⟨S1x1024x5632, .f32⟩
  | .hbm, ⟨114, _⟩ => ⟨S1024x5632, .f32⟩
  | .hbm, ⟨115, _⟩ => ⟨S1024x5632, .bf16⟩
  | .hbm, ⟨116, _⟩ => ⟨S1x2816x1024, .f32⟩
  | .hbm, ⟨117, _⟩ => ⟨S2816x1024, .f32⟩
  | .hbm, ⟨118, _⟩ => ⟨S2816x1024, .bf16⟩
  | _, _ => ⟨S2x64x1024x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c : Ref sig .tc := ⟨.hbm, 21, rfl⟩
abbrev main_call0_v0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_1 : Ref sig .tc := ⟨.hbm, 29, rfl⟩
abbrev main_call1_v0 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_2 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_c_3 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_c_4 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_c_5 : Ref sig .tc := ⟨.hbm, 58, rfl⟩
abbrev main_v43 : Ref sig .tc := ⟨.hbm, 59, rfl⟩
abbrev main_v44 : Ref sig .tc := ⟨.hbm, 60, rfl⟩
abbrev main_c_6 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_c_7 : Ref sig .tc := ⟨.hbm, 68, rfl⟩
abbrev main_v51 : Ref sig .tc := ⟨.hbm, 69, rfl⟩
abbrev main_v52 : Ref sig .tc := ⟨.hbm, 70, rfl⟩
abbrev main_c_8 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_cst_9 : Ref sig .tc := ⟨.hbm, 81, rfl⟩
abbrev main_call2_v0 : Ref sig .tc := ⟨.hbm, 82, rfl⟩
abbrev main_call2_v1 : Ref sig .tc := ⟨.hbm, 83, rfl⟩
abbrev main_call2_v2 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_cst_10 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_cst_11 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_cst_12 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩

abbrev nD : Nat := 1
abbrev τ : Topo := Topo.v7x

variable {F : FTy → Type} [FloatOps F]
-- ==== Kernel2.lean ====
abbrev S2x8192x1024 : Shape := ⟨3, ![2, 8192, 1024]⟩
abbrev S1024 : Shape := ⟨1, ![1024]⟩
abbrev S2x1024x1024 : Shape := ⟨3, ![2, 1024, 1024]⟩
abbrev S1024x5632 : Shape := ⟨2, ![1024, 5632]⟩
abbrev S2816x1024 : Shape := ⟨2, ![2816, 1024]⟩
abbrev S1x1024 : Shape := ⟨2, ![1, 1024]⟩
abbrev S1x512x1024 : Shape := ⟨3, ![1, 512, 1024]⟩
abbrev S1x1024x1024 : Shape := ⟨3, ![1, 1024, 1024]⟩
abbrev S512x1024 : Shape := ⟨2, ![512, 1024]⟩
abbrev S512x2816 : Shape := ⟨2, ![512, 2816]⟩
abbrev S1x256x256 : Shape := ⟨3, ![1, 256, 256]⟩
abbrev S256x256 : Shape := ⟨2, ![256, 256]⟩
abbrev S256 : Shape := ⟨1, ![256]⟩
abbrev S256x1 : Shape := ⟨2, ![256, 1]⟩
abbrev S256x1024 : Shape := ⟨2, ![256, 1024]⟩
abbrev S1x256x1024 : Shape := ⟨3, ![1, 256, 1024]⟩
abbrev S1024x1024 : Shape := ⟨2, ![1024, 1024]⟩
abbrev S1024x256 : Shape := ⟨2, ![1024, 256]⟩
abbrev S256x2816 : Shape := ⟨2, ![256, 2816]⟩

abbrev nBuf : Space → Nat
  | .hbm => 12
  | .vmem => 15
  | .smem => 0
  | _ => 0

abbrev bufTy : (tb : Table) → Fin (tcTables nBuf tb) → BufTy
  | .hbm, ⟨0, _⟩ => ⟨S2x8192x1024, .f32⟩
  | .hbm, ⟨1, _⟩ => ⟨S2x8192x1024, .bf16⟩
  | .hbm, ⟨2, _⟩ => ⟨S1024, .f32⟩
  | .hbm, ⟨3, _⟩ => ⟨S2x8192x1024, .f32⟩
  | .hbm, ⟨4, _⟩ => ⟨S2x1024x1024, .f32⟩
  | .hbm, ⟨5, _⟩ => ⟨S1024, .f32⟩
  | .hbm, ⟨6, _⟩ => ⟨S1024x5632, .bf16⟩
  | .hbm, ⟨7, _⟩ => ⟨S2816x1024, .bf16⟩
  | .hbm, ⟨8, _⟩ => ⟨S2x1024x1024, .bf16⟩
  | .hbm, ⟨9, _⟩ => ⟨S1x1024, .f32⟩
  | .hbm, ⟨10, _⟩ => ⟨S1x1024, .f32⟩
  | .hbm, ⟨11, _⟩ => ⟨S2x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .bf16⟩
  | .local _ .vmem, ⟨3, _⟩ => ⟨S1x512x1024, .bf16⟩
  | .local _ .vmem, ⟨4, _⟩ => ⟨S1x1024, .f32⟩
  | .local _ .vmem, ⟨5, _⟩ => ⟨S1x512x1024, .f32⟩
  | .local _ .vmem, ⟨6, _⟩ => ⟨S1x512x1024, .f32⟩
  | .local _ .vmem, ⟨7, _⟩ => ⟨S1x1024x1024, .bf16⟩
  | .local _ .vmem, ⟨8, _⟩ => ⟨S1x1024, .f32⟩
  | .local _ .vmem, ⟨9, _⟩ => ⟨S1024x5632, .bf16⟩
  | .local _ .vmem, ⟨10, _⟩ => ⟨S2816x1024, .bf16⟩
  | .local _ .vmem, ⟨11, _⟩ => ⟨S1x512x1024, .f32⟩
  | .local _ .vmem, ⟨12, _⟩ => ⟨S1x512x1024, .f32⟩
  | .local _ .vmem, ⟨13, _⟩ => ⟨S512x1024, .bf16⟩
  | .local _ .vmem, ⟨14, _⟩ => ⟨S512x2816, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x5632 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference2Ideal.lean ====
abbrev S2x8192x1024 : Shape := ⟨3, ![2, 8192, 1024]⟩
abbrev S1024 : Shape := ⟨1, ![1024]⟩
abbrev S2x1024x1024 : Shape := ⟨3, ![2, 1024, 1024]⟩
abbrev S1024x5632 : Shape := ⟨2, ![1024, 5632]⟩
abbrev S2816x1024 : Shape := ⟨2, ![2816, 1024]⟩
abbrev S2x8192x4x256 : Shape := ⟨4, ![2, 8192, 4, 256]⟩
abbrev S_ : Shape := ⟨0, ![]⟩
abbrev S2x8192x4 : Shape := ⟨3, ![2, 8192, 4]⟩
abbrev S2x8192x4x1 : Shape := ⟨4, ![2, 8192, 4, 1]⟩
abbrev S1x1x1024 : Shape := ⟨3, ![1, 1, 1024]⟩
abbrev S1x1024x1024 : Shape := ⟨3, ![1, 1024, 1024]⟩
abbrev S1024x1024 : Shape := ⟨2, ![1024, 1024]⟩
abbrev S2x8192 : Shape := ⟨2, ![2, 8192]⟩
abbrev S2x8192x1 : Shape := ⟨3, ![2, 8192, 1]⟩
abbrev S2x8192x5632 : Shape := ⟨3, ![2, 8192, 5632]⟩
abbrev S2x8192x2816 : Shape := ⟨3, ![2, 8192, 2816]⟩

abbrev nBuf : Space → Nat
  | .hbm => 65
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x8192x1024, .bf16⟩
  | .hbm, ⟨2, _⟩ => ⟨S1024, .f32⟩
  | .hbm, ⟨3, _⟩ => ⟨S2x8192x1024, .f32⟩
  | .hbm, ⟨4, _⟩ => ⟨S2x1024x1024, .f32⟩
  | .hbm, ⟨5, _⟩ => ⟨S1024, .f32⟩
  | .hbm, ⟨6, _⟩ => ⟨S1024x5632, .bf16⟩
  | .hbm, ⟨7, _⟩ => ⟨S2816x1024, .bf16⟩
  | .hbm, ⟨8, _⟩ => ⟨S2x8192x4x256, .f32⟩
  | .hbm, ⟨9, _⟩ => ⟨S2x8192x4x256, .f32⟩
  | .hbm, ⟨10, _⟩ => ⟨S_, .f32⟩
  | .hbm, ⟨11, _⟩ => ⟨S2x8192x4, .f32⟩
  | .hbm, ⟨12, _⟩ => ⟨S2x8192x4x1, .f32⟩
  | .hbm, ⟨13, _⟩ => ⟨S_, .f32⟩
  | .hbm, ⟨14, _⟩ => ⟨S2x8192x4x1, .f32⟩
  | .hbm, ⟨15, _⟩ => ⟨S2x8192x4x1, .f32⟩
  | .hbm, ⟨16, _⟩ => ⟨S_, .f32⟩
  | .hbm, ⟨17, _⟩ => ⟨S2x8192x4x1, .f32⟩
  | .hbm, ⟨18, _⟩ => ⟨S2x8192x4x1, .f32⟩
  | .hbm, ⟨19, _⟩ => ⟨S2x8192x4x1, .f32⟩
  | .hbm, ⟨20, _⟩ => ⟨S2x8192x4x256, .f32⟩
  | .hbm, ⟨21, _⟩ => ⟨S2x8192x4x256, .f32⟩
  | .hbm, ⟨22, _⟩ => ⟨S2x8192x1024, .f32⟩
  | .hbm, ⟨23, _⟩ => ⟨S1x1x1024, .f32⟩
  | .hbm, ⟨24, _⟩ => ⟨S2x8192x1024, .f32⟩
  | .hbm, ⟨25, _⟩ => ⟨S2x8192x1024, .f32⟩
  | .hbm, ⟨26, _⟩ => ⟨S2x8192x1024, .f32⟩
  | .hbm, ⟨27, _⟩ => ⟨S2x8192x1024, .f32⟩
  | .hbm, ⟨28, _⟩ => ⟨S1x1024x1024, .f32⟩
  | .hbm, ⟨29, _⟩ => ⟨S1024x1024, .f32⟩
  | .hbm, ⟨30, _⟩ => ⟨S2x8192x1024, .f32⟩
  | .hbm, ⟨31, _⟩ => ⟨S2x8192x1024, .f32⟩
  | .hbm, ⟨32, _⟩ => ⟨S2x8192x1024, .f32⟩
  | .hbm, ⟨33, _⟩ => ⟨S_, .f32⟩
  | .hbm, ⟨34, _⟩ => ⟨S2x8192, .f32⟩
  | .hbm, ⟨35, _⟩ => ⟨S2x8192x1, .f32⟩
  | .hbm, ⟨36, _⟩ => ⟨S_, .f32⟩
  | .hbm, ⟨37, _⟩ => ⟨S2x8192x1, .f32⟩
  | .hbm, ⟨38, _⟩ => ⟨S2x8192x1, .f32⟩
  | .hbm, ⟨39, _⟩ => ⟨S_, .f32⟩
  | .hbm, ⟨40, _⟩ => ⟨S2x8192x1, .f32⟩
  | .hbm, ⟨41, _⟩ => ⟨S2x8192x1, .f32⟩
  | .hbm, ⟨42, _⟩ => ⟨S2x8192x1, .f32⟩
  | .hbm, ⟨43, _⟩ => ⟨S2x8192x1024, .f32⟩
  | .hbm, ⟨44, _⟩ => ⟨S2x8192x1024, .f32⟩
  | .hbm, ⟨45, _⟩ => ⟨S1x1x1024, .f32⟩
  | .hbm, ⟨46, _⟩ => ⟨S2x8192x1024, .f32⟩
  | .hbm, ⟨47, _⟩ => ⟨S2x8192x1024, .f32⟩
  | .hbm, ⟨48, _⟩ => ⟨S1024x5632, .f32⟩
  | .hbm, ⟨49, _⟩ => ⟨S2816x1024, .f32⟩
  | .hbm, ⟨50, _⟩ => ⟨S2x8192x5632, .f32⟩
  | .hbm, ⟨51, _⟩ => ⟨S2x8192x2816, .f32⟩
  | .hbm, ⟨52, _⟩ => ⟨S2x8192x2816, .f32⟩
  | .hbm, ⟨53, _⟩ => ⟨S2x8192x2816, .f32⟩
  | .hbm, ⟨54, _⟩ => ⟨S2x8192x2816, .f32⟩
  | .hbm, ⟨55, _⟩ => ⟨S_, .f32⟩
  | .hbm, ⟨56, _⟩ => ⟨S2x8192x2816, .f32⟩
  | .hbm, ⟨57, _⟩ => ⟨S2x8192x2816, .f32⟩
  | .hbm, ⟨58, _⟩ => ⟨S_, .f32⟩
  | .hbm, ⟨59, _⟩ => ⟨S2x8192x2816, .f32⟩
  | .hbm, ⟨60, _⟩ => ⟨S2x8192x2816, .f32⟩
  | .hbm, ⟨61, _⟩ => ⟨S2x8192x2816, .f32⟩
  | .hbm, ⟨62, _⟩ => ⟨S2x8192x2816, .f32⟩
  | .hbm, ⟨63, _⟩ => ⟨S2x8192x1024, .f32⟩
  | .hbm, ⟨64, _⟩ => ⟨S2x8192x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_v24 : Ref sig .tc := ⟨.hbm, 37, rfl⟩
abbrev main_v25 : Ref sig .tc := ⟨.hbm, 38, rfl⟩
abbrev main_cst_4 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_call0_v0 : Ref sig .tc := ⟨.hbm, 53, rfl⟩
abbrev main_call0_v1 : Ref sig .tc := ⟨.hbm, 54, rfl⟩
abbrev main_call0_cst : Ref sig .tc := ⟨.hbm, 55, rfl⟩
abbrev main_call0_v2 : Ref sig .tc := ⟨.hbm, 56, rfl⟩
abbrev main_call0_v3 : Ref sig .tc := ⟨.hbm, 57, rfl⟩
abbrev main_call0_cst_0 : Ref sig .tc := ⟨.hbm, 58, rfl⟩
abbrev main_call0_v4 : Ref sig .tc := ⟨.hbm, 59, rfl⟩
abbrev main_call0_v5 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩

abbrev nD : Nat := 1
abbrev τ : Topo := Topo.v7x

variable {F : FTy → Type} [FloatOps F]
-- ==== Kernel3.lean ====
abbrev S2x8192x1024 : Shape := ⟨3, ![2, 8192, 1024]⟩
abbrev S2x1024x1024 : Shape := ⟨3, ![2, 1024, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S1x1024x1024 : Shape := ⟨3, ![1, 1024, 1024]⟩
abbrev S1024x1024 : Shape := ⟨2, ![1024, 1024]⟩
abbrev S1024x2816 : Shape := ⟨2, ![1024, 2816]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩
abbrev S1024x256 : Shape := ⟨2, ![1024, 256]⟩
abbrev S256x256 : Shape := ⟨2, ![256, 256]⟩
abbrev S256x2816 : Shape := ⟨2, ![256, 2816]⟩

abbrev nBuf : Space → Nat
  | .hbm => 9
  | .vmem => 12
  | .smem => 0
  | _ => 0

abbrev bufTy : (tb : Table) → Fin (tcTables nBuf tb) → BufTy
  | .hbm, ⟨0, _⟩ => ⟨S2x8192x1024, .bf16⟩
  | .hbm, ⟨1, _⟩ => ⟨S2x8192x1024, .f32⟩
  | .hbm, ⟨2, _⟩ => ⟨S2x1024x1024, .f32⟩
  | .hbm, ⟨3, _⟩ => ⟨S1024, .f32⟩
  | .hbm, ⟨4, _⟩ => ⟨S1024x5632, .bf16⟩
  | .hbm, ⟨5, _⟩ => ⟨S2816x1024, .bf16⟩
  | .hbm, ⟨6, _⟩ => ⟨S2x1024x1024, .bf16⟩
  | .hbm, ⟨7, _⟩ => ⟨S1x1024, .f32⟩
  | .hbm, ⟨8, _⟩ => ⟨S2x8192x1024, .f32⟩
  | .local _ .vmem, ⟨0, _⟩ => ⟨S1x1024x1024, .bf16⟩
  | .local _ .vmem, ⟨1, _⟩ => ⟨S1x1024x1024, .bf16⟩
  | .local _ .vmem, ⟨2, _⟩ => ⟨S1x1024x1024, .f32⟩
  | .local _ .vmem, ⟨3, _⟩ => ⟨S1x1024x1024, .f32⟩
  | .local _ .vmem, ⟨4, _⟩ => ⟨S1x1024x1024, .bf16⟩
  | .local _ .vmem, ⟨5, _⟩ => ⟨S1x1024, .f32⟩
  | .local _ .vmem, ⟨6, _⟩ => ⟨S1024x5632, .bf16⟩
  | .local _ .vmem, ⟨7, _⟩ => ⟨S2816x1024, .bf16⟩
  | .local _ .vmem, ⟨8, _⟩ => ⟨S1x1024x1024, .f32⟩
  | .local _ .vmem, ⟨9, _⟩ => ⟨S1x1024x1024, .f32⟩
  | .local _ .vmem, ⟨10, _⟩ => ⟨S1024x1024, .bf16⟩
  | .local _ .vmem, ⟨11, _⟩ => ⟨S1024x2816, .bf16⟩
  | _, _ => ⟨S2x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference3Ideal.lean ====
abbrev S2x8192x1024 : Shape := ⟨3, ![2, 8192, 1024]⟩
abbrev S2x1024x1024 : Shape := ⟨3, ![2, 1024, 1024]⟩
abbrev S1024 : Shape := ⟨1, ![1024]⟩
abbrev S1024x5632 : Shape := ⟨2, ![1024, 5632]⟩
abbrev S2816x1024 : Shape := ⟨2, ![2816, 1024]⟩
abbrev S1x1024x1024 : Shape := ⟨3, ![1, 1024, 1024]⟩
abbrev S1024x1024 : Shape := ⟨2, ![1024, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x5632 : Shape := ⟨3, ![2, 8192, 5632]⟩
abbrev S2x8192x2816 : Shape := ⟨3, ![2, 8192, 2816]⟩

abbrev nBuf : Space → Nat
  | .hbm => 44
  | .vmem => 0
  | .smem => 0
  | _ => 0

abbrev bufTy : (tb : Table) → Fin (tcTables nBuf tb) → BufTy
  | .hbm, ⟨0, _⟩ => ⟨S2x8192x1024, .bf16⟩
  | .hbm, ⟨1, _⟩ => ⟨S2x8192x1024, .f32⟩
  | .hbm, ⟨2, _⟩ => ⟨S2x1024x1024, .f32⟩
  | .hbm, ⟨3, _⟩ => ⟨S1024, .f32⟩
  | .hbm, ⟨4, _⟩ => ⟨S1024x5632, .bf16⟩
  | .hbm, ⟨5, _⟩ => ⟨S2816x1024, .bf16⟩
  | .hbm, ⟨6, _⟩ => ⟨S2x8192x1024, .f32⟩
  | .hbm, ⟨7, _⟩ => ⟨S1x1024x1024, .f32⟩
  | .hbm, ⟨8, _⟩ => ⟨S1024x1024, .f32⟩
  | .hbm, ⟨9, _⟩ => ⟨S2x8192x1024, .f32⟩
  | .hbm, ⟨10, _⟩ => ⟨S2x8192x1024, .f32⟩
  | .hbm, ⟨11, _⟩ => ⟨S2x8192x1024, .f32⟩
  | .hbm, ⟨12, _⟩ => ⟨S_, .f32⟩
  | .hbm, ⟨13, _⟩ => ⟨S2x8192, .f32⟩
  | .hbm, ⟨14, _⟩ => ⟨S2x8192x1, .f32⟩
  | .hbm, ⟨15, _⟩ => ⟨S_, .f32⟩
  | .hbm, ⟨16, _⟩ => ⟨S2x8192x1, .f32⟩
  | .hbm, ⟨17, _⟩ => ⟨S2x8192x1, .f32⟩
  | .hbm, ⟨18, _⟩ => ⟨S_, .f32⟩
  | .hbm, ⟨19, _⟩ => ⟨S2x8192x1, .f32⟩
  | .hbm, ⟨20, _⟩ => ⟨S2x8192x1, .f32⟩
  | .hbm, ⟨21, _⟩ => ⟨S2x8192x1, .f32⟩
  | .hbm, ⟨22, _⟩ => ⟨S2x8192x1024, .f32⟩
  | .hbm, ⟨23, _⟩ => ⟨S2x8192x1024, .f32⟩
  | .hbm, ⟨24, _⟩ => ⟨S1x1x1024, .f32⟩
  | .hbm, ⟨25, _⟩ => ⟨S2x8192x1024, .f32⟩
  | .hbm, ⟨26, _⟩ => ⟨S2x8192x1024, .f32⟩
  | .hbm, ⟨27, _⟩ => ⟨S1024x5632, .f32⟩
  | .hbm, ⟨28, _⟩ => ⟨S2816x1024, .f32⟩
  | .hbm, ⟨29, _⟩ => ⟨S2x8192x5632, .f32⟩
  | .hbm, ⟨30, _⟩ => ⟨S2x8192x2816, .f32⟩
  | .hbm, ⟨31, _⟩ => ⟨S2x8192x2816, .f32⟩
  | .hbm, ⟨32, _⟩ => ⟨S2x8192x2816, .f32⟩
  | .hbm, ⟨33, _⟩ => ⟨S2x8192x2816, .f32⟩
  | .hbm, ⟨34, _⟩ => ⟨S_, .f32⟩
  | .hbm, ⟨35, _⟩ => ⟨S2x8192x2816, .f32⟩
  | .hbm, ⟨36, _⟩ => ⟨S2x8192x2816, .f32⟩
  | .hbm, ⟨37, _⟩ => ⟨S_, .f32⟩
  | .hbm, ⟨38, _⟩ => ⟨S2x8192x2816, .f32⟩
  | .hbm, ⟨39, _⟩ => ⟨S2x8192x2816, .f32⟩
  | .hbm, ⟨40, _⟩ => ⟨S2x8192x2816, .f32⟩
  | .hbm, ⟨41, _⟩ => ⟨S2x8192x2816, .f32⟩
  | .hbm, ⟨42, _⟩ => ⟨S2x8192x1024, .f32⟩
  | .hbm, ⟨43, _⟩ => ⟨S2x8192x1024, .f32⟩
  | _, _ => ⟨S2x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_call0_v5 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩

abbrev nD : Nat := 1
abbrev τ : Topo := Topo.v7x

variable {F : FTy → Type} [FloatOps F]
-- ==== Kernel4.lean ====
abbrev S2x8192x1024 : Shape := ⟨3, ![2, 8192, 1024]⟩
abbrev S2x1024x1024 : Shape := ⟨3, ![2, 1024, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S1x1024x1024 : Shape := ⟨3, ![1, 1024, 1024]⟩
abbrev S1024x1024 : Shape := ⟨2, ![1024, 1024]⟩
abbrev S1024x2816 : Shape := ⟨2, ![1024, 2816]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩
abbrev S1024x256 : Shape := ⟨2, ![1024, 256]⟩
abbrev S256x256 : Shape := ⟨2, ![256, 256]⟩
abbrev S256x2816 : Shape := ⟨2, ![256, 2816]⟩

abbrev nBuf : Space → Nat
  | .hbm => 11
  | .vmem => 13
  | .smem => 0
  | _ => 0

abbrev bufTy : (tb : Table) → Fin (tcTables nBuf tb) → BufTy
  | .hbm, ⟨0, _⟩ => ⟨S2x8192x1024, .bf16⟩
  | .hbm, ⟨1, _⟩ => ⟨S2x8192x1024, .f32⟩
  | .hbm, ⟨2, _⟩ => ⟨S2x1024x1024, .f32⟩
  | .hbm, ⟨3, _⟩ => ⟨S1024, .f32⟩
  | .hbm, ⟨4, _⟩ => ⟨S1024x5632, .bf16⟩
  | .hbm, ⟨5, _⟩ => ⟨S2816x1024, .bf16⟩
  | .hbm, ⟨6, _⟩ => ⟨S1024, .f32⟩
  | .hbm, ⟨7, _⟩ => ⟨S2x1024x1024, .bf16⟩
  | .hbm, ⟨8, _⟩ => ⟨S1x1024, .f32⟩
  | .hbm, ⟨9, _⟩ => ⟨S1x1024, .f32⟩
  | .hbm, ⟨10, _⟩ => ⟨S2x8192x1024, .f32⟩
  | .local _ .vmem, ⟨0, _⟩ => ⟨S1x1024x1024, .bf16⟩
  | .local _ .vmem, ⟨1, _⟩ => ⟨S1x1024x1024, .bf16⟩
  | .local _ .vmem, ⟨2, _⟩ => ⟨S1x1024x1024, .f32⟩
  | .local _ .vmem, ⟨3, _⟩ => ⟨S1x1024x1024, .f32⟩
  | .local _ .vmem, ⟨4, _⟩ => ⟨S1x1024x1024, .bf16⟩
  | .local _ .vmem, ⟨5, _⟩ => ⟨S1x1024, .f32⟩
  | .local _ .vmem, ⟨6, _⟩ => ⟨S1024x5632, .bf16⟩
  | .local _ .vmem, ⟨7, _⟩ => ⟨S2816x1024, .bf16⟩
  | .local _ .vmem, ⟨8, _⟩ => ⟨S1x1024, .f32⟩
  | .local _ .vmem, ⟨9, _⟩ => ⟨S1x1024x1024, .f32⟩
  | .local _ .vmem, ⟨10, _⟩ => ⟨S1x1024x1024, .f32⟩
  | .local _ .vmem, ⟨11, _⟩ => ⟨S1024x1024, .bf16⟩
  | .local _ .vmem, ⟨12, _⟩ => ⟨S1024x2816, .bf16⟩
  | _, _ => ⟨S2x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference4Ideal.lean ====
abbrev S2x8192x1024 : Shape := ⟨3, ![2, 8192, 1024]⟩
abbrev S2x1024x1024 : Shape := ⟨3, ![2, 1024, 1024]⟩
abbrev S1024 : Shape := ⟨1, ![1024]⟩
abbrev S1024x5632 : Shape := ⟨2, ![1024, 5632]⟩
abbrev S2816x1024 : Shape := ⟨2, ![2816, 1024]⟩
abbrev S1x1024x1024 : Shape := ⟨3, ![1, 1024, 1024]⟩
abbrev S1024x1024 : Shape := ⟨2, ![1024, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x5632 : Shape := ⟨3, ![2, 8192, 5632]⟩
abbrev S2x8192x2816 : Shape := ⟨3, ![2, 8192, 2816]⟩

abbrev nBuf : Space → Nat
  | .hbm => 61
  | .vmem => 0
  | .smem => 0
  | _ => 0

abbrev bufTy : (tb : Table) → Fin (tcTables nBuf tb) → BufTy
  | .hbm, ⟨0, _⟩ => ⟨S2x8192x1024, .bf16⟩
  | .hbm, ⟨1, _⟩ => ⟨S2x8192x1024, .f32⟩
  | .hbm, ⟨2, _⟩ => ⟨S2x1024x1024, .f32⟩
  | .hbm, ⟨3, _⟩ => ⟨S1024, .f32⟩
  | .hbm, ⟨4, _⟩ => ⟨S1024x5632, .bf16⟩
  | .hbm, ⟨5, _⟩ => ⟨S2816x1024, .bf16⟩
  | .hbm, ⟨6, _⟩ => ⟨S1024, .f32⟩
  | .hbm, ⟨7, _⟩ => ⟨S2x8192x1024, .f32⟩
  | .hbm, ⟨8, _⟩ => ⟨S1x1024x1024, .f32⟩
  | .hbm, ⟨9, _⟩ => ⟨S1024x1024, .f32⟩
  | .hbm, ⟨10, _⟩ => ⟨S2x8192x1024, .f32⟩
  | .hbm, ⟨11, _⟩ => ⟨S2x8192x1024, .f32⟩
  | .hbm, ⟨12, _⟩ => ⟨S2x8192x1024, .f32⟩
  | .hbm, ⟨13, _⟩ => ⟨S_, .f32⟩
  | .hbm, ⟨14, _⟩ => ⟨S2x8192, .f32⟩
  | .hbm, ⟨15, _⟩ => ⟨S2x8192x1, .f32⟩
  | .hbm, ⟨16, _⟩ => ⟨S_, .f32⟩
  | .hbm, ⟨17, _⟩ => ⟨S2x8192x1, .f32⟩
  | .hbm, ⟨18, _⟩ => ⟨S2x8192x1, .f32⟩
  | .hbm, ⟨19, _⟩ => ⟨S_, .f32⟩
  | .hbm, ⟨20, _⟩ => ⟨S2x8192x1, .f32⟩
  | .hbm, ⟨21, _⟩ => ⟨S2x8192x1, .f32⟩
  | .hbm, ⟨22, _⟩ => ⟨S2x8192x1, .f32⟩
  | .hbm, ⟨23, _⟩ => ⟨S2x8192x1024, .f32⟩
  | .hbm, ⟨24, _⟩ => ⟨S2x8192x1024, .f32⟩
  | .hbm, ⟨25, _⟩ => ⟨S1x1x1024, .f32⟩
  | .hbm, ⟨26, _⟩ => ⟨S2x8192x1024, .f32⟩
  | .hbm, ⟨27, _⟩ => ⟨S2x8192x1024, .f32⟩
  | .hbm, ⟨28, _⟩ => ⟨S1024x5632, .f32⟩
  | .hbm, ⟨29, _⟩ => ⟨S2816x1024, .f32⟩
  | .hbm, ⟨30, _⟩ => ⟨S2x8192x5632, .f32⟩
  | .hbm, ⟨31, _⟩ => ⟨S2x8192x2816, .f32⟩
  | .hbm, ⟨32, _⟩ => ⟨S2x8192x2816, .f32⟩
  | .hbm, ⟨33, _⟩ => ⟨S2x8192x2816, .f32⟩
  | .hbm, ⟨34, _⟩ => ⟨S2x8192x2816, .f32⟩
  | .hbm, ⟨35, _⟩ => ⟨S_, .f32⟩
  | .hbm, ⟨36, _⟩ => ⟨S2x8192x2816, .f32⟩
  | .hbm, ⟨37, _⟩ => ⟨S2x8192x2816, .f32⟩
  | .hbm, ⟨38, _⟩ => ⟨S_, .f32⟩
  | .hbm, ⟨39, _⟩ => ⟨S2x8192x2816, .f32⟩
  | .hbm, ⟨40, _⟩ => ⟨S2x8192x2816, .f32⟩
  | .hbm, ⟨41, _⟩ => ⟨S2x8192x2816, .f32⟩
  | .hbm, ⟨42, _⟩ => ⟨S2x8192x2816, .f32⟩
  | .hbm, ⟨43, _⟩ => ⟨S2x8192x1024, .f32⟩
  | .hbm, ⟨44, _⟩ => ⟨S2x8192x1024, .f32⟩
  | .hbm, ⟨45, _⟩ => ⟨S2x8192x1024, .f32⟩
  | .hbm, ⟨46, _⟩ => ⟨S_, .f32⟩
  | .hbm, ⟨47, _⟩ => ⟨S2x8192, .f32⟩
  | .hbm, ⟨48, _⟩ => ⟨S2x8192x1, .f32⟩
  | .hbm, ⟨49, _⟩ => ⟨S_, .f32⟩
  | .hbm, ⟨50, _⟩ => ⟨S2x8192x1, .f32⟩
  | .hbm, ⟨51, _⟩ => ⟨S2x8192x1, .f32⟩
  | .hbm, ⟨52, _⟩ => ⟨S_, .f32⟩
  | .hbm, ⟨53, _⟩ => ⟨S2x8192x1, .f32⟩
  | .hbm, ⟨54, _⟩ => ⟨S2x8192x1, .f32⟩
  | .hbm, ⟨55, _⟩ => ⟨S2x8192x1, .f32⟩
  | .hbm, ⟨56, _⟩ => ⟨S2x8192x1024, .f32⟩
  | .hbm, ⟨57, _⟩ => ⟨S2x8192x1024, .f32⟩
  | .hbm, ⟨58, _⟩ => ⟨S1x1x1024, .f32⟩
  | .hbm, ⟨59, _⟩ => ⟨S2x8192x1024, .f32⟩
  | .hbm, ⟨60, _⟩ => ⟨S2x8192x1024, .f32⟩
  | _, _ => ⟨S2x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_call0_v5 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_2 : Ref sig .tc := ⟨.hbm, 46, rfl⟩
abbrev main_v28 : Ref sig .tc := ⟨.hbm, 47, rfl⟩
abbrev main_v29 : Ref sig .tc := ⟨.hbm, 48, rfl⟩
abbrev main_cst_3 : Ref sig .tc := ⟨.hbm, 49, rfl⟩
abbrev main_v30 : Ref sig .tc := ⟨.hbm, 50, rfl⟩
abbrev main_v31 : Ref sig .tc := ⟨.hbm, 51, rfl⟩
abbrev main_cst_4 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩

abbrev nD : Nat := 1
abbrev τ : Topo := Topo.v7x

variable {F : FTy → Type} [FloatOps F]
-- ==== Kernel5.lean ====
abbrev S2x8192x1024 : Shape := ⟨3, ![2, 8192, 1024]⟩
abbrev S1024 : Shape := ⟨1, ![1024]⟩
abbrev S2x1024x3088 : Shape := ⟨3, ![2, 1024, 3088]⟩
abbrev S16 : Shape := ⟨1, ![16]⟩
abbrev S16x1 : Shape := ⟨2, ![16, 1]⟩
abbrev S16x128 : Shape := ⟨2, ![16, 128]⟩
abbrev S2x3088x1024 : Shape := ⟨3, ![2, 3088, 1024]⟩
abbrev S1x1024 : Shape := ⟨2, ![1, 1024]⟩
abbrev S2x8192x512 : Shape := ⟨3, ![2, 8192, 512]⟩
abbrev S2x64x512x128 : Shape := ⟨4, ![2, 64, 512, 128]⟩
abbrev S2x1024x128 : Shape := ⟨3, ![2, 1024, 128]⟩
abbrev S1x1024x1024 : Shape := ⟨3, ![1, 1024, 1024]⟩
abbrev S1x3088x1024 : Shape := ⟨3, ![1, 3088, 1024]⟩
abbrev S1x1024x512 : Shape := ⟨3, ![1, 1024, 512]⟩
abbrev S1x8x512x128 : Shape := ⟨4, ![1, 8, 512, 128]⟩
abbrev S1x128x128 : Shape := ⟨3, ![1, 128, 128]⟩
abbrev S1024x2560 : Shape := ⟨2, ![1024, 2560]⟩
abbrev S528x1024 : Shape := ⟨2, ![528, 1024]⟩
abbrev S1x128x1024 : Shape := ⟨3, ![1, 128, 1024]⟩
abbrev S128x1024 : Shape := ⟨2, ![128, 1024]⟩
abbrev S1024x128 : Shape := ⟨2, ![1024, 128]⟩
abbrev S1x16x1024 : Shape := ⟨3, ![1, 16, 1024]⟩
abbrev S16x1024 : Shape := ⟨2, ![16, 1024]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩
abbrev S1024x1024 : Shape := ⟨2, ![1024, 1024]⟩
abbrev S1024x512 : Shape := ⟨2, ![1024, 512]⟩
abbrev S256x512 : Shape := ⟨2, ![256, 512]⟩
abbrev S1x256x512 : Shape := ⟨3, ![1, 256, 512]⟩
abbrev S528x256 : Shape := ⟨2, ![528, 256]⟩
abbrev S512x256 : Shape := ⟨2, ![512, 256]⟩
abbrev S512x128 : Shape := ⟨2, ![512, 128]⟩
abbrev S1x1x512x128 : Shape := ⟨4, ![1, 1, 512, 128]⟩
abbrev S1x16x128 : Shape := ⟨3, ![1, 16, 128]⟩

abbrev nBuf : Space → Nat
  | .hbm => 13
  | .vmem => 17
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S2x1024x3088, .f32⟩
  | .hbm, ⟨3, _⟩ => ⟨S16, .f32⟩
  | .hbm, ⟨4, _⟩ => ⟨S16x1, .f32⟩
  | .hbm, ⟨5, _⟩ => ⟨S16x128, .f32⟩
  | .hbm, ⟨6, _⟩ => ⟨S2x3088x1024, .f32⟩
  | .hbm, ⟨7, _⟩ => ⟨S1x1024, .f32⟩
  | .hbm, ⟨8, _⟩ => ⟨S2x8192x512, .bf16⟩
  | .hbm, ⟨9, _⟩ => ⟨S2x64x512x128, .bf16⟩
  | .hbm, ⟨10, _⟩ => ⟨S2x8192x1024, .bf16⟩
  | .hbm, ⟨11, _⟩ => ⟨S2x8192x1024, .bf16⟩
  | .hbm, ⟨12, _⟩ => ⟨S2x1024x128, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1x3088x1024, .f32⟩
  | .local _ .vmem, ⟨4, _⟩ => ⟨S16x128, .f32⟩
  | .local _ .vmem, ⟨5, _⟩ => ⟨S1x1024x512, .bf16⟩
  | .local _ .vmem, ⟨6, _⟩ => ⟨S1x1024x512, .bf16⟩
  | .local _ .vmem, ⟨7, _⟩ => ⟨S1x8x512x128, .bf16⟩
  | .local _ .vmem, ⟨8, _⟩ => ⟨S1x8x512x128, .bf16⟩
  | .local _ .vmem, ⟨9, _⟩ => ⟨S1x1024x1024, .bf16⟩
  | .local _ .vmem, ⟨10, _⟩ => ⟨S1x1024x1024, .bf16⟩
  | .local _ .vmem, ⟨11, _⟩ => ⟨S1x1024x1024, .bf16⟩
  | .local _ .vmem, ⟨12, _⟩ => ⟨S1x1024x1024, .bf16⟩
  | .local _ .vmem, ⟨13, _⟩ => ⟨S1x128x128, .f32⟩
  | .local _ .vmem, ⟨14, _⟩ => ⟨S1x128x128, .f32⟩
  | .local _ .vmem, ⟨15, _⟩ => ⟨S1024x2560, .bf16⟩
  | .local _ .vmem, ⟨16, _⟩ => ⟨S528x1024, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev main_v4_4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x3088x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S16x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference5Ideal.lean ====
abbrev S2x8192x1024 : Shape := ⟨3, ![2, 8192, 1024]⟩
abbrev S1024 : Shape := ⟨1, ![1024]⟩
abbrev S2x1024x3088 : Shape := ⟨3, ![2, 1024, 3088]⟩
abbrev S16 : Shape := ⟨1, ![16]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S1x1024x3088 : Shape := ⟨3, ![1, 1024, 3088]⟩
abbrev S1024x3088 : Shape := ⟨2, ![1024, 3088]⟩
abbrev S2x8192x3088 : Shape := ⟨3, ![2, 8192, 3088]⟩
abbrev S2x8192x512 : Shape := ⟨3, ![2, 8192, 512]⟩
abbrev S2x8192x16 : Shape := ⟨3, ![2, 8192, 16]⟩
abbrev S1x1x16 : Shape := ⟨3, ![1, 1, 16]⟩
abbrev S2x64x128x512 : Shape := ⟨4, ![2, 64, 128, 512]⟩
abbrev S2x64x512x128 : Shape := ⟨4, ![2, 64, 512, 128]⟩
abbrev S2x64x128x16 : Shape := ⟨4, ![2, 64, 128, 16]⟩
abbrev S2x64x16x128 : Shape := ⟨4, ![2, 64, 16, 128]⟩
abbrev S2x1024x128 : Shape := ⟨3, ![2, 1024, 128]⟩

abbrev nBuf : Space → Nat
  | .hbm => 51
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S2x1024x3088, .f32⟩
  | .hbm, ⟨3, _⟩ => ⟨S16, .f32⟩
  | .hbm, ⟨4, _⟩ => ⟨S2x8192x1024, .f32⟩
  | .hbm, ⟨5, _⟩ => ⟨S_, .f32⟩
  | .hbm, ⟨6, _⟩ => ⟨S2x8192, .f32⟩
  | .hbm, ⟨7, _⟩ => ⟨S2x8192x1, .f32⟩
  | .hbm, ⟨8, _⟩ => ⟨S_, .f32⟩
  | .hbm, ⟨9, _⟩ => ⟨S2x8192x1, .f32⟩
  | .hbm, ⟨10, _⟩ => ⟨S2x8192x1, .f32⟩
  | .hbm, ⟨11, _⟩ => ⟨S_, .f32⟩
  | .hbm, ⟨12, _⟩ => ⟨S2x8192x1, .f32⟩
  | .hbm, ⟨13, _⟩ => ⟨S2x8192x1, .f32⟩
  | .hbm, ⟨14, _⟩ => ⟨S2x8192x1, .f32⟩
  | .hbm, ⟨15, _⟩ => ⟨S2x8192x1024, .f32⟩
  | .hbm, ⟨16, _⟩ => ⟨S2x8192x1024, .f32⟩
  | .hbm, ⟨17, _⟩ => ⟨S1x1x1024, .f32⟩
  | .hbm, ⟨18, _⟩ => ⟨S2x8192x1024, .f32⟩
  | .hbm, ⟨19, _⟩ => ⟨S2x8192x1024, .f32⟩
  | .hbm, ⟨20, _⟩ => ⟨S1x1024x3088, .f32⟩
  | .hbm, ⟨21, _⟩ => ⟨S1024x3088, .f32⟩
  | .hbm, ⟨22, _⟩ => ⟨S2x8192x3088, .f32⟩
  | .hbm, ⟨23, _⟩ => ⟨S2x8192x512, .f32⟩
  | .hbm, ⟨24, _⟩ => ⟨S_, .f32⟩
  | .hbm, ⟨25, _⟩ => ⟨S2x8192x512, .f32⟩
  | .hbm, ⟨26, _⟩ => ⟨S2x8192x512, .f32⟩
  | .hbm, ⟨27, _⟩ => ⟨S2x8192x512, .f32⟩
  | .hbm, ⟨28, _⟩ => ⟨S2x8192x1024, .f32⟩
  | .hbm, ⟨29, _⟩ => ⟨S2x8192x1024, .f32⟩
  | .hbm, ⟨30, _⟩ => ⟨S2x8192x1024, .f32⟩
  | .hbm, ⟨31, _⟩ => ⟨S2x8192x1024, .f32⟩
  | .hbm, ⟨32, _⟩ => ⟨S_, .f32⟩
  | .hbm, ⟨33, _⟩ => ⟨S2x8192x1024, .f32⟩
  | .hbm, ⟨34, _⟩ => ⟨S2x8192x1024, .f32⟩
  | .hbm, ⟨35, _⟩ => ⟨S_, .f32⟩
  | .hbm, ⟨36, _⟩ => ⟨S2x8192x1024, .f32⟩
  | .hbm, ⟨37, _⟩ => ⟨S2x8192x1024, .f32⟩
  | .hbm, ⟨38, _⟩ => ⟨S2x8192x16, .f32⟩
  | .hbm, ⟨39, _⟩ => ⟨S1x1x16, .f32⟩
  | .hbm, ⟨40, _⟩ => ⟨S2x8192x16, .f32⟩
  | .hbm, ⟨41, _⟩ => ⟨S2x8192x16, .f32⟩
  | .hbm, ⟨42, _⟩ => ⟨S2x64x128x512, .f32⟩
  | .hbm, ⟨43, _⟩ => ⟨S2x64x512x128, .f32⟩
  | .hbm, ⟨44, _⟩ => ⟨S2x64x128x16, .f32⟩
  | .hbm, ⟨45, _⟩ => ⟨S2x64x16x128, .f32⟩
  | .hbm, ⟨46, _⟩ => ⟨S2x1024x128, .f32⟩
  | .hbm, ⟨47, _⟩ => ⟨S2x8192x512, .bf16⟩
  | .hbm, ⟨48, _⟩ => ⟨S2x64x512x128, .bf16⟩
  | .hbm, ⟨49, _⟩ => ⟨S2x8192x1024, .bf16⟩
  | .hbm, ⟨50, _⟩ => ⟨S2x8192x1024, .bf16⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_3 : Ref sig .tc := ⟨.hbm, 32, rfl⟩
abbrev main_v24 : Ref sig .tc := ⟨.hbm, 33, rfl⟩
abbrev main_v25 : Ref sig .tc := ⟨.hbm, 34, rfl⟩
abbrev main_cst_4 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩

abbrev nD : Nat := 1
abbrev τ : Topo := Topo.v7x

variable {F : FTy → Type} [FloatOps F]
-- ==== Kernel6.lean ====
abbrev S2x8192x1024 : Shape := ⟨3, ![2, 8192, 1024]⟩
abbrev S2x8192 : Shape := ⟨2, ![2, 8192]⟩
abbrev S1024 : Shape := ⟨1, ![1024]⟩
abbrev S2x1024x1536 : Shape := ⟨3, ![2, 1024, 1536]⟩
abbrev S32 : Shape := ⟨1, ![32]⟩
abbrev S_ : Shape := ⟨0, ![]⟩
abbrev S32x1 : Shape := ⟨2, ![32, 1]⟩
abbrev S2x1x8192 : Shape := ⟨3, ![2, 1, 8192]⟩
abbrev S1x1024 : Shape := ⟨2, ![1, 1024]⟩
abbrev S2x64x1024x128 : Shape := ⟨4, ![2, 64, 1024, 128]⟩
abbrev S2x8192x256 : Shape := ⟨3, ![2, 8192, 256]⟩
abbrev S2x64x256x128 : Shape := ⟨4, ![2, 64, 256, 128]⟩
abbrev S1x1024x1024 : Shape := ⟨3, ![1, 1024, 1024]⟩
abbrev S1x1024x1536 : Shape := ⟨3, ![1, 1024, 1536]⟩
abbrev S1x1x1024 : Shape := ⟨3, ![1, 1, 1024]⟩
abbrev S1x8x1024x128 : Shape := ⟨4, ![1, 8, 1024, 128]⟩
abbrev S1x1024x256 : Shape := ⟨3, ![1, 1024, 256]⟩
abbrev S1x8x256x128 : Shape := ⟨4, ![1, 8, 256, 128]⟩
abbrev S1536x1024 : Shape := ⟨2, ![1536, 1024]⟩
abbrev S1x1024x128 : Shape := ⟨3, ![1, 1024, 128]⟩
abbrev S1024x128 : Shape := ⟨2, ![1024, 128]⟩
abbrev S128x1024 : Shape := ⟨2, ![128, 1024]⟩
abbrev S1x256x1024 : Shape := ⟨3, ![1, 256, 1024]⟩
abbrev S256x1024 : Shape := ⟨2, ![256, 1024]⟩
abbrev S1x1x256 : Shape := ⟨3, ![1, 1, 256]⟩
abbrev S1x256 : Shape := ⟨2, ![1, 256]⟩
abbrev S256 : Shape := ⟨1, ![256]⟩
abbrev S256x1 : Shape := ⟨2, ![256, 1]⟩
abbrev S32x256 : Shape := ⟨2, ![32, 256]⟩
abbrev S1024x1024 : Shape := ⟨2, ![1024, 1024]⟩
abbrev S1024x256 : Shape := ⟨2, ![1024, 256]⟩
abbrev S512x1024 : Shape := ⟨2, ![512, 1024]⟩
abbrev S512x256 : Shape := ⟨2, ![512, 256]⟩
abbrev S64x256 : Shape := ⟨2, ![64, 256]⟩
abbrev S512x128 : Shape := ⟨2, ![512, 128]⟩
abbrev S1x1x512x128 : Shape := ⟨4, ![1, 1, 512, 128]⟩
abbrev S256x256 : Shape := ⟨2, ![256, 256]⟩
abbrev S256x128 : Shape := ⟨2, ![256, 128]⟩
abbrev S1x1x256x128 : Shape := ⟨4, ![1, 1, 256, 128]⟩
abbrev S128x128 : Shape := ⟨2, ![128, 128]⟩
abbrev S1x128x128 : Shape := ⟨3, ![1, 128, 128]⟩

abbrev nBuf : Space → Nat
  | .hbm => 18
  | .vmem => 14
  | .smem => 0
  | _ => 0

abbrev bufTy : (tb : Table) → Fin (tcTables nBuf tb) → BufTy
  | .hbm, ⟨0, _⟩ => ⟨S2x8192x1024, .f32⟩
  | .hbm, ⟨1, _⟩ => ⟨S2x8192, .i32⟩
  | .hbm, ⟨2, _⟩ => ⟨S1024, .f32⟩
  | .hbm, ⟨3, _⟩ => ⟨S2x1024x1536, .f32⟩
  | .hbm, ⟨4, _⟩ => ⟨S32, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S32x1, .f32⟩
  | .hbm, ⟨13, _⟩ => ⟨S2x1x8192, .i32⟩
  | .hbm, ⟨14, _⟩ => ⟨S1x1024, .f32⟩
  | .hbm, ⟨15, _⟩ => ⟨S2x64x1024x128, .bf16⟩
  | .hbm, ⟨16, _⟩ => ⟨S2x8192x256, .bf16⟩
  | .hbm, ⟨17, _⟩ => ⟨S2x64x256x128, .bf16⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1x1024x1536, .f32⟩
  | .local _ .vmem, ⟨4, _⟩ => ⟨S1x1x1024, .i32⟩
  | .local _ .vmem, ⟨5, _⟩ => ⟨S1x1x1024, .i32⟩
  | .local _ .vmem, ⟨6, _⟩ => ⟨S32x1, .f32⟩
  | .local _ .vmem, ⟨7, _⟩ => ⟨S1x8x1024x128, .bf16⟩
  | .local _ .vmem, ⟨8, _⟩ => ⟨S1x8x1024x128, .bf16⟩
  | .local _ .vmem, ⟨9, _⟩ => ⟨S1x1024x256, .bf16⟩
  | .local _ .vmem, ⟨10, _⟩ => ⟨S1x1024x256, .bf16⟩
  | .local _ .vmem, ⟨11, _⟩ => ⟨S1x8x256x128, .bf16⟩
  | .local _ .vmem, ⟨12, _⟩ => ⟨S1x8x256x128, .bf16⟩
  | .local _ .vmem, ⟨13, _⟩ => ⟨S1536x1024, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9_0 : Ref sig .tc := ⟨.hbm, 15, rfl⟩
abbrev main_v9_1 : Ref sig .tc := ⟨.hbm, 16, rfl⟩
abbrev main_v9_2 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S32x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x8x1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x8x256x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference6Ideal.lean ====
abbrev S2x8192x1024 : Shape := ⟨3, ![2, 8192, 1024]⟩
abbrev S2x8192 : Shape := ⟨2, ![2, 8192]⟩
abbrev S1024 : Shape := ⟨1, ![1024]⟩
abbrev S2x1024x1536 : Shape := ⟨3, ![2, 1024, 1536]⟩
abbrev S_ : Shape := ⟨0, ![]⟩
abbrev S2x8192x1 : Shape := ⟨3, ![2, 8192, 1]⟩
abbrev S1x1x1024 : Shape := ⟨3, ![1, 1, 1024]⟩
abbrev S1x1024x1536 : Shape := ⟨3, ![1, 1024, 1536]⟩
abbrev S1024x1536 : Shape := ⟨2, ![1024, 1536]⟩
abbrev S2x8192x1536 : Shape := ⟨3, ![2, 8192, 1536]⟩
abbrev S2x8192x16x64 : Shape := ⟨4, ![2, 8192, 16, 64]⟩
abbrev S32 : Shape := ⟨1, ![32]⟩
abbrev S1x1x32 : Shape := ⟨3, ![1, 1, 32]⟩
abbrev S2x8192x32 : Shape := ⟨3, ![2, 8192, 32]⟩
abbrev S2x8192x1x32 : Shape := ⟨4, ![2, 8192, 1, 32]⟩
abbrev S2x8192x16x32 : Shape := ⟨4, ![2, 8192, 16, 32]⟩
abbrev S2x8192x256 : Shape := ⟨3, ![2, 8192, 256]⟩
abbrev S2x8192x4x64 : Shape := ⟨4, ![2, 8192, 4, 64]⟩
abbrev S2x8192x4x32 : Shape := ⟨4, ![2, 8192, 4, 32]⟩
abbrev S2x64x128x1024 : Shape := ⟨4, ![2, 64, 128, 1024]⟩
abbrev S2x64x1024x128 : Shape := ⟨4, ![2, 64, 1024, 128]⟩
abbrev S2x64x128x256 : Shape := ⟨4, ![2, 64, 128, 256]⟩
abbrev S2x64x256x128 : Shape := ⟨4, ![2, 64, 256, 128]⟩

abbrev nBuf : Space → Nat
  | .hbm => 101
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x8192, .i32⟩
  | .hbm, ⟨2, _⟩ => ⟨S1024, .f32⟩
  | .hbm, ⟨3, _⟩ => ⟨S2x1024x1536, .f32⟩
  | .hbm, ⟨4, _⟩ => ⟨S2x8192x1024, .f32⟩
  | .hbm, ⟨5, _⟩ => ⟨S_, .f32⟩
  | .hbm, ⟨6, _⟩ => ⟨S2x8192, .f32⟩
  | .hbm, ⟨7, _⟩ => ⟨S2x8192x1, .f32⟩
  | .hbm, ⟨8, _⟩ => ⟨S_, .f32⟩
  | .hbm, ⟨9, _⟩ => ⟨S2x8192x1, .f32⟩
  | .hbm, ⟨10, _⟩ => ⟨S2x8192x1, .f32⟩
  | .hbm, ⟨11, _⟩ => ⟨S_, .f32⟩
  | .hbm, ⟨12, _⟩ => ⟨S2x8192x1, .f32⟩
  | .hbm, ⟨13, _⟩ => ⟨S2x8192x1, .f32⟩
  | .hbm, ⟨14, _⟩ => ⟨S2x8192x1, .f32⟩
  | .hbm, ⟨15, _⟩ => ⟨S2x8192x1024, .f32⟩
  | .hbm, ⟨16, _⟩ => ⟨S2x8192x1024, .f32⟩
  | .hbm, ⟨17, _⟩ => ⟨S1x1x1024, .f32⟩
  | .hbm, ⟨18, _⟩ => ⟨S2x8192x1024, .f32⟩
  | .hbm, ⟨19, _⟩ => ⟨S2x8192x1024, .f32⟩
  | .hbm, ⟨20, _⟩ => ⟨S1x1024x1536, .f32⟩
  | .hbm, ⟨21, _⟩ => ⟨S1024x1536, .f32⟩
  | .hbm, ⟨22, _⟩ => ⟨S2x8192x1536, .f32⟩
  | .hbm, ⟨23, _⟩ => ⟨S2x8192x1024, .f32⟩
  | .hbm, ⟨24, _⟩ => ⟨S2x8192x16x64, .f32⟩
  | .hbm, ⟨25, _⟩ => ⟨S32, .f32⟩
  | .hbm, ⟨26, _⟩ => ⟨S32, .f32⟩
  | .hbm, ⟨27, _⟩ => ⟨S_, .f32⟩
  | .hbm, ⟨28, _⟩ => ⟨S32, .f32⟩
  | .hbm, ⟨29, _⟩ => ⟨S32, .f32⟩
  | .hbm, ⟨30, _⟩ => ⟨S_, .f32⟩
  | .hbm, ⟨31, _⟩ => ⟨S32, .f32⟩
  | .hbm, ⟨32, _⟩ => ⟨S32, .f32⟩
  | .hbm, ⟨33, _⟩ => ⟨S2x8192, .f32⟩
  | .hbm, ⟨34, _⟩ => ⟨S2x8192x1, .f32⟩
  | .hbm, ⟨35, _⟩ => ⟨S1x1x32, .f32⟩
  | .hbm, ⟨36, _⟩ => ⟨S2x8192x32, .f32⟩
  | .hbm, ⟨37, _⟩ => ⟨S2x8192x32, .f32⟩
  | .hbm, ⟨38, _⟩ => ⟨S2x8192x32, .f32⟩
  | .hbm, ⟨39, _⟩ => ⟨S2x8192x32, .f32⟩
  | .hbm, ⟨40, _⟩ => ⟨S2x8192x1x32, .f32⟩
  | .hbm, ⟨41, _⟩ => ⟨S2x8192x32, .f32⟩
  | .hbm, ⟨42, _⟩ => ⟨S2x8192x1x32, .f32⟩
  | .hbm, ⟨43, _⟩ => ⟨S2x8192x16x32, .f32⟩
  | .hbm, ⟨44, _⟩ => ⟨S2x8192x16x32, .f32⟩
  | .hbm, ⟨45, _⟩ => ⟨S2x8192x16x32, .f32⟩
  | .hbm, ⟨46, _⟩ => ⟨S2x8192x16x32, .f32⟩
  | .hbm, ⟨47, _⟩ => ⟨S2x8192x16x32, .f32⟩
  | .hbm, ⟨48, _⟩ => ⟨S2x8192x16x32, .f32⟩
  | .hbm, ⟨49, _⟩ => ⟨S2x8192x16x32, .f32⟩
  | .hbm, ⟨50, _⟩ => ⟨S2x8192x16x32, .f32⟩
  | .hbm, ⟨51, _⟩ => ⟨S2x8192x16x32, .f32⟩
  | .hbm, ⟨52, _⟩ => ⟨S2x8192x16x32, .f32⟩
  | .hbm, ⟨53, _⟩ => ⟨S2x8192x16x32, .f32⟩
  | .hbm, ⟨54, _⟩ => ⟨S2x8192x16x32, .f32⟩
  | .hbm, ⟨55, _⟩ => ⟨S2x8192x16x64, .f32⟩
  | .hbm, ⟨56, _⟩ => ⟨S2x8192x256, .f32⟩
  | .hbm, ⟨57, _⟩ => ⟨S2x8192x4x64, .f32⟩
  | .hbm, ⟨58, _⟩ => ⟨S32, .f32⟩
  | .hbm, ⟨59, _⟩ => ⟨S32, .f32⟩
  | .hbm, ⟨60, _⟩ => ⟨S_, .f32⟩
  | .hbm, ⟨61, _⟩ => ⟨S32, .f32⟩
  | .hbm, ⟨62, _⟩ => ⟨S32, .f32⟩
  | .hbm, ⟨63, _⟩ => ⟨S_, .f32⟩
  | .hbm, ⟨64, _⟩ => ⟨S32, .f32⟩
  | .hbm, ⟨65, _⟩ => ⟨S32, .f32⟩
  | .hbm, ⟨66, _⟩ => ⟨S2x8192, .f32⟩
  | .hbm, ⟨67, _⟩ => ⟨S2x8192x1, .f32⟩
  | .hbm, ⟨68, _⟩ => ⟨S1x1x32, .f32⟩
  | .hbm, ⟨69, _⟩ => ⟨S2x8192x32, .f32⟩
  | .hbm, ⟨70, _⟩ => ⟨S2x8192x32, .f32⟩
  | .hbm, ⟨71, _⟩ => ⟨S2x8192x32, .f32⟩
  | .hbm, ⟨72, _⟩ => ⟨S2x8192x32, .f32⟩
  | .hbm, ⟨73, _⟩ => ⟨S2x8192x1x32, .f32⟩
  | .hbm, ⟨74, _⟩ => ⟨S2x8192x32, .f32⟩
  | .hbm, ⟨75, _⟩ => ⟨S2x8192x1x32, .f32⟩
  | .hbm, ⟨76, _⟩ => ⟨S2x8192x4x32, .f32⟩
  | .hbm, ⟨77, _⟩ => ⟨S2x8192x4x32, .f32⟩
  | .hbm, ⟨78, _⟩ => ⟨S2x8192x4x32, .f32⟩
  | .hbm, ⟨79, _⟩ => ⟨S2x8192x4x32, .f32⟩
  | .hbm, ⟨80, _⟩ => ⟨S2x8192x4x32, .f32⟩
  | .hbm, ⟨81, _⟩ => ⟨S2x8192x4x32, .f32⟩
  | .hbm, ⟨82, _⟩ => ⟨S2x8192x4x32, .f32⟩
  | .hbm, ⟨83, _⟩ => ⟨S2x8192x4x32, .f32⟩
  | .hbm, ⟨84, _⟩ => ⟨S2x8192x4x32, .f32⟩
  | .hbm, ⟨85, _⟩ => ⟨S2x8192x4x32, .f32⟩
  | .hbm, ⟨86, _⟩ => ⟨S2x8192x4x32, .f32⟩
  | .hbm, ⟨87, _⟩ => ⟨S2x8192x4x32, .f32⟩
  | .hbm, ⟨88, _⟩ => ⟨S2x8192x4x64, .f32⟩
  | .hbm, ⟨89, _⟩ => ⟨S2x8192x256, .f32⟩
  | .hbm, ⟨90, _⟩ => ⟨S_, .f32⟩
  | .hbm, ⟨91, _⟩ => ⟨S2x8192x16x64, .f32⟩
  | .hbm, ⟨92, _⟩ => ⟨S2x8192x16x64, .f32⟩
  | .hbm, ⟨93, _⟩ => ⟨S2x64x128x1024, .f32⟩
  | .hbm, ⟨94, _⟩ => ⟨S2x64x1024x128, .f32⟩
  | .hbm, ⟨95, _⟩ => ⟨S2x64x128x256, .f32⟩
  | .hbm, ⟨96, _⟩ => ⟨S2x64x256x128, .f32⟩
  | .hbm, ⟨97, _⟩ => ⟨S2x64x1024x128, .bf16⟩
  | .hbm, ⟨98, _⟩ => ⟨S2x8192x256, .f32⟩
  | .hbm, ⟨99, _⟩ => ⟨S2x8192x256, .bf16⟩
  | .hbm, ⟨100, _⟩ => ⟨S2x64x256x128, .bf16⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_cst_4 : Ref sig .tc := ⟨.hbm, 60, rfl⟩
abbrev main_v51 : Ref sig .tc := ⟨.hbm, 61, rfl⟩
abbrev main_v52 : Ref sig .tc := ⟨.hbm, 62, rfl⟩
abbrev main_cst_5 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_cst_6 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩

abbrev nD : Nat := 1
abbrev τ : Topo := Topo.v7x

variable {F : FTy → Type} [FloatOps F]
-- ==== Proof.AttnPoints.lean ====
module

public import proofs.«01_k».proof.Proof.Gen.KernelIdeal.Frame
public import proofs.«01_k».proof.Proof.Gen.KernelIdeal.Skeleton

@[expose] public section

set_option maxRecDepth 16384

noncomputable section

namespace Cert.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F] [Named F]

local notation "𝕄" => MT nD τ sig Unit (Elt F) ℕ (UR sig nD τ) ℕ

/-! ## The points at which the body casts weights -/

/-- The body casts its share of the weights at the grid point `i`. -/
abbrev isCast (i : grid0.Coords) : Prop := k0_cond1 i = 1#1

/-- It does at the even points. -/
theorem isCast_iff : ∀ t : Fin cfg0.N, isCast (grid0.coords t) ↔ t.val % 2 = 0 :=
  (by decide +kernel : ∀ t : Fin grid0.N, isCast (grid0.coords t) ↔ t.val % 2 = 0)

theorem points_eq : cfg0.N = 16 := by decide +kernel

theorem live11 : ∀ t : Fin cfg0.N, isCast (grid0.coords t) → cfg0.idle 11 (grid0.coords t) = false := by decide +kernel
theorem idle11 : ∀ t : Fin cfg0.N, ¬isCast (grid0.coords t) → cfg0.idle 11 (grid0.coords t) = true := by decide +kernel
theorem flush11 : ∀ t : Fin cfg0.N, ¬isCast (grid0.coords t) → (cfg0.win 11).flush t = true := by decide +kernel
theorem keep11 : ∀ t : Fin cfg0.N, isCast (grid0.coords t) → (cfg0.win 11).flush t = false := by decide +kernel
theorem nofetch11 : ∀ t : Fin cfg0.N, (cfg0.win 11).fetch t = false := by decide +kernel
theorem live12 : ∀ t : Fin cfg0.N, isCast (grid0.coords t) → cfg0.idle 12 (grid0.coords t) = false := by decide +kernel
theorem idle12 : ∀ t : Fin cfg0.N, ¬isCast (grid0.coords t) → cfg0.idle 12 (grid0.coords t) = true := by decide +kernel
theorem flush12 : ∀ t : Fin cfg0.N, ¬isCast (grid0.coords t) → (cfg0.win 12).flush t = true := by decide +kernel
theorem keep12 : ∀ t : Fin cfg0.N, isCast (grid0.coords t) → (cfg0.win 12).flush t = false := by decide +kernel
theorem nofetch12 : ∀ t : Fin cfg0.N, (cfg0.win 12).fetch t = false := by decide +kernel

/-- At a point where a window is live the body leaves its buffer at the proof data's contents. -/
theorem leaves_live {c : Dev nD} (dat : Dat τ (Elt F) Unit ℕ (UR sig nD τ) ℕ cfg0 c) (w : Fin cfg0.W) (t : Fin cfg0.N)
    (h : cfg0.idle w (grid0.coords t) = false) :
    dat.leavesExact w t = owns (c : Thread nD τ) ((cfg0.win w).stage (cfg0.slots t w)) fullShare (dat.after w t) := by
  unfold Dat.leavesExact; rw [h]

/-- So too at an idle point that writes the block back. -/
theorem leaves_flushed {c : Dev nD} (dat : Dat τ (Elt F) Unit ℕ (UR sig nD τ) ℕ cfg0 c) (w : Fin cfg0.W) (t : Fin cfg0.N)
    (h : cfg0.idle w (grid0.coords t) = true) (hf : (cfg0.win w).flush t = true) :
    dat.leavesExact w t = owns (c : Thread nD τ) ((cfg0.win w).stage (cfg0.slots t w)) fullShare (dat.after w t) := by
  unfold Dat.leavesExact; rw [h, hf]

/-! ## The buffers the body is called with -/

theorem whole0 (t : Fin cfg0.N) : (st0_0 t).IsWhole := hstage0_0 ((cfg0.slots t 0).cast nbuf0_0)
theorem whole1 (t : Fin cfg0.N) : (st0_1 t).IsWhole := hstage0_1 ((cfg0.slots t 1).cast nbuf0_1)
theorem whole2 (t : Fin cfg0.N) : (st0_2 t).IsWhole := hstage0_2 ((cfg0.slots t 2).cast nbuf0_2)
theorem whole3 (t : Fin cfg0.N) : (st0_3 t).IsWhole := hstage0_3 ((cfg0.slots t 3).cast nbuf0_3)
theorem whole4 (t : Fin cfg0.N) : (st0_4 t).IsWhole := hstage0_4 ((cfg0.slots t 4).cast nbuf0_4)
theorem whole5 (t : Fin cfg0.N) : (st0_5 t).IsWhole := hstage0_5 ((cfg0.slots t 5).cast nbuf0_5)
theorem whole6 (t : Fin cfg0.N) : (st0_6 t).IsWhole := hstage0_6 ((cfg0.slots t 6).cast nbuf0_6)
theorem whole7 (t : Fin cfg0.N) : (st0_7 t).IsWhole := hstage0_7 ((cfg0.slots t 7).cast nbuf0_7)
theorem whole8 (t : Fin cfg0.N) : (st0_8 t).IsWhole := hstage0_8 ((cfg0.slots t 8).cast nbuf0_8)
theorem whole9 (t : Fin cfg0.N) : (st0_9 t).IsWhole := hstage0_9 ((cfg0.slots t 9).cast nbuf0_9)
theorem whole10 (t : Fin cfg0.N) : (st0_10 t).IsWhole := hstage0_10 ((cfg0.slots t 10).cast nbuf0_10)
theorem whole11 (t : Fin cfg0.N) : (st0_11 t).IsWhole := hstage0_11 ((cfg0.slots t 11).cast nbuf0_11)
theorem whole12 (t : Fin cfg0.N) : (st0_12 t).IsWhole := hstage0_12 ((cfg0.slots t 12).cast nbuf0_12)

/-- The keys' and the values' scratch arrays. -/
abbrev kScratch : Memref sig .tc .vmem S1280x256 .bf16 := Memref.whole cc0_scratch0
abbrev vScratch : Memref sig .tc .vmem S10x256x128 .bf16 := Memref.whole cc0_scratch1

/-- The invariant between points: both scratch arrays at some contents, and the generator's register. -/
theorem invariant_eq (c : Dev nD) :
    (Pipeline.ΦA spec0 c : sProp 𝕄)
      = iprop(iprop((∃ d, owns (c : Thread nD τ) kScratch fullShare d) ∗ (∃ d, owns (c : Thread nD τ) vScratch fullShare d)) ∗ (∃ r, prngReg c r)) := by
  unfold Pipeline.ΦA; rw [scopedRest0_eq]; simp only [kScratch, vScratch, owns_whole]; try rfl

end Cert.Attn

end
-- ==== Proof.AttnCastRun.lean ====
module

public import proofs.«01_k».proof.Proof.AttnPoints

@[expose] public section

set_option maxRecDepth 16384

noncomputable section

namespace Cert.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F] [Named F]

local notation "𝕄" => MT nD τ sig Unit (Elt F) ℕ (UR sig nD τ) ℕ

set_option maxHeartbeats 3300000 in
/-- The body at a point that casts its share of the weights: from the input blocks it leaves the listed pieces in the
    attention block, in the two cast blocks and in the two scratch arrays. The lists are found by running the body. -/
def castRun (c : Dev nD) (i : grid0.Coords)
    (a0 : Memref sig .tc .vmem S1x8x1024x128 .bf16) (ha0 : a0.IsWhole) (a1 : Memref sig .tc .vmem S1x128x256 .bf16) (ha1 : a1.IsWhole) (a2 : Memref sig .tc .vmem S1x1024x256 .bf16) (ha2 : a2.IsWhole) (a3 : Memref sig .tc .vmem S1x128x256 .bf16) (ha3 : a3.IsWhole) (a4 : Memref sig .tc .vmem S1x1x256x128 .bf16) (ha4 : a4.IsWhole) (a5 : Memref sig .tc .vmem S1x8x256x128 .bf16) (ha5 : a5.IsWhole) (a6 : Memref sig .tc .vmem S1x1x256x128 .bf16) (ha6 : a6.IsWhole) (a7 : Memref sig .tc .vmem S4x512 .f32) (ha7 : a7.IsWhole) (a8 : Memref sig .tc .vmem S1x128x5632 .f32) (ha8 : a8.IsWhole) (a9 : Memref sig .tc .vmem S1x352x1024 .f32) (ha9 : a9.IsWhole) (a10 : Memref sig .tc .vmem S1x1024x1024 .bf16) (ha10 : a10.IsWhole) (a11 : Memref sig .tc .vmem S128x5632 .bf16) (ha11 : a11.IsWhole) (a12 : Memref sig .tc .vmem S352x1024 .bf16) (ha12 : a12.IsWhole) (a13 : Memref sig .tc .vmem S1280x256 .bf16) (ha13 : a13.IsWhole) (a14 : Memref sig .tc .vmem S10x256x128 .bf16) (ha14 : a14.IsWhole)
    (hc : isCast i)
    (x0 : Vec F S1x8x1024x128 .bf16) (x1 : Vec F S1x128x256 .bf16) (x2 : Vec F S1x1024x256 .bf16) (x3 : Vec F S1x128x256 .bf16) (x4 : Vec F S1x1x256x128 .bf16) (x5 : Vec F S1x8x256x128 .bf16) (x6 : Vec F S1x1x256x128 .bf16) (x7 : Vec F S4x512 .f32) (x8 : Vec F S1x128x5632 .f32) (x9 : Vec F S1x352x1024 .f32) :
    Σ' (L10 : List (View.Piece (Elt F) S1x1024x1024 .bf16)), Σ' (L11 : List (View.Piece (Elt F) S128x5632 .bf16)), Σ' (L12 : List (View.Piece (Elt F) S352x1024 .bf16)), Σ' (LK : List (View.Piece (Elt F) S1280x256 .bf16)), { LV : List (View.Piece (Elt F) S10x256x128 .bf16) //
      ∀ (E : Set ℕ) (K : PUnit → sProp 𝕄),
        iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ (∃ d, owns (c : Thread nD τ) a10 fullShare d) ∗ (∃ d, owns (c : Thread nD τ) a11 fullShare d) ∗ (∃ d, owns (c : Thread nD τ) a12 fullShare d) ∗ (∃ d, owns (c : Thread nD τ) a13 fullShare d) ∗ (∃ d, owns (c : Thread nD τ) a14 fullShare d)
            ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ (∃ f, a10.view.loc (c : Thread nD τ) ↦[a10.view.set]{fullShare} a10.view.writes (Elt F) f L10) ∗ (∃ f, a11.view.loc (c : Thread nD τ) ↦[a11.view.set]{fullShare} a11.view.writes (Elt F) f L11) ∗ (∃ f, a12.view.loc (c : Thread nD τ) ↦[a12.view.set]{fullShare} a12.view.writes (Elt F) f L12) ∗ (∃ f, a13.view.loc (c : Thread nD τ) ↦[a13.view.set]{fullShare} a13.view.writes (Elt F) f LK) ∗ (∃ f, a14.view.loc (c : Thread nD τ) ↦[a14.view.set]{fullShare} a14.view.writes (Elt F) f LV)) -∗ K ⟨⟩))
          ⊢ wp frame (wpE (defs₀ (F := F)) Variants.none c none) E (cc0_attn_core i a0 ha0 a1 ha1 a2 ha2 a3 ha3 a4 ha4 a5 ha5 a6 ha6 a7 ha7 a8 ha8 a9 ha9 a10 ha10 a11 ha11 a12 ha12 a13 ha13 a14 ha14) K } := by
  refine ⟨?_, ?_, ?_, ?_, ?_, fun E K => ?run⟩
  case run =>
    simp only [cc0_attn_core_eq_skeleton]; unfold cc0_attn_core_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, Hk⟩
    obtain rfl := ha0.eq_unread hf0; obtain rfl := ha1.eq_unread hf1; obtain rfl := ha2.eq_unread hf2; obtain rfl := ha3.eq_unread hf3; obtain rfl := ha4.eq_unread hf4; obtain rfl := ha5.eq_unread hf5; obtain rfl := ha6.eq_unread hf6; obtain rfl := ha7.eq_unread hf7; obtain rfl := ha8.eq_unread hf8; obtain rfl := ha9.eq_unread hf9
    sl_exec (disch := first | sl_exact hc)
    sl_step
    iapply Hk
    isplitl [H0]
    · iexists _; isplitr; · ipureintro; exact ha0.read_unread _
      iexact H0
    isplitl [H1]
    · iexists _; isplitr; · ipureintro; exact ha1.read_unread _
      iexact H1
    isplitl [H2]
    · iexists _; isplitr; · ipureintro; exact ha2.read_unread _
      iexact H2
    isplitl [H3]
    · iexists _; isplitr; · ipureintro; exact ha3.read_unread _
      iexact H3
    isplitl [H4]
    · iexists _; isplitr; · ipureintro; exact ha4.read_unread _
      iexact H4
    isplitl [H5]
    · iexists _; isplitr; · ipureintro; exact ha5.read_unread _
      iexact H5
    isplitl [H6]
    · iexists _; isplitr; · ipureintro; exact ha6.read_unread _
      iexact H6
    isplitl [H7]
    · iexists _; isplitr; · ipureintro; exact ha7.read_unread _
      iexact H7
    isplitl [H8]
    · iexists _; isplitr; · ipureintro; exact ha8.read_unread _
      iexact H8
    isplitl [H9]
    · iexists _; isplitr; · ipureintro; exact ha9.read_unread _
      iexact H9
    isplitl [H10]; · iexists _; iexact H10
    isplitl [H11]; · iexists _; iexact H11
    isplitl [H12]; · iexists _; iexact H12
    isplitl [H13]; · iexists _; iexact H13
    iexists _; iexact H14

end Cert.Attn

end
-- ==== Proof.AttnPlainRun.lean ====
module

public import proofs.«01_k».proof.Proof.AttnCastRun

@[expose] public section

set_option maxRecDepth 16384

noncomputable section

namespace Cert.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F] [Named F]

local notation "𝕄" => MT nD τ sig Unit (Elt F) ℕ (UR sig nD τ) ℕ

set_option maxHeartbeats 3300000 in
/-- The body at a point that casts nothing: as `castRun`, and the two cast blocks stay as they were. -/
def plainRun (c : Dev nD) (i : grid0.Coords)
    (a0 : Memref sig .tc .vmem S1x8x1024x128 .bf16) (ha0 : a0.IsWhole) (a1 : Memref sig .tc .vmem S1x128x256 .bf16) (ha1 : a1.IsWhole) (a2 : Memref sig .tc .vmem S1x1024x256 .bf16) (ha2 : a2.IsWhole) (a3 : Memref sig .tc .vmem S1x128x256 .bf16) (ha3 : a3.IsWhole) (a4 : Memref sig .tc .vmem S1x1x256x128 .bf16) (ha4 : a4.IsWhole) (a5 : Memref sig .tc .vmem S1x8x256x128 .bf16) (ha5 : a5.IsWhole) (a6 : Memref sig .tc .vmem S1x1x256x128 .bf16) (ha6 : a6.IsWhole) (a7 : Memref sig .tc .vmem S4x512 .f32) (ha7 : a7.IsWhole) (a8 : Memref sig .tc .vmem S1x128x5632 .f32) (ha8 : a8.IsWhole) (a9 : Memref sig .tc .vmem S1x352x1024 .f32) (ha9 : a9.IsWhole) (a10 : Memref sig .tc .vmem S1x1024x1024 .bf16) (ha10 : a10.IsWhole) (a11 : Memref sig .tc .vmem S128x5632 .bf16) (ha11 : a11.IsWhole) (a12 : Memref sig .tc .vmem S352x1024 .bf16) (ha12 : a12.IsWhole) (a13 : Memref sig .tc .vmem S1280x256 .bf16) (ha13 : a13.IsWhole) (a14 : Memref sig .tc .vmem S10x256x128 .bf16) (ha14 : a14.IsWhole)
    (hc : ¬isCast i)
    (x0 : Vec F S1x8x1024x128 .bf16) (x1 : Vec F S1x128x256 .bf16) (x2 : Vec F S1x1024x256 .bf16) (x3 : Vec F S1x128x256 .bf16) (x4 : Vec F S1x1x256x128 .bf16) (x5 : Vec F S1x8x256x128 .bf16) (x6 : Vec F S1x1x256x128 .bf16) (x7 : Vec F S4x512 .f32) (x8 : Vec F S1x128x5632 .f32) (x9 : Vec F S1x352x1024 .f32) :
    Σ' (L10 : List (View.Piece (Elt F) S1x1024x1024 .bf16)), Σ' (LK : List (View.Piece (Elt F) S1280x256 .bf16)), { LV : List (View.Piece (Elt F) S10x256x128 .bf16) //
      ∀ (y11 : Vec F S128x5632 .bf16) (y12 : Vec F S352x1024 .bf16) (E : Set ℕ) (K : PUnit → sProp 𝕄),
        iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ (∃ d, owns (c : Thread nD τ) a10 fullShare d) ∗ owns (c : Thread nD τ) a11 fullShare y11 ∗ owns (c : Thread nD τ) a12 fullShare y12 ∗ (∃ d, owns (c : Thread nD τ) a13 fullShare d) ∗ (∃ d, owns (c : Thread nD τ) a14 fullShare d)
            ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ (∃ f, a10.view.loc (c : Thread nD τ) ↦[a10.view.set]{fullShare} a10.view.writes (Elt F) f L10) ∗ owns (c : Thread nD τ) a11 fullShare y11 ∗ owns (c : Thread nD τ) a12 fullShare y12 ∗ (∃ f, a13.view.loc (c : Thread nD τ) ↦[a13.view.set]{fullShare} a13.view.writes (Elt F) f LK) ∗ (∃ f, a14.view.loc (c : Thread nD τ) ↦[a14.view.set]{fullShare} a14.view.writes (Elt F) f LV)) -∗ K ⟨⟩))
          ⊢ wp frame (wpE (defs₀ (F := F)) Variants.none c none) E (cc0_attn_core i a0 ha0 a1 ha1 a2 ha2 a3 ha3 a4 ha4 a5 ha5 a6 ha6 a7 ha7 a8 ha8 a9 ha9 a10 ha10 a11 ha11 a12 ha12 a13 ha13 a14 ha14) K } := by
  refine ⟨?_, ?_, ?_, fun y11 y12 E K => ?run⟩
  case run =>
    simp only [cc0_attn_core_eq_skeleton]; unfold cc0_attn_core_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, ⟨%f12, %hf12, H12⟩, ⟨%d13, %f13, -, H13⟩, ⟨%d14, %f14, -, H14⟩, Hk⟩
    obtain rfl := ha0.eq_unread hf0; obtain rfl := ha1.eq_unread hf1; obtain rfl := ha2.eq_unread hf2; obtain rfl := ha3.eq_unread hf3; obtain rfl := ha4.eq_unread hf4; obtain rfl := ha5.eq_unread hf5; obtain rfl := ha6.eq_unread hf6; obtain rfl := ha7.eq_unread hf7; obtain rfl := ha8.eq_unread hf8; obtain rfl := ha9.eq_unread hf9; obtain rfl := ha11.eq_unread hf11; obtain rfl := ha12.eq_unread hf12
    sl_exec (disch := first | sl_exact hc)
    sl_step
    iapply Hk
    isplitl [H0]
    · iexists _; isplitr; · ipureintro; exact ha0.read_unread _
      iexact H0
    isplitl [H1]
    · iexists _; isplitr; · ipureintro; exact ha1.read_unread _
      iexact H1
    isplitl [H2]
    · iexists _; isplitr; · ipureintro; exact ha2.read_unread _
      iexact H2
    isplitl [H3]
    · iexists _; isplitr; · ipureintro; exact ha3.read_unread _
      iexact H3
    isplitl [H4]
    · iexists _; isplitr; · ipureintro; exact ha4.read_unread _
      iexact H4
    isplitl [H5]
    · iexists _; isplitr; · ipureintro; exact ha5.read_unread _
      iexact H5
    isplitl [H6]
    · iexists _; isplitr; · ipureintro; exact ha6.read_unread _
      iexact H6
    isplitl [H7]
    · iexists _; isplitr; · ipureintro; exact ha7.read_unread _
      iexact H7
    isplitl [H8]
    · iexists _; isplitr; · ipureintro; exact ha8.read_unread _
      iexact H8
    isplitl [H9]
    · iexists _; isplitr; · ipureintro; exact ha9.read_unread _
      iexact H9
    isplitl [H10]; · iexists _; iexact H10
    isplitl [H11]
    · iexists _; isplitr; · ipureintro; exact ha11.read_unread _
      iexact H11
    isplitl [H12]
    · iexists _; isplitr; · ipureintro; exact ha12.read_unread _
      iexact H12
    isplitl [H13]; · iexists _; iexact H13
    iexists _; iexact H14

end Cert.Attn

end
-- ==== Proof.AttnFrame.lean ====
module

public import proofs.«01_k».proof.Proof.AttnPlainRun
public import Idealize.ShloMosaic.Lib.Pipeline.TableIdle
public import Idealize.ShloMosaic.Lib.Claim

@[expose] public section

set_option maxRecDepth 16384

noncomputable section

namespace Cert.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## What the body leaves at each point -/

/-- The run of the body at a point that casts weights. -/
abbrev castAt (c : Dev nD) (t : Fin cfg0.N) (h : isCast (grid0.coords t)) :=
  castRun (F := F) c (grid0.coords t) (st0_0 t) (whole0 t) (st0_1 t) (whole1 t) (st0_2 t) (whole2 t) (st0_3 t) (whole3 t) (st0_4 t) (whole4 t) (st0_5 t) (whole5 t) (st0_6 t) (whole6 t) (st0_7 t) (whole7 t) (st0_8 t) (whole8 t) (st0_9 t) (whole9 t) (st0_10 t) (whole10 t) (st0_11 t) (whole11 t) (st0_12 t) (whole12 t) kScratch (Memref.isWhole_whole _) vScratch (Memref.isWhole_whole _) h (iblk m c 0 t) (iblk m c 1 t) (iblk m c 2 t) (iblk m c 3 t) (iblk m c 4 t) (iblk m c 5 t) (iblk m c 6 t) (iblk m c 7 t) (iblk m c 8 t) (iblk m c 9 t)

/-- The run of the body at a point that does not. -/
abbrev plainAt (c : Dev nD) (t : Fin cfg0.N) (h : ¬isCast (grid0.coords t)) :=
  plainRun (F := F) c (grid0.coords t) (st0_0 t) (whole0 t) (st0_1 t) (whole1 t) (st0_2 t) (whole2 t) (st0_3 t) (whole3 t) (st0_4 t) (whole4 t) (st0_5 t) (whole5 t) (st0_6 t) (whole6 t) (st0_7 t) (whole7 t) (st0_8 t) (whole8 t) (st0_9 t) (whole9 t) (st0_10 t) (whole10 t) (st0_11 t) (whole11 t) (st0_12 t) (whole12 t) kScratch (Memref.isWhole_whole _) vScratch (Memref.isWhole_whole _) h (iblk m c 0 t) (iblk m c 1 t) (iblk m c 2 t) (iblk m c 3 t) (iblk m c 4 t) (iblk m c 5 t) (iblk m c 6 t) (iblk m c 7 t) (iblk m c 8 t) (iblk m c 9 t)

theorem castAt_covers10 (c : Dev nD) (t : Fin cfg0.N) (h) (y : S1x1024x1024.Idx) : ∃ p ∈ (castAt m c t h).1, y ∈ p.1.set :=
  View.cover_of_tiledL (castAt m c t h).1 S1x128x128.size (by sl_kernel_rfl) y
theorem castAt_covers11 (c : Dev nD) (t : Fin cfg0.N) (h) (y : S128x5632.Idx) : ∃ p ∈ (castAt m c t h).2.1, y ∈ p.1.set :=
  View.cover_of_tiledL (castAt m c t h).2.1 S128x5632.size (by sl_kernel_rfl) y
theorem castAt_covers12 (c : Dev nD) (t : Fin cfg0.N) (h) (y : S352x1024.Idx) : ∃ p ∈ (castAt m c t h).2.2.1, y ∈ p.1.set :=
  View.cover_of_tiledL (castAt m c t h).2.2.1 S352x1024.size (by sl_kernel_rfl) y
theorem plainAt_covers10 (c : Dev nD) (t : Fin cfg0.N) (h) (y : S1x1024x1024.Idx) : ∃ p ∈ (plainAt m c t h).1, y ∈ p.1.set :=
  View.cover_of_tiledL (plainAt m c t h).1 S1x128x128.size (by sl_kernel_rfl) y

/-- The point whose cast a point's write-back writes: the even one of its pair. -/
def evenPt (t : Fin cfg0.N) : Fin cfg0.N := ⟨2 * (t.val / 2), by have := t.isLt; omega⟩
theorem evenPt_isCast (t : Fin cfg0.N) : isCast (grid0.coords (evenPt t)) := (isCast_iff _).mpr (by unfold evenPt; dsimp only; omega)
theorem evenPt_of_isCast (t : Fin cfg0.N) (h : isCast (grid0.coords t)) : evenPt t = t :=
  Fin.ext (by have := (isCast_iff t).mp h; unfold evenPt; dsimp only; omega)
theorem evenPt_pred (t : Fin cfg0.N) (h : ¬isCast (grid0.coords t)) (hp) : evenPt (⟨t.val - 1, hp⟩ : Fin cfg0.N) = evenPt t :=
  Fin.ext (by
    have h0 : ¬t.val % 2 = 0 := fun e => h ((isCast_iff t).mpr e)
    unfold evenPt; dsimp only; omega)

open Classical in
/-- The attention block after the point `t`. -/
def attnOut (c : Dev nD) (t : Fin cfg0.N) : Vec F S1x1024x1024 .bf16 :=
  if h : isCast (grid0.coords t) then View.canon (castAt m c t h).1 else View.canon (plainAt m c t h).1
theorem attnOut_cast (c : Dev nD) (t : Fin cfg0.N) (h) : attnOut m c t = View.canon (castAt m c t h).1 := dif_pos h
theorem attnOut_plain (c : Dev nD) (t : Fin cfg0.N) (h) : attnOut m c t = View.canon (plainAt m c t h).1 := dif_neg h

/-- The two cast blocks after the point `t`: as the even point of its pair left them. -/
def castIn (c : Dev nD) (t : Fin cfg0.N) : Vec F S128x5632 .bf16 := View.canon (castAt m c (evenPt t) (evenPt_isCast t)).2.1
def castOut (c : Dev nD) (t : Fin cfg0.N) : Vec F S352x1024 .bf16 := View.canon (castAt m c (evenPt t) (evenPt_isCast t)).2.2.1
theorem castIn_cast (c : Dev nD) (t : Fin cfg0.N) (h) : castIn m c t = View.canon (castAt m c t h).2.1 := by
  have key : ∀ s (hs : isCast (grid0.coords s)), s = t → View.canon (castAt m c s hs).2.1 = View.canon (castAt m c t h).2.1 := by
    rintro s hs rfl; rfl
  exact key _ _ (evenPt_of_isCast t h)
theorem castOut_cast (c : Dev nD) (t : Fin cfg0.N) (h) : castOut m c t = View.canon (castAt m c t h).2.2.1 := by
  have key : ∀ s (hs : isCast (grid0.coords s)), s = t → View.canon (castAt m c s hs).2.2.1 = View.canon (castAt m c t h).2.2.1 := by
    rintro s hs rfl; rfl
  exact key _ _ (evenPt_of_isCast t h)
theorem castIn_congr (c : Dev nD) (s t : Fin cfg0.N) (h : evenPt s = evenPt t) : castIn m c s = castIn m c t := by
  have key : ∀ u v (hu : isCast (grid0.coords u)) (hv : isCast (grid0.coords v)), u = v →
      View.canon (castAt m c u hu).2.1 = View.canon (castAt m c v hv).2.1 := by rintro u v hu hv rfl; rfl
  exact key _ _ _ _ h
theorem castOut_congr (c : Dev nD) (s t : Fin cfg0.N) (h : evenPt s = evenPt t) : castOut m c s = castOut m c t := by
  have key : ∀ u v (hu : isCast (grid0.coords u)) (hv : isCast (grid0.coords v)), u = v →
      View.canon (castAt m c u hu).2.2.1 = View.canon (castAt m c v hv).2.2.1 := by rintro u v hu hv rfl; rfl
  exact key _ _ _ _ h

/-- The launch's proof data: each input buffer keeps its block, the outputs' are as named above. -/
def dat (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => attnOut m c t
    | ⟨11, _⟩ => castIn m c t
    | ⟨12, _⟩ => castOut m c t
  Φ _ := Pipeline.ΦA spec0 c
  q w := Pipeline.shareOf spec0 w
  owed _ := 0

theorem dat_A (c : Dev nD) (w : Fin cfg0.W) : (dat m 0 c).A w = V m c (Pipeline.arrRef spec0 w) := by
  dsimp only [dat]
theorem after0 (c : Dev nD) (t : Fin cfg0.N) : (dat m 0 c).after 0 t = iblk m c 0 t := by dsimp only [dat]
theorem after1 (c : Dev nD) (t : Fin cfg0.N) : (dat m 0 c).after 1 t = iblk m c 1 t := by dsimp only [dat]
theorem after2 (c : Dev nD) (t : Fin cfg0.N) : (dat m 0 c).after 2 t = iblk m c 2 t := by dsimp only [dat]
theorem after3 (c : Dev nD) (t : Fin cfg0.N) : (dat m 0 c).after 3 t = iblk m c 3 t := by dsimp only [dat]
theorem after4 (c : Dev nD) (t : Fin cfg0.N) : (dat m 0 c).after 4 t = iblk m c 4 t := by dsimp only [dat]
theorem after5 (c : Dev nD) (t : Fin cfg0.N) : (dat m 0 c).after 5 t = iblk m c 5 t := by dsimp only [dat]
theorem after6 (c : Dev nD) (t : Fin cfg0.N) : (dat m 0 c).after 6 t = iblk m c 6 t := by dsimp only [dat]
theorem after7 (c : Dev nD) (t : Fin cfg0.N) : (dat m 0 c).after 7 t = iblk m c 7 t := by dsimp only [dat]
theorem after8 (c : Dev nD) (t : Fin cfg0.N) : (dat m 0 c).after 8 t = iblk m c 8 t := by dsimp only [dat]
theorem after9 (c : Dev nD) (t : Fin cfg0.N) : (dat m 0 c).after 9 t = iblk m c 9 t := by dsimp only [dat]
theorem after10 (c : Dev nD) (t : Fin cfg0.N) : (dat m 0 c).after 10 t = attnOut m c t := by dsimp only [dat]
theorem after11 (c : Dev nD) (t : Fin cfg0.N) : (dat m 0 c).after 11 t = castIn m c t := by dsimp only [dat]
theorem after12 (c : Dev nD) (t : Fin cfg0.N) : (dat m 0 c).after 12 t = castOut m c t := by dsimp only [dat]
theorem before0 (c : Dev nD) (t : Fin cfg0.N) (d) : (dat m 0 c).before 0 t d = iblk m c 0 t :=
  before0_0_of m (dat m 0 c) (dat_A m c 0) (after0 m c) t d
theorem before1 (c : Dev nD) (t : Fin cfg0.N) (d) : (dat m 0 c).before 1 t d = iblk m c 1 t :=
  before0_1_of m (dat m 0 c) (dat_A m c 1) (after1 m c) t d
theorem before2 (c : Dev nD) (t : Fin cfg0.N) (d) : (dat m 0 c).before 2 t d = iblk m c 2 t :=
  before0_2_of m (dat m 0 c) (dat_A m c 2) (after2 m c) t d
theorem before3 (c : Dev nD) (t : Fin cfg0.N) (d) : (dat m 0 c).before 3 t d = iblk m c 3 t :=
  before0_3_of m (dat m 0 c) (dat_A m c 3) (after3 m c) t d
theorem before4 (c : Dev nD) (t : Fin cfg0.N) (d) : (dat m 0 c).before 4 t d = iblk m c 4 t :=
  before0_4_of m (dat m 0 c) (dat_A m c 4) (after4 m c) t d
theorem before5 (c : Dev nD) (t : Fin cfg0.N) (d) : (dat m 0 c).before 5 t d = iblk m c 5 t :=
  before0_5_of m (dat m 0 c) (dat_A m c 5) (after5 m c) t d
theorem before6 (c : Dev nD) (t : Fin cfg0.N) (d) : (dat m 0 c).before 6 t d = iblk m c 6 t :=
  before0_6_of m (dat m 0 c) (dat_A m c 6) (after6 m c) t d
theorem before7 (c : Dev nD) (t : Fin cfg0.N) (d) : (dat m 0 c).before 7 t d = iblk m c 7 t :=
  before0_7_of m (dat m 0 c) (dat_A m c 7) (after7 m c) t d
theorem before8 (c : Dev nD) (t : Fin cfg0.N) (d) : (dat m 0 c).before 8 t d = iblk m c 8 t :=
  before0_8_of m (dat m 0 c) (dat_A m c 8) (after8 m c) t d
theorem before9 (c : Dev nD) (t : Fin cfg0.N) (d) : (dat m 0 c).before 9 t d = iblk m c 9 t :=
  before0_9_of m (dat m 0 c) (dat_A m c 9) (after9 m c) t d

/-- An uncut output found unfetched: what the body left one point earlier, where it stored and wrote nothing back. -/
theorem before_stored {c : Dev nD} (dat : Dat τ (Elt F) Unit ℕ (UR sig nD τ) ℕ cfg0 c) (w : Fin cfg0.W) (t : Fin cfg0.N)
    (ht : t.val ≠ 0) (hf : (cfg0.win w).fetch t = false) (p : Fin cfg0.N) (hp : p.val = t.val - 1)
    (hfl : (cfg0.win w).flush p = false) (hi : cfg0.idle w (cfg0.grid.coords p) = false)
    (hclip : ∀ (i : cfg0.grid.Coords) a, (cfg0.win w).clip i a = none) (d) :
    dat.before w t d = dat.after w p := by
  have hlt : t.val - 1 < cfg0.N := Nat.lt_of_le_of_lt (Nat.sub_le _ _) t.isLt
  obtain rfl : p = ⟨t.val - 1, hlt⟩ := Fin.ext hp
  rw [dat.before_of_pos w t ht hf, hfl, if_neg Bool.false_ne_true]
  unfold Dat.left; rw [hi]
  show dat.kept w _ d = _
  unfold Dat.kept
  rw [Pipeline.fill_of_clip_none w _ (hclip _) d (dat.after w _), Window.fill_cut]

theorem before11_plain (c : Dev nD) (t : Fin cfg0.N) (h : ¬isCast (grid0.coords t)) (d) : (dat m 0 c).before 11 t d = castIn m c t := by
  have h0 : ¬t.val % 2 = 0 := fun e => h ((isCast_iff t).mpr e)
  have hlt : t.val - 1 < cfg0.N := Nat.lt_of_le_of_lt (Nat.sub_le _ _) t.isLt
  have hc : isCast (grid0.coords (⟨t.val - 1, hlt⟩ : Fin cfg0.N)) := (isCast_iff _).mpr (by dsimp only; omega)
  rw [before_stored (dat m 0 c) 11 t (by omega) (nofetch11 t) ⟨t.val - 1, hlt⟩ rfl (keep11 _ hc) (live11 _ hc) (fun _ _ => rfl), after11]
  exact castIn_congr m c _ _ (evenPt_pred t h _)

theorem before12_plain (c : Dev nD) (t : Fin cfg0.N) (h : ¬isCast (grid0.coords t)) (d) : (dat m 0 c).before 12 t d = castOut m c t := by
  have h0 : ¬t.val % 2 = 0 := fun e => h ((isCast_iff t).mpr e)
  have hlt : t.val - 1 < cfg0.N := Nat.lt_of_le_of_lt (Nat.sub_le _ _) t.isLt
  have hc : isCast (grid0.coords (⟨t.val - 1, hlt⟩ : Fin cfg0.N)) := (isCast_iff _).mpr (by dsimp only; omega)
  rw [before_stored (dat m 0 c) 12 t (by omega) (nofetch12 t) ⟨t.val - 1, hlt⟩ rfl (keep12 _ hc) (live12 _ hc) (fun _ _ => rfl), after12]
  exact castOut_congr m c _ _ (evenPt_pred t h _)

/-! ## The body at a point -/

/-- What the body is called with at the point `t`, -/
def atEntry (c : Dev nD) (t : Fin cfg0.N) : sProp 𝕄 :=
  iprop((dat m 0 c).Φ t.castSucc ∗ (dat m 0 c).owesAt () t.castSucc
    ∗ (∃ d, owns (c : Thread nD τ) (st0_0 t) fullShare ((dat m 0 c).before 0 t d))
    ∗ (∃ d, owns (c : Thread nD τ) (st0_1 t) fullShare ((dat m 0 c).before 1 t d))
    ∗ (∃ d, owns (c : Thread nD τ) (st0_2 t) fullShare ((dat m 0 c).before 2 t d))
    ∗ (∃ d, owns (c : Thread nD τ) (st0_3 t) fullShare ((dat m 0 c).before 3 t d))
    ∗ (∃ d, owns (c : Thread nD τ) (st0_4 t) fullShare ((dat m 0 c).before 4 t d))
    ∗ (∃ d, owns (c : Thread nD τ) (st0_5 t) fullShare ((dat m 0 c).before 5 t d))
    ∗ (∃ d, owns (c : Thread nD τ) (st0_6 t) fullShare ((dat m 0 c).before 6 t d))
    ∗ (∃ d, owns (c : Thread nD τ) (st0_7 t) fullShare ((dat m 0 c).before 7 t d))
    ∗ (∃ d, owns (c : Thread nD τ) (st0_8 t) fullShare ((dat m 0 c).before 8 t d))
    ∗ (∃ d, owns (c : Thread nD τ) (st0_9 t) fullShare ((dat m 0 c).before 9 t d))
    ∗ (∃ d, owns (c : Thread nD τ) (st0_10 t) fullShare ((dat m 0 c).before 10 t d))
    ∗ (∃ d, owns (c : Thread nD τ) (st0_11 t) fullShare ((dat m 0 c).before 11 t d))
    ∗ (∃ d, owns (c : Thread nD τ) (st0_12 t) fullShare ((dat m 0 c).before 12 t d)))

/-- and what it hands back. -/
def atExit (c : Dev nD) (t : Fin cfg0.N) : sProp 𝕄 :=
  iprop((dat m 0 c).Φ t.succ ∗ (dat m 0 c).owesAt () t.succ
    ∗ (dat m 0 c).leavesExact 0 t
    ∗ (dat m 0 c).leavesExact 1 t
    ∗ (dat m 0 c).leavesExact 2 t
    ∗ (dat m 0 c).leavesExact 3 t
    ∗ (dat m 0 c).leavesExact 4 t
    ∗ (dat m 0 c).leavesExact 5 t
    ∗ (dat m 0 c).leavesExact 6 t
    ∗ (dat m 0 c).leavesExact 7 t
    ∗ (dat m 0 c).leavesExact 8 t
    ∗ (dat m 0 c).leavesExact 9 t
    ∗ (dat m 0 c).leavesExact 10 t
    ∗ (dat m 0 c).leavesExact 11 t
    ∗ (dat m 0 c).leavesExact 12 t)

set_option maxHeartbeats 2400000 in
/-- The body at any point, by the run of the case the point is in. -/
theorem body_sound (c : Dev nD) (t : Fin cfg0.N) :
    atEntry m c t ⊢ wp frame (wpE (defs₀ (F := F)) Variants.none c none) Set.univ (bodyAt0 t) (fun _ => atExit m c t) := by
  unfold atEntry atExit bodyAt0
  simp only [before0, before1, before2, before3, before4, before5, before6, before7, before8, before9]
  rw [show (dat m 0 c).Φ t.succ = Pipeline.ΦA spec0 c from rfl, show (dat m 0 c).Φ t.castSucc = Pipeline.ΦA spec0 c from rfl,
    show (dat m 0 c).owesAt () t.succ = (dat m 0 c).owesAt () t.castSucc from rfl, invariant_eq]
  rw [leaves_live (dat m 0 c) 0 t rfl, after0, leaves_live (dat m 0 c) 1 t rfl, after1, leaves_live (dat m 0 c) 2 t rfl, after2, leaves_live (dat m 0 c) 3 t rfl, after3, leaves_live (dat m 0 c) 4 t rfl, after4, leaves_live (dat m 0 c) 5 t rfl, after5, leaves_live (dat m 0 c) 6 t rfl, after6, leaves_live (dat m 0 c) 7 t rfl, after7, leaves_live (dat m 0 c) 8 t rfl, after8, leaves_live (dat m 0 c) 9 t rfl, after9, leaves_live (dat m 0 c) 10 t rfl, after10]
  by_cases h : isCast (grid0.coords t)
  · rw [leaves_live (dat m 0 c) 11 t (live11 t h), after11, leaves_live (dat m 0 c) 12 t (live12 t h), after12,
      attnOut_cast m c t h, castIn_cast m c t h, castOut_cast m c t h]
    iintro ⟨⟨⟨HK, HV⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply ((castAt m c t h).2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [H12]; · iexists _; iexact H12
    isplitl [HK]; · iexact HK
    isplitl [HV]; · iexact HV
    iintro ⟨H0, H1, H2, H3, H4, H5, H6, H7, H8, H9, ⟨%e10, H10⟩, ⟨%e11, H11⟩, ⟨%e12, H12⟩, ⟨%eK, HK⟩, ⟨%eV, HV⟩⟩
    isplitl [HK HV Hg]
    · isplitl [HK HV]
      · isplitl [HK]
        · iexists _; unfold owns; iexists _; isplitr
          swap; · iexact HK
          ipureintro; rfl
        iexists _; unfold owns; iexists _; isplitr
        swap; · iexact HV
        ipureintro; rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]
    · unfold owns; iexists _; isplitr
      swap; · iexact H10
      ipureintro; exact View.read_writes_eq_canon _ _ _ (castAt_covers10 m c t h)
    isplitl [H11]
    · unfold owns; iexists _; isplitr
      swap; · iexact H11
      ipureintro; exact View.read_writes_eq_canon _ _ _ (castAt_covers11 m c t h)
    unfold owns; iexists _; isplitr
    swap; · iexact H12
    ipureintro; exact View.read_writes_eq_canon _ _ _ (castAt_covers12 m c t h)
  · simp only [before11_plain m c t h, before12_plain m c t h]
    rw [leaves_flushed (dat m 0 c) 11 t (idle11 t h) (flush11 t h), after11, leaves_flushed (dat m 0 c) 12 t (idle12 t h) (flush12 t h), after12,
      attnOut_plain m c t h]
    iintro ⟨⟨⟨HK, HV⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply ((plainAt m c t h).2.2.2 (castIn m c t) (castOut m c t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexact H11
    isplitl [H12]; · iexact H12
    isplitl [HK]; · iexact HK
    isplitl [HV]; · iexact HV
    iintro ⟨H0, H1, H2, H3, H4, H5, H6, H7, H8, H9, ⟨%e10, H10⟩, H11, H12, ⟨%eK, HK⟩, ⟨%eV, HV⟩⟩
    isplitl [HK HV Hg]
    · isplitl [HK HV]
      · isplitl [HK]
        · iexists _; unfold owns; iexists _; isplitr
          swap; · iexact HK
          ipureintro; rfl
        iexists _; unfold owns; iexists _; isplitr
        swap; · iexact HV
        ipureintro; rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]
    · unfold owns; iexists _; isplitr
      swap; · iexact H10
      ipureintro; exact View.read_writes_eq_canon _ _ _ (plainAt_covers10 m c t h)
    isplitl [H11]; · iexact H11
    iexact H12

theorem body_row (t : Fin cfg0.N) : defs₀ (F := F) .tc cfg0.body (cfg0.bodyArgs t (cfg0.slots t)) = bodyAt0 t := by
  unfold defs₀; rw [Defs.onTc_tc]

theorem body_met (c : Dev nD) : BodyObligation (dat (F := F) m 0 c) (defs₀ (F := F)) Variants.none () Set.univ := fun t => by
  rw [bigSep_W0, bigSep_W0, body_row]
  exact triple_restated (body_sound m c t) rfl .rfl fun _ => .rfl

/-! ## The launch -/

set_option backward.isDefEq.respectTransparency.types false in
/-- Every run ends with each staged array as the proof data says, and with every counter at zero. -/
theorem launch : θ_run defs (onTc (τ := τ) (main (F := F))) (s₀ m ρ) (fun r => (Pipeline.FramePost cfgs (dat m) 0 (V m)) r ∧ r.2.sem = fun _ => 0) :=
  Pipeline.θ_run_frame_shared (Q' := _) cfgs (dat m) (0 : Fin 1) launch₀0 defs₀ Variants.none m ρ main
    (hbody := fun c => (body_met m c).loose) (hq := fun _ _ _ => rfl)
    (howed := fun _ _ => rfl) (V := V m) (hmain := hmain m Variants.none) (hA := dat_A m) (hΦ := fun _ _ => rfl)

theorem launch_post : θ_run defs (onTc (τ := τ) (main (F := F))) (s₀ m ρ) (Pipeline.FramePost cfgs (dat m) 0 (V m)) :=
  (θ_run defs _ _).mono (fun _ h => h.1) (launch m ρ)

end Cert.Attn

end
-- ==== Proof.AttnMath.lean ====
module

public import Idealize.ShloMosaic.PureOps.Ideal
public import Idealize.ShloMosaic.Lib.IdealHost

@[expose] public section

/-! The arithmetic of one row of the attention, over the extended reals: the softmax with a sink taken to the base two
of scores divided by `log 2`, and the softmax to the base `e` of the scores themselves, are the same row. -/

noncomputable section

namespace Cert.Attn

open Idealize.ShloMosaic

/-- `1 / log 2`: what the kernel's constant stands for. -/
def lam : EReal := (((Real.log 2)⁻¹ : ℝ) : EReal)

/-- `log 2`. -/
def ln2 : EReal := ((Real.log 2 : ℝ) : EReal)

theorem ln2_pos : (0 : EReal) < ln2 := by
  unfold ln2; exact_mod_cast Real.log_pos (by norm_num)

theorem ln2_ne_top : ln2 ≠ ⊤ := EReal.coe_ne_top _

theorem lam_mul_ln2 : lam * ln2 = 1 := by
  unfold lam ln2
  rw [← EReal.coe_mul, inv_mul_cancel₀ (Real.log_pos (by norm_num)).ne', EReal.coe_one]

/-- A power of two is a power of `e`. -/
theorem exp2_eq (x : EReal) : Ideal.exp2 x = Ideal.exp (x * ln2) := by
  induction x with
  | bot => rw [EReal.bot_mul_of_pos ln2_pos]; rfl
  | top => rw [EReal.top_mul_of_pos ln2_pos]; rfl
  | coe r =>
    unfold ln2
    rw [← EReal.coe_mul, Ideal.exp2_coe, Ideal.exp_coe]
    congr 1
    show (2 : ℝ) ^ r = _
    rw [Real.rpow_def_of_pos (by norm_num), mul_comm]

section Scale
variable {c : EReal}

theorem add_scale (h0 : 0 < c) (ht : c ≠ ⊤) (x y : EReal) : (x + y) * c = x * c + y * c :=
  EReal.right_distrib_of_nonneg_of_ne_top h0.le ht x y

theorem sub_scale (h0 : 0 < c) (ht : c ≠ ⊤) (x y : EReal) : (x - y) * c = x * c - y * c := by
  rw [sub_eq_add_neg, add_scale h0 ht, EReal.neg_mul, ← sub_eq_add_neg]

theorem sum_scale {ι : Type*} (h0 : 0 < c) (ht : c ≠ ⊤) (s : Finset ι) (f : ι → EReal) :
    (∑ i ∈ s, f i) * c = ∑ i ∈ s, f i * c := by
  classical
  induction s using Finset.induction_on with
  | empty => simp
  | insert a s ha ih => rw [Finset.sum_insert ha, Finset.sum_insert ha, add_scale h0 ht, ih]

theorem scale_mono (h0 : 0 < c) : Monotone fun x : EReal => x * c :=
  fun _ _ h => mul_le_mul_of_nonneg_right h h0.le

theorem max_scale (h0 : 0 < c) (x y : EReal) : max x y * c = max (x * c) (y * c) :=
  (scale_mono h0).map_max

theorem sup_scale {ι : Type*} (h0 : 0 < c) (s : Finset ι) (f : ι → EReal) :
    s.sup f * c = s.sup fun i => f i * c := by
  classical
  induction s using Finset.induction_on with
  | empty => simp [EReal.bot_mul_of_pos h0]
  | insert a s ha ih =>
    rw [Finset.sup_insert, Finset.sup_insert, ← ih]; exact max_scale h0 _ _

end Scale

section Row
variable {ι : Type*} [Fintype ι]

/-- The largest of the scores and the sink. -/
def top2 (s : ι → EReal) (k : EReal) : EReal := max (lam * k) (Finset.univ.sup s)

/-- A row of the attention by powers of two: values `v`, scores `s` divided by `log 2`, sink `k`. -/
def base2 (s v : ι → EReal) (k : EReal) : EReal :=
  (∑ j, v j * Ideal.exp2 (s j - top2 s k))
    * Ideal.div 1 ((∑ j, Ideal.exp2 (s j - top2 s k)) + Ideal.exp2 (lam * k - top2 s k))

/-- The largest of the scores and the sink. -/
def topE (s : ι → EReal) (k : EReal) : EReal := max (Finset.univ.sup s) k

/-- A row of the attention by powers of `e`: values `v`, scores `s`, sink `k`. -/
def baseE (s v : ι → EReal) (k : EReal) : EReal :=
  (∑ j, v j * Ideal.exp (s j - topE s k))
    * Ideal.div 1 ((∑ j, Ideal.exp (s j - topE s k)) + Ideal.exp (k - topE s k))

theorem base2_eq_baseE (s s' v v' : ι → EReal) (k : EReal) (hs : ∀ j, s' j = s j * ln2)
    (hv : ∀ j, s j = ⊥ ∨ v j = v' j) : base2 s v k = baseE s' v' k := by
  have hk : lam * k * ln2 = k := by rw [mul_right_comm, lam_mul_ln2, one_mul]
  have hM : top2 s k * ln2 = topE s' k := by
    unfold top2 topE
    rw [max_scale ln2_pos, hk, sup_scale ln2_pos, max_comm, funext hs]
  have hp (j : ι) : Ideal.exp2 (s j - top2 s k) = Ideal.exp (s' j - topE s' k) := by
    rw [exp2_eq, sub_scale ln2_pos ln2_ne_top, hM, hs]
  have hq : Ideal.exp2 (lam * k - top2 s k) = Ideal.exp (k - topE s' k) := by
    rw [exp2_eq, sub_scale ln2_pos ln2_ne_top, hM, hk]
  unfold base2 baseE
  simp only [hp, hq]
  congr 1
  refine Finset.sum_congr rfl fun j _ => ?_
  rcases hv j with h | h
  · have : s' j = ⊥ := by rw [hs, h, EReal.bot_mul_of_pos ln2_pos]
    have e : Ideal.exp (s' j - topE s' k) = 0 := by
      rw [this, sub_eq_add_neg, EReal.bot_add]; rfl
    rw [e, mul_zero, mul_zero]
  · rw [h]

end Row

end Cert.Attn
-- ==== Proof.AttnItem.lean ====
module

public import proofs.«01_k».proof.Proof.Gen.KernelIdeal.Skeleton
public import proofs.«01_k».proof.Proof.AttnMath
public import Idealize.ShloMosaic.Lib.Pointwise

@[expose] public section

set_option maxRecDepth 16384

noncomputable section

namespace Cert.Attn

open Cert.KernelIdeal Cert.KernelIdeal.Gen
open Idealize.ShloMosaic

/-- The scores of a group of the first half: the queries over zeros. -/
def scoreLo (K : FVec Ideal S384x128 .bf16) (q0 q1 q2 q3 : FVec Ideal S1x1x64x128 .bf16) : FVec Ideal S384x512 .f32 :=
  k0_pay16 (F := Ideal) q0 q1 q2 q3 K

/-- The scores of a group of the second half: zeros over the queries. -/
def scoreHi (K : FVec Ideal S384x128 .bf16) (q0 q1 q2 q3 : FVec Ideal S1x1x64x128 .bf16) : FVec Ideal S384x512 .f32 :=
  k0_pay18 (F := Ideal) (k0_pay14 (F := Ideal)) (k0_pay17 (F := Ideal) q0) q1 q2 q3 K

/-- Four query tiles side by side, read at a feature `d` and a column `c`. -/
def qAt (q0 q1 q2 q3 : FVec Ideal S1x1x64x128 .bf16) (d : Fin 64) (c : Fin 512) : EReal :=
  if h : c.val < 128 then q0 (ix4 0 0 d ⟨c.val, h⟩)
  else if h : c.val - 128 < 128 then q1 (ix4 0 0 d ⟨c.val - 128, h⟩)
  else if h : c.val - 128 - 128 < 128 then q2 (ix4 0 0 d ⟨c.val - 128 - 128, h⟩)
  else q3 (ix4 0 0 d ⟨c.val - 128 - 128 - 128, by omega⟩)

theorem scoreLo_apply (K : FVec Ideal S384x128 .bf16) (q0 q1 q2 q3 : FVec Ideal S1x1x64x128 .bf16) (r : Fin 384) (c : Fin 512) :
    scoreLo K q0 q1 q2 q3 (ix2 r c) = ∑ d : Fin 64, K (ix2 r ⟨d.val, by omega⟩) * qAt q0 q1 q2 q3 d c := by
  pointwise [scoreLo, k0_pay16, k0_pay14, qAt]
  simp

theorem scoreHi_apply (K : FVec Ideal S384x128 .bf16) (q0 q1 q2 q3 : FVec Ideal S1x1x64x128 .bf16) (r : Fin 384) (c : Fin 512) :
    scoreHi K q0 q1 q2 q3 (ix2 r c) = ∑ d : Fin 64, K (ix2 r ⟨64 + d.val, by omega⟩) * qAt q0 q1 q2 q3 d c := by
  pointwise [scoreHi, k0_pay18, k0_pay14, k0_pay17, qAt]
  simp

/-- A score with the bias of its third. -/
def sAt (S : FVec Ideal S384x512 .f32) (bp bn : FVec Ideal S128x512 .f32) (c : Fin 512) (j : Fin 384) : EReal :=
  if h : j.val < 128 then S (ix2 j c) + bp (ix2 ⟨j.val, h⟩ c)
  else if h' : j.val < 256 then S (ix2 j c) else S (ix2 j c) + bn (ix2 ⟨j.val - 256, by omega⟩ c)

theorem log2e_eq : (Named.named κ "log2e" 0x3FB8AA3B#32 : Ideal .f32) = lam := rfl

theorem ninf_eq : Ideal.ofBits .f32 0xFF800000#32 = ⊥ := by simp [Ideal.ofBits, Ideal.ieee]

/-- The largest of 384 numbers, taken by thirds, by rows of eight. -/
theorem sup_thirds (f : Fin 384 → EReal) :
    (Finset.univ.sup fun x : Fin 8 => max (max
      (Finset.univ.sup fun y : Fin 16 => f ⟨y.val * 8 + x.val, by omega⟩)
      (Finset.univ.sup fun y : Fin 16 => f ⟨128 + (y.val * 8 + x.val), by omega⟩))
      (Finset.univ.sup fun y : Fin 16 => f ⟨256 + (y.val * 8 + x.val), by omega⟩)) = Finset.univ.sup f := by
  refine le_antisymm ?_ ?_
  · exact Finset.sup_le fun x _ => max_le (max_le (Finset.sup_le fun y _ => Finset.le_sup (f := f) (Finset.mem_univ _))
      (Finset.sup_le fun y _ => Finset.le_sup (f := f) (Finset.mem_univ _)))
      (Finset.sup_le fun y _ => Finset.le_sup (f := f) (Finset.mem_univ _))
  · refine Finset.sup_le fun j _ => ?_
    have hj := j.isLt
    refine le_trans ?_ (Finset.le_sup (Finset.mem_univ (⟨j.val % 8, by omega⟩ : Fin 8)))
    by_cases h : j.val < 128
    · refine le_max_of_le_left (le_max_of_le_left ?_)
      refine le_trans (le_of_eq (congrArg f (Fin.ext ?_))) (Finset.le_sup (f := fun y : Fin 16 => f ⟨y.val * 8 + j.val % 8, by omega⟩) (Finset.mem_univ (⟨j.val / 8, by omega⟩ : Fin 16)))
      show j.val = j.val / 8 * 8 + j.val % 8; omega
    by_cases h' : j.val < 256
    · refine le_max_of_le_left (le_max_of_le_right ?_)
      refine le_trans (le_of_eq (congrArg f (Fin.ext ?_))) (Finset.le_sup (f := fun y : Fin 16 => f ⟨128 + (y.val * 8 + j.val % 8), by omega⟩) (Finset.mem_univ (⟨(j.val - 128) / 8, by omega⟩ : Fin 16)))
      show j.val = 128 + ((j.val - 128) / 8 * 8 + j.val % 8); omega
    · refine le_max_of_le_right ?_
      refine le_trans (le_of_eq (congrArg f (Fin.ext ?_))) (Finset.le_sup (f := fun y : Fin 16 => f ⟨256 + (y.val * 8 + j.val % 8), by omega⟩) (Finset.mem_univ (⟨(j.val - 256) / 8, by omega⟩ : Fin 16)))
      show j.val = 256 + ((j.val - 256) / 8 * 8 + j.val % 8); omega

theorem top_apply (S : FVec Ideal S384x512 .f32) (bp bn : FVec Ideal S128x512 .f32) (sk : FVec Ideal S1x512 .f32) (c : Fin 512) :
    k0_pay40 (F := Ideal) S bp bn sk (ix2 0 c) = top2 (sAt S bp bn c) (sk (ix2 0 c)) := by
  pointwise [k0_pay40, k0_pay36, k0_pay37, k0_pay38, k0_pay39, top2]
  rw [log2e_eq, ninf_eq, ← sup_thirds]
  congr 1

/-- The powers of two of a group. -/
def pOf (S : FVec Ideal S384x512 .f32) (bp bn : FVec Ideal S128x512 .f32) (sk : FVec Ideal S1x512 .f32) : FVec Ideal S384x512 .bf16 :=
  k0_pay41 (F := Ideal) S bp bn sk

theorem pOf_apply (S : FVec Ideal S384x512 .f32) (bp bn : FVec Ideal S128x512 .f32) (sk : FVec Ideal S1x512 .f32) (j : Fin 384) (c : Fin 512) :
    pOf S bp bn sk (ix2 j c) = Ideal.exp2 (sAt S bp bn c j - top2 (sAt S bp bn c) (sk (ix2 0 c))) := by
  rw [← top_apply]
  pointwise [pOf, k0_pay41, k0_pay36, k0_pay37, k0_pay38, sAt]
  have hj := j.isLt
  by_cases h : j.val < 128
  · simp only [dif_pos h]; rfl
  by_cases h' : j.val < 256
  · have h2 : j.val - 128 < 128 := by omega
    simp only [dif_neg h, dif_pos h', dif_pos h2]
    have e : (⟨128 + (j.val - 128), by omega⟩ : Fin 384) = j := Fin.ext (by show 128 + (j.val - 128) = j.val; omega)
    rw [e]; rfl
  · have h2 : ¬j.val - 128 < 128 := by omega
    simp only [dif_neg h, dif_neg h', dif_neg h2]
    have e : (⟨256 + (j.val - 128 - 128), by omega⟩ : Fin 384) = j := Fin.ext (by show 256 + (j.val - 128 - 128) = j.val; omega)
    have e' : (⟨j.val - 128 - 128, by omega⟩ : Fin 128) = ⟨j.val - 256, by omega⟩ := Fin.ext (by show j.val - 128 - 128 = j.val - 256; omega)
    rw [e, e']; rfl

/-- The output of a group before it's laid out. -/
def itemOf (S : FVec Ideal S384x512 .f32) (bp bn : FVec Ideal S128x512 .f32) (sk : FVec Ideal S1x512 .f32)
    (v0 v1 v2 : FVec Ideal S1x64x128 .bf16) : FVec Ideal S64x512 .f32 :=
  k0_pay43 (F := Ideal) (k0_pay15 (F := Ideal)) (k0_pay39 (F := Ideal) sk) (k0_pay40 (F := Ideal) S bp bn sk) (pOf S bp bn sk)
    (k0_pay42 (F := Ideal) v0) v1 v2

/-- Three value tiles side by side. -/
def vAt (v0 v1 v2 : FVec Ideal S1x64x128 .bf16) (d : Fin 64) (j : Fin 384) : EReal :=
  if h : j.val < 128 then v0 (ix3 0 d ⟨j.val, h⟩)
  else if h : j.val - 128 < 128 then v1 (ix3 0 d ⟨j.val - 128, h⟩)
  else v2 (ix3 0 d ⟨j.val - 128 - 128, by omega⟩)

theorem itemOf_apply (S : FVec Ideal S384x512 .f32) (bp bn : FVec Ideal S128x512 .f32) (sk : FVec Ideal S1x512 .f32)
    (v0 v1 v2 : FVec Ideal S1x64x128 .bf16) (d : Fin 64) (c : Fin 512) :
    itemOf S bp bn sk v0 v1 v2 (ix2 d c) = base2 (sAt S bp bn c) (vAt v0 v1 v2 d) (sk (ix2 0 c)) := by
  unfold base2
  simp only [← pOf_apply]
  pointwise [itemOf, k0_pay43, k0_pay42, k0_pay15, k0_pay39]
  simp only [top_apply, log2e_eq]
  rfl

/-- The first half of a group's output laid out by rows. -/
def tileLo (O : FVec Ideal S64x512 .f32) : FVec Ideal S1x128x128 .bf16 :=
  shapeCast S1x128x128 (truncf .bf16 (transpose S128x128 [1, 0] (concatenate S128x128 0
    [⟨S64x128, extractStridedSlice S64x128 ![0, 0] O slices_S64x512_o0_0_S64x128⟩,
     ⟨S64x128, extractStridedSlice S64x128 ![0, 128] O slices_S64x512_o0_128_S64x128⟩]
    concatenates_S64x128_S64x128_S128x128_d0) transposes_S128x128_p1_0_S128x128) bitsLt_bf16_f32) shapeCasts_S128x128_S1x128x128

/-- The second half of a group's output laid out by rows. -/
def tileHi (O : FVec Ideal S64x512 .f32) : FVec Ideal S1x128x128 .bf16 :=
  shapeCast S1x128x128 (truncf .bf16 (transpose S128x128 [1, 0] (concatenate S128x128 0
    [⟨S64x128, extractStridedSlice S64x128 ![0, 256] O slices_S64x512_o0_256_S64x128⟩,
     ⟨S64x128, extractStridedSlice S64x128 ![0, 384] O slices_S64x512_o0_384_S64x128⟩]
    concatenates_S64x128_S64x128_S128x128_d0) transposes_S128x128_p1_0_S128x128) bitsLt_bf16_f32) shapeCasts_S128x128_S1x128x128

theorem tileLo_apply (O : FVec Ideal S64x512 .f32) (l c : Fin 128) :
    tileLo O (ix3 0 l c) = O (ix2 ⟨c.val % 64, by omega⟩ ⟨l.val + 128 * (c.val / 64), by omega⟩) := by
  pointwise [tileLo]
  have hc := c.isLt
  by_cases h : c.val < 64
  · rw [dif_pos h]
    exact congrArg O (congrArg₂ ix2 (Fin.ext (by simp only []; omega)) (Fin.ext (by simp only []; omega)))
  · rw [dif_neg h]
    exact congrArg O (congrArg₂ ix2 (Fin.ext (by simp only []; omega)) (Fin.ext (by simp only []; omega)))

theorem tileHi_apply (O : FVec Ideal S64x512 .f32) (l c : Fin 128) :
    tileHi O (ix3 0 l c) = O (ix2 ⟨c.val % 64, by omega⟩ ⟨256 + l.val + 128 * (c.val / 64), by omega⟩) := by
  pointwise [tileHi]
  have hc := c.isLt
  by_cases h : c.val < 64
  · rw [dif_pos h]
    exact congrArg O (congrArg₂ ix2 (Fin.ext (by simp only []; omega)) (Fin.ext (by simp only []; omega)))
  · rw [dif_neg h]
    exact congrArg O (congrArg₂ ix2 (Fin.ext (by simp only []; omega)) (Fin.ext (by simp only []; omega)))

/-- The query of a column: the column's place in its tile. -/
theorem lane_word : ∀ c : Fin 512,
    k0_pay11 (Scalar.select (Scalar.cmpi .eq 128#32 0#32) 1#32 128#32) k0_pay9 k0_pay10 (ix2 (0 : Fin 128) c) = BitVec.ofNat 32 (c.val % 128) := by
  pointwise [k0_pay11, k0_pay10, k0_pay9]
  decide +kernel

theorem sge_word : ∀ r l : Fin 128, IntOp.cmpi .sge (BitVec.ofNat 32 r.val) (BitVec.ofNat 32 l.val) = if l.val ≤ r.val then 1#1 else 0#1 := by
  decide +kernel

theorem sle_word : ∀ r l : Fin 128, IntOp.cmpi .sle (BitVec.ofNat 32 r.val) (BitVec.ofNat 32 l.val) = if r.val ≤ l.val then 1#1 else 0#1 := by
  decide +kernel

/-- The mask of the keys before: zero on the window, minus infinity off it. -/
def maskPrev : FVec Ideal S128x512 .f32 :=
  k0_pay12 (F := Ideal) (iota .tc S128x512 32 [0] iota_S128x512_d0_w32) (Scalar.select (Scalar.cmpi .eq 128#32 0#32) 1#32 128#32) k0_pay9 k0_pay10

/-- The mask of the keys after. -/
def maskNext : FVec Ideal S128x512 .f32 :=
  k0_pay13 (F := Ideal) (iota .tc S128x512 32 [0] iota_S128x512_d0_w32) (Scalar.select (Scalar.cmpi .eq 128#32 0#32) 1#32 128#32) k0_pay9 k0_pay10

theorem lane_eq (r : Fin 128) (c : Fin 512) :
    k0_pay11 (Scalar.select (Scalar.cmpi .eq 128#32 0#32) 1#32 128#32) k0_pay9 k0_pay10 (ix2 r c) = BitVec.ofNat 32 (c.val % 128) := by
  rw [← lane_word c]
  pointwise [k0_pay11, k0_pay10, k0_pay9]

theorem maskPrev_apply (r : Fin 128) (c : Fin 512) : maskPrev (ix2 r c) = if c.val % 128 ≤ r.val then 0 else ⊥ := by
  pointwise [maskPrev, k0_pay12]
  rw [lane_eq, sge_word r ⟨c.val % 128, by omega⟩, ninf_eq]
  by_cases h : c.val % 128 ≤ r.val
  · rw [if_pos h, if_pos h]; rfl
  · rw [if_neg h, if_neg h]; rfl

theorem maskNext_apply (r : Fin 128) (c : Fin 512) : maskNext (ix2 r c) = if r.val ≤ c.val % 128 then 0 else ⊥ := by
  pointwise [maskNext, k0_pay13]
  rw [lane_eq, sle_word r ⟨c.val % 128, by omega⟩, ninf_eq]
  by_cases h : r.val ≤ c.val % 128
  · rw [if_pos h, if_pos h]; rfl
  · rw [if_neg h, if_neg h]; rfl

/-- The bias of the keys before at a block, `w` the block's number. -/
def biasPrev (w : BitVec 32) : FVec Ideal S128x512 .f32 :=
  k0_pay20 (F := Ideal) maskPrev (Scalar.cmpi .sgt w 0#32) (Scalar.ofBits .f32 0x00000000#32) (Scalar.ofBits .f32 0xFF800000#32)

/-- The bias of the keys after at a block. -/
def biasNext (w : BitVec 32) : FVec Ideal S128x512 .f32 :=
  k0_pay21 (F := Ideal) maskNext w

theorem sgt_word : ∀ n : Fin 64, Scalar.cmpi .sgt (BitVec.ofNat 32 n.val) 0#32 = if 0 < n.val then 1#1 else 0#1 := by
  decide +kernel

theorem slt_word : ∀ n : Fin 64, Scalar.cmpi .slt (BitVec.ofNat 32 n.val) 63#32 = if n.val < 63 then 1#1 else 0#1 := by
  decide +kernel

theorem biasPrev_apply (n : Fin 64) (r : Fin 128) (c : Fin 512) :
    biasPrev (BitVec.ofNat 32 n.val) (ix2 r c) = if c.val % 128 ≤ r.val ∧ 0 < n.val then 0 else ⊥ := by
  pointwise [biasPrev, k0_pay20]
  rw [maskPrev_apply, sgt_word, ninf_eq]
  by_cases h : c.val % 128 ≤ r.val <;> by_cases h' : 0 < n.val <;> simp [h, h', Scalar.select]

theorem biasNext_apply (n : Fin 64) (r : Fin 128) (c : Fin 512) :
    biasNext (BitVec.ofNat 32 n.val) (ix2 r c) = if r.val ≤ c.val % 128 ∧ n.val < 63 then 0 else ⊥ := by
  pointwise [biasNext, k0_pay21]
  rw [maskNext_apply, slt_word, ninf_eq]
  by_cases h : r.val ≤ c.val % 128 <;> by_cases h' : n.val < 63 <;> simp [h, h', Scalar.select]

end Cert.Attn
-- ==== Proof.AttnPieces.lean ====
module

public import proofs.«01_k».proof.Proof.AttnFrame
public import proofs.«01_k».proof.Proof.AttnItem
public import Idealize.ShloMosaic.Lib.WholeRead

@[expose] public section

set_option maxRecDepth 16384

noncomputable section

namespace Cert.Attn

open Cert.KernelIdeal Cert.KernelIdeal.Gen
open Idealize.ShloMosaic Idealize.ShloMosaic.TcCoe

/-! ## The stored blocks, by item -/

/-- The group of an item: a pair of key columns and a half of it. -/
def grp (p : Fin 2) (o : Bool) : Nat := 2 * p.val + o.toNat

theorem grp_lt (p : Fin 2) (o : Bool) : grp p o < 4 := by
  have := p.isLt; cases o <;> simp only [grp, Bool.toNat_true, Bool.toNat_false] <;> omega

theorem keyInb (j : Fin 8) (p : Fin 2) : ∀ a : Fin 2, ![128 * j.val, 128 * p.val] a + S384x128.size a ≤ S1280x256.size a := by
  have := j.isLt; have := p.isLt
  intro a; fin_cases a <;> simp [S384x128, S1280x256] <;> omega

theorem qInb (j : Fin 8) (p : Fin 2) (o : Bool) (a : Fin 4) :
    ∀ d : Fin 4, ![0, j.val, 256 * grp p o + 64 * a.val, 0] d + S1x1x64x128.size d ≤ S1x8x1024x128.size d := by
  have := j.isLt; have := grp_lt p o; have := a.isLt
  intro d; fin_cases d <;> simp [S1x1x64x128, S1x8x1024x128] <;> omega

theorem vInb (j : Fin 8) (p : Fin 2) (o : Bool) (a : Fin 3) :
    ∀ d : Fin 3, ![j.val + a.val, 64 * grp p o, 0] d + S1x64x128.size d ≤ S10x256x128.size d := by
  have := j.isLt; have := grp_lt p o; have := a.isLt
  intro d; fin_cases d <;> simp [S1x64x128, S10x256x128] <;> omega

theorem sInb (p : Fin 2) (o : Bool) : ∀ d : Fin 2, ![grp p o, 0] d + S1x512.size d ≤ S4x512.size d := by
  have := grp_lt p o
  intro d; fin_cases d <;> simp [S1x512, S4x512] <;> omega

theorem oInb (j : Fin 8) (p : Fin 2) (o h : Bool) :
    ∀ d : Fin 3, ![0, 128 * j.val, 256 * grp p o + 128 * h.toNat] d + S1x128x128.size d ≤ S1x1024x1024.size d := by
  have := j.isLt; have := grp_lt p o
  intro d; cases h <;> fin_cases d <;> simp [S1x128x128, S1x1024x1024] <;> omega

section Words
variable (i : grid0.Coords)
  (a0 : Memref sig .tc .vmem S1x8x1024x128 .bf16) (ha0 : a0.IsWhole)
  (a7 : Memref sig .tc .vmem S4x512 .f32) (ha7 : a7.IsWhole)
  (a13 : Memref sig .tc .vmem S1280x256 .bf16) (a14 : Memref sig .tc .vmem S10x256x128 .bf16)
  (LK : List (View.Piece (Elt Ideal) S1280x256 .bf16)) (LV : List (View.Piece (Elt Ideal) S10x256x128 .bf16))
  (x0 : Vec Ideal S1x8x1024x128 .bf16) (x7 : Vec Ideal S4x512 .f32)

def kLoad (j : Fin 8) (p : Fin 2) : FVec Ideal S384x128 .bf16 :=
  a13.view.readCov LK (Rect.unit (s := S1280x256) ![128 * j.val, 128 * p.val] S384x128.size (keyInb j p)).toLoadRect

def qLoad (j : Fin 8) (p : Fin 2) (o : Bool) (a : Fin 4) : FVec Ideal S1x1x64x128 .bf16 :=
  View.readAt (Elt Ideal) a0.view (Rect.unit (s := S1x8x1024x128) ![0, j.val, 256 * grp p o + 64 * a.val, 0] S1x1x64x128.size (qInb j p o a)).toLoadRect (ha0.unread x0)

def vLoad (j : Fin 8) (p : Fin 2) (o : Bool) (a : Fin 3) : FVec Ideal S1x64x128 .bf16 :=
  a14.view.readCov LV (Rect.unit (s := S10x256x128) ![j.val + a.val, 64 * grp p o, 0] S1x64x128.size (vInb j p o a)).toLoadRect

def sLoad (p : Fin 2) (o : Bool) : FVec Ideal S1x512 .f32 :=
  View.readAt (Elt Ideal) a7.view (Rect.unit (s := S4x512) ![grp p o, 0] S1x512.size (sInb p o)).toLoadRect (ha7.unread x7)

/-- The number of a block, as the body computes it. -/
def blkWord (j : Fin 8) : BitVec 32 := Scalar.addi (Scalar.muli (BitVec.ofNat 32 (i 1).val) 8#32) (BitVec.ofNat 32 j.val)

/-- What an item computes. -/
def itemAt (j : Fin 8) (p : Fin 2) (o : Bool) : FVec Ideal S64x512 .f32 :=
  itemOf (cond o scoreHi scoreLo (kLoad a13 LK j p) (qLoad a0 ha0 x0 j p o 0) (qLoad a0 ha0 x0 j p o 1) (qLoad a0 ha0 x0 j p o 2) (qLoad a0 ha0 x0 j p o 3))
    (biasPrev (blkWord i j)) (biasNext (blkWord i j)) (sLoad a7 ha7 x7 p o)
    (vLoad a14 LV j p o 0) (vLoad a14 LV j p o 1) (vLoad a14 LV j p o 2)

/-- One store of an item. -/
def pieceAt (j : Fin 8) (p : Fin 2) (o h : Bool) : View.Piece (Elt Ideal) S1x1024x1024 .bf16 :=
  ⟨Rect.unit (s := S1x1024x1024) ![0, 128 * j.val, 256 * grp p o + 128 * h.toNat] S1x128x128.size (oInb j p o h),
    cond h tileHi tileLo (itemAt i a0 ha0 a7 ha7 a13 a14 LK LV x0 x7 j p o)⟩

/-- The stores of a block, the last first. -/
def blockPieces (j : Fin 8) : List (View.Piece (Elt Ideal) S1x1024x1024 .bf16) :=
  [pieceAt i a0 ha0 a7 ha7 a13 a14 LK LV x0 x7 j 1 true true, pieceAt i a0 ha0 a7 ha7 a13 a14 LK LV x0 x7 j 1 true false,
   pieceAt i a0 ha0 a7 ha7 a13 a14 LK LV x0 x7 j 1 false true, pieceAt i a0 ha0 a7 ha7 a13 a14 LK LV x0 x7 j 1 false false,
   pieceAt i a0 ha0 a7 ha7 a13 a14 LK LV x0 x7 j 0 true true, pieceAt i a0 ha0 a7 ha7 a13 a14 LK LV x0 x7 j 0 true false,
   pieceAt i a0 ha0 a7 ha7 a13 a14 LK LV x0 x7 j 0 false true, pieceAt i a0 ha0 a7 ha7 a13 a14 LK LV x0 x7 j 0 false false]

end Words

/-! ## The two scratch buffers -/

theorem readWhole {S : Shape} {e : EltTy} (m : Memref sig .tc .vmem S e) (h : m.IsWhole) (X : S.Idx → Elt Ideal e)
    {off : Fin S.rank → Nat} (h0 : off = fun _ => 0) (inb : ∀ a, off a + S.size a ≤ S.size a) :
    View.readAt (Elt Ideal) m.view (Rect.unit off S.size inb).toLoadRect (h.unread X) = X := by
  have e := View.ld_unit_zero (Val := Elt Ideal) h0 inb X
  refine Eq.trans ?_ e
  funext x
  rw [h.readAt_unread]

section Scratch
variable (x1 : Vec Ideal S1x128x256 .bf16) (x2 : Vec Ideal S1x1024x256 .bf16) (x3 : Vec Ideal S1x128x256 .bf16)
  (x4 : Vec Ideal S1x1x256x128 .bf16) (x5 : Vec Ideal S1x8x256x128 .bf16) (x6 : Vec Ideal S1x1x256x128 .bf16)

/-- The stores into the keys' scratch. -/
def keyPieces : List (View.Piece (Elt Ideal) S1280x256 .bf16) :=
  [⟨Rect.unit (s := S1280x256) ![1152, 0] S128x256.size inb_S1280x256_S128x256_1152_0, k0_pay5 (F := Ideal) x3⟩,
   ⟨Rect.unit (s := S1280x256) ![128, 0] S1024x256.size inb_S1280x256_S1024x256_128_0, k0_pay4 (F := Ideal) x2⟩,
   ⟨Rect.unit (s := S1280x256) ![0, 0] S128x256.size inb_S1280x256_S128x256_0_0, k0_pay3 (F := Ideal) x1⟩]

/-- The stores into the values' scratch. -/
def valPieces : List (View.Piece (Elt Ideal) S10x256x128 .bf16) :=
  [⟨Rect.unit (s := S10x256x128) ![9, 0, 0] S1x256x128.size inb_S10x256x128_S1x256x128_9_0_0, k0_pay8 (F := Ideal) x6⟩,
   ⟨Rect.unit (s := S10x256x128) ![1, 0, 0] S8x256x128.size inb_S10x256x128_S8x256x128_1_0_0, k0_pay7 (F := Ideal) x5⟩,
   ⟨Rect.unit (s := S10x256x128) ![0, 0, 0] S1x256x128.size inb_S10x256x128_S1x256x128_0_0_0, k0_pay6 (F := Ideal) x4⟩]

/-- A key in the scratch. -/
def kS (r : Fin 1280) (c : Fin 256) : EReal :=
  if h : r.val < 128 then x1 (ix3 0 ⟨r.val, h⟩ c)
  else if h' : r.val < 1152 then x2 (ix3 0 ⟨r.val - 128, by omega⟩ c)
  else x3 (ix3 0 ⟨r.val - 1152, by omega⟩ c)

/-- A value in the scratch. -/
def vS (b : Fin 10) (c : Fin 256) (l : Fin 128) : EReal :=
  if b.val < 1 then x4 (ix4 0 0 c l)
  else if h' : b.val < 9 then x5 (ix4 0 ⟨b.val - 1, by omega⟩ c l)
  else x6 (ix4 0 0 c l)

theorem canon_keys (r : Fin 1280) (c : Fin 256) : View.canon (keyPieces x1 x2 x3) (ix2 r c) = kS x1 x2 x3 r c := by
  unfold keyPieces kS
  by_cases h : 1152 ≤ r.val
  · rw [dif_neg (by omega), dif_neg (by omega)]
    have e : ix2 r c = (Rect.unit (s := S1280x256) ![1152, 0] S128x256.size inb_S1280x256_S128x256_1152_0).emb
        (ix2 (⟨r.val - 1152, by omega⟩ : Fin 128) c) := by
      funext a; fin_cases a
      · exact Fin.ext (show r.val = 1152 + 1 * (r.val - 1152) by omega)
      · exact Fin.ext (show c.val = 0 + 1 * c.val by omega)
    rw [e, View.canon_cons_emb]
    pointwise [k0_pay5]
  · rw [View.canon_cons_of_not_mem _ _ (by
      intro hm; obtain ⟨x, hx⟩ := LoadRect.exists_idx_of_mem _ hm
      have := congrArg (fun y => (y 0).val) hx
      have h2 : 1152 + 1 * (x 0).val = r.val := this
      omega)]
    by_cases h' : 128 ≤ r.val
    · rw [dif_neg (by omega), dif_pos (by omega)]
      have e : ix2 r c = (Rect.unit (s := S1280x256) ![128, 0] S1024x256.size inb_S1280x256_S1024x256_128_0).emb
          (ix2 (⟨r.val - 128, by omega⟩ : Fin 1024) c) := by
        funext a; fin_cases a
        · exact Fin.ext (show r.val = 128 + 1 * (r.val - 128) by omega)
        · exact Fin.ext (show c.val = 0 + 1 * c.val by omega)
      rw [e, View.canon_cons_emb]
      pointwise [k0_pay4]
    · rw [dif_pos (by omega)]
      rw [View.canon_cons_of_not_mem _ _ (by
        intro hm; obtain ⟨x, hx⟩ := LoadRect.exists_idx_of_mem _ hm
        have := congrArg (fun y => (y 0).val) hx
        have h2 : 128 + 1 * (x 0).val = r.val := this
        omega)]
      have e : ix2 r c = (Rect.unit (s := S1280x256) ![0, 0] S128x256.size inb_S1280x256_S128x256_0_0).emb
          (ix2 (⟨r.val, by omega⟩ : Fin 128) c) := by
        funext a; fin_cases a
        · exact Fin.ext (show r.val = 0 + 1 * r.val by omega)
        · exact Fin.ext (show c.val = 0 + 1 * c.val by omega)
      rw [e, View.canon_cons_emb]
      pointwise [k0_pay3]

theorem canon_vals (b : Fin 10) (c : Fin 256) (l : Fin 128) :
    View.canon (valPieces x4 x5 x6) (ix3 b c l) = vS x4 x5 x6 b c l := by
  unfold valPieces vS
  by_cases h : 9 ≤ b.val
  · rw [if_neg (by omega), dif_neg (by omega)]
    have e : ix3 b c l = (Rect.unit (s := S10x256x128) ![9, 0, 0] S1x256x128.size inb_S10x256x128_S1x256x128_9_0_0).emb
        (ix3 (0 : Fin 1) c l) := by
      funext a; fin_cases a
      · exact Fin.ext (show b.val = 9 + 1 * 0 by omega)
      · exact Fin.ext (show c.val = 0 + 1 * c.val by omega)
      · exact Fin.ext (show l.val = 0 + 1 * l.val by omega)
    rw [e, View.canon_cons_emb]
    pointwise [k0_pay8]
  · rw [View.canon_cons_of_not_mem _ _ (by
      intro hm; obtain ⟨x, hx⟩ := LoadRect.exists_idx_of_mem _ hm
      have := congrArg (fun y => (y 0).val) hx
      have h2 : 9 + 1 * (x 0).val = b.val := this
      omega)]
    by_cases h' : 1 ≤ b.val
    · rw [if_neg (by omega), dif_pos (by omega)]
      have e : ix3 b c l = (Rect.unit (s := S10x256x128) ![1, 0, 0] S8x256x128.size inb_S10x256x128_S8x256x128_1_0_0).emb
          (ix3 (⟨b.val - 1, by omega⟩ : Fin 8) c l) := by
        funext a; fin_cases a
        · exact Fin.ext (show b.val = 1 + 1 * (b.val - 1) by omega)
        · exact Fin.ext (show c.val = 0 + 1 * c.val by omega)
        · exact Fin.ext (show l.val = 0 + 1 * l.val by omega)
      rw [e, View.canon_cons_emb]
      pointwise [k0_pay7]
    · rw [if_pos (by omega)]
      rw [View.canon_cons_of_not_mem _ _ (by
        intro hm; obtain ⟨x, hx⟩ := LoadRect.exists_idx_of_mem _ hm
        have := congrArg (fun y => (y 0).val) hx
        have h2 : 1 + 1 * (x 0).val = b.val := this
        omega)]
      have e : ix3 b c l = (Rect.unit (s := S10x256x128) ![0, 0, 0] S1x256x128.size inb_S10x256x128_S1x256x128_0_0_0).emb
          (ix3 (0 : Fin 1) c l) := by
        funext a; fin_cases a
        · exact Fin.ext (show b.val = 0 + 1 * 0 by omega)
        · exact Fin.ext (show c.val = 0 + 1 * c.val by omega)
        · exact Fin.ext (show l.val = 0 + 1 * l.val by omega)
      rw [e, View.canon_cons_emb]
      pointwise [k0_pay6]

end Scratch

/-! ## The loads at an index -/

section Loads
variable (i : grid0.Coords)
  (a0 : Memref sig .tc .vmem S1x8x1024x128 .bf16) (ha0 : a0.IsWhole)
  (a7 : Memref sig .tc .vmem S4x512 .f32) (ha7 : a7.IsWhole)
  (a13 : Memref sig .tc .vmem S1280x256 .bf16) (a14 : Memref sig .tc .vmem S10x256x128 .bf16)
  (x0 : Vec Ideal S1x8x1024x128 .bf16) (x7 : Vec Ideal S4x512 .f32)
  (x1 : Vec Ideal S1x128x256 .bf16) (x2 : Vec Ideal S1x1024x256 .bf16) (x3 : Vec Ideal S1x128x256 .bf16)
  (x4 : Vec Ideal S1x1x256x128 .bf16) (x5 : Vec Ideal S1x8x256x128 .bf16) (x6 : Vec Ideal S1x1x256x128 .bf16)

theorem kLoad_apply (j : Fin 8) (p : Fin 2) (r : Fin 384) (c : Fin 128) :
    kLoad a13 (keyPieces x1 x2 x3) j p (ix2 r c)
      = kS x1 x2 x3 ⟨128 * j.val + r.val, by omega⟩ ⟨128 * p.val + c.val, by omega⟩ := by
  rw [← canon_keys]
  unfold kLoad
  rw [View.readCov_eq_canon']
  refine congrArg (View.canon (keyPieces x1 x2 x3)) (funext fun a => ?_)
  fin_cases a
  · exact Fin.ext (show 128 * j.val + 1 * r.val = 128 * j.val + r.val by omega)
  · exact Fin.ext (show 128 * p.val + 1 * c.val = 128 * p.val + c.val by omega)

theorem vLoad_apply (j : Fin 8) (p : Fin 2) (o : Bool) (a : Fin 3) (d : Fin 64) (l : Fin 128) :
    vLoad a14 (valPieces x4 x5 x6) j p o a (ix3 0 d l)
      = vS x4 x5 x6 ⟨j.val + a.val, by omega⟩ ⟨64 * grp p o + d.val, by have := grp_lt p o; omega⟩ l := by
  rw [← canon_vals]
  unfold vLoad
  rw [View.readCov_eq_canon']
  refine congrArg (View.canon (valPieces x4 x5 x6)) (funext fun e => ?_)
  fin_cases e
  · exact Fin.ext (show j.val + a.val + 1 * 0 = j.val + a.val by omega)
  · exact Fin.ext (show 64 * grp p o + 1 * d.val = 64 * grp p o + d.val by omega)
  · exact Fin.ext (show 0 + 1 * l.val = l.val by omega)

theorem qLoad_apply (j : Fin 8) (p : Fin 2) (o : Bool) (a : Fin 4) (d : Fin 64) (l : Fin 128) :
    qLoad a0 ha0 x0 j p o a (ix4 0 0 d l)
      = x0 (ix4 0 j ⟨256 * grp p o + 64 * a.val + d.val, by have := grp_lt p o; omega⟩ l) := by
  unfold qLoad
  rw [Memref.IsWhole.readAt_unread]
  refine congrArg x0 (funext fun e => ?_)
  fin_cases e
  · rfl
  · exact Fin.ext (show j.val + 1 * 0 = j.val by omega)
  · exact Fin.ext (show 256 * grp p o + 64 * a.val + 1 * d.val = 256 * grp p o + 64 * a.val + d.val by omega)
  · exact Fin.ext (show 0 + 1 * l.val = l.val by omega)

theorem sLoad_apply (p : Fin 2) (o : Bool) (c : Fin 512) :
    sLoad a7 ha7 x7 p o (ix2 0 c) = x7 (ix2 ⟨grp p o, grp_lt p o⟩ c) := by
  unfold sLoad
  rw [Memref.IsWhole.readAt_unread]
  refine congrArg x7 (funext fun e => ?_)
  fin_cases e
  · exact Fin.ext (show grp p o + 1 * 0 = grp p o by omega)
  · exact Fin.ext (show 0 + 1 * c.val = c.val by omega)

theorem qAt_apply (j : Fin 8) (p : Fin 2) (o : Bool) (d : Fin 64) (c : Fin 512) :
    qAt (qLoad a0 ha0 x0 j p o 0) (qLoad a0 ha0 x0 j p o 1) (qLoad a0 ha0 x0 j p o 2) (qLoad a0 ha0 x0 j p o 3) d c
      = x0 (ix4 0 j ⟨64 * (4 * grp p o + c.val / 128) + d.val, by have := grp_lt p o; omega⟩ ⟨c.val % 128, by omega⟩) := by
  have hc := c.isLt
  unfold qAt
  simp only [qLoad_apply]
  split_ifs with h1 h2 h3
  all_goals
    refine congrArg x0 (congrArg₂ (ix4 0 j) (Fin.ext ?_) (Fin.ext ?_))
    all_goals simp only [Fin.val_zero, Fin.val_one, Fin.val_two]
    all_goals first | omega | (have : (3 : Fin 4).val = 3 := rfl; omega)

theorem vAt_apply (j : Fin 8) (p : Fin 2) (o : Bool) (d : Fin 64) (k : Fin 384) :
    vAt (vLoad a14 (valPieces x4 x5 x6) j p o 0) (vLoad a14 (valPieces x4 x5 x6) j p o 1) (vLoad a14 (valPieces x4 x5 x6) j p o 2) d k
      = vS x4 x5 x6 ⟨j.val + k.val / 128, by omega⟩ ⟨64 * grp p o + d.val, by have := grp_lt p o; omega⟩ ⟨k.val % 128, by omega⟩ := by
  have hk := k.isLt
  unfold vAt
  simp only [vLoad_apply]
  split_ifs with h1 h2
  all_goals
    refine congrArg₂ (fun a b => vS x4 x5 x6 a _ b) (Fin.ext ?_) (Fin.ext ?_)
    all_goals simp only [Fin.val_zero, Fin.val_one, Fin.val_two]
    all_goals omega

/-- Whether a query at place `l` of block `n` sees key `k` of its three blocks. -/
def seen (n l k : Nat) : Prop := (128 ≤ k ∨ (l ≤ k ∧ 0 < n)) ∧ (k < 256 ∨ (k - 256 ≤ l ∧ n < 63))
instance (n l k : Nat) : Decidable (seen n l k) := inferInstanceAs (Decidable (_ ∧ _))

/-- The attention of head `h` at place `l` of the block `j` of the point's chunk `ci`, component `d`. -/
def attnBlk (ci : Fin 8) (j : Fin 8) (l : Fin 128) (h : Fin 16) (d : Fin 64) : EReal :=
  base2 (fun k : Fin 384 => if seen (8 * ci.val + j.val) l.val k.val then
      ∑ e : Fin 64, kS x1 x2 x3 ⟨128 * j.val + k.val, by omega⟩ ⟨64 * (h.val / 4) + e.val, by omega⟩
        * x0 (ix4 0 j ⟨64 * h.val + e.val, by omega⟩ l) else ⊥)
    (fun k => vS x4 x5 x6 ⟨j.val + k.val / 128, by omega⟩ ⟨64 * (h.val / 4) + d.val, by omega⟩ ⟨k.val % 128, by omega⟩)
    (x7 (ix2 ⟨h.val / 4, by omega⟩ ⟨128 * (h.val % 4) + l.val, by omega⟩))

/-- The attention of a point's chunk, as the stored block holds it. -/
def attnOf (ci : Fin 8) (y : S1x1024x1024.Idx) : EReal :=
  attnBlk x0 x7 x1 x2 x3 x4 x5 x6 ci
    ⟨(y 1).val / 128, by have : (y 1).val < 1024 := (y 1).isLt; omega⟩ ⟨(y 1).val % 128, by omega⟩
    ⟨(y 2).val / 64, by have : (y 2).val < 1024 := (y 2).isLt; omega⟩ ⟨(y 2).val % 64, by omega⟩

theorem score_apply (j : Fin 8) (p : Fin 2) (o : Bool) (r : Fin 384) (c : Fin 512) :
    cond o scoreHi scoreLo (kLoad a13 (keyPieces x1 x2 x3) j p) (qLoad a0 ha0 x0 j p o 0) (qLoad a0 ha0 x0 j p o 1)
      (qLoad a0 ha0 x0 j p o 2) (qLoad a0 ha0 x0 j p o 3) (ix2 r c)
      = ∑ e : Fin 64, kS x1 x2 x3 ⟨128 * j.val + r.val, by omega⟩ ⟨64 * grp p o + e.val, by have := grp_lt p o; omega⟩
        * x0 (ix4 0 j ⟨64 * (4 * grp p o + c.val / 128) + e.val, by have := grp_lt p o; omega⟩ ⟨c.val % 128, by omega⟩) := by
  cases o
  · simp only [cond_false, scoreLo_apply, kLoad_apply, qAt_apply]
    refine Finset.sum_congr rfl fun e _ => congrArg (· * _) (congrArg (kS x1 x2 x3 _) (Fin.ext ?_))
    simp only [grp, Bool.toNat_false]; omega
  · simp only [cond_true, scoreHi_apply, kLoad_apply, qAt_apply]
    refine Finset.sum_congr rfl fun e _ => congrArg (· * _) (congrArg (kS x1 x2 x3 _) (Fin.ext ?_))
    simp only [grp, Bool.toNat_true]; omega

theorem blkWord_eq (j : Fin 8) : ∃ n : Fin 64, n.val = 8 * (i 1).val + j.val ∧ blkWord i j = BitVec.ofNat 32 n.val := by
  have key : ∀ (a b : Fin 8), Scalar.addi (Scalar.muli (BitVec.ofNat 32 a.val) 8#32) (BitVec.ofNat 32 b.val) = BitVec.ofNat 32 (8 * a.val + b.val) := by
    decide +kernel
  exact ⟨⟨8 * (i 1).val + j.val, by have : (i 1).val < 8 := (i 1).isLt; omega⟩, rfl, key ⟨(i 1).val, (i 1).isLt⟩ j⟩

theorem itemAt_apply (j : Fin 8) (p : Fin 2) (o : Bool) (d : Fin 64) (c : Fin 512) :
    itemAt i a0 ha0 a7 ha7 a13 a14 (keyPieces x1 x2 x3) (valPieces x4 x5 x6) x0 x7 j p o (ix2 d c)
      = attnBlk x0 x7 x1 x2 x3 x4 x5 x6 ⟨(i 1).val, (i 1).isLt⟩ j ⟨c.val % 128, by omega⟩
          ⟨4 * grp p o + c.val / 128, by have := grp_lt p o; omega⟩ d := by
  have hc := c.isLt
  have hg := grp_lt p o
  unfold itemAt attnBlk
  rw [itemOf_apply]
  have h4 : (4 * grp p o + c.val / 128) / 4 = grp p o := by omega
  have h5 : 128 * ((4 * grp p o + c.val / 128) % 4) + c.val % 128 = c.val := by omega
  congr 1
  · funext k
    unfold sAt
    obtain ⟨n, hn, hw⟩ := blkWord_eq i j
    rw [hw, ← hn]
    simp only [score_apply, biasPrev_apply, biasNext_apply, h4, seen]
    have hk := k.isLt
    split_ifs with h1 h2 h3 h6 h7 h8 h9 <;> first
      | (exfalso; omega)
      | rw [add_zero]
      | rw [EReal.add_bot]
      | rfl
  · funext k
    rw [vAt_apply]
    simp only [h4]
  · rw [sLoad_apply]
    simp only [h4, h5]

theorem pieceAt_apply (j : Fin 8) (p : Fin 2) (o h : Bool)
    (x : (pieceAt i a0 ha0 a7 ha7 a13 a14 (keyPieces x1 x2 x3) (valPieces x4 x5 x6) x0 x7 j p o h).1.shape.Idx) :
    (pieceAt i a0 ha0 a7 ha7 a13 a14 (keyPieces x1 x2 x3) (valPieces x4 x5 x6) x0 x7 j p o h).2 x
      = attnOf x0 x7 x1 x2 x3 x4 x5 x6 ⟨(i 1).val, (i 1).isLt⟩
          ((pieceAt i a0 ha0 a7 ha7 a13 a14 (keyPieces x1 x2 x3) (valPieces x4 x5 x6) x0 x7 j p o h).1.emb x) := by
  obtain ⟨l, c, rfl⟩ : ∃ (l c : Fin 128), x = ix3 (0 : Fin 1) l c := by
    refine ⟨x 1, x 2, funext fun a => ?_⟩
    fin_cases a
    · exact Subsingleton.elim (α := Fin 1) _ _
    · rfl
    · rfl
  have hl := l.isLt
  have hc := c.isLt
  have hg := grp_lt p o
  have hj := j.isLt
  refine Eq.trans (b := attnBlk x0 x7 x1 x2 x3 x4 x5 x6 ⟨(i 1).val, (i 1).isLt⟩ j l
      ⟨4 * grp p o + 2 * h.toNat + c.val / 64, by cases h <;> simp only [Bool.toNat_false, Bool.toNat_true] <;> omega⟩ ⟨c.val % 64, by omega⟩) ?_ ?_
  · cases h
    · refine Eq.trans (tileLo_apply _ l c) ?_
      rw [itemAt_apply]
      refine congr (congrArg₂ (attnBlk x0 x7 x1 x2 x3 x4 x5 x6 _ j) (Fin.ext ?_) (Fin.ext ?_)) rfl
      · simp only []; omega
      · simp only [Bool.toNat_false]; omega
    · refine Eq.trans (tileHi_apply _ l c) ?_
      rw [itemAt_apply]
      refine congr (congrArg₂ (attnBlk x0 x7 x1 x2 x3 x4 x5 x6 _ j) (Fin.ext ?_) (Fin.ext ?_)) rfl
      · simp only []; omega
      · simp only [Bool.toNat_true]; omega
  · have e1 : (((pieceAt i a0 ha0 a7 ha7 a13 a14 (keyPieces x1 x2 x3) (valPieces x4 x5 x6) x0 x7 j p o h).1.emb (ix3 (0 : Fin 1) l c)) 1).val
        = 128 * j.val + 1 * l.val := rfl
    have e2 : (((pieceAt i a0 ha0 a7 ha7 a13 a14 (keyPieces x1 x2 x3) (valPieces x4 x5 x6) x0 x7 j p o h).1.emb (ix3 (0 : Fin 1) l c)) 2).val
        = 256 * grp p o + 128 * h.toNat + 1 * c.val := rfl
    have hh : h.toNat < 2 := by cases h <;> simp
    unfold attnOf
    refine congr (congr (congrArg₂ (attnBlk x0 x7 x1 x2 x3 x4 x5 x6 _) (Fin.ext ?_) (Fin.ext ?_)) (Fin.ext ?_)) (Fin.ext ?_)
    · simp only [e1]; omega
    · simp only [e1]; omega
    · simp only [e2]; omega
    · simp only [e2]; omega

/-- All the stores of the attention. -/
def allPieces : List (View.Piece (Elt Ideal) S1x1024x1024 .bf16) :=
  let B := blockPieces i a0 ha0 a7 ha7 a13 a14 (keyPieces x1 x2 x3) (valPieces x4 x5 x6) x0 x7
  B 7 ++ (B 6 ++ (B 5 ++ (B 4 ++ (B 3 ++ (B 2 ++ (B 1 ++ B 0))))))

theorem allPieces_apply (q : View.Piece (Elt Ideal) S1x1024x1024 .bf16)
    (hq : q ∈ allPieces i a0 ha0 a7 ha7 a13 a14 x0 x7 x1 x2 x3 x4 x5 x6) (x : q.1.shape.Idx) :
    q.2 x = attnOf x0 x7 x1 x2 x3 x4 x5 x6 ⟨(i 1).val, (i 1).isLt⟩ (q.1.emb x) := by
  have key : ∀ j, q ∈ blockPieces i a0 ha0 a7 ha7 a13 a14 (keyPieces x1 x2 x3) (valPieces x4 x5 x6) x0 x7 j →
      q.2 x = attnOf x0 x7 x1 x2 x3 x4 x5 x6 ⟨(i 1).val, (i 1).isLt⟩ (q.1.emb x) := by
    intro j h
    simp only [blockPieces, List.mem_cons, List.not_mem_nil, or_false] at h
    rcases h with rfl | rfl | rfl | rfl | rfl | rfl | rfl | rfl <;> exact pieceAt_apply i a0 ha0 a7 ha7 a13 a14 x0 x7 x1 x2 x3 x4 x5 x6 _ _ _ _ x
  simp only [allPieces, List.mem_append] at hq
  rcases hq with h | h | h | h | h | h | h | h <;> exact key _ h

end Loads

end Cert.Attn
-- ==== Proof.AttnBlock.lean ====
module

public import proofs.«01_k».proof.Proof.AttnPieces

@[expose] public section

set_option maxRecDepth 16384

noncomputable section

namespace Cert.Attn

open Cert.KernelIdeal Cert.KernelIdeal.Gen
open Idealize.ShloMosaic Idealize.ShloMosaic.TcCoe

variable (m : (ℓ : Loc nD τ sig) → Buf (Elt Ideal) ℓ)

/-! ## The stored block at a point -/

abbrev pointPieces (c : Dev nD) (t : Fin cfg0.N) : List (View.Piece (Elt Ideal) S1x1024x1024 .bf16) :=
  allPieces (grid0.coords t) (st0_0 t) (whole0 t) (st0_7 t) (whole7 t) kScratch vScratch (iblk m c 0 t) (iblk m c 7 t)
    (iblk m c 1 t) (iblk m c 2 t) (iblk m c 3 t) (iblk m c 4 t) (iblk m c 5 t) (iblk m c 6 t)

theorem zeros2 : (![0, 0] : Fin 2 → Nat) = fun _ => 0 := by funext a; fin_cases a <;> rfl
theorem zeros3 : (![0, 0, 0] : Fin 3 → Nat) = fun _ => 0 := by funext a; fin_cases a <;> rfl
theorem zeros4 : (![0, 0, 0, 0] : Fin 4 → Nat) = fun _ => 0 := by funext a; fin_cases a <;> rfl

section Keys
variable (c : Dev nD) (a1 : Memref sig .tc .vmem S1x128x256 .bf16) (ha1 : a1.IsWhole) (a2 : Memref sig .tc .vmem S1x1024x256 .bf16) (ha2 : a2.IsWhole) (a3 : Memref sig .tc .vmem S1x128x256 .bf16) (ha3 : a3.IsWhole) (a4 : Memref sig .tc .vmem S1x1x256x128 .bf16) (ha4 : a4.IsWhole) (a5 : Memref sig .tc .vmem S1x8x256x128 .bf16) (ha5 : a5.IsWhole) (a6 : Memref sig .tc .vmem S1x1x256x128 .bf16) (ha6 : a6.IsWhole)
  (x1 : Vec Ideal S1x128x256 .bf16) (x2 : Vec Ideal S1x1024x256 .bf16) (x3 : Vec Ideal S1x128x256 .bf16) (x4 : Vec Ideal S1x1x256x128 .bf16) (x5 : Vec Ideal S1x8x256x128 .bf16) (x6 : Vec Ideal S1x1x256x128 .bf16)

theorem plain_keys : plainRun.sl.H13_3 c a1 ha1 a2 ha2 a3 ha3 x1 x2 x3 = keyPieces x1 x2 x3 := by
  have h1 := readWhole a1 ha1 x1 zeros3 (by intro a; fin_cases a <;> simp)
  have h2 := readWhole a2 ha2 x2 zeros3 (by intro a; fin_cases a <;> simp)
  have h3 := readWhole a3 ha3 x3 zeros3 (by intro a; fin_cases a <;> simp)
  unfold keyPieces
  conv_rhs => rw [← h1, ← h2, ← h3]
  rfl
theorem plain_vals : plainRun.sl.H14_3 c a4 ha4 a5 ha5 a6 ha6 x4 x5 x6 = valPieces x4 x5 x6 := by
  have h1 := readWhole a4 ha4 x4 zeros4 (by intro a; fin_cases a <;> simp)
  have h2 := readWhole a5 ha5 x5 zeros4 (by intro a; fin_cases a <;> simp)
  have h3 := readWhole a6 ha6 x6 zeros4 (by intro a; fin_cases a <;> simp)
  unfold valPieces
  conv_rhs => rw [← h1, ← h2, ← h3]
  rfl
theorem cast_keys : castRun.sl.H13_3 c a1 ha1 a2 ha2 a3 ha3 x1 x2 x3 = keyPieces x1 x2 x3 := by
  have h1 := readWhole a1 ha1 x1 zeros3 (by intro a; fin_cases a <;> simp)
  have h2 := readWhole a2 ha2 x2 zeros3 (by intro a; fin_cases a <;> simp)
  have h3 := readWhole a3 ha3 x3 zeros3 (by intro a; fin_cases a <;> simp)
  unfold keyPieces
  conv_rhs => rw [← h1, ← h2, ← h3]
  rfl
theorem cast_vals : castRun.sl.H14_3 c a4 ha4 a5 ha5 a6 ha6 x4 x5 x6 = valPieces x4 x5 x6 := by
  have h1 := readWhole a4 ha4 x4 zeros4 (by intro a; fin_cases a <;> simp)
  have h2 := readWhole a5 ha5 x5 zeros4 (by intro a; fin_cases a <;> simp)
  have h3 := readWhole a6 ha6 x6 zeros4 (by intro a; fin_cases a <;> simp)
  unfold valPieces
  conv_rhs => rw [← h1, ← h2, ← h3]
  rfl
end Keys

/-- The stores over given scratch lists. -/
def allPiecesOf (c : Dev nD) (t : Fin cfg0.N) (LK : List (View.Piece (Elt Ideal) S1280x256 .bf16)) (LV : List (View.Piece (Elt Ideal) S10x256x128 .bf16)) :
    List (View.Piece (Elt Ideal) S1x1024x1024 .bf16) :=
  let B := blockPieces (grid0.coords t) (st0_0 t) (whole0 t) (st0_7 t) (whole7 t) kScratch vScratch LK LV (iblk m c 0 t) (iblk m c 7 t)
  B 7 ++ (B 6 ++ (B 5 ++ (B 4 ++ (B 3 ++ (B 2 ++ (B 1 ++ B 0))))))

theorem plain_pieces (c : Dev nD) (t : Fin cfg0.N) (h) : (plainAt m c t h).1 = pointPieces m c t := by
  refine Eq.trans (b := allPiecesOf m c t
    (plainRun.sl.H13_3 c (st0_1 t) (whole1 t) (st0_2 t) (whole2 t) (st0_3 t) (whole3 t) (iblk m c 1 t) (iblk m c 2 t) (iblk m c 3 t))
    (plainRun.sl.H14_3 c (st0_4 t) (whole4 t) (st0_5 t) (whole5 t) (st0_6 t) (whole6 t) (iblk m c 4 t) (iblk m c 5 t) (iblk m c 6 t))) ?_ ?_
  · rfl
  · rw [plain_keys, plain_vals]; rfl

theorem cast_pieces (c : Dev nD) (t : Fin cfg0.N) (h) : (castAt m c t h).1 = pointPieces m c t := by
  refine Eq.trans (b := allPiecesOf m c t
    (castRun.sl.H13_3 c (st0_1 t) (whole1 t) (st0_2 t) (whole2 t) (st0_3 t) (whole3 t) (iblk m c 1 t) (iblk m c 2 t) (iblk m c 3 t))
    (castRun.sl.H14_3 c (st0_4 t) (whole4 t) (st0_5 t) (whole5 t) (st0_6 t) (whole6 t) (iblk m c 4 t) (iblk m c 5 t) (iblk m c 6 t))) ?_ ?_
  · rfl
  · rw [cast_keys, cast_vals]; rfl

/-- The chunk of a point. -/
abbrev chunk (t : Fin cfg0.N) : Fin 8 := ⟨(grid0.coords t 1).val, (grid0.coords t 1).isLt⟩

theorem attnOut_apply (c : Dev nD) (t : Fin cfg0.N) (y : S1x1024x1024.Idx) :
    attnOut m c t y = attnOf (iblk m c 0 t) (iblk m c 7 t) (iblk m c 1 t) (iblk m c 2 t) (iblk m c 3 t) (iblk m c 4 t) (iblk m c 5 t) (iblk m c 6 t)
      (chunk t) y := by
  by_cases h : isCast (grid0.coords t)
  · rw [attnOut_cast m c t h]
    have hc := castAt_covers10 m c t h y
    rw [cast_pieces] at hc ⊢
    exact View.canon_apply_of_pieces _ _ (fun q hq x => allPieces_apply _ _ _ _ _ _ _ _ _ _ _ _ _ _ _ q hq x) y hc
  · rw [attnOut_plain m c t h]
    have hc := plainAt_covers10 m c t h y
    rw [plain_pieces] at hc ⊢
    exact View.canon_apply_of_pieces _ _ (fun q hq x => allPieces_apply _ _ _ _ _ _ _ _ _ _ _ _ _ _ _ q hq x) y hc

end Cert.Attn
-- ==== Proof.AttnArr.lean ====
module

public import proofs.«01_k».proof.Proof.AttnBlock
public import Idealize.ShloMosaic.Lib.StableHlo.RunRead

@[expose] public section

set_option maxRecDepth 16384

noncomputable section

namespace Cert.Attn

open Cert.KernelIdeal Cert.KernelIdeal.Gen
open Idealize.ShloMosaic Idealize.ShloMosaic.TcCoe
open Idealize.ShloMosaic.Pipeline (Window)

variable (m : (ℓ : Loc nD τ sig) → Buf (Elt Ideal) ℓ)

/-! ## The arguments' arrays -/

abbrev qArr (c : Dev nD) : FVec Ideal S2x64x1024x128 .bf16 := m ((c : Thread nD τ).loc main_arg0)
abbrev kArr (c : Dev nD) : FVec Ideal S2x8192x256 .bf16 := m ((c : Thread nD τ).loc main_arg1)
abbrev vArr (c : Dev nD) : FVec Ideal S2x64x256x128 .bf16 := m ((c : Thread nD τ).loc main_arg2)
abbrev sArr (c : Dev nD) : FVec Ideal S16 .f32 := m ((c : Thread nD τ).loc main_arg3)
abbrev wiArr (c : Dev nD) : FVec Ideal S4x1024x5632 .f32 := m ((c : Thread nD τ).loc main_arg4)
abbrev woArr (c : Dev nD) : FVec Ideal S4x2816x1024 .f32 := m ((c : Thread nD τ).loc main_arg5)

/-- The sequence of a point. -/
abbrev seqOf (t : Fin cfg0.N) : Fin 2 := ⟨(grid0.coords t 0).val, (grid0.coords t 0).isLt⟩

theorem index0 : ∀ t : Fin grid0.N, win0_0.index t = ![(grid0.coords t 0).val, (grid0.coords t 1).val, 0, 0] := by decide +kernel
theorem index1 : ∀ t : Fin grid0.N, win0_1.index t = ![(grid0.coords t 0).val, 8 * (grid0.coords t 1).val - 1, 0] := by decide +kernel
theorem index2 : ∀ t : Fin grid0.N, win0_2.index t = ![(grid0.coords t 0).val, (grid0.coords t 1).val, 0] := by decide +kernel
theorem index3 : ∀ t : Fin grid0.N, win0_3.index t = ![(grid0.coords t 0).val, min (8 * (grid0.coords t 1).val + 8) 63, 0] := by decide +kernel
theorem index4 : ∀ t : Fin grid0.N, win0_4.index t = ![(grid0.coords t 0).val, 8 * (grid0.coords t 1).val - 1, 0, 0] := by decide +kernel
theorem index5 : ∀ t : Fin grid0.N, win0_5.index t = ![(grid0.coords t 0).val, (grid0.coords t 1).val, 0, 0] := by decide +kernel
theorem index6 : ∀ t : Fin grid0.N, win0_6.index t = ![(grid0.coords t 0).val, min (8 * (grid0.coords t 1).val + 8) 63, 0, 0] := by decide +kernel
theorem index7 : ∀ t : Fin grid0.N, win0_7.index t = ![0, 0] := by decide +kernel
theorem index8 : ∀ t : Fin grid0.N, win0_8.index t = ![1, t.val / 2, 0] := by decide +kernel
theorem index9 : ∀ t : Fin grid0.N, win0_9.index t = ![1, t.val / 2, 0] := by decide +kernel
theorem index10 : ∀ t : Fin grid0.N, win0_10.index t = ![(grid0.coords t 0).val, (grid0.coords t 1).val, 0] := by decide +kernel
theorem index11 : ∀ t : Fin grid0.N, win0_11.index t = ![t.val / 2, 0] := by decide +kernel
theorem index12 : ∀ t : Fin grid0.N, win0_12.index t = ![t.val / 2, 0] := by decide +kernel

theorem chunk_lt (t : Fin cfg0.N) : (grid0.coords t 1).val < 8 := (grid0.coords t 1).isLt
theorem half_lt (t : Fin cfg0.N) : t.val / 2 < 8 := by have : t.val < 16 := t.isLt; omega

theorem blk0 (c : Dev nD) (t : Fin cfg0.N) (j : Fin 8) (r : Fin 1024) (l : Fin 128) :
    iblk m c 0 t (ix4 0 j r l) = qArr m c (ix4 (seqOf t) ⟨8 * (grid0.coords t 1).val + j.val, by have := chunk_lt t; omega⟩ r l) := by
  show V m c main_arg0 ((win0_0.rect t).emb (ix4 0 j r l)) = _
  rw [V_main_arg0]
  refine congrArg (qArr m c) (funext fun a => ?_)
  fin_cases a <;> refine Fin.ext ?_ <;> refine (Window.rect_emb_val win0_0 t _ _).trans ?_ <;> rw [index0]
  · show (grid0.coords t 0).val * 1 + 0 = (grid0.coords t 0).val; omega
  · show (grid0.coords t 1).val * 8 + j.val = 8 * (grid0.coords t 1).val + j.val; omega
  · show 0 * 1024 + r.val = r.val; omega
  · show 0 * 128 + l.val = l.val; omega

theorem blk1 (c : Dev nD) (t : Fin cfg0.N) (r : Fin 128) (k : Fin 256) :
    iblk m c 1 t (ix3 0 r k) = kArr m c (ix3 (seqOf t) ⟨128 * (8 * (grid0.coords t 1).val - 1) + r.val, by have := chunk_lt t; omega⟩ k) := by
  show V m c main_arg1 ((win0_1.rect t).emb (ix3 0 r k)) = _
  rw [V_main_arg1]
  refine congrArg (kArr m c) (funext fun a => ?_)
  fin_cases a <;> refine Fin.ext ?_ <;> refine (Window.rect_emb_val win0_1 t _ _).trans ?_ <;> rw [index1]
  · show (grid0.coords t 0).val * 1 + 0 = (grid0.coords t 0).val; omega
  · show (8 * (grid0.coords t 1).val - 1) * 128 + r.val = 128 * (8 * (grid0.coords t 1).val - 1) + r.val; omega
  · show 0 * 256 + k.val = k.val; omega

theorem blk2 (c : Dev nD) (t : Fin cfg0.N) (r : Fin 1024) (k : Fin 256) :
    iblk m c 2 t (ix3 0 r k) = kArr m c (ix3 (seqOf t) ⟨1024 * (grid0.coords t 1).val + r.val, by have := chunk_lt t; omega⟩ k) := by
  show V m c main_arg1 ((win0_2.rect t).emb (ix3 0 r k)) = _
  rw [V_main_arg1]
  refine congrArg (kArr m c) (funext fun a => ?_)
  fin_cases a <;> refine Fin.ext ?_ <;> refine (Window.rect_emb_val win0_2 t _ _).trans ?_ <;> rw [index2]
  · show (grid0.coords t 0).val * 1 + 0 = (grid0.coords t 0).val; omega
  · show (grid0.coords t 1).val * 1024 + r.val = 1024 * (grid0.coords t 1).val + r.val; omega
  · show 0 * 256 + k.val = k.val; omega

theorem blk3 (c : Dev nD) (t : Fin cfg0.N) (r : Fin 128) (k : Fin 256) :
    iblk m c 3 t (ix3 0 r k) = kArr m c (ix3 (seqOf t) ⟨128 * min (8 * (grid0.coords t 1).val + 8) 63 + r.val, by omega⟩ k) := by
  show V m c main_arg1 ((win0_3.rect t).emb (ix3 0 r k)) = _
  rw [V_main_arg1]
  refine congrArg (kArr m c) (funext fun a => ?_)
  fin_cases a <;> refine Fin.ext ?_ <;> refine (Window.rect_emb_val win0_3 t _ _).trans ?_ <;> rw [index3]
  · show (grid0.coords t 0).val * 1 + 0 = (grid0.coords t 0).val; omega
  · show min (8 * (grid0.coords t 1).val + 8) 63 * 128 + r.val = 128 * min (8 * (grid0.coords t 1).val + 8) 63 + r.val; omega
  · show 0 * 256 + k.val = k.val; omega

theorem blk4 (c : Dev nD) (t : Fin cfg0.N) (r : Fin 256) (l : Fin 128) :
    iblk m c 4 t (ix4 0 0 r l) = vArr m c (ix4 (seqOf t) ⟨8 * (grid0.coords t 1).val - 1, by have := chunk_lt t; omega⟩ r l) := by
  show V m c main_arg2 ((win0_4.rect t).emb (ix4 0 0 r l)) = _
  rw [V_main_arg2]
  refine congrArg (vArr m c) (funext fun a => ?_)
  fin_cases a <;> refine Fin.ext ?_ <;> refine (Window.rect_emb_val win0_4 t _ _).trans ?_ <;> rw [index4]
  · show (grid0.coords t 0).val * 1 + 0 = (grid0.coords t 0).val; omega
  · show (8 * (grid0.coords t 1).val - 1) * 1 + 0 = 8 * (grid0.coords t 1).val - 1; omega
  · show 0 * 256 + r.val = r.val; omega
  · show 0 * 128 + l.val = l.val; omega

theorem blk5 (c : Dev nD) (t : Fin cfg0.N) (j : Fin 8) (r : Fin 256) (l : Fin 128) :
    iblk m c 5 t (ix4 0 j r l) = vArr m c (ix4 (seqOf t) ⟨8 * (grid0.coords t 1).val + j.val, by have := chunk_lt t; omega⟩ r l) := by
  show V m c main_arg2 ((win0_5.rect t).emb (ix4 0 j r l)) = _
  rw [V_main_arg2]
  refine congrArg (vArr m c) (funext fun a => ?_)
  fin_cases a <;> refine Fin.ext ?_ <;> refine (Window.rect_emb_val win0_5 t _ _).trans ?_ <;> rw [index5]
  · show (grid0.coords t 0).val * 1 + 0 = (grid0.coords t 0).val; omega
  · show (grid0.coords t 1).val * 8 + j.val = 8 * (grid0.coords t 1).val + j.val; omega
  · show 0 * 256 + r.val = r.val; omega
  · show 0 * 128 + l.val = l.val; omega

theorem blk6 (c : Dev nD) (t : Fin cfg0.N) (r : Fin 256) (l : Fin 128) :
    iblk m c 6 t (ix4 0 0 r l) = vArr m c (ix4 (seqOf t) ⟨min (8 * (grid0.coords t 1).val + 8) 63, by omega⟩ r l) := by
  show V m c main_arg2 ((win0_6.rect t).emb (ix4 0 0 r l)) = _
  rw [V_main_arg2]
  refine congrArg (vArr m c) (funext fun a => ?_)
  fin_cases a <;> refine Fin.ext ?_ <;> refine (Window.rect_emb_val win0_6 t _ _).trans ?_ <;> rw [index6]
  · show (grid0.coords t 0).val * 1 + 0 = (grid0.coords t 0).val; omega
  · show min (8 * (grid0.coords t 1).val + 8) 63 * 1 + 0 = min (8 * (grid0.coords t 1).val + 8) 63; omega
  · show 0 * 256 + r.val = r.val; omega
  · show 0 * 128 + l.val = l.val; omega

/-- The sink's rows as the host lays them out. -/
theorem sinkRows (c : Dev nD) : V m c main_v2
    = shapeCast S4x512 (broadcastInDim S4x4x128 ![0, 1] bcast_S4x4_S4x4x128_0_1 (shapeCast S4x4 (sArr m c) shapeCasts_S16_S4x4)) shapeCasts_S4x4x128_S4x512 := by
  rfl

theorem blk7 (c : Dev nD) (t : Fin cfg0.N) (g : Fin 4) (k : Fin 512) :
    iblk m c 7 t (ix2 g k) = sArr m c (ix1 ⟨4 * g.val + k.val / 128, by omega⟩) := by
  have e : iblk m c 7 t (ix2 g k) = V m c main_v2 (ix2 g k) := by
    show V m c main_v2 ((win0_7.rect t).emb (ix2 g k)) = _
    refine congrArg (V m c main_v2) (funext fun a => ?_)
    fin_cases a <;> refine Fin.ext ?_ <;> refine (Window.rect_emb_val win0_7 t _ _).trans ?_ <;> rw [index7]
    · show 0 * 4 + g.val = g.val; omega
    · show 0 * 512 + k.val = k.val; omega
  rw [e, sinkRows]
  have hk := k.isLt
  pointwise []
  exact congrArg (sArr m c) (congrArg ix1 (Fin.ext (by simp only []; omega)))

theorem blk8 (c : Dev nD) (t : Fin cfg0.N) (r : Fin 128) (k : Fin 5632) :
    iblk m c 8 t (ix3 0 r k) = wiArr m c (ix3 1 ⟨128 * (t.val / 2) + r.val, by have := half_lt t; omega⟩ k) := by
  show V m c main_arg4 ((win0_8.rect t).emb (ix3 0 r k)) = _
  rw [V_main_arg4]
  refine congrArg (wiArr m c) (funext fun a => ?_)
  fin_cases a <;> refine Fin.ext ?_ <;> refine (Window.rect_emb_val win0_8 t _ _).trans ?_ <;> rw [index8]
  · rfl
  · show t.val / 2 * 128 + r.val = 128 * (t.val / 2) + r.val; omega
  · show 0 * 5632 + k.val = k.val; omega

theorem blk9 (c : Dev nD) (t : Fin cfg0.N) (r : Fin 352) (k : Fin 1024) :
    iblk m c 9 t (ix3 0 r k) = woArr m c (ix3 1 ⟨352 * (t.val / 2) + r.val, by have := half_lt t; omega⟩ k) := by
  show V m c main_arg5 ((win0_9.rect t).emb (ix3 0 r k)) = _
  rw [V_main_arg5]
  refine congrArg (woArr m c) (funext fun a => ?_)
  fin_cases a <;> refine Fin.ext ?_ <;> refine (Window.rect_emb_val win0_9 t _ _).trans ?_ <;> rw [index9]
  · rfl
  · show t.val / 2 * 352 + r.val = 352 * (t.val / 2) + r.val; omega
  · show 0 * 1024 + k.val = k.val; omega

/-! ## The attention over the arrays -/

/-- The block that holds key `k` of the three blocks a query of block `n` sees (at an end of the sequence, the block itself). -/
def near (n k : Nat) : Nat := min (n + k / 128 - 1) 63

/-- The attention of one sequence at place `l` of block `n`, head `h`, component `d`: over the keys the query sees, the queries scaled by `1 / log 2`. -/
def attnAt (Q : FVec Ideal S2x64x1024x128 .bf16) (K : FVec Ideal S2x8192x256 .bf16) (W : FVec Ideal S2x64x256x128 .bf16) (S : FVec Ideal S16 .f32)
    (b : Fin 2) (n : Fin 64) (l : Fin 128) (h : Fin 16) (d : Fin 64) : EReal :=
  base2 (fun k : Fin 384 => if seen n.val l.val k.val then
      ∑ e : Fin 64, K (ix3 b ⟨128 * near n.val k.val + k.val % 128, by unfold near; omega⟩ ⟨64 * (h.val / 4) + e.val, by omega⟩)
        * Q (ix4 b n ⟨64 * h.val + e.val, by omega⟩ l) else ⊥)
    (fun k => W (ix4 b ⟨near n.val k.val, by unfold near; omega⟩ ⟨64 * (h.val / 4) + d.val, by omega⟩ ⟨k.val % 128, by omega⟩))
    (S (ix1 h))

theorem keys_near (c : Dev nD) (t : Fin cfg0.N) (j : Fin 8) (k : Fin 384) (e : Fin 256) :
    kS (iblk m c 1 t) (iblk m c 2 t) (iblk m c 3 t) ⟨128 * j.val + k.val, by omega⟩ e
      = kArr m c (ix3 (seqOf t) ⟨128 * near (8 * (grid0.coords t 1).val + j.val) k.val + k.val % 128, by unfold near; omega⟩ e) := by
  have hc := chunk_lt t
  have hk := k.isLt
  have hj := j.isLt
  unfold kS
  dsimp only
  split_ifs with h1 h2
  · rw [blk1]; exact congrArg (kArr m c) (congrArg (fun r => ix3 _ r e) (Fin.ext (by simp only [near]; omega)))
  · rw [blk2]; exact congrArg (kArr m c) (congrArg (fun r => ix3 _ r e) (Fin.ext (by simp only [near]; omega)))
  · rw [blk3]; exact congrArg (kArr m c) (congrArg (fun r => ix3 _ r e) (Fin.ext (by simp only [near]; omega)))

theorem vals_near (c : Dev nD) (t : Fin cfg0.N) (j : Fin 8) (k : Fin 384) (e : Fin 256) (l : Fin 128) :
    vS (iblk m c 4 t) (iblk m c 5 t) (iblk m c 6 t) ⟨j.val + k.val / 128, by omega⟩ e l
      = vArr m c (ix4 (seqOf t) ⟨near (8 * (grid0.coords t 1).val + j.val) k.val, by unfold near; omega⟩ e l) := by
  have hc := chunk_lt t
  have hk := k.isLt
  have hj := j.isLt
  unfold vS
  dsimp only
  split_ifs with h1 h2
  · rw [blk4]; exact congrArg (vArr m c) (congrArg (fun r => ix4 _ r e l) (Fin.ext (by simp only [near]; omega)))
  · rw [blk5]; exact congrArg (vArr m c) (congrArg (fun r => ix4 _ r e l) (Fin.ext (by simp only [near]; omega)))
  · rw [blk6]; exact congrArg (vArr m c) (congrArg (fun r => ix4 _ r e l) (Fin.ext (by simp only [near]; omega)))

theorem attnBlk_eq (c : Dev nD) (t : Fin cfg0.N) (j : Fin 8) (l : Fin 128) (h : Fin 16) (d : Fin 64) :
    attnBlk (iblk m c 0 t) (iblk m c 7 t) (iblk m c 1 t) (iblk m c 2 t) (iblk m c 3 t) (iblk m c 4 t) (iblk m c 5 t) (iblk m c 6 t) (chunk t) j l h d
      = attnAt (qArr m c) (kArr m c) (vArr m c) (sArr m c) (seqOf t) ⟨8 * (grid0.coords t 1).val + j.val, by have := chunk_lt t; omega⟩ l h d := by
  unfold attnBlk attnAt
  congr 1
  · funext k
    simp only [keys_near, blk0]
  · funext k
    rw [vals_near]
  · rw [blk7]
    exact congrArg (sArr m c) (congrArg ix1 (Fin.ext (by simp only []; omega)))

/-- The first result: the attention, heads side by side. -/
def attnRes (c : Dev nD) : Buf (Elt Ideal) ((c : Thread nD τ).loc main_v3_0) := fun y : S2x8192x1024.Idx =>
  attnAt (qArr m c) (kArr m c) (vArr m c) (sArr m c) (y 0)
    ⟨(y 1).val / 128, by have : (y 1).val < 8192 := (y 1).isLt; omega⟩ ⟨(y 1).val % 128, by omega⟩
    ⟨(y 2).val / 64, by have : (y 2).val < 1024 := (y 2).isLt; omega⟩ ⟨(y 2).val % 64, by omega⟩
/-- The second and third results: one layer's weights. -/
def inRes (c : Dev nD) : Buf (Elt Ideal) ((c : Thread nD τ).loc main_v3_1) := fun y : S1024x5632.Idx => wiArr m c (ix3 1 (y 0) (y 1))
def outRes (c : Dev nD) : Buf (Elt Ideal) ((c : Thread nD τ).loc main_v3_2) := fun y : S2816x1024.Idx => woArr m c (ix3 1 (y 0) (y 1))

theorem emb10 (t : Fin cfg0.N) (y : S1x1024x1024.Idx) :
    ((win0_10.rect t).emb y 0).val = (grid0.coords t 0).val ∧ ((win0_10.rect t).emb y 1).val = 1024 * (grid0.coords t 1).val + (y 1).val
      ∧ ((win0_10.rect t).emb y 2).val = (y 2).val := by
  have h0 : (y 0).val < 1 := (y 0).isLt
  have e : ∀ a : Fin 3, ((win0_10.rect t).emb y a).val = win0_10.index t a * win0_10.size a + (y a).val := fun a => Window.rect_emb_val win0_10 t y a
  rw [index10] at e
  refine ⟨(e 0).trans ?_, (e 1).trans ?_, (e 2).trans ?_⟩
  · show (grid0.coords t 0).val * 1 + (y 0).val = _; omega
  · show (grid0.coords t 1).val * 1024 + (y 1).val = _; omega
  · show 0 * 1024 + (y 2).val = _; omega

theorem arr10 (c : Dev nD) : (dat m 0 c).arrAt 10 cfg0.N = attnRes m c := by
  refine (dat m 0 c).arrAt_eq_of_cover 10 (attnRes m c) (fun t _ => ?_) (fun i => ?_)
  · refine Eq.trans (b := attnOut m c t) rfl ?_
    funext y
    rw [attnOut_apply]
    obtain ⟨e0, e1, e2⟩ := emb10 t y
    have hc := chunk_lt t
    have hy1 : (y 1).val < 1024 := (y 1).isLt
    have hy2 : (y 2).val < 1024 := (y 2).isLt
    refine Eq.trans ?_ (show attnRes m c ((win0_10.rect t).emb y) = _ from rfl)
    unfold attnOf attnRes
    rw [attnBlk_eq]
    refine congr (congr (congr (congrArg₂ (attnAt (qArr m c) (kArr m c) (vArr m c) (sArr m c)) (Fin.ext e0.symm) (Fin.ext ?_)) (Fin.ext ?_)) (Fin.ext ?_)) (Fin.ext ?_)
    · simp only [e1]; omega
    · simp only [e1]; omega
    · simp only [e2]
    · simp only [e2]
  · have h0 : (i 0).val < 2 := (i 0).isLt
    have h1 : (i 1).val < 8192 := (i 1).isLt
    have h2 : (i 2).val < 1024 := (i 2).isLt
    have key : ∀ (a : Fin 2) (b : Fin 8), ∃ t : Fin grid0.N, (grid0.coords t 0).val = a.val ∧ (grid0.coords t 1).val = b.val := by decide +kernel
    obtain ⟨t, ht0, ht1⟩ := key ⟨(i 0).val, h0⟩ ⟨(i 1).val / 1024, by omega⟩
    refine ⟨t, flush0_10 t, ?_⟩
    have e : i = (win0_10.rect t).emb (ix3 (0 : Fin 1) (⟨(i 1).val % 1024, by omega⟩ : Fin 1024) (⟨(i 2).val, h2⟩ : Fin 1024)) := by
      obtain ⟨e0, e1, e2⟩ := emb10 t (ix3 (0 : Fin 1) (⟨(i 1).val % 1024, by omega⟩ : Fin 1024) (⟨(i 2).val, h2⟩ : Fin 1024))
      funext a
      fin_cases a
      · exact Fin.ext (by rw [show (⟨0, by decide⟩ : Fin 3) = 0 from rfl]; rw [e0, ht0])
      · refine Fin.ext ?_
        refine Eq.trans ?_ e1.symm
        rw [ht1]
        show (i 1).val = 1024 * ((i 1).val / 1024) + (i 1).val % 1024
        omega
      · exact Fin.ext e2.symm
    rw [e]
    exact View.emb_mem_set _ _

theorem castIn_eq (c : Dev nD) (t : Fin cfg0.N) : castIn m c t = k0_pay1 (F := Ideal) (iblk m c 8 (evenPt t)) := by
  have h1 := readWhole (st0_8 (evenPt t)) (whole8 (evenPt t)) (iblk m c 8 (evenPt t)) zeros3 (by intro a; fin_cases a <;> simp)
  conv_rhs => rw [← h1]
  unfold castIn
  refine Eq.trans ?_ (View.canon_unit_zero (Val := Elt Ideal) (S := S128x5632) zeros2 (by intro a; fin_cases a <;> simp) _)
  rfl
theorem castOut_eq (c : Dev nD) (t : Fin cfg0.N) : castOut m c t = k0_pay2 (F := Ideal) (iblk m c 9 (evenPt t)) := by
  have h1 := readWhole (st0_9 (evenPt t)) (whole9 (evenPt t)) (iblk m c 9 (evenPt t)) zeros3 (by intro a; fin_cases a <;> simp)
  conv_rhs => rw [← h1]
  unfold castOut
  refine Eq.trans ?_ (View.canon_unit_zero (Val := Elt Ideal) (S := S352x1024) zeros2 (by intro a; fin_cases a <;> simp) _)
  rfl

theorem castIn_apply (c : Dev nD) (t : Fin cfg0.N) (r : Fin 128) (k : Fin 5632) :
    castIn m c t (ix2 r k) = wiArr m c (ix3 1 ⟨128 * (t.val / 2) + r.val, by have := half_lt t; omega⟩ k) := by
  rw [castIn_eq]
  refine Eq.trans (b := iblk m c 8 (evenPt t) (ix3 0 r k)) (by pointwise [k0_pay1]) ?_
  rw [blk8]
  exact congrArg (wiArr m c) (congrArg (fun r => ix3 _ r k) (Fin.ext (by simp only [evenPt]; omega)))
theorem castOut_apply (c : Dev nD) (t : Fin cfg0.N) (r : Fin 352) (k : Fin 1024) :
    castOut m c t (ix2 r k) = woArr m c (ix3 1 ⟨352 * (t.val / 2) + r.val, by have := half_lt t; omega⟩ k) := by
  rw [castOut_eq]
  refine Eq.trans (b := iblk m c 9 (evenPt t) (ix3 0 r k)) (by pointwise [k0_pay2]) ?_
  rw [blk9]
  exact congrArg (woArr m c) (congrArg (fun r => ix3 _ r k) (Fin.ext (by simp only [evenPt]; omega)))

theorem emb11 (t : Fin cfg0.N) (r : Fin 128) (k : Fin 5632) :
    (win0_11.rect t).emb (ix2 r k) = ix2 (⟨128 * (t.val / 2) + r.val, by have := half_lt t; omega⟩ : Fin 1024) k := by
  funext a
  fin_cases a <;> refine Fin.ext ?_ <;> refine (Window.rect_emb_val win0_11 t _ _).trans ?_ <;> rw [index11]
  · show t.val / 2 * 128 + r.val = 128 * (t.val / 2) + r.val; omega
  · show 0 * 5632 + k.val = k.val; omega
theorem emb12 (t : Fin cfg0.N) (r : Fin 352) (k : Fin 1024) :
    (win0_12.rect t).emb (ix2 r k) = ix2 (⟨352 * (t.val / 2) + r.val, by have := half_lt t; omega⟩ : Fin 2816) k := by
  funext a
  fin_cases a <;> refine Fin.ext ?_ <;> refine (Window.rect_emb_val win0_12 t _ _).trans ?_ <;> rw [index12]
  · show t.val / 2 * 352 + r.val = 352 * (t.val / 2) + r.val; omega
  · show 0 * 1024 + k.val = k.val; omega

theorem arr11 (c : Dev nD) : (dat m 0 c).arrAt 11 cfg0.N = inRes m c := by
  refine (dat m 0 c).arrAt_eq_of_cover 11 (inRes m c) (fun t _ => ?_) (fun i => ?_)
  · refine Eq.trans (b := (dat m 0 c).after 11 t) rfl ?_
    rw [after11]
    funext y
    obtain ⟨r, k, rfl⟩ : ∃ (r : Fin 128) (k : Fin 5632), y = ix2 r k := ⟨y 0, y 1, ValueIdx.eq_ix2 y⟩
    rw [castIn_apply]
    refine Eq.trans ?_ (show inRes m c ((win0_11.rect t).emb (ix2 r k)) = _ from rfl)
    rw [emb11]; rfl
  · obtain ⟨r, k, rfl⟩ : ∃ (r : Fin 1024) (k : Fin 5632), i = ix2 r k := ⟨i 0, i 1, ValueIdx.eq_ix2 i⟩
    have h : 2 * (r.val / 128) + 1 < 16 := by omega
    refine ⟨(⟨2 * (r.val / 128) + 1, h⟩ : Fin grid0.N), (flush0_11 _).mpr (by simp only []; omega), ?_⟩
    have e : ix2 r k = (win0_11.rect (⟨2 * (r.val / 128) + 1, h⟩ : Fin grid0.N)).emb (ix2 (⟨r.val % 128, by omega⟩ : Fin 128) k) := by
      rw [emb11]; exact congrArg (fun r => ix2 r k) (Fin.ext (by simp only []; omega))
    rw [e]
    exact View.emb_mem_set _ _
theorem arr12 (c : Dev nD) : (dat m 0 c).arrAt 12 cfg0.N = outRes m c := by
  refine (dat m 0 c).arrAt_eq_of_cover 12 (outRes m c) (fun t _ => ?_) (fun i => ?_)
  · refine Eq.trans (b := (dat m 0 c).after 12 t) rfl ?_
    rw [after12]
    funext y
    obtain ⟨r, k, rfl⟩ : ∃ (r : Fin 352) (k : Fin 1024), y = ix2 r k := ⟨y 0, y 1, ValueIdx.eq_ix2 y⟩
    rw [castOut_apply]
    refine Eq.trans ?_ (show outRes m c ((win0_12.rect t).emb (ix2 r k)) = _ from rfl)
    rw [emb12]; rfl
  · obtain ⟨r, k, rfl⟩ : ∃ (r : Fin 2816) (k : Fin 1024), i = ix2 r k := ⟨i 0, i 1, ValueIdx.eq_ix2 i⟩
    have h : 2 * (r.val / 352) + 1 < 16 := by omega
    refine ⟨(⟨2 * (r.val / 352) + 1, h⟩ : Fin grid0.N), (flush0_12 _).mpr (by simp only []; omega), ?_⟩
    have e : ix2 r k = (win0_12.rect (⟨2 * (r.val / 352) + 1, h⟩ : Fin grid0.N)).emb (ix2 (⟨r.val % 352, by omega⟩ : Fin 352) k) := by
      rw [emb12]; exact congrArg (fun r => ix2 r k) (Fin.ext (by simp only []; omega))
    rw [e]
    exact View.emb_mem_set _ _

end Cert.Attn
-- ==== Proof.AttnRef.lean ====
module

public import proofs.«01_k».proof.Proof.AttnArr
public import proofs.«01_k».proof.Proof.Gen.ReferenceIdeal.Run
public import proofs.«01_k».proof.Proof.Gen.ReferenceIdeal.Read
public import Idealize.ShloMosaic.Lib.KernelVsHost
public import Idealize.ShloMosaic.Lib.ValueIdxRank6

@[expose] public section

set_option maxRecDepth 16384

noncomputable section

namespace Cert.AttnRef

open Cert.ReferenceIdeal Cert.ReferenceIdeal.Gen Cert.ReferenceIdeal.Read
open Idealize.ShloMosaic Idealize.ShloMosaic.TcCoe
open Cert.Attn (ln2 lam seen near base2 baseE topE)

variable (x0 : FVec Ideal S2x64x1024x128 .bf16) (x1 : FVec Ideal S2x8192x256 .bf16) (x2 : FVec Ideal S2x64x256x128 .bf16) (x3 : FVec Ideal S16 .f32)

theorem two_eq : Ideal.ofBits .f32 0x40000000#32 = ((2 : ℝ) : EReal) := by
  simp [Ideal.ofBits, Ideal.ieee]; norm_cast; norm_num
theorem eight_eq : Ideal.ofBits .f32 0x41000000#32 = ((8 : ℝ) : EReal) := by
  simp [Ideal.ofBits, Ideal.ieee]; norm_cast; norm_num
theorem eighth_eq : Ideal.ofBits .f32 0x3E000000#32 = ((1 / 8 : ℝ) : EReal) := by
  simp [Ideal.ofBits, Ideal.ieee]; norm_cast; norm_num
theorem one_eq : Ideal.ofBits .f32 0x3F800000#32 = (1 : EReal) := by
  simp [Ideal.ofBits, Ideal.ieee]; norm_cast; norm_num
theorem zero_eq : Ideal.ofBits .f32 0x00000000#32 = (0 : EReal) := by
  simp [Ideal.ofBits, Ideal.ieee]

theorem log_two : Ideal.log ((2 : ℝ) : EReal) = ln2 := by
  show (if (2 : ℝ) ≤ 0 then (⊥ : EReal) else (Real.log 2 : EReal)) = _
  rw [if_neg (by norm_num)]; rfl

/-- The factor the queries get back, times the scores' own factor. -/
theorem factors : ((ln2 * ((8 : ℝ) : EReal)) * ((1 / 8 : ℝ) : EReal)) = ln2 := by
  rw [mul_assoc, ← EReal.coe_mul]; norm_num

theorem query (b : Fin 2) (n : Fin 64) (l : Fin 128) (g r : Fin 4) (e : Fin 64) :
    val_main_v6 (F := Ideal) x0 (ix6 b n l g r e) = x0 (ix4 b n ⟨64 * (4 * g.val + r.val) + e.val, by omega⟩ l) * (ln2 * ((8 : ℝ) : EReal)) := by
  rw [val_main_v6_apply, val_main_v2_apply, val_main_v5_apply, val_main_v4_apply, val_main_v3_apply]
  show _ * (Ideal.log (Ideal.ofBits .f32 0x40000000#32) * Ideal.ofBits .f32 0x41000000#32) = _
  rw [two_eq, eight_eq, log_two]
  congr 1
  unfold val_main_v1
  refine (shapeCast_apply _ _ _ (ix4 b n ⟨64 * (4 * g.val + r.val) + e.val, by omega⟩ l) ?_).trans rfl
  rw [Shape.rowMajor_val_six, Shape.rowMajor_val_four]
  show ((b.val * 64 + n.val) * 1024 + (64 * (4 * g.val + r.val) + e.val)) * 128 + l.val
    = ((((b.val * 64 + n.val) * 4 + g.val) * 4 + r.val) * 64 + e.val) * 128 + l.val
  omega

theorem key_pad (b : Fin 2) (t : Fin 8448) (g : Fin 4) (e : Fin 64) (h : 128 ≤ t.val) (h' : t.val < 8320) :
    val_main_v13 (F := Ideal) x1 (ix4 b t g e) = x1 (ix3 b ⟨t.val - 128, by omega⟩ ⟨64 * g.val + e.val, by omega⟩) := by
  unfold val_main_v13
  refine (pad_apply_of_inside _ _ _ _ _ _ _ _ (ix4 b ⟨t.val - 128, by omega⟩ g e) (fun a => ?_)).trans ?_
  · fin_cases a
    · show b.val = 0 + b.val * 1; omega
    · show t.val = 128 + (t.val - 128) * 1; omega
    · show g.val = 0 + g.val * 1; omega
    · show e.val = 0 + e.val * 1; omega
  · rw [val_main_v8_apply]
    refine congrArg x1 (funext fun a => ?_)
    fin_cases a <;> refine Fin.ext ?_
    · show (((b.val * 8192 + (t.val - 128)) * 4 + g.val) * 64 + e.val) / 2097152 = b.val; omega
    · show (((b.val * 8192 + (t.val - 128)) * 4 + g.val) * 64 + e.val) / 256 % 8192 = t.val - 128; omega
    · show (((b.val * 8192 + (t.val - 128)) * 4 + g.val) * 64 + e.val) % 256 = 64 * g.val + e.val; omega

/-- The values, position by position. -/
theorem val_rows (b : Fin 2) (n : Fin 64) (l : Fin 128) (g : Fin 4) (e : Fin 64) :
    val_main_v11 (F := Ideal) x2 (ix5 b n l g e) = x2 (ix4 b n ⟨64 * g.val + e.val, by omega⟩ l) := by
  rw [val_main_v11_apply, val_main_v10_apply]
  refine congrArg x2 (funext fun a => ?_)
  fin_cases a <;> refine Fin.ext ?_
  · show ((((b.val * 64 + n.val) * 4 + g.val) * 64 + e.val) * 128 + l.val) / 2097152 = b.val; omega
  · show ((((b.val * 64 + n.val) * 4 + g.val) * 64 + e.val) * 128 + l.val) / 32768 % 64 = n.val; omega
  · show ((((b.val * 64 + n.val) * 4 + g.val) * 64 + e.val) * 128 + l.val) / 128 % 256 = 64 * g.val + e.val; omega
  · show ((((b.val * 64 + n.val) * 4 + g.val) * 64 + e.val) * 128 + l.val) % 128 = l.val; omega

theorem val_pad (b : Fin 2) (t : Fin 8448) (g : Fin 4) (e : Fin 64) (h : 128 ≤ t.val) (h' : t.val < 8320) :
    val_main_v19 (F := Ideal) x2 (ix4 b t g e)
      = x2 (ix4 b ⟨(t.val - 128) / 128, by omega⟩ ⟨64 * g.val + e.val, by omega⟩ ⟨(t.val - 128) % 128, by omega⟩) := by
  unfold val_main_v19
  refine (pad_apply_of_inside _ _ _ _ _ _ _ _ (ix4 b ⟨t.val - 128, by omega⟩ g e) (fun a => ?_)).trans ?_
  · fin_cases a
    · show b.val = 0 + b.val * 1; omega
    · show t.val = 128 + (t.val - 128) * 1; omega
    · show g.val = 0 + g.val * 1; omega
    · show e.val = 0 + e.val * 1; omega
  · have e12 : idx_main_v12 (ix4 b ⟨t.val - 128, by omega⟩ g e)
        = ix5 b ⟨(t.val - 128) / 128, by omega⟩ ⟨(t.val - 128) % 128, by omega⟩ g e := by
      funext a
      fin_cases a <;> refine Fin.ext ?_
      · show (((b.val * 8192 + (t.val - 128)) * 4 + g.val) * 64 + e.val) / 2097152 = b.val; omega
      · show (((b.val * 8192 + (t.val - 128)) * 4 + g.val) * 64 + e.val) / 32768 % 64 = (t.val - 128) / 128; omega
      · show (((b.val * 8192 + (t.val - 128)) * 4 + g.val) * 64 + e.val) / 256 % 128 = (t.val - 128) % 128; omega
      · show (((b.val * 8192 + (t.val - 128)) * 4 + g.val) * 64 + e.val) / 64 % 4 = g.val; omega
      · show (((b.val * 8192 + (t.val - 128)) * 4 + g.val) * 64 + e.val) % 64 = e.val; omega
    rw [val_main_v12_apply, e12, val_rows]

theorem near_word (k l : Nat) (hk : k < 384) (hl : l < 128) :
    IntOp.cmpi .sle (IntOp.absi (IntOp.subi (IntOp.subi (BitVec.ofNat 32 k) 128#32) (BitVec.ofNat 32 l))) 128#32
      = BitVec.ofBool (decide (l ≤ k ∧ k ≤ l + 256)) := by
  unfold IntOp.cmpi IntOp.absi IntOp.subi
  dsimp only
  congr 1
  rw [BitVec.sle_eq_decide, decide_eq_decide]
  have hz : (BitVec.ofNat 32 k - 128#32 - BitVec.ofNat 32 l).toNat = (4294967296 + k - 128 - l) % 4294967296 := by
    simp only [BitVec.toNat_sub, BitVec.toNat_ofNat]; omega
  generalize BitVec.ofNat 32 k - 128#32 - BitVec.ofNat 32 l = z at hz
  have h128 : (128#32).toInt = 128 := by decide
  rw [h128]
  split <;> rename_i h <;> simp only [BitVec.msb_eq_decide, decide_eq_true_eq] at h <;>
    simp only [BitVec.toInt_eq_toNat_cond, BitVec.toNat_neg] <;> split_ifs <;> omega

theorem inside_word (n k : Nat) (hk : k < 384) (hn : n < 64) :
    IntOp.andi (IntOp.cmpi .sge (IntOp.addi (IntOp.subi (IntOp.muli (BitVec.ofNat 32 n) 128#32) 128#32) (BitVec.ofNat 32 k)) 0#32)
      (IntOp.cmpi .slt (IntOp.addi (IntOp.subi (IntOp.muli (BitVec.ofNat 32 n) 128#32) 128#32) (BitVec.ofNat 32 k)) 8192#32)
      = BitVec.ofBool (decide (128 ≤ 128 * n + k ∧ 128 * n + k < 8320)) := by
  unfold IntOp.cmpi IntOp.andi IntOp.addi IntOp.subi IntOp.muli
  dsimp only
  have hz : (BitVec.ofNat 32 n * 128#32 - 128#32 + BitVec.ofNat 32 k).toNat = (4294967296 + 128 * n + k - 128) % 4294967296 := by
    simp only [BitVec.toNat_sub, BitVec.toNat_ofNat, BitVec.toNat_add, BitVec.toNat_mul]; omega
  generalize BitVec.ofNat 32 n * 128#32 - 128#32 + BitVec.ofNat 32 k = z at hz
  have h0 : (0#32).toInt = 0 := by decide
  have h8 : (8192#32).toInt = 8192 := by decide
  rw [BitVec.sle_eq_decide, BitVec.slt_eq_decide, h0, h8]
  have e1 : (0 ≤ z.toInt) ↔ 128 ≤ 128 * n + k := by
    simp only [BitVec.toInt_eq_toNat_cond]; split_ifs <;> omega
  have e2 : (z.toInt < 8192) ↔ 128 * n + k < 8320 := by
    simp only [BitVec.toInt_eq_toNat_cond]; split_ifs <;> omega
  rw [show decide (0 ≤ z.toInt) = decide (128 ≤ 128 * n + k) from decide_eq_decide.2 e1,
    show decide (z.toInt < 8192) = decide (128 * n + k < 8320) from decide_eq_decide.2 e2]
  by_cases a : 128 ≤ 128 * n + k <;> by_cases b : 128 * n + k < 8320 <;> simp [a, b]

theorem seen_iff (n l k : Nat) (hk : k < 384) (hn : n < 64) (hl : l < 128) :
    seen n l k ↔ (l ≤ k ∧ k ≤ l + 256) ∧ (128 ≤ 128 * n + k ∧ 128 * n + k < 8320) := by
  unfold seen; omega

theorem key_blocks (b : Fin 2) (c : Fin 66) (r : Fin 128) (g : Fin 4) (e : Fin 64) :
    val_main_v14 (F := Ideal) x1 (ix5 b c r g e) = val_main_v13 (F := Ideal) x1 (ix4 b ⟨128 * c.val + r.val, by omega⟩ g e) := by
  rw [val_main_v14_apply]
  refine congrArg (val_main_v13 (F := Ideal) x1) (funext fun a => ?_)
  fin_cases a <;> refine Fin.ext ?_
  · show ((((b.val * 66 + c.val) * 128 + r.val) * 4 + g.val) * 64 + e.val) / 2162688 = b.val; omega
  · show ((((b.val * 66 + c.val) * 128 + r.val) * 4 + g.val) * 64 + e.val) / 256 % 8448 = 128 * c.val + r.val; omega
  · show ((((b.val * 66 + c.val) * 128 + r.val) * 4 + g.val) * 64 + e.val) / 64 % 4 = g.val; omega
  · show ((((b.val * 66 + c.val) * 128 + r.val) * 4 + g.val) * 64 + e.val) % 64 = e.val; omega

theorem val_blocks (b : Fin 2) (c : Fin 66) (r : Fin 128) (g : Fin 4) (e : Fin 64) :
    val_main_v20 (F := Ideal) x2 (ix5 b c r g e) = val_main_v19 (F := Ideal) x2 (ix4 b ⟨128 * c.val + r.val, by omega⟩ g e) := by
  rw [val_main_v20_apply]
  refine congrArg (val_main_v19 (F := Ideal) x2) (funext fun a => ?_)
  fin_cases a <;> refine Fin.ext ?_
  · show ((((b.val * 66 + c.val) * 128 + r.val) * 4 + g.val) * 64 + e.val) / 2162688 = b.val; omega
  · show ((((b.val * 66 + c.val) * 128 + r.val) * 4 + g.val) * 64 + e.val) / 256 % 8448 = 128 * c.val + r.val; omega
  · show ((((b.val * 66 + c.val) * 128 + r.val) * 4 + g.val) * 64 + e.val) / 64 % 4 = g.val; omega
  · show ((((b.val * 66 + c.val) * 128 + r.val) * 4 + g.val) * 64 + e.val) % 64 = e.val; omega

/-- Three blocks in a row, read at a place of the window. -/
theorem three_blocks (y : FVec Ideal S2x66x128x4x64 .f32) (z0 z1 z2 : FVec Ideal S2x64x128x4x64 .f32)
    (h0 : ∀ (b : Fin 2) (n : Fin 64) (r : Fin 128) (g : Fin 4) (e : Fin 64), z0 (ix5 b n r g e) = y (ix5 b ⟨n.val + 0, by omega⟩ r g e))
    (h1 : ∀ (b : Fin 2) (n : Fin 64) (r : Fin 128) (g : Fin 4) (e : Fin 64), z1 (ix5 b n r g e) = y (ix5 b ⟨n.val + 1, by omega⟩ r g e))
    (h2 : ∀ (b : Fin 2) (n : Fin 64) (r : Fin 128) (g : Fin 4) (e : Fin 64), z2 (ix5 b n r g e) = y (ix5 b ⟨n.val + 2, by omega⟩ r g e))
    (b : Fin 2) (n : Fin 64) (k : Fin 384) (g : Fin 4) (e : Fin 64) :
    concatenate S2x64x384x4x64 2 [⟨S2x64x128x4x64, z0⟩, ⟨S2x64x128x4x64, z1⟩, ⟨S2x64x128x4x64, z2⟩]
        concatenates_S2x64x128x4x64_S2x64x128x4x64_S2x64x128x4x64_S2x64x384x4x64_d2 (ix5 b n k g e)
      = y (ix5 b ⟨n.val + k.val / 128, by omega⟩ ⟨k.val % 128, by omega⟩ g e) := by
  have hk := k.isLt
  have off (p : Nat) (hp : 128 * p ≤ k.val) (i : Fin 5) (hi : i ≠ 2) :
      ((ix5 b n (⟨k.val % 128, by omega⟩ : Fin 128) g e : S2x64x128x4x64.Idx) i).val = ((ix5 b n k g e : S2x64x384x4x64.Idx) i).val := by
    fin_cases i <;> first | rfl | exact absurd rfl hi
  rcases (by omega : k.val / 128 = 0 ∨ k.val / 128 = 1 ∨ k.val / 128 = 2) with h | h | h
  · refine (concatenate_apply_piece 2 [⟨S2x64x128x4x64, z0⟩, ⟨S2x64x128x4x64, z1⟩, ⟨S2x64x128x4x64, z2⟩] _ (ix5 b n k g e) 0 (by show _ < 3; decide) _ z0 rfl rfl 0 rfl (ix5 b n ⟨k.val % 128, by omega⟩ g e)
      (fun i hi => off 0 (by omega) i hi) (by show 0 + k.val % 128 = k.val; omega)).trans ?_
    rw [h0]; exact congrArg y (congrArg (fun q => ix5 b q _ g e) (Fin.ext (by show n.val + 0 = n.val + k.val / 128; omega)))
  · refine (concatenate_apply_piece 2 [⟨S2x64x128x4x64, z0⟩, ⟨S2x64x128x4x64, z1⟩, ⟨S2x64x128x4x64, z2⟩] _ (ix5 b n k g e) 1 (by show _ < 3; decide) _ z1 rfl rfl 128 rfl (ix5 b n ⟨k.val % 128, by omega⟩ g e)
      (fun i hi => off 1 (by omega) i hi) (by show 128 + k.val % 128 = k.val; omega)).trans ?_
    rw [h1]; exact congrArg y (congrArg (fun q => ix5 b q _ g e) (Fin.ext (by show n.val + 1 = n.val + k.val / 128; omega)))
  · refine (concatenate_apply_piece 2 [⟨S2x64x128x4x64, z0⟩, ⟨S2x64x128x4x64, z1⟩, ⟨S2x64x128x4x64, z2⟩] _ (ix5 b n k g e) 2 (by show _ < 3; decide) _ z2 rfl rfl 256 rfl (ix5 b n ⟨k.val % 128, by omega⟩ g e)
      (fun i hi => off 2 (by omega) i hi) (by show 256 + k.val % 128 = k.val; omega)).trans ?_
    rw [h2]; exact congrArg y (congrArg (fun q => ix5 b q _ g e) (Fin.ext (by show n.val + 2 = n.val + k.val / 128; omega)))

theorem key_window (b : Fin 2) (n : Fin 64) (k : Fin 384) (g : Fin 4) (e : Fin 64) (l : Nat) (h : seen n.val l k.val) :
    val_main_v18 (F := Ideal) x1 (ix5 b n k g e)
      = x1 (ix3 b ⟨128 * near n.val k.val + k.val % 128, by unfold near; omega⟩ ⟨64 * g.val + e.val, by omega⟩) := by
  have hk := k.isLt
  unfold seen at h
  refine (three_blocks (val_main_v14 (F := Ideal) x1) _ _ _ (fun b n r g e => ?_) (fun b n r g e => ?_) (fun b n r g e => ?_) b n k g e).trans ?_
  · rw [val_main_v15_apply]; exact congrArg _ (funext fun a => by fin_cases a <;> rfl)
  · rw [val_main_v16_apply]; exact congrArg _ (funext fun a => by fin_cases a <;> first | rfl | exact Fin.ext (Nat.add_comm _ _))
  · rw [val_main_v17_apply]; exact congrArg _ (funext fun a => by fin_cases a <;> first | rfl | exact Fin.ext (Nat.add_comm _ _))
  · rw [key_blocks, key_pad]
    · refine congrArg x1 (congrArg (fun q => ix3 b q _) (Fin.ext ?_))
      show 128 * (n.val + k.val / 128) + k.val % 128 - 128 = 128 * min (n.val + k.val / 128 - 1) 63 + k.val % 128
      omega
    · show 128 ≤ 128 * (n.val + k.val / 128) + k.val % 128
      omega
    · show 128 * (n.val + k.val / 128) + k.val % 128 < 8320
      omega

theorem val_window (b : Fin 2) (n : Fin 64) (k : Fin 384) (g : Fin 4) (e : Fin 64) (l : Nat) (h : seen n.val l k.val) :
    val_main_v24 (F := Ideal) x2 (ix5 b n k g e)
      = x2 (ix4 b ⟨near n.val k.val, by unfold near; omega⟩ ⟨64 * g.val + e.val, by omega⟩ ⟨k.val % 128, by omega⟩) := by
  have hk := k.isLt
  unfold seen at h
  refine (three_blocks (val_main_v20 (F := Ideal) x2) _ _ _ (fun b n r g e => ?_) (fun b n r g e => ?_) (fun b n r g e => ?_) b n k g e).trans ?_
  · rw [val_main_v21_apply]; exact congrArg _ (funext fun a => by fin_cases a <;> rfl)
  · rw [val_main_v22_apply]; exact congrArg _ (funext fun a => by fin_cases a <;> first | rfl | exact Fin.ext (Nat.add_comm _ _))
  · rw [val_main_v23_apply]; exact congrArg _ (funext fun a => by fin_cases a <;> first | rfl | exact Fin.ext (Nat.add_comm _ _))
  · rw [val_blocks, val_pad]
    · refine congrArg x2 (congr (congrArg (fun q => ix4 b q _) (Fin.ext ?_)) (Fin.ext ?_))
      · show (128 * (n.val + k.val / 128) + k.val % 128 - 128) / 128 = min (n.val + k.val / 128 - 1) 63
        omega
      · show (128 * (n.val + k.val / 128) + k.val % 128 - 128) % 128 = k.val % 128
        omega
    · show 128 ≤ 128 * (n.val + k.val / 128) + k.val % 128
      omega
    · show 128 * (n.val + k.val / 128) + k.val % 128 < 8320
      omega

theorem mask (n : Fin 64) (l : Fin 128) (k : Fin 384) :
    val_main_v60 (F := Ideal) (ix3 n l k) = BitVec.ofBool (decide (seen n.val l.val k.val)) := by
  have e : val_main_v60 (F := Ideal) (ix3 n l k) = IntOp.andi
      (IntOp.cmpi .sle (IntOp.absi (IntOp.subi (IntOp.subi (BitVec.ofNat 32 k.val) 128#32) (BitVec.ofNat 32 l.val))) 128#32)
      (IntOp.andi (IntOp.cmpi .sge (IntOp.addi (IntOp.subi (IntOp.muli (BitVec.ofNat 32 n.val) 128#32) 128#32) (BitVec.ofNat 32 k.val)) 0#32)
        (IntOp.cmpi .slt (IntOp.addi (IntOp.subi (IntOp.muli (BitVec.ofNat 32 n.val) 128#32) 128#32) (BitVec.ofNat 32 k.val)) 8192#32)) := by
    simp only [val_main_v60_apply, val_main_v59_apply, val_main_v58_apply, val_main_v57_apply, val_main_v56_apply, val_main_v55_apply,
      val_main_v54_apply, val_main_v53_apply, val_main_v52_apply, val_main_v51_apply, val_main_v50_apply, val_main_v49_apply,
      val_main_v48_apply, val_main_v47_apply, val_main_v46_apply, val_main_v45_apply, val_main_v44_apply, val_main_v43_apply,
      val_main_v42_apply, val_main_v41_apply, val_main_v40_apply, val_main_v39_apply, val_main_v38_apply, val_main_v37_apply,
      val_main_v36_apply, val_main_v35_apply, val_main_v34_apply, val_main_v33_apply, val_main_v32_apply, val_main_v31_apply,
      val_main_v30_apply, val_main_v29_apply]
    rfl
  rw [e, near_word _ _ k.isLt l.isLt, inside_word _ _ k.isLt n.isLt]
  have h := seen_iff n.val l.val k.val k.isLt n.isLt l.isLt
  rw [show decide (seen n.val l.val k.val) = (decide (l.val ≤ k.val ∧ k.val ≤ l.val + 256)
      && decide (128 ≤ 128 * n.val + k.val ∧ 128 * n.val + k.val < 8320)) from by rw [← Bool.decide_and]; exact decide_eq_decide.2 h]
  unfold IntOp.andi
  cases decide (l.val ≤ k.val ∧ k.val ≤ l.val + 256) <;>
    cases decide (128 ≤ 128 * n.val + k.val ∧ 128 * n.val + k.val < 8320) <;> rfl

/-- The scores the kernel has, times `log 2`. -/
def sc (b : Fin 2) (n : Fin 64) (l : Fin 128) (h : Fin 16) (k : Fin 384) : EReal :=
  if seen n.val l.val k.val then
      ∑ e : Fin 64, x1 (ix3 b ⟨128 * near n.val k.val + k.val % 128, by unfold near; omega⟩ ⟨64 * (h.val / 4) + e.val, by omega⟩)
        * x0 (ix4 b n ⟨64 * h.val + e.val, by omega⟩ l) else ⊥

theorem score (b : Fin 2) (n : Fin 64) (g r : Fin 4) (l : Fin 128) (k : Fin 384) :
    val_main_v62 (F := Ideal) x0 x1 (ix6 b n g r l k) = sc x0 x1 b n l ⟨4 * g.val + r.val, by omega⟩ k * ln2 := by
  rw [val_main_v62_apply, val_main_call2_v1_apply, val_main_v61_apply,
    show idx_main_v61 (idx_main_call2_v1 (ix6 b n g r l k)) = ix3 n l k from funext fun a => by fin_cases a <;> rfl, mask]
  unfold sc
  by_cases h : seen n.val l.val k.val
  · rw [decide_eq_true h, if_pos h]
    show val_main_v28 (F := Ideal) x0 x1 (ix6 b n g r l k) = _
    rw [val_main_v28_apply, val_main_v26_apply, val_main_v27_apply, val_main_v25_apply]
    show (∑ e, _) * Ideal.ofBits .f32 0x3E000000#32 = _
    rw [eighth_eq]
    have hs (e : Fin 64) : val_main_v18 (F := Ideal) x1 (lidx_main_v25 (idx_main_v26 (ix6 b n g r l k)) e)
          * val_main_v6 (F := Ideal) x0 (ridx_main_v25 (idx_main_v26 (ix6 b n g r l k)) e)
        = (x1 (ix3 b ⟨128 * near n.val k.val + k.val % 128, by unfold near; omega⟩ ⟨64 * ((4 * g.val + r.val) / 4) + e.val, by omega⟩)
          * x0 (ix4 b n ⟨64 * (4 * g.val + r.val) + e.val, by omega⟩ l)) * (ln2 * ((8 : ℝ) : EReal)) := by
      rw [show lidx_main_v25 (idx_main_v26 (ix6 b n g r l k)) e = ix5 b n k g e from funext fun a => by fin_cases a <;> rfl,
        show ridx_main_v25 (idx_main_v26 (ix6 b n g r l k)) e = ix6 b n l g r e from funext fun a => by fin_cases a <;> rfl,
        query, key_window _ _ _ _ _ _ l.val h, mul_assoc]
      refine congrArg (· * _) (congrArg x1 (congrArg (fun q => ix3 b _ q) (Fin.ext ?_)))
      show 64 * g.val + e.val = 64 * ((4 * g.val + r.val) / 4) + e.val
      omega
    rw [Finset.sum_congr rfl fun e _ => hs e, ← Attn.sum_scale, mul_assoc, factors]
    · exact EReal.mul_pos Attn.ln2_pos (by exact_mod_cast (by norm_num : (0 : ℝ) < 8))
    · unfold ln2; rw [← EReal.coe_mul]; exact EReal.coe_ne_top _
  · rw [decide_eq_false h, if_neg h]
    show val_main_call2_v2 (F := Ideal) (ix6 b n g r l k) = _
    rw [val_main_call2_v2_apply]
    show Ideal.ofBits .f32 0xFF800000#32 = _
    rw [Attn.ninf_eq, EReal.bot_mul_of_pos Attn.ln2_pos]

theorem sink (b : Fin 2) (n : Fin 64) (g r : Fin 4) (l : Fin 128) :
    val_main_v66 (F := Ideal) x3 (ix5 b n g r l) = x3 (ix1 ⟨4 * g.val + r.val, by omega⟩) := by
  rw [val_main_v66_apply, val_main_v64_apply, val_main_v63_apply]
  refine congrArg x3 (funext fun a => ?_)
  fin_cases a; refine Fin.ext ?_
  show g.val * 4 + r.val = 4 * g.val + r.val; omega

theorem sink' (b : Fin 2) (n : Fin 64) (g r : Fin 4) (l : Fin 128) :
    val_main_v73 (F := Ideal) x3 (ix5 b n g r l) = x3 (ix1 ⟨4 * g.val + r.val, by omega⟩) := by
  rw [val_main_v73_apply, val_main_v64_apply, val_main_v63_apply]
  refine congrArg x3 (funext fun a => ?_)
  fin_cases a; refine Fin.ext ?_
  show g.val * 4 + r.val = 4 * g.val + r.val; omega

theorem largest (b : Fin 2) (n : Fin 64) (g r : Fin 4) (l : Fin 128) :
    val_main_v67 (F := Ideal) x0 x1 x3 (ix5 b n g r l)
      = topE (fun k => sc x0 x1 b n l ⟨4 * g.val + r.val, by omega⟩ k * ln2) (x3 (ix1 ⟨4 * g.val + r.val, by omega⟩)) := by
  rw [val_main_v67_apply, sink]
  unfold topE
  refine congrArg₂ (fun p q : EReal => max p q) ?_ rfl
  unfold val_main_v65
  generalize hz : val_main_v62 (F := Ideal) x0 x1 = z
  rw [Host.reduce_eq_fold_single FloatOps.maximumf _ _ reducesTo_S2x64x4x4x128x384_S2x64x4x4x128_d5 (by decide) h_S_]
  rw [← hz]; clear hz z
  show Finset.fold max (Ideal.ofBits .f32 0xFF800000#32) _ _ = _
  rw [Attn.ninf_eq]
  show Finset.univ.sup _ = _
  refine Finset.sup_congr rfl fun k _ => ?_
  refine Eq.trans (congrArg (val_main_v62 (F := Ideal) x0 x1) (funext fun a => Fin.ext ?_)) (score x0 x1 b n g r l k)
  fin_cases a <;> rfl

theorem weight (b : Fin 2) (n : Fin 64) (g r : Fin 4) (l : Fin 128) (k : Fin 384) :
    val_main_v71 (F := Ideal) x0 x1 x3 (ix6 b n g r l k)
      = Ideal.exp (sc x0 x1 b n l ⟨4 * g.val + r.val, by omega⟩ k * ln2
          - topE (fun k => sc x0 x1 b n l ⟨4 * g.val + r.val, by omega⟩ k * ln2) (x3 (ix1 ⟨4 * g.val + r.val, by omega⟩))) := by
  rw [val_main_v71_apply, val_main_v70_apply, score, val_main_v69_apply, val_main_v68_apply,
    show idx_main_v68 (idx_main_v69 (ix6 b n g r l k)) = ix5 b n g r l from funext fun a => by fin_cases a <;> rfl, largest]
  rfl

theorem row (b : Fin 2) (n : Fin 64) (l : Fin 128) (g r : Fin 4) (d : Fin 64) :
    val_main_v84 (F := Ideal) x0 x1 x2 x3 (ix6 b n l g r d)
      = baseE (fun k => sc x0 x1 b n l ⟨4 * g.val + r.val, by omega⟩ k * ln2) (fun k => val_main_v24 (F := Ideal) x2 (ix5 b n k g d))
          (x3 (ix1 ⟨4 * g.val + r.val, by omega⟩)) := by
  rw [val_main_v84_apply, val_main_v83_apply, val_main_v82_apply, val_main_v81_apply, val_main_v80_apply, val_main_v79_apply,
    val_main_v78_apply, val_main_v77_apply,
    show idx_main_v81 (idx_main_v82 (idx_main_v83 (ix6 b n l g r d))) = ix5 b n g r l from funext fun a => by fin_cases a <;> rfl,
    val_main_v76_apply, val_main_v75_apply, val_main_v74_apply, val_main_v72_apply, sink', largest]
  unfold baseE
  refine congrArg₂ (fun p q : EReal => p * q) ?_ (congrArg₂ Ideal.div ?_ (congrArg₂ (fun p q : EReal => p + q) ?_ rfl))
  · refine Finset.sum_congr rfl fun k _ => congrArg₂ (fun p q : EReal => p * q) (congrArg _ (funext fun a => by fin_cases a <;> rfl)) ?_
    refine Eq.trans (congrArg _ (funext fun a => ?_)) (weight x0 x1 x3 b n g r l k)
    fin_cases a <;> rfl
  · exact one_eq
  · show Ideal.ofBits .f32 0x00000000#32 + _ = _
    rw [zero_eq, zero_add]
    refine Finset.sum_congr rfl fun k _ => ?_
    refine Eq.trans (congrArg _ (funext fun a => ?_)) (weight x0 x1 x3 b n g r l k)
    fin_cases a <;> rfl

/-- The reference's attention is the kernel's. -/
theorem attention (b : Fin 2) (n : Fin 64) (l : Fin 128) (g r : Fin 4) (d : Fin 64) :
    val_main_v84 (F := Ideal) x0 x1 x2 x3 (ix6 b n l g r d) = Attn.attnAt x0 x1 x2 x3 b n l ⟨4 * g.val + r.val, by omega⟩ d := by
  rw [row]
  unfold Attn.attnAt
  refine (Attn.base2_eq_baseE _ _ _ _ _ (fun k => rfl) fun k => ?_).symm
  by_cases h : seen n.val l.val k.val
  · right
    rw [val_window _ _ _ _ _ _ l.val h]
    refine congrArg x2 (congrArg (fun q => ix4 b _ q _) (Fin.ext ?_))
    show 64 * ((4 * g.val + r.val) / 4) + d.val = 64 * g.val + d.val
    omega
  · left; exact if_neg h

theorem result (y : S2x8192x1024.Idx) :
    val_main_v86 (F := Ideal) x0 x1 x2 x3 y = Attn.attnAt x0 x1 x2 x3 (y 0)
      ⟨(y 1).val / 128, by have : (y 1).val < 8192 := (y 1).isLt; omega⟩ ⟨(y 1).val % 128, by omega⟩
      ⟨(y 2).val / 64, by have : (y 2).val < 1024 := (y 2).isLt; omega⟩ ⟨(y 2).val % 64, by omega⟩ := by
  have h1 : (y 1).val < 8192 := (y 1).isLt
  have h2 : (y 2).val < 1024 := (y 2).isLt
  rw [val_main_v86_apply]
  unfold val_main_v85
  obtain ⟨b, hb⟩ : ∃ b : Fin 2, b = y 0 := ⟨y 0, rfl⟩
  rw [← hb]
  refine Eq.trans (shapeCast_apply _ _ _ (ix6 b ⟨(y 1).val / 128, by omega⟩ ⟨(y 1).val % 128, by omega⟩ ⟨(y 2).val / 256, by omega⟩
    ⟨(y 2).val / 64 % 4, by omega⟩ ⟨(y 2).val % 64, by omega⟩) ?_) ?_
  · rw [Shape.rowMajor_val_six, Shape.rowMajor_val_three]
    rw [hb]
    show (((((y 0).val * 64 + (y 1).val / 128) * 128 + (y 1).val % 128) * 4 + (y 2).val / 256) * 4 + (y 2).val / 64 % 4) * 64 + (y 2).val % 64
      = ((y 0).val * 8192 + (y 1).val) * 1024 + (y 2).val
    omega
  · rw [attention]
    refine congrArg (fun q => Attn.attnAt x0 x1 x2 x3 _ _ _ q _) (Fin.ext ?_)
    show 4 * ((y 2).val / 256) + (y 2).val / 64 % 4 = (y 2).val / 64
    omega

end Cert.AttnRef
-- ==== Proof.AttnClaim.lean ====
module

public import proofs.«01_k».proof.Defs
public import proofs.«01_k».proof.Proof.AttnArr
public import proofs.«01_k».proof.Proof.AttnRef
public import proofs.«01_k».proof.Proof.AttnBitsFrame
public import Idealize.ShloMosaic.Lib.Quiescent

@[expose] public section

set_option maxRecDepth 16384

noncomputable section

namespace Cert.AttnClaim

open Idealize.ShloMosaic Idealize.ShloMosaic.TcCoe Idealize.SL.Sem

attribute [local instance] Cert.Kernel.Gen.facts Cert.KernelIdeal.Gen.facts Cert.ReferenceIdeal.Gen.facts

/-! ## The frames -/

theorem kernel_frame : Cert.quiescent_Kernel := fun m g _ =>
  θ_run_and (Cert.Kernel.Gen.frame_of m g (Cert.AttnBits.dat m) (Cert.AttnBits.dat_A m) (Cert.AttnBits.launch_post m g))
    ((θ_run _ _ _).mono (fun _ h => h.2) (Cert.AttnBits.launch m g))

theorem ideal_frame : Cert.quiescent_KernelIdeal := fun m g _ =>
  θ_run_and (Cert.KernelIdeal.Gen.frame_of m g (Cert.Attn.dat m) (Cert.Attn.dat_A m) (Cert.Attn.launch_post m g))
    ((θ_run _ _ _).mono (fun _ h => h.2) (Cert.Attn.launch m g))

theorem preserves : Cert.preserves_Kernel_KernelIdeal :=
  IdealRules.named_const.statement Cert.KernelIdeal.κ "log2e" .f32 0x3FB8AA3B#32 _ rfl

/-! ## The values -/

section
variable (m : (ℓ : Loc Cert.KernelIdeal.nD Cert.KernelIdeal.τ Cert.KernelIdeal.sig) → Buf (Elt Ideal) ℓ)

/-- The kernel's run: its three results, and its arguments unchanged. -/
theorem kernel_run (g : Dev Cert.KernelIdeal.nD → PrngReg) :
    θ_run (Cert.KernelIdeal.defs (F := Ideal)) (onTc (τ := Cert.KernelIdeal.τ) (Cert.KernelIdeal.main (F := Ideal))) ⟨m, fun _ => 0, g⟩
      (fun r => ∀ c : Dev Cert.KernelIdeal.nD,
        (r.2.mem ((c.tc : Thread Cert.KernelIdeal.nD Cert.KernelIdeal.τ).loc Cert.KernelIdeal.main_v3_0) = Cert.Attn.attnRes m c
        ∧ r.2.mem ((c.tc : Thread Cert.KernelIdeal.nD Cert.KernelIdeal.τ).loc Cert.KernelIdeal.main_v3_1) = Cert.Attn.inRes m c
        ∧ r.2.mem ((c.tc : Thread Cert.KernelIdeal.nD Cert.KernelIdeal.τ).loc Cert.KernelIdeal.main_v3_2) = Cert.Attn.outRes m c)) :=
  (θ_run _ _ _).mono (fun _ h c => ⟨((h c).1 10).trans (Cert.Attn.arr10 m c), ((h c).1 11).trans (Cert.Attn.arr11 m c),
    ((h c).1 12).trans (Cert.Attn.arr12 m c)⟩) (Cert.Attn.launch_post m g)

end

theorem in_weights (x : FVec Ideal Cert.ReferenceIdeal.S4x1024x5632 .f32) (y : Cert.ReferenceIdeal.S1024x5632.Idx) :
    Cert.ReferenceIdeal.Read.val_main_v89 (F := Ideal) x y = x (ix3 1 (y 0) (y 1)) := by
  have h0 : (y 0).val < 1024 := (y 0).isLt
  have h1 : (y 1).val < 5632 := (y 1).isLt
  rw [Cert.ReferenceIdeal.Read.val_main_v89_apply, Cert.ReferenceIdeal.Read.val_main_v88_apply, Cert.ReferenceIdeal.Read.val_main_v87_apply]
  refine congrArg x (funext fun a => ?_)
  fin_cases a <;> refine Fin.ext ?_
  · show 1 + _ = 1; simp
  · show _ = (y 0).val; simp; omega
  · show _ = (y 1).val; simp; omega

theorem out_weights (x : FVec Ideal Cert.ReferenceIdeal.S4x2816x1024 .f32) (y : Cert.ReferenceIdeal.S2816x1024.Idx) :
    Cert.ReferenceIdeal.Read.val_main_v92 (F := Ideal) x y = x (ix3 1 (y 0) (y 1)) := by
  have h0 : (y 0).val < 2816 := (y 0).isLt
  have h1 : (y 1).val < 1024 := (y 1).isLt
  rw [Cert.ReferenceIdeal.Read.val_main_v92_apply, Cert.ReferenceIdeal.Read.val_main_v91_apply, Cert.ReferenceIdeal.Read.val_main_v90_apply]
  refine congrArg x (funext fun a => ?_)
  fin_cases a <;> refine Fin.ext ?_
  · show 1 + _ = 1; simp
  · show _ = (y 0).val; simp; omega
  · show _ = (y 1).val; simp; omega

theorem algebraic : Cert.algebraic_KernelIdeal_ReferenceIdeal := by
  intro m g m' g' _ hm
  refine ⟨Cert.Attn.attnRes m, Cert.Attn.inRes m, Cert.Attn.outRes m, ?_, ?_⟩
  · refine (θ_run _ _ _).mono (fun r h c => ?_)
      (θ_run_and (kernel_run m g)
        (Cert.KernelIdeal.Gen.frame_of m g (Cert.Attn.dat m) (Cert.Attn.dat_A m) (Cert.Attn.launch_post m g)))
    exact ⟨(h.1 c).1, (h.1 c).2.1, (h.1 c).2.2, h.2 c⟩
  · refine (θ_run _ _ _).mono (fun r h c => ?_) (Cert.ReferenceIdeal.Value.run m' g')
    obtain ⟨e0, e1, e2, e3, e4, e5⟩ := hm c
    obtain ⟨r0, r1, r2, hr⟩ := h c
    refine ⟨r0.trans ?_, r1.trans ?_, r2.trans ?_, hr⟩
    · rw [Cert.ReferenceIdeal.Read.val_main_v86_eq, e0, e1, e2, e3]
      funext y
      exact Cert.AttnRef.result _ _ _ _ y
    · rw [Cert.ReferenceIdeal.Read.val_main_v89_eq, e4]
      funext y
      exact in_weights _ y
    · rw [Cert.ReferenceIdeal.Read.val_main_v92_eq, e5]
      funext y
      exact out_weights _ y

theorem reference_frame : Cert.quiescent_ReferenceIdeal := fun m g _ =>
  (θ_run _ _ _).mono (fun r h => ⟨fun c => (h c).2.2.2, sem_eq_zero_of_no_sems (by decide) r.2⟩) (Cert.ReferenceIdeal.Value.run m g)

end Cert.AttnClaim

end
-- ==== Proof.TailMath.lean ====
module

public import Idealize.ShloMosaic.PureOps.Ideal
public import Idealize.ShloMosaic.Lib.IdealHost
public import Idealize.ShloMosaic.Lib.Pipeline.FrameBody
public import Idealize.ShloMosaic.Lib.WholeRead
public import Idealize.ShloMosaic.Lib.Pointwise

@[expose] public section

/-! The arithmetic of one row of a layer's end, over the extended reals: the output projection with its residual, the
norm, the gated feed-forward part with its residual. -/

noncomputable section

namespace Cert.Tail

open Idealize.ShloMosaic

/-- The small number under the roots. -/
def eps : EReal := Ideal.ofBits .f32 0x358637BD#32
/-- The lengths of a head and of a row. -/
def n256 : EReal := Ideal.ofBits .f32 0x43800000#32
def n1024 : EReal := Ideal.ofBits .f32 0x44800000#32

theorem zero_bits : Ideal.ofBits .f32 0x00000000#32 = (0 : EReal) := by
  simp [Ideal.ofBits, Ideal.ieee]
theorem one_bits : Ideal.ofBits .f32 0x3F800000#32 = (1 : EReal) := by
  simp [Ideal.ofBits, Ideal.ieee]; norm_cast; norm_num

/-- The reciprocal root mean square of `v`, its length `N`. -/
def rms (N : EReal) {n : Nat} (v : Fin n → EReal) : EReal := Ideal.rsqrt (Ideal.div (∑ x, v x * v x) N + eps)

/-- A row normed and scaled. -/
def nrm (v w : Fin 1024 → EReal) (n : Fin 1024) : EReal := v n * rms n1024 v * w n

/-- The gate's activation times the other half. -/
def act (g u : EReal) : EReal := g * Ideal.div 1 (1 + Ideal.exp (0 - g)) * u

/-- One hidden unit of the feed-forward part. -/
def hid (h : Fin 1024 → EReal) (wi : Fin 1024 → Fin 5632 → EReal) (j : Fin 2816) : EReal :=
  act (∑ k, h k * wi k ⟨j.val, by omega⟩) (∑ k, h k * wi k ⟨2816 + j.val, by omega⟩)

/-- The residual with the output projection. -/
def mid (y x : Fin 1024 → EReal) (W : Fin 1024 → Fin 1024 → EReal) (n : Fin 1024) : EReal := x n + ∑ k, y k * W k n

/-- The layer's end: the projection with its residual, then the feed-forward part of its norm with its own. -/
def layer (y x w : Fin 1024 → EReal) (W : Fin 1024 → Fin 1024 → EReal) (wi : Fin 1024 → Fin 5632 → EReal)
    (wo : Fin 2816 → Fin 1024 → EReal) (n : Fin 1024) : EReal :=
  mid y x W n + ∑ j, hid (nrm (mid y x W) w) wi j * wo j n

/-- The heads' outputs, each normed, scaled and gated. -/
def heads (hs w g : Fin 1024 → EReal) (k : Fin 1024) : EReal :=
  hs k * rms n256 (fun e : Fin 256 => hs ⟨256 * (k.val / 256) + e.val, by omega⟩) * w k * g k

/-! ## Reading what a list of stores by rows leaves -/

section Rows
variable {R C : Nat} {e : EltTy} {V : EltTy → Type} [∀ e, Nonempty (V e)]

theorem rows3_hit {o : Nat} (inb : ∀ a : Fin 3, ![0, o, 0] a + ![1, 256, C] a ≤ (⟨3, ![1, R, C]⟩ : Shape).size a)
    (w : (Rect.unit (s := ⟨3, ![1, R, C]⟩) ![0, o, 0] ![1, 256, C] inb).shape.Idx → V e)
    (L : List (View.Piece V ⟨3, ![1, R, C]⟩ e)) (i : Fin 256) (n : Fin C) (ρ : Fin R) (h : ρ.val = o + i.val) :
    View.canon (⟨Rect.unit (s := ⟨3, ![1, R, C]⟩) ![0, o, 0] ![1, 256, C] inb, w⟩ :: L) (ix3 0 ρ n) = w (ix3 (0 : Fin 1) i n) := by
  have he : (ix3 0 ρ n : (⟨3, ![1, R, C]⟩ : Shape).Idx) = (Rect.unit (s := ⟨3, ![1, R, C]⟩) ![0, o, 0] ![1, 256, C] inb).emb (ix3 (0 : Fin 1) i n) := by
    funext a; fin_cases a
    · rfl
    · exact Fin.ext (show ρ.val = o + 1 * i.val by omega)
    · exact Fin.ext (show n.val = 0 + 1 * n.val by omega)
  rw [he, View.canon_cons_emb]

theorem rows3_miss {o : Nat} (inb : ∀ a : Fin 3, ![0, o, 0] a + ![1, 256, C] a ≤ (⟨3, ![1, R, C]⟩ : Shape).size a)
    (w : (Rect.unit (s := ⟨3, ![1, R, C]⟩) ![0, o, 0] ![1, 256, C] inb).shape.Idx → V e)
    (L : List (View.Piece V ⟨3, ![1, R, C]⟩ e)) (n : Fin C) (ρ : Fin R) (h : ρ.val < o ∨ o + 256 ≤ ρ.val) :
    View.canon (⟨Rect.unit (s := ⟨3, ![1, R, C]⟩) ![0, o, 0] ![1, 256, C] inb, w⟩ :: L) (ix3 0 ρ n) = View.canon L (ix3 0 ρ n) := by
  refine View.canon_cons_of_not_mem _ _ fun hm => ?_
  obtain ⟨x, hx⟩ := LoadRect.exists_idx_of_mem _ hm
  have h1 : o + 1 * (x 1).val = ρ.val := congrArg (fun y : (⟨3, ![1, R, C]⟩ : Shape).Idx => (y 1).val) hx
  have h2 : (x 1).val < 256 := (x 1).isLt
  omega

theorem rows2_hit {o o' S D : Nat} (inb : ∀ a : Fin 2, ![o, o'] a + ![S, D] a ≤ (⟨2, ![R, C]⟩ : Shape).size a)
    (w : (Rect.unit (s := ⟨2, ![R, C]⟩) ![o, o'] ![S, D] inb).shape.Idx → V e)
    (L : List (View.Piece V ⟨2, ![R, C]⟩ e)) (i : Fin S) (n : Fin D) (ρ : Fin R) (ν : Fin C) (h : ρ.val = o + i.val) (h' : ν.val = o' + n.val) :
    View.canon (⟨Rect.unit (s := ⟨2, ![R, C]⟩) ![o, o'] ![S, D] inb, w⟩ :: L) (ix2 ρ ν) = w (ix2 i n) := by
  have he : (ix2 ρ ν : (⟨2, ![R, C]⟩ : Shape).Idx) = (Rect.unit (s := ⟨2, ![R, C]⟩) ![o, o'] ![S, D] inb).emb (ix2 i n) := by
    funext a; fin_cases a
    · exact Fin.ext (show ρ.val = o + 1 * i.val by omega)
    · exact Fin.ext (show ν.val = o' + 1 * n.val by omega)
  rw [he, View.canon_cons_emb]

theorem rows2_miss {o o' S D : Nat} (inb : ∀ a : Fin 2, ![o, o'] a + ![S, D] a ≤ (⟨2, ![R, C]⟩ : Shape).size a)
    (w : (Rect.unit (s := ⟨2, ![R, C]⟩) ![o, o'] ![S, D] inb).shape.Idx → V e)
    (L : List (View.Piece V ⟨2, ![R, C]⟩ e)) (ρ : Fin R) (ν : Fin C)
    (h : (ρ.val < o ∨ o + S ≤ ρ.val) ∨ (ν.val < o' ∨ o' + D ≤ ν.val)) :
    View.canon (⟨Rect.unit (s := ⟨2, ![R, C]⟩) ![o, o'] ![S, D] inb, w⟩ :: L) (ix2 ρ ν) = View.canon L (ix2 ρ ν) := by
  refine View.canon_cons_of_not_mem _ _ fun hm => ?_
  obtain ⟨x, hx⟩ := LoadRect.exists_idx_of_mem _ hm
  have h1 : o + 1 * (x 0).val = ρ.val := congrArg (fun y : (⟨2, ![R, C]⟩ : Shape).Idx => (y 0).val) hx
  have h2 : (x 0).val < S := (x 0).isLt
  have h3 : o' + 1 * (x 1).val = ν.val := congrArg (fun y : (⟨2, ![R, C]⟩ : Shape).Idx => (y 1).val) hx
  have h4 : (x 1).val < D := (x 1).isLt
  omega

end Rows

end Cert.Tail

end
-- ==== Proof.MlstmTail.lean ====
module

public import proofs.«01_k».proof.Proof.Gen.Kernel2Ideal.Value
public import proofs.«01_k».proof.Proof.TailMath

@[expose] public section

set_option maxRecDepth 16384

noncomputable section

namespace Cert.MlstmTail

open Cert.Kernel2Ideal Cert.Kernel2Ideal.Gen Cert.Tail
open Idealize.ShloMosaic Idealize.ShloMosaic.TcCoe

/-! ## What the body computes from what it reads -/

theorem readWhole {S : Shape} {e : EltTy} (m : Memref sig .tc .vmem S e) (h : m.IsWhole) (X : S.Idx → Elt Ideal e)
    {off : Fin S.rank → Nat} (h0 : off = fun _ => 0) (inb : ∀ a, off a + S.size a ≤ S.size a) :
    View.readAt (Elt Ideal) m.view (Rect.unit off S.size inb).toLoadRect (h.unread X) = X := by
  have e := View.ld_unit_zero (Val := Elt Ideal) h0 inb X
  refine Eq.trans ?_ e
  funext x
  rw [h.readAt_unread]

theorem zeros2 : (![0, 0] : Fin 2 → Nat) = fun _ => 0 := by funext a; fin_cases a <;> rfl
theorem zeros3 : (![0, 0, 0] : Fin 3 → Nat) = fun _ => 0 := by funext a; fin_cases a <;> rfl

/-- A head's block normed. -/
def headT (h : FVec Ideal S1x256x256 .f32) : FVec Ideal S256x256 .f32 := k0_pay2 (F := Ideal) h

theorem headT_apply (h : FVec Ideal S1x256x256 .f32) (i e : Fin 256) :
    headT h (ix2 i e) = h (ix3 0 i e) * rms n256 (fun x : Fin 256 => h (ix3 0 i x)) := by
  pointwise [headT, k0_pay2, rms, n256, eps]

/-- The rows after the projection and its residual. -/
def projT (h0 h1 h2 h3 : FVec Ideal S1x256x256 .f32) (w : FVec Ideal S1x1024 .f32) (g : FVec Ideal S1x256x1024 .bf16)
    (x : FVec Ideal S1x256x1024 .f32) (W : FVec Ideal S1x1024x1024 .bf16) : FVec Ideal S1x256x1024 .f32 :=
  k0_pay5 (F := Ideal) (headT h0) (headT h1) (headT h2) h3 w g x W

theorem projT_apply (h : Fin 4 → FVec Ideal S1x256x256 .f32) (w : FVec Ideal S1x1024 .f32) (g : FVec Ideal S1x256x1024 .bf16)
    (x : FVec Ideal S1x256x1024 .f32) (W : FVec Ideal S1x1024x1024 .bf16) (i : Fin 256) (n : Fin 1024) (v : Fin 1024 → EReal)
    (hv : ∀ (j : Fin 4) (e : Fin 256), h j (ix3 0 i e) = v ⟨256 * j.val + e.val, by omega⟩) :
    projT (h 0) (h 1) (h 2) (h 3) w g x W (ix3 0 i n)
      = mid (heads v (fun k => w (ix2 0 k)) (fun k => g (ix3 0 i k))) (fun k => x (ix3 0 i k)) (fun k n => W (ix3 0 k n)) n := by
  pointwise [projT, k0_pay5]
  unfold mid heads
  refine congrArg (_ + ·) (Finset.sum_congr rfl fun k _ => ?_)
  congr 3
  have key : ∀ (j : Fin 4) (e : Fin 256) (_ : k.val = 256 * j.val + e.val), h j (ix3 0 i e) * rms n256 (fun x : Fin 256 => h j (ix3 0 i x))
      = v k * rms n256 (fun e : Fin 256 => v ⟨256 * (k.val / 256) + e.val, by omega⟩) := by
    intro j e hk
    have h1 : k = ⟨256 * j.val + e.val, by omega⟩ := Fin.ext hk
    rw [hv j e, ← h1]
    congr 2
    funext x
    rw [hv j x]
    exact congrArg v (Fin.ext (by simp only []; omega))
  have hk := k.isLt
  by_cases h1 : k.val < 256
  · rw [dif_pos h1, headT_apply]; exact key 0 ⟨k.val, h1⟩ (by simp)
  · rw [dif_neg h1]
    by_cases h2 : k.val - 256 < 256
    · rw [dif_pos h2, headT_apply]; exact key 1 ⟨k.val - 256, h2⟩ (by simp; omega)
    · rw [dif_neg h2]
      by_cases h3 : k.val - 256 - 256 < 256
      · rw [dif_pos h3, headT_apply]; exact key 2 ⟨k.val - 256 - 256, h3⟩ (by simp; omega)
      · rw [dif_neg h3]
        exact key 3 ⟨k.val - 256 - 256 - 256, by omega⟩ (by simp; omega)

/-- The rows normed. -/
def nrmT (v : FVec Ideal S1x256x1024 .f32) (w : FVec Ideal S1x1024 .f32) : FVec Ideal S256x1024 .bf16 := k0_pay17 (F := Ideal) v w

theorem nrmT_apply (v : FVec Ideal S1x256x1024 .f32) (w : FVec Ideal S1x1024 .f32) (i : Fin 256) (n : Fin 1024) :
    nrmT v w (ix2 i n) = nrm (fun k => v (ix3 0 i k)) (fun k => w (ix2 0 k)) n := by
  pointwise [nrmT, k0_pay17, nrm, rms, n1024, eps]

/-- A tile of the hidden units. -/
def hidT (v : FVec Ideal S256x1024 .bf16) (g u : FVec Ideal S1024x256 .bf16) : FVec Ideal S256x256 .bf16 := k0_pay35 (F := Ideal) v g u

theorem hidT_apply (v : FVec Ideal S256x1024 .bf16) (g u : FVec Ideal S1024x256 .bf16) (i n : Fin 256) :
    hidT v g u (ix2 i n) = act (∑ k, v (ix2 i k) * g (ix2 k n)) (∑ k, v (ix2 i k) * u (ix2 k n)) := by
  pointwise [hidT, k0_pay35, act]

/-- The rows with the feed-forward part. -/
def topT (v : FVec Ideal S1x256x1024 .f32) (a : FVec Ideal S256x2816 .bf16) (W : FVec Ideal S2816x1024 .bf16) : FVec Ideal S1x256x1024 .f32 :=
  k0_pay62 (F := Ideal) v a W

theorem topT_apply (v : FVec Ideal S1x256x1024 .f32) (a : FVec Ideal S256x2816 .bf16) (W : FVec Ideal S2816x1024 .bf16) (i : Fin 256) (n : Fin 1024) :
    topT v a W (ix3 0 i n) = v (ix3 0 i n) + ∑ j, a (ix2 i j) * W (ix2 j n) := by
  pointwise [topT, k0_pay62]

/-! ## What the body stores, from its input blocks -/

/-- A block's buffers and what its inputs hold. -/
structure Blk where
  a2 : Memref sig .tc .vmem S1x512x1024 .f32
  h2 : a2.IsWhole
  a3 : Memref sig .tc .vmem S1x512x1024 .bf16
  h3 : a3.IsWhole
  a4 : Memref sig .tc .vmem S1x1024 .f32
  h4 : a4.IsWhole
  a5 : Memref sig .tc .vmem S1x512x1024 .f32
  h5 : a5.IsWhole
  a6 : Memref sig .tc .vmem S1x1024x1024 .bf16
  h6 : a6.IsWhole
  a7 : Memref sig .tc .vmem S1x1024 .f32
  h7 : a7.IsWhole
  a8 : Memref sig .tc .vmem S1024x5632 .bf16
  h8 : a8.IsWhole
  a9 : Memref sig .tc .vmem S2816x1024 .bf16
  h9 : a9.IsWhole
  a10 : Memref sig .tc .vmem S1x512x1024 .f32
  h10 : a10.IsWhole
  a11 : Memref sig .tc .vmem S512x1024 .bf16
  h11 : a11.IsWhole
  a12 : Memref sig .tc .vmem S512x2816 .bf16
  h12 : a12.IsWhole
  x0 : Vec Ideal S1x512x1024 .f32
  x1 : Vec Ideal S1x512x1024 .bf16
  x2 : Vec Ideal S1x1024 .f32
  x3 : Vec Ideal S1x512x1024 .f32
  x4 : Vec Ideal S1x1024x1024 .bf16
  x5 : Vec Ideal S1x1024 .f32
  x6 : Vec Ideal S1024x5632 .bf16
  x7 : Vec Ideal S2816x1024 .bf16

/-- A row after the projection and its residual. -/
def midAt (q : Blk) (ρ : Fin 512) (n : Fin 1024) : EReal :=
  mid (heads (fun k => q.x0 (ix3 0 ρ k)) (fun k => q.x2 (ix2 0 k)) (fun k => q.x1 (ix3 0 ρ k))) (fun k => q.x3 (ix3 0 ρ k)) (fun k n => q.x4 (ix3 0 k n)) n
/-- The same row normed. -/
def nrmAt (q : Blk) (ρ : Fin 512) : Fin 1024 → EReal := nrm (midAt q ρ) (fun k => q.x5 (ix2 0 k))
/-- Its hidden units. -/
def hidAt (q : Blk) (ρ : Fin 512) (j : Fin 2816) : EReal := hid (nrmAt q ρ) (fun k j => q.x6 (ix2 k j)) j
/-- The row with the feed-forward part. -/
def sumAt (q : Blk) (ρ : Fin 512) (n : Fin 1024) : EReal := midAt q ρ n + ∑ j, hidAt q ρ j * q.x7 (ix2 j n)
/-- The row as it is stored. -/
def outAt (q : Blk) (ρ : Fin 512) (n : Fin 1024) : EReal := sumAt q ρ n

theorem inbO (r : Fin 2) : ∀ a : Fin 3, ![0, 256 * r.val, 0] a + S1x256x1024.size a ≤ S1x512x1024.size a := by
  have := r.isLt
  intro a; fin_cases a <;> simp [S1x256x1024, S1x512x1024] <;> omega
theorem inbA (r : Fin 2) : ∀ a : Fin 2, ![256 * r.val, 0] a + S256x1024.size a ≤ S512x1024.size a := by
  have := r.isLt
  intro a; fin_cases a <;> simp [S256x1024, S512x1024] <;> omega
theorem inbT (r : Fin 2) (j : Fin 11) : ∀ a : Fin 2, ![256 * r.val, 256 * j.val] a + S256x256.size a ≤ S512x2816.size a := by
  have := r.isLt; have := j.isLt
  intro a; fin_cases a <;> simp [S256x256, S512x2816] <;> omega
theorem inbH (r : Fin 2) : ∀ a : Fin 2, ![256 * r.val, 0] a + S256x2816.size a ≤ S512x2816.size a := by
  have := r.isLt
  intro a; fin_cases a <;> simp [S256x2816, S512x2816] <;> omega
theorem inbG (o : Nat) (h : o + 256 ≤ 5632) : ∀ a : Fin 2, ![0, o] a + S1024x256.size a ≤ S1024x5632.size a := by
  intro a; fin_cases a <;> simp [S1024x256, S1024x5632] <;> omega

/-- Rows of an input, read. -/
def rows {e : EltTy} (a : Memref sig .tc .vmem S1x512x1024 e) (h : a.IsWhole) (x : Vec Ideal S1x512x1024 e) (r : Fin 2) : Vec Ideal S1x256x1024 e :=
  View.readAt (Elt Ideal) a.view (Rect.unit (s := S1x512x1024) ![0, 256 * r.val, 0] S1x256x1024.size (inbO r)).toLoadRect (h.unread x)

theorem rows_apply {e : EltTy} (a : Memref sig .tc .vmem S1x512x1024 e) (h : a.IsWhole) (x : Vec Ideal S1x512x1024 e) (r : Fin 2) (i : Fin 256) (n : Fin 1024) :
    rows a h x r (ix3 0 i n) = x (ix3 0 ⟨256 * r.val + i.val, by omega⟩ n) := by
  unfold rows
  rw [Memref.IsWhole.readAt_unread]
  refine congrArg x (funext fun e => ?_)
  fin_cases e
  · rfl
  · exact Fin.ext (show 256 * r.val + 1 * i.val = 256 * r.val + i.val by omega)
  · exact Fin.ext (show 0 + 1 * n.val = n.val by omega)

/-- A row vector, read. -/
def vec (a : Memref sig .tc .vmem S1x1024 .f32) (h : a.IsWhole) (x : Vec Ideal S1x1024 .f32) : Vec Ideal S1x1024 .f32 :=
  View.readAt (Elt Ideal) a.view (Rect.unit (s := S1x1024) ![0, 0] S1x1024.size inb_S1x1024_S1x1024_0_0).toLoadRect (h.unread x)
theorem vec_eq (a : Memref sig .tc .vmem S1x1024 .f32) (h : a.IsWhole) (x : Vec Ideal S1x1024 .f32) : vec a h x = x :=
  readWhole a h x zeros2 _

/-- The projection's weights, read. -/
def wOut (q : Blk) : Vec Ideal S1x1024x1024 .bf16 :=
  View.readAt (Elt Ideal) q.a6.view (Rect.unit (s := S1x1024x1024) ![0, 0, 0] S1x1024x1024.size inb_S1x1024x1024_S1x1024x1024_0_0_0).toLoadRect (q.h6.unread q.x4)
theorem wOut_eq (q : Blk) : wOut q = q.x4 := readWhole _ _ _ zeros3 _
/-- The feed-forward part's second weights, read. -/
def wDown (q : Blk) : Vec Ideal S2816x1024 .bf16 :=
  View.readAt (Elt Ideal) q.a9.view (Rect.unit (s := S2816x1024) ![0, 0] S2816x1024.size inb_S2816x1024_S2816x1024_0_0).toLoadRect (q.h9.unread q.x7)
theorem wDown_eq (q : Blk) : wDown q = q.x7 := readWhole _ _ _ zeros2 _

/-- Columns of the feed-forward part's first weights, read. -/
def cols (q : Blk) (o : Nat) (h : o + 256 ≤ 5632) : Vec Ideal S1024x256 .bf16 :=
  View.readAt (Elt Ideal) q.a8.view (Rect.unit (s := S1024x5632) ![0, o] S1024x256.size (inbG o h)).toLoadRect (q.h8.unread q.x6)

theorem cols_apply (q : Blk) (o : Nat) (h : o + 256 ≤ 5632) (k : Fin 1024) (n : Fin 256) :
    cols q o h (ix2 k n) = q.x6 (ix2 k ⟨o + n.val, by omega⟩) := by
  unfold cols
  rw [Memref.IsWhole.readAt_unread]
  refine congrArg q.x6 (funext fun e => ?_)
  fin_cases e
  · exact Fin.ext (show 0 + 1 * k.val = k.val by omega)
  · exact Fin.ext (show o + 1 * n.val = o + n.val by omega)

theorem inbI (r : Fin 2) (h : Fin 4) : ∀ a : Fin 3, ![0, 256 * r.val, 256 * h.val] a + S1x256x256.size a ≤ S1x512x1024.size a := by
  have := r.isLt; have := h.isLt
  intro a; fin_cases a <;> simp [S1x256x256, S1x512x1024] <;> omega
/-- A head of the rows, read. -/
def headRd (q : Blk) (r : Fin 2) (h : Fin 4) : Vec Ideal S1x256x256 .f32 :=
  View.readAt (Elt Ideal) q.a2.view (Rect.unit (s := S1x512x1024) ![0, 256 * r.val, 256 * h.val] S1x256x256.size (inbI r h)).toLoadRect (q.h2.unread q.x0)
theorem headRd_apply (q : Blk) (r : Fin 2) (h : Fin 4) (i e : Fin 256) :
    headRd q r h (ix3 0 i e) = q.x0 (ix3 0 ⟨256 * r.val + i.val, by omega⟩ ⟨256 * h.val + e.val, by omega⟩) := by
  unfold headRd
  rw [Memref.IsWhole.readAt_unread]
  refine congrArg q.x0 (funext fun e => ?_)
  fin_cases e
  · rfl
  · exact Fin.ext (show 256 * r.val + 1 * i.val = 256 * r.val + i.val by omega)
  · exact Fin.ext (show 256 * h.val + 1 * e.val = 256 * h.val + e.val by omega)

/-- The first store of a part of the rows. -/
def midT (q : Blk) (r : Fin 2) : FVec Ideal S1x256x1024 .f32 :=
  projT (headRd q r 0) (headRd q r 1) (headRd q r 2) (headRd q r 3) (vec q.a4 q.h4 q.x2) (rows q.a3 q.h3 q.x1 r) (rows q.a5 q.h5 q.x3 r) (wOut q)

theorem midT_apply (q : Blk) (r : Fin 2) (i : Fin 256) (n : Fin 1024) :
    midT q r (ix3 0 i n) = midAt q ⟨256 * r.val + i.val, by omega⟩ n := by
  unfold midT
  refine (projT_apply (headRd q r) _ _ _ _ i n (fun k => q.x0 (ix3 0 ⟨256 * r.val + i.val, by omega⟩ k)) (fun j e => headRd_apply q r j i e)).trans ?_
  rw [vec_eq, wOut_eq]
  unfold midAt
  simp only [rows_apply]

def rectO (r : Fin 2) : Rect S1x512x1024 := Rect.unit (s := S1x512x1024) ![0, 256 * r.val, 0] S1x256x1024.size (inbO r)
def rectA (r : Fin 2) : Rect S512x1024 := Rect.unit (s := S512x1024) ![256 * r.val, 0] S256x1024.size (inbA r)
def rectT (r : Fin 2) (j : Fin 11) : Rect S512x2816 := Rect.unit (s := S512x2816) ![256 * r.val, 256 * j.val] S256x256.size (inbT r j)
def rectH (r : Fin 2) : Rect S512x2816 := Rect.unit (s := S512x2816) ![256 * r.val, 0] S256x2816.size (inbH r)

/-- The first stores into the output's buffer. -/
def midL (q : Blk) : List (View.Piece (Elt Ideal) S1x512x1024 .f32) :=
  [⟨rectO 1, midT q 1⟩, ⟨rectO 0, midT q 0⟩]

theorem canon_midL (q : Blk) (r : Fin 2) (i : Fin 256) (n : Fin 1024) :
    View.canon (midL q) (ix3 0 ⟨256 * r.val + i.val, by omega⟩ n) = midAt q ⟨256 * r.val + i.val, by omega⟩ n := by
  rw [← midT_apply]
  have hi := i.isLt
  fin_cases r
  · exact (rows3_miss _ _ _ _ _ (by left; simp; try omega)).trans (rows3_hit _ _ _ i n _ rfl)
  · exact rows3_hit _ _ _ i n _ rfl

/-- A part of the rows, read back over given stores. -/
def rdO (q : Blk) (L : List (View.Piece (Elt Ideal) S1x512x1024 .f32)) (r : Fin 2) : Vec Ideal S1x256x1024 .f32 :=
  q.a10.view.readCov L (rectO r).toLoadRect

theorem rdO_apply (q : Blk) (L : List (View.Piece (Elt Ideal) S1x512x1024 .f32)) (r : Fin 2) (i : Fin 256) (n : Fin 1024) :
    rdO q L r (ix3 0 i n) = View.canon L (ix3 0 ⟨256 * r.val + i.val, by omega⟩ n) := by
  unfold rdO
  rw [View.readCov_eq_canon']
  refine congrArg (View.canon L) (funext fun e => ?_)
  fin_cases e
  · rfl
  · exact Fin.ext (show 256 * r.val + 1 * i.val = 256 * r.val + i.val by omega)
  · exact Fin.ext (show 0 + 1 * n.val = n.val by omega)

/-- The stores of the normed rows. -/
def nrmL (q : Blk) : List (View.Piece (Elt Ideal) S512x1024 .bf16) :=
  [⟨rectA 1, nrmT (rdO q (midL q) 1) (vec q.a7 q.h7 q.x5)⟩, ⟨rectA 0, nrmT (rdO q (midL q) 0) (vec q.a7 q.h7 q.x5)⟩]

theorem canon_nrmL (q : Blk) (r : Fin 2) (i : Fin 256) (n : Fin 1024) :
    View.canon (nrmL q) (ix2 ⟨256 * r.val + i.val, by omega⟩ n) = nrmAt q ⟨256 * r.val + i.val, by omega⟩ n := by
  have e : nrmT (rdO q (midL q) r) (vec q.a7 q.h7 q.x5) (ix2 i n) = nrmAt q ⟨256 * r.val + i.val, by omega⟩ n := by
    rw [nrmT_apply, vec_eq]
    unfold nrmAt
    simp only [rdO_apply, canon_midL]
  rw [← e]
  have hi := i.isLt
  fin_cases r
  · exact (rows2_miss _ _ _ _ _ (by left; left; simp; try omega)).trans (rows2_hit _ _ _ i n _ _ rfl (by simp))
  · exact rows2_hit _ _ _ i n _ _ rfl (by simp)

/-- A part of the normed rows, read back. -/
def rdA (q : Blk) (r : Fin 2) : Vec Ideal S256x1024 .bf16 := q.a11.view.readCov (nrmL q) (rectA r).toLoadRect

theorem rdA_apply (q : Blk) (r : Fin 2) (i : Fin 256) (n : Fin 1024) :
    rdA q r (ix2 i n) = nrmAt q ⟨256 * r.val + i.val, by omega⟩ n := by
  rw [← canon_nrmL]
  unfold rdA
  rw [View.readCov_eq_canon']
  refine congrArg (View.canon (nrmL q)) (funext fun e => ?_)
  fin_cases e
  · exact Fin.ext (show 256 * r.val + 1 * i.val = 256 * r.val + i.val by omega)
  · exact Fin.ext (show 0 + 1 * n.val = n.val by omega)

/-- A tile of the hidden units. -/
def tile (q : Blk) (r : Fin 2) (j : Fin 11) : FVec Ideal S256x256 .bf16 :=
  hidT (rdA q r) (cols q (256 * j.val) (by omega)) (cols q (2816 + 256 * j.val) (by omega))

theorem tile_apply (q : Blk) (r : Fin 2) (j : Fin 11) (i n : Fin 256) :
    tile q r j (ix2 i n) = hidAt q ⟨256 * r.val + i.val, by omega⟩ ⟨256 * j.val + n.val, by omega⟩ := by
  unfold tile
  rw [hidT_apply]
  unfold hidAt hid
  simp only [rdA_apply, cols_apply, Nat.add_assoc]

/-- The stores of the hidden units. -/
def hidL (q : Blk) : List (View.Piece (Elt Ideal) S512x2816 .bf16) :=
  [⟨rectT 1 10, tile q 1 10⟩,
   ⟨rectT 1 9, tile q 1 9⟩,
   ⟨rectT 1 8, tile q 1 8⟩,
   ⟨rectT 1 7, tile q 1 7⟩,
   ⟨rectT 1 6, tile q 1 6⟩,
   ⟨rectT 1 5, tile q 1 5⟩,
   ⟨rectT 1 4, tile q 1 4⟩,
   ⟨rectT 1 3, tile q 1 3⟩,
   ⟨rectT 1 2, tile q 1 2⟩,
   ⟨rectT 1 1, tile q 1 1⟩,
   ⟨rectT 1 0, tile q 1 0⟩,
   ⟨rectT 0 10, tile q 0 10⟩,
   ⟨rectT 0 9, tile q 0 9⟩,
   ⟨rectT 0 8, tile q 0 8⟩,
   ⟨rectT 0 7, tile q 0 7⟩,
   ⟨rectT 0 6, tile q 0 6⟩,
   ⟨rectT 0 5, tile q 0 5⟩,
   ⟨rectT 0 4, tile q 0 4⟩,
   ⟨rectT 0 3, tile q 0 3⟩,
   ⟨rectT 0 2, tile q 0 2⟩,
   ⟨rectT 0 1, tile q 0 1⟩,
   ⟨rectT 0 0, tile q 0 0⟩]

theorem canon_hidL (q : Blk) (ρ : Fin 512) (ν : Fin 2816) : View.canon (hidL q) (ix2 ρ ν) = hidAt q ρ ν := by
  refine View.canon_apply_of_pieces (fun y : S512x2816.Idx => hidAt q (y 0) (y 1)) _ (fun p hp x => ?_) (ix2 ρ ν)
    (View.cover_of_tiledL (hidL q) S256x256.size (by sl_kernel_rfl) _)
  have key : ∀ (r : Fin 2) (j : Fin 11) (x : S256x256.Idx), tile q r j x = hidAt q ((rectT r j).emb x 0) ((rectT r j).emb x 1) := by
    intro r j x
    obtain ⟨i, n, rfl⟩ : ∃ (i n : Fin 256), x = ix2 i n := ⟨x 0, x 1, ValueIdx.eq_ix2 x⟩
    rw [tile_apply]
    refine congrArg₂ (hidAt q) (Fin.ext ?_) (Fin.ext ?_)
    · show 256 * r.val + i.val = 256 * r.val + 1 * i.val; omega
    · show 256 * j.val + n.val = 256 * j.val + 1 * n.val; omega
  simp only [hidL, List.mem_cons, List.not_mem_nil, or_false] at hp
  rcases hp with rfl | rfl | rfl | rfl | rfl | rfl | rfl | rfl | rfl | rfl | rfl | rfl | rfl | rfl | rfl | rfl | rfl | rfl | rfl | rfl | rfl | rfl
  all_goals exact key _ _ x

/-- A part of the hidden units, read back. -/
def rdH (q : Blk) (r : Fin 2) : Vec Ideal S256x2816 .bf16 := q.a12.view.readCov (hidL q) (rectH r).toLoadRect

theorem rdH_apply (q : Blk) (r : Fin 2) (i : Fin 256) (j : Fin 2816) :
    rdH q r (ix2 i j) = hidAt q ⟨256 * r.val + i.val, by omega⟩ j := by
  rw [← canon_hidL]
  unfold rdH
  rw [View.readCov_eq_canon']
  refine congrArg (View.canon (hidL q)) (funext fun e => ?_)
  fin_cases e
  · exact Fin.ext (show 256 * r.val + 1 * i.val = 256 * r.val + i.val by omega)
  · exact Fin.ext (show 0 + 1 * j.val = j.val by omega)

/-- The last store of a part of the rows, over given stores. -/
def outT (q : Blk) (L : List (View.Piece (Elt Ideal) S1x512x1024 .f32)) (r : Fin 2) : FVec Ideal S1x256x1024 .f32 :=
  topT (rdO q L r) (rdH q r) (wDown q)

theorem outT_apply (q : Blk) (L : List (View.Piece (Elt Ideal) S1x512x1024 .f32)) (r : Fin 2) (i : Fin 256) (n : Fin 1024)
    (hL : ∀ n, View.canon L (ix3 0 ⟨256 * r.val + i.val, by omega⟩ n) = midAt q ⟨256 * r.val + i.val, by omega⟩ n) :
    outT q L r (ix3 0 i n) = outAt q ⟨256 * r.val + i.val, by omega⟩ n := by
  unfold outT
  rw [topT_apply, wDown_eq]
  unfold outAt
  simp only [rdO_apply, rdH_apply, hL]
  rfl

def outL0 (q : Blk) : List (View.Piece (Elt Ideal) S1x512x1024 .f32) := ⟨rectO 0, outT q (midL q) 0⟩ :: midL q
def outL1 (q : Blk) : List (View.Piece (Elt Ideal) S1x512x1024 .f32) := ⟨rectO 1, outT q (outL0 q) 1⟩ :: outL0 q

theorem before0 (q : Blk) (i : Fin 256) (n : Fin 1024) :
    View.canon (midL q) (ix3 0 ⟨256 * (0 : Fin 2).val + i.val, by have := i.isLt; simp; omega⟩ n) = midAt q ⟨256 * (0 : Fin 2).val + i.val, by have := i.isLt; simp; omega⟩ n :=
  canon_midL q 0 i n

theorem before1 (q : Blk) (i : Fin 256) (n : Fin 1024) :
    View.canon (outL0 q) (ix3 0 ⟨256 * (1 : Fin 2).val + i.val, by have := i.isLt; simp; omega⟩ n) = midAt q ⟨256 * (1 : Fin 2).val + i.val, by have := i.isLt; simp; omega⟩ n :=
  (rows3_miss _ _ _ _ _ (by right; simp; try omega)).trans (canon_midL q 1 i n)

theorem canon_out (q : Blk) (r : Fin 2) (i : Fin 256) (n : Fin 1024) :
    View.canon (outL1 q) (ix3 0 ⟨256 * r.val + i.val, by omega⟩ n) = outAt q ⟨256 * r.val + i.val, by omega⟩ n := by
  have hi := i.isLt
  fin_cases r
  · exact (rows3_miss _ _ _ _ _ (by left; simp; try omega)).trans ((rows3_hit _ _ _ i n _ rfl).trans (outT_apply q (midL q) 0 i n (before0 q i)))
  · exact (rows3_hit _ _ _ i n _ rfl).trans (outT_apply q (outL0 q) 1 i n (before1 q i))

/-- The body's stores are these. -/
theorem run_eq (c : Dev nD) (i : grid0.Coords) (q : Blk) :
    (kernelRun0_A (F := Ideal) c i q.a2 q.h2 q.a3 q.h3 q.a4 q.h4 q.a5 q.h5 q.a6 q.h6 q.a7 q.h7 q.a8 q.h8 q.a9 q.h9 q.a10 q.h10 q.a11 q.h11 q.a12 q.h12 q.x0 q.x1 q.x2 q.x3 q.x4 q.x5 q.x6 q.x7).1 = outL1 q := rfl

theorem block (c : Dev nD) (i : grid0.Coords) (q : Blk) (ρ : Fin 512) (n : Fin 1024) :
    out0_A_8 (F := Ideal) c i q.a2 q.h2 q.a3 q.h3 q.a4 q.h4 q.a5 q.h5 q.a6 q.h6 q.a7 q.h7 q.a8 q.h8 q.a9 q.h9 q.a10 q.h10 q.a11 q.h11 q.a12 q.h12 q.x0 q.x1 q.x2 q.x3 q.x4 q.x5 q.x6 q.x7 (ix3 0 ρ n) = outAt q ρ n := by
  unfold out0_A_8
  rw [View.read_writes_junk_eq_canon, run_eq]
  have h := ρ.isLt
  refine (congrArg (fun ρ => View.canon (outL1 q) (ix3 0 ρ n)) (Fin.ext (show ρ.val = 256 * (ρ.val / 256) + ρ.val % 256 by omega))).trans
    ((canon_out q ⟨ρ.val / 256, by omega⟩ ⟨ρ.val % 256, by omega⟩ n).trans ?_)
  exact congrArg (fun ρ => outAt q ρ n) (Fin.ext (show 256 * (ρ.val / 256) + ρ.val % 256 = ρ.val by omega))

end Cert.MlstmTail

end
-- ==== Proof.MlstmTailArr.lean ====
module

public import proofs.«01_k».proof.Proof.MlstmTail
public import Idealize.ShloMosaic.Lib.StableHlo.RunRead

@[expose] public section

set_option maxRecDepth 16384

noncomputable section

namespace Cert.MlstmTail

open Cert.Kernel2Ideal Cert.Kernel2Ideal.Gen Cert.Tail
open Idealize.ShloMosaic Idealize.ShloMosaic.TcCoe
open Idealize.ShloMosaic.Pipeline (Window)

/-! ## The result, from the arguments' arrays -/

/-- One entry of the result: position `s` of sequence `b`, component `n`. -/
def resAt (hs : FVec Ideal S2x8192x1024 .f32) (og : FVec Ideal S2x8192x1024 .bf16) (hw : FVec Ideal S1024 .f32) (x : FVec Ideal S2x8192x1024 .f32) (W : FVec Ideal S2x1024x1024 .f32) (nw : FVec Ideal S1024 .f32) (wi : FVec Ideal S1024x5632 .bf16) (wo : FVec Ideal S2816x1024 .bf16) (b : Fin 2) (s : Fin 8192) (n : Fin 1024) : EReal :=
  layer (heads (fun k => hs (ix3 b s k)) (fun k => hw (ix1 k)) (fun k => og (ix3 b s k))) (fun k => x (ix3 b s k)) (fun k => nw (ix1 k)) (fun k n => W (ix3 0 k n)) (fun k j => wi (ix2 k j)) (fun j n => wo (ix2 j n)) n

variable (m : (ℓ : Loc nD τ sig) → Buf (Elt Ideal) ℓ)

/-! ## The arguments' arrays -/

abbrev arg0 (c : Dev nD) : FVec Ideal S2x8192x1024 .f32 := m ((c : Thread nD τ).loc main_arg0)
abbrev arg1 (c : Dev nD) : FVec Ideal S2x8192x1024 .bf16 := m ((c : Thread nD τ).loc main_arg1)
abbrev arg2 (c : Dev nD) : FVec Ideal S1024 .f32 := m ((c : Thread nD τ).loc main_arg2)
abbrev arg3 (c : Dev nD) : FVec Ideal S2x8192x1024 .f32 := m ((c : Thread nD τ).loc main_arg3)
abbrev arg4 (c : Dev nD) : FVec Ideal S2x1024x1024 .f32 := m ((c : Thread nD τ).loc main_arg4)
abbrev arg5 (c : Dev nD) : FVec Ideal S1024 .f32 := m ((c : Thread nD τ).loc main_arg5)
abbrev arg6 (c : Dev nD) : FVec Ideal S1024x5632 .bf16 := m ((c : Thread nD τ).loc main_arg6)
abbrev arg7 (c : Dev nD) : FVec Ideal S2816x1024 .bf16 := m ((c : Thread nD τ).loc main_arg7)

/-- The sequence of a point. -/
abbrev seqOf (t : Fin cfg0.N) : Fin 2 := ⟨(grid0.coords t 0).val, (grid0.coords t 0).isLt⟩
theorem chunk_lt (t : Fin cfg0.N) : (grid0.coords t 1).val < 16 := (grid0.coords t 1).isLt
/-- The position of a point's row. -/
abbrev posOf (t : Fin cfg0.N) (ρ : Fin 512) : Fin 8192 := ⟨512 * (grid0.coords t 1).val + ρ.val, by have := chunk_lt t; omega⟩

theorem index0 : ∀ t : Fin grid0.N, win0_0.index t = ![(grid0.coords t 0).val, (grid0.coords t 1).val, 0] := by decide +kernel
theorem blk0 (c : Dev nD) (t : Fin cfg0.N) (ρ : Fin 512) (k : Fin 1024) : iblk m c 0 t (ix3 0 ρ k) = arg0 m c (ix3 (seqOf t) (posOf t ρ) k) := by
  show V m c main_arg0 ((win0_0.rect t).emb (ix3 0 ρ k)) = _
  rw [V_main_arg0]
  refine congrArg (arg0 m c) (funext fun a => ?_)
  fin_cases a <;> refine Fin.ext ?_ <;> refine (Window.rect_emb_val win0_0 t _ _).trans ?_ <;> rw [index0]
  · show (grid0.coords t 0).val * 1 + 0 = (grid0.coords t 0).val; omega
  · show (grid0.coords t 1).val * 512 + ρ.val = 512 * (grid0.coords t 1).val + ρ.val; omega
  · show 0 * 1024 + k.val = k.val; omega

theorem index1 : ∀ t : Fin grid0.N, win0_1.index t = ![(grid0.coords t 0).val, (grid0.coords t 1).val, 0] := by decide +kernel
theorem blk1 (c : Dev nD) (t : Fin cfg0.N) (ρ : Fin 512) (k : Fin 1024) : iblk m c 1 t (ix3 0 ρ k) = arg1 m c (ix3 (seqOf t) (posOf t ρ) k) := by
  show V m c main_arg1 ((win0_1.rect t).emb (ix3 0 ρ k)) = _
  rw [V_main_arg1]
  refine congrArg (arg1 m c) (funext fun a => ?_)
  fin_cases a <;> refine Fin.ext ?_ <;> refine (Window.rect_emb_val win0_1 t _ _).trans ?_ <;> rw [index1]
  · show (grid0.coords t 0).val * 1 + 0 = (grid0.coords t 0).val; omega
  · show (grid0.coords t 1).val * 512 + ρ.val = 512 * (grid0.coords t 1).val + ρ.val; omega
  · show 0 * 1024 + k.val = k.val; omega

theorem index2 : ∀ t : Fin grid0.N, win0_2.index t = ![0, 0] := by decide +kernel
/-- The vector as the host lays it out. -/
theorem host2 (c : Dev nD) : V m c main_v1 = shapeCast S1x1024 (arg2 m c) shapeCasts_S1024_S1x1024 := by
  rfl
theorem blk2 (c : Dev nD) (t : Fin cfg0.N) (k : Fin 1024) : iblk m c 2 t (ix2 0 k) = arg2 m c (ix1 k) := by
  have e : iblk m c 2 t (ix2 0 k) = V m c main_v1 (ix2 0 k) := by
    show V m c main_v1 ((win0_2.rect t).emb (ix2 0 k)) = _
    refine congrArg (V m c main_v1) (funext fun a => ?_)
    fin_cases a <;> refine Fin.ext ?_ <;> refine (Window.rect_emb_val win0_2 t _ _).trans ?_ <;> rw [index2]
    · show 0 * 1 + 0 = 0; omega
    · show 0 * 1024 + k.val = k.val; omega
  rw [e, host2]
  pointwise []

theorem index3 : ∀ t : Fin grid0.N, win0_3.index t = ![(grid0.coords t 0).val, (grid0.coords t 1).val, 0] := by decide +kernel
theorem blk3 (c : Dev nD) (t : Fin cfg0.N) (ρ : Fin 512) (k : Fin 1024) : iblk m c 3 t (ix3 0 ρ k) = arg3 m c (ix3 (seqOf t) (posOf t ρ) k) := by
  show V m c main_arg3 ((win0_3.rect t).emb (ix3 0 ρ k)) = _
  rw [V_main_arg3]
  refine congrArg (arg3 m c) (funext fun a => ?_)
  fin_cases a <;> refine Fin.ext ?_ <;> refine (Window.rect_emb_val win0_3 t _ _).trans ?_ <;> rw [index3]
  · show (grid0.coords t 0).val * 1 + 0 = (grid0.coords t 0).val; omega
  · show (grid0.coords t 1).val * 512 + ρ.val = 512 * (grid0.coords t 1).val + ρ.val; omega
  · show 0 * 1024 + k.val = k.val; omega

theorem index4 : ∀ t : Fin grid0.N, win0_4.index t = ![0, 0, 0] := by decide +kernel
/-- The projection's weights as the host casts them. -/
theorem host4 (c : Dev nD) : V m c main_v0 = truncf .bf16 (arg4 m c) bitsLt_bf16_f32 := by
  rfl
theorem blk4 (c : Dev nD) (t : Fin cfg0.N) (r k : Fin 1024) : iblk m c 4 t (ix3 0 r k) = arg4 m c (ix3 0 r k) := by
  have e : iblk m c 4 t (ix3 0 r k) = V m c main_v0 (ix3 0 r k) := by
    show V m c main_v0 ((win0_4.rect t).emb (ix3 0 r k)) = _
    refine congrArg (V m c main_v0) (funext fun a => ?_)
    fin_cases a <;> refine Fin.ext ?_ <;> refine (Window.rect_emb_val win0_4 t _ _).trans ?_ <;> rw [index4]
    · rfl
    · show 0 * 1024 + r.val = r.val; omega
    · show 0 * 1024 + k.val = k.val; omega
  rw [e, host4]
  rfl

theorem index5 : ∀ t : Fin grid0.N, win0_5.index t = ![0, 0] := by decide +kernel
/-- The vector as the host lays it out. -/
theorem host5 (c : Dev nD) : V m c main_v2 = shapeCast S1x1024 (arg5 m c) shapeCasts_S1024_S1x1024 := by
  rfl
theorem blk5 (c : Dev nD) (t : Fin cfg0.N) (k : Fin 1024) : iblk m c 5 t (ix2 0 k) = arg5 m c (ix1 k) := by
  have e : iblk m c 5 t (ix2 0 k) = V m c main_v2 (ix2 0 k) := by
    show V m c main_v2 ((win0_5.rect t).emb (ix2 0 k)) = _
    refine congrArg (V m c main_v2) (funext fun a => ?_)
    fin_cases a <;> refine Fin.ext ?_ <;> refine (Window.rect_emb_val win0_5 t _ _).trans ?_ <;> rw [index5]
    · show 0 * 1 + 0 = 0; omega
    · show 0 * 1024 + k.val = k.val; omega
  rw [e, host5]
  pointwise []

theorem index6 : ∀ t : Fin grid0.N, win0_6.index t = ![0, 0] := by decide +kernel
theorem blk6 (c : Dev nD) (t : Fin cfg0.N) (r : Fin 1024) (k : Fin 5632) : iblk m c 6 t (ix2 r k) = arg6 m c (ix2 r k) := by
  show V m c main_arg6 ((win0_6.rect t).emb (ix2 r k)) = _
  rw [V_main_arg6]
  refine congrArg (arg6 m c) (funext fun a => ?_)
  fin_cases a <;> refine Fin.ext ?_ <;> refine (Window.rect_emb_val win0_6 t _ _).trans ?_ <;> rw [index6]
  · show 0 * 1024 + r.val = r.val; omega
  · show 0 * 5632 + k.val = k.val; omega

theorem index7 : ∀ t : Fin grid0.N, win0_7.index t = ![0, 0] := by decide +kernel
theorem blk7 (c : Dev nD) (t : Fin cfg0.N) (r : Fin 2816) (k : Fin 1024) : iblk m c 7 t (ix2 r k) = arg7 m c (ix2 r k) := by
  show V m c main_arg7 ((win0_7.rect t).emb (ix2 r k)) = _
  rw [V_main_arg7]
  refine congrArg (arg7 m c) (funext fun a => ?_)
  fin_cases a <;> refine Fin.ext ?_ <;> refine (Window.rect_emb_val win0_7 t _ _).trans ?_ <;> rw [index7]
  · show 0 * 2816 + r.val = r.val; omega
  · show 0 * 1024 + k.val = k.val; omega

/-- A point's buffers and input blocks. -/
def ptBlk (c : Dev nD) (t : Fin cfg0.N) : Blk :=
  { a2 := ms0_0 t, h2 := hs0_0 t, a3 := ms0_1 t, h3 := hs0_1 t, a4 := ms0_2 t, h4 := hs0_2 t, a5 := ms0_3 t, h5 := hs0_3 t, a6 := ms0_4 t, h6 := hs0_4 t, a7 := ms0_5 t, h7 := hs0_5 t, a8 := ms0_6 t, h8 := hs0_6 t, a9 := ms0_7 t, h9 := hs0_7 t, a10 := ms0_8 t, h10 := hs0_8 t, a11 := scM0_0, h11 := Memref.isWhole_whole _, a12 := scM0_1, h12 := Memref.isWhole_whole _, x0 := iblk m c 0 t, x1 := iblk m c 1 t, x2 := iblk m c 2 t, x3 := iblk m c 3 t, x4 := iblk m c 4 t, x5 := iblk m c 5 t, x6 := iblk m c 6 t, x7 := iblk m c 7 t }

theorem outAt_eq (c : Dev nD) (t : Fin cfg0.N) (ρ : Fin 512) (n : Fin 1024) :
    outAt (ptBlk m c t) ρ n = resAt (arg0 m c) (arg1 m c) (arg2 m c) (arg3 m c) (arg4 m c) (arg5 m c) (arg6 m c) (arg7 m c) (seqOf t) (posOf t ρ) n := by
  unfold outAt sumAt hidAt nrmAt midAt resAt layer
  dsimp only [ptBlk]
  simp only [blk0, blk1, blk2, blk3, blk4, blk5, blk6, blk7]

theorem flushed_apply (c : Dev nD) (t : Fin cfg0.N) (ρ : Fin 512) (n : Fin 1024) :
    (dats m 0 c).flushed 8 t (ix3 0 ρ n) = resAt (arg0 m c) (arg1 m c) (arg2 m c) (arg3 m c) (arg4 m c) (arg5 m c) (arg6 m c) (arg7 m c) (seqOf t) (posOf t ρ) n := by
  rw [Value.flushed8_A]
  exact (block c (grid0.coords t) (ptBlk m c t) ρ n).trans (outAt_eq m c t ρ n)

/-- The result's array. -/
def res (c : Dev nD) : Buf (Elt Ideal) ((c : Thread nD τ).loc main_v3) := fun y : S2x8192x1024.Idx =>
  resAt (arg0 m c) (arg1 m c) (arg2 m c) (arg3 m c) (arg4 m c) (arg5 m c) (arg6 m c) (arg7 m c) (y 0) (y 1) (y 2)

theorem index8 : ∀ t : Fin grid0.N, win0_8.index t = ![(grid0.coords t 0).val, (grid0.coords t 1).val, 0] := by decide +kernel
theorem flush8 : ∀ t : Fin grid0.N, win0_8.flush t = true := by decide +kernel

theorem embOut (t : Fin cfg0.N) (ρ : Fin 512) (n : Fin 1024) : (win0_8.rect t).emb (ix3 0 ρ n) = ix3 (seqOf t) (posOf t ρ) n := by
  funext a
  fin_cases a <;> refine Fin.ext ?_ <;> refine (Window.rect_emb_val win0_8 t _ _).trans ?_ <;> rw [index8]
  · show (grid0.coords t 0).val * 1 + 0 = (grid0.coords t 0).val; omega
  · show (grid0.coords t 1).val * 512 + ρ.val = 512 * (grid0.coords t 1).val + ρ.val; omega
  · show 0 * 1024 + n.val = n.val; omega

theorem result (c : Dev nD) : (dats m 0 c).arrAt 8 cfg0.N = res m c := by
  refine (dats m 0 c).arrAt_eq_of_cover 8 (res m c) (fun t _ => ?_) (fun i => ?_)
  · funext y
    obtain ⟨b, ρ, n, rfl⟩ : ∃ (b : Fin 1) (ρ : Fin 512) (n : Fin 1024), y = ix3 b ρ n := ⟨y 0, y 1, y 2, ValueIdx.eq_ix3 y⟩
    obtain rfl : b = 0 := Subsingleton.elim _ _
    refine (flushed_apply m c t ρ n).trans ?_
    refine Eq.trans ?_ (show res m c ((win0_8.rect t).emb (ix3 0 ρ n)) = _ from rfl)
    rw [embOut]; rfl
  · obtain ⟨b, s, n, rfl⟩ : ∃ (b : Fin 2) (s : Fin 8192) (n : Fin 1024), i = ix3 b s n := ⟨i 0, i 1, i 2, ValueIdx.eq_ix3 i⟩
    have key : ∀ (p : Fin 2) (q : Fin 16), ∃ t : Fin grid0.N, (grid0.coords t 0).val = p.val ∧ (grid0.coords t 1).val = q.val := by decide +kernel
    obtain ⟨t, ht0, ht1⟩ := key b ⟨s.val / 512, by omega⟩
    refine ⟨t, flush8 t, ?_⟩
    have e : ix3 b s n = (win0_8.rect t).emb (ix3 (0 : Fin 1) (⟨s.val % 512, by omega⟩ : Fin 512) n) := by
      rw [embOut]
      refine congrArg₂ (fun b s => ix3 b s n) (Fin.ext ht0.symm) (Fin.ext ?_)
      show s.val = 512 * (grid0.coords t 1).val + s.val % 512
      rw [ht1]; show s.val = 512 * (s.val / 512) + s.val % 512; omega
    rw [e]
    exact View.emb_mem_set _ _

end Cert.MlstmTail

end
-- ==== Proof.MlstmTailRef.lean ====
module

public import proofs.«01_k».proof.Proof.MlstmTailArr
public import proofs.«01_k».proof.Proof.Gen.Reference2Ideal.Run
public import proofs.«01_k».proof.Proof.Gen.Reference2Ideal.Read
public import Idealize.ShloMosaic.Lib.KernelVsHost

@[expose] public section

set_option maxRecDepth 16384

/-! The reference's values, read off its operations. -/

noncomputable section

namespace Cert.MlstmTailRef

open Cert.Reference2Ideal Cert.Reference2Ideal.Gen Cert.Reference2Ideal.Read Cert.Tail
open Idealize.ShloMosaic Idealize.ShloMosaic.TcCoe

variable (x0 : FVec Ideal S2x8192x1024 .f32) (x1 : FVec Ideal S2x8192x1024 .bf16) (x2 : FVec Ideal S1024 .f32) (x3 : FVec Ideal S2x8192x1024 .f32) (x4 : FVec Ideal S2x1024x1024 .f32) (x5 : FVec Ideal S1024 .f32) (x6 : FVec Ideal S1024x5632 .bf16) (x7 : FVec Ideal S2816x1024 .bf16)

theorem row (b : Fin 2) (s : Fin 8192) (h : Fin 4) (e : Fin 256) :
    val_main_v0 (F := Ideal) x0 (ix4 b s h e) = x0 (ix3 b s ⟨256 * h.val + e.val, by omega⟩) := by
  rw [val_main_v0_apply]
  refine congrArg x0 (funext fun a => ?_)
  fin_cases a <;> refine Fin.ext ?_
  · show (((b.val * 8192 + s.val) * 4 + h.val) * 256 + e.val) / 8388608 = b.val; omega
  · show (((b.val * 8192 + s.val) * 4 + h.val) * 256 + e.val) / 1024 % 8192 = s.val; omega
  · show (((b.val * 8192 + s.val) * 4 + h.val) * 256 + e.val) % 1024 = 256 * h.val + e.val; omega

theorem head (b : Fin 2) (s : Fin 8192) (h : Fin 4) (e : Fin 256) :
    val_main_v10 (F := Ideal) x0 (ix4 b s h e)
      = x0 (ix3 b s ⟨256 * h.val + e.val, by omega⟩) * rms n256 (fun e : Fin 256 => x0 (ix3 b s ⟨256 * h.val + e.val, by omega⟩)) := by
  rw [val_main_v10_apply, row, val_main_v9_apply, val_main_v8_apply, val_main_v7_apply, val_main_v5_apply, val_main_v3_apply, val_main_v2_apply,
    val_main_v4_apply, val_main_v6_apply]
  unfold rms
  refine congrArg (x0 (ix3 b s ⟨256 * h.val + e.val, by omega⟩) * ·) (congrArg (fun z => Ideal.rsqrt (Ideal.div z n256 + eps)) ?_)
  refine (congrArg₂ (· + ·) zero_bits (Finset.sum_congr rfl fun k _ => ?_)).trans (zero_add _)
  rw [val_main_v1_apply, show idx_main_v2 _ k = ix4 b s h k from funext fun a => by fin_cases a <;> rfl, row]
  rfl

theorem mixed (b : Fin 2) (s : Fin 8192) (k : Fin 1024) :
    val_main_v16 (F := Ideal) x0 x1 x2 (ix3 b s k)
      = heads (fun k => x0 (ix3 b s k)) (fun k => x2 (ix1 k)) (fun k => x1 (ix3 b s k)) k := by
  have e11 : idx_main_v11 (ix3 b s k) = ix4 b s ⟨k.val / 256, by omega⟩ ⟨k.val % 256, by omega⟩ := by
    funext a
    fin_cases a <;> refine Fin.ext ?_
    · show ((b.val * 8192 + s.val) * 1024 + k.val) / 8388608 = b.val; omega
    · show ((b.val * 8192 + s.val) * 1024 + k.val) / 1024 % 8192 = s.val; omega
    · show ((b.val * 8192 + s.val) * 1024 + k.val) / 256 % 4 = k.val / 256; omega
    · show ((b.val * 8192 + s.val) * 1024 + k.val) % 256 = k.val % 256; omega
  rw [val_main_v16_apply, val_main_v14_apply, val_main_v11_apply, e11, head, val_main_v13_apply, val_main_v12_apply, val_main_v15_apply]
  unfold heads
  have ek : (⟨256 * (k.val / 256) + k.val % 256, by omega⟩ : Fin 1024) = k := Fin.ext (by simp only []; omega)
  simp only [ek]
  refine congrArg (fun i => x0 (ix3 b s k) * rms n256 (fun e : Fin 256 => x0 (ix3 b s ⟨256 * (k.val / 256) + e.val, by omega⟩)) * x2 i * x1 (ix3 b s k)) ?_
  funext a; fin_cases a; rfl

theorem weights (k n : Fin 1024) : val_main_v18 (F := Ideal) x4 (ix2 k n) = x4 (ix3 0 k n) := by
  rw [val_main_v18_apply, val_main_v17_apply]
  refine congrArg x4 (funext fun a => ?_)
  fin_cases a <;> refine Fin.ext ?_
  · rfl
  · show (k.val * 1024 + n.val) / 1024 % 1024 = k.val; omega
  · show (k.val * 1024 + n.val) % 1024 = n.val; omega

theorem middle (b : Fin 2) (s : Fin 8192) (n : Fin 1024) :
    val_main_v20 (F := Ideal) x0 x1 x2 x3 x4 (ix3 b s n)
      = mid (heads (fun k => x0 (ix3 b s k)) (fun k => x2 (ix1 k)) (fun k => x1 (ix3 b s k))) (fun k => x3 (ix3 b s k)) (fun k n => x4 (ix3 0 k n)) n := by
  rw [val_main_v20_apply, val_main_v19_apply]
  unfold mid
  refine congrArg (x3 (ix3 b s n) + ·) (Finset.sum_congr rfl fun k _ => ?_)
  rw [show lidx_main_v19 (ix3 b s n) k = ix3 b s k from funext fun a => by fin_cases a <;> rfl,
    show ridx_main_v19 (ix3 b s n) k = ix2 k n from funext fun a => by fin_cases a <;> rfl, weights]
  rw [mixed]

theorem normed (b : Fin 2) (s : Fin 8192) (n : Fin 1024) :
    val_main_v33 (F := Ideal) x0 x1 x2 x3 x4 x5 (ix3 b s n)
      = nrm (fun n => val_main_v20 (F := Ideal) x0 x1 x2 x3 x4 (ix3 b s n)) (fun k => x5 (ix1 k)) n := by
  rw [val_main_v33_apply, val_main_v30_apply, val_main_v29_apply, val_main_v28_apply, val_main_v27_apply, val_main_v25_apply, val_main_v23_apply, val_main_v22_apply, val_main_v24_apply, val_main_v26_apply, val_main_v32_apply, val_main_v31_apply]
  unfold nrm rms
  refine congrArg₂ (· * ·) (congrArg (val_main_v20 (F := Ideal) x0 x1 x2 x3 x4 (ix3 b s n) * ·) (congrArg (fun z => Ideal.rsqrt (Ideal.div z n1024 + eps)) ?_)) ?_
  · refine (congrArg₂ (· + ·) zero_bits (Finset.sum_congr rfl fun k _ => ?_)).trans (zero_add _)
    rw [val_main_v21_apply, show idx_main_v22 _ k = ix3 b s k from funext fun a => by fin_cases a <;> rfl]
    rfl
  · exact congrArg x5 (funext fun a => by fin_cases a; rfl)

theorem hidden_in (b : Fin 2) (s : Fin 8192) (j : Fin 5632) :
    val_main_v36 (F := Ideal) x0 x1 x2 x3 x4 x5 x6 (ix3 b s j) = ∑ k, val_main_v33 (F := Ideal) x0 x1 x2 x3 x4 x5 (ix3 b s k) * x6 (ix2 k j) := by
  rw [val_main_v36_apply]
  refine Finset.sum_congr rfl fun k _ => ?_
  rw [show lidx_main_v36 (ix3 b s j) k = ix3 b s k from funext fun a => by fin_cases a <;> rfl,
    show ridx_main_v36 (ix3 b s j) k = ix2 k j from funext fun a => by fin_cases a <;> rfl]
  rfl

theorem hidden (b : Fin 2) (s : Fin 8192) (j : Fin 2816) :
    val_main_v40 (F := Ideal) x0 x1 x2 x3 x4 x5 x6 (ix3 b s j)
      = hid (fun k => val_main_v33 (F := Ideal) x0 x1 x2 x3 x4 x5 (ix3 b s k)) (fun k j => x6 (ix2 k j)) j := by
  have e1 : val_main_v37 (F := Ideal) x0 x1 x2 x3 x4 x5 x6 (ix3 b s j) = ∑ k, val_main_v33 (F := Ideal) x0 x1 x2 x3 x4 x5 (ix3 b s k) * x6 (ix2 k ⟨j.val, by omega⟩) := by
    rw [val_main_v37_apply, ← hidden_in]
    exact congrArg _ (funext fun a => by fin_cases a <;> rfl)
  have e2 : val_main_v38 (F := Ideal) x0 x1 x2 x3 x4 x5 x6 (ix3 b s j) = ∑ k, val_main_v33 (F := Ideal) x0 x1 x2 x3 x4 x5 (ix3 b s k) * x6 (ix2 k ⟨2816 + j.val, by omega⟩) := by
    rw [val_main_v38_apply, ← hidden_in]
    exact congrArg _ (funext fun a => by fin_cases a <;> rfl)
  rw [val_main_v40_apply, val_main_v39_apply, val_main_call0_v5_apply, val_main_call0_v4_apply, val_main_call0_v3_apply, val_main_call0_v2_apply,
    val_main_call0_v1_apply, val_main_call0_v0_apply, e1, e2]
  unfold hid act
  generalize (∑ k, val_main_v33 (F := Ideal) x0 x1 x2 x3 x4 x5 (ix3 b s k) * x6 (ix2 k ⟨j.val, by omega⟩)) = g
  generalize (∑ k, val_main_v33 (F := Ideal) x0 x1 x2 x3 x4 x5 (ix3 b s k) * x6 (ix2 k ⟨2816 + j.val, by omega⟩)) = u
  show g * Ideal.div (Ideal.ofBits .f32 0x3F800000#32) (Ideal.ofBits .f32 0x3F800000#32 + Ideal.exp (-g)) * u = _
  rw [one_bits, zero_sub]

theorem summed (b : Fin 2) (s : Fin 8192) (n : Fin 1024) :
    val_main_v42 (F := Ideal) x0 x1 x2 x3 x4 x5 x6 x7 (ix3 b s n)
      = layer (heads (fun k => x0 (ix3 b s k)) (fun k => x2 (ix1 k)) (fun k => x1 (ix3 b s k))) (fun k => x3 (ix3 b s k)) (fun k => x5 (ix1 k)) (fun k n => x4 (ix3 0 k n)) (fun k j => x6 (ix2 k j)) (fun j n => x7 (ix2 j n)) n := by
  rw [val_main_v42_apply, val_main_v41_apply, middle]
  unfold layer
  refine congrArg (mid (heads (fun k => x0 (ix3 b s k)) (fun k => x2 (ix1 k)) (fun k => x1 (ix3 b s k))) (fun k => x3 (ix3 b s k)) (fun k n => x4 (ix3 0 k n)) n + ·) (Finset.sum_congr rfl fun j _ => ?_)
  rw [show lidx_main_v41 (ix3 b s n) j = ix3 b s j from funext fun a => by fin_cases a <;> rfl,
    show ridx_main_v41 (ix3 b s n) j = ix2 j n from funext fun a => by fin_cases a <;> rfl, hidden]
  simp only [normed, middle]
  rfl

theorem result (y : S2x8192x1024.Idx) :
    val_main_v42 (F := Ideal) x0 x1 x2 x3 x4 x5 x6 x7 y = Cert.MlstmTail.resAt x0 x1 x2 x3 x4 x5 x6 x7 (y 0) (y 1) (y 2) := by
  obtain ⟨b, s, n, rfl⟩ : ∃ (b : Fin 2) (s : Fin 8192) (n : Fin 1024), y = ix3 b s n := ⟨y 0, y 1, y 2, ValueIdx.eq_ix3 y⟩
  refine (summed x0 x1 x2 x3 x4 x5 x6 x7 b s n).trans ?_
  rfl

end Cert.MlstmTailRef

end
-- ==== Proof.AttnTail.lean ====
module

public import proofs.«01_k».proof.Proof.Gen.Kernel3Ideal.Value
public import proofs.«01_k».proof.Proof.TailMath

@[expose] public section

set_option maxRecDepth 16384

noncomputable section

namespace Cert.AttnTail

open Cert.Kernel3Ideal Cert.Kernel3Ideal.Gen Cert.Tail
open Idealize.ShloMosaic Idealize.ShloMosaic.TcCoe

/-! ## What the body computes from what it reads -/

theorem readWhole {S : Shape} {e : EltTy} (m : Memref sig .tc .vmem S e) (h : m.IsWhole) (X : S.Idx → Elt Ideal e)
    {off : Fin S.rank → Nat} (h0 : off = fun _ => 0) (inb : ∀ a, off a + S.size a ≤ S.size a) :
    View.readAt (Elt Ideal) m.view (Rect.unit off S.size inb).toLoadRect (h.unread X) = X := by
  have e := View.ld_unit_zero (Val := Elt Ideal) h0 inb X
  refine Eq.trans ?_ e
  funext x
  rw [h.readAt_unread]

theorem zeros2 : (![0, 0] : Fin 2 → Nat) = fun _ => 0 := by funext a; fin_cases a <;> rfl
theorem zeros3 : (![0, 0, 0] : Fin 3 → Nat) = fun _ => 0 := by funext a; fin_cases a <;> rfl

/-- The rows after the projection and its residual. -/
def projT (a : FVec Ideal S1x256x1024 .bf16) (x : FVec Ideal S1x256x1024 .f32) (W : FVec Ideal S1x1024x1024 .bf16) : FVec Ideal S1x256x1024 .f32 :=
  k0_pay2 (F := Ideal) a x W

theorem projT_apply (a : FVec Ideal S1x256x1024 .bf16) (x : FVec Ideal S1x256x1024 .f32) (W : FVec Ideal S1x1024x1024 .bf16) (i : Fin 256) (n : Fin 1024) :
    projT a x W (ix3 0 i n) = mid (fun k => a (ix3 0 i k)) (fun k => x (ix3 0 i k)) (fun k n => W (ix3 0 k n)) n := by
  pointwise [projT, k0_pay2, mid]

/-- The rows normed. -/
def nrmT (v : FVec Ideal S1x256x1024 .f32) (w : FVec Ideal S1x1024 .f32) : FVec Ideal S256x1024 .bf16 := k0_pay17 (F := Ideal) v w

theorem nrmT_apply (v : FVec Ideal S1x256x1024 .f32) (w : FVec Ideal S1x1024 .f32) (i : Fin 256) (n : Fin 1024) :
    nrmT v w (ix2 i n) = nrm (fun k => v (ix3 0 i k)) (fun k => w (ix2 0 k)) n := by
  pointwise [nrmT, k0_pay17, nrm, rms, n1024, eps]

/-- A tile of the hidden units. -/
def hidT (v : FVec Ideal S256x1024 .bf16) (g u : FVec Ideal S1024x256 .bf16) : FVec Ideal S256x256 .bf16 := k0_pay21 (F := Ideal) v g u

theorem hidT_apply (v : FVec Ideal S256x1024 .bf16) (g u : FVec Ideal S1024x256 .bf16) (i n : Fin 256) :
    hidT v g u (ix2 i n) = act (∑ k, v (ix2 i k) * g (ix2 k n)) (∑ k, v (ix2 i k) * u (ix2 k n)) := by
  pointwise [hidT, k0_pay21, act]

/-- The rows with the feed-forward part. -/
def topT (v : FVec Ideal S1x256x1024 .f32) (a : FVec Ideal S256x2816 .bf16) (W : FVec Ideal S2816x1024 .bf16) : FVec Ideal S1x256x1024 .f32 :=
  k0_pay98 (F := Ideal) v a W

theorem topT_apply (v : FVec Ideal S1x256x1024 .f32) (a : FVec Ideal S256x2816 .bf16) (W : FVec Ideal S2816x1024 .bf16) (i : Fin 256) (n : Fin 1024) :
    topT v a W (ix3 0 i n) = v (ix3 0 i n) + ∑ j, a (ix2 i j) * W (ix2 j n) := by
  pointwise [topT, k0_pay98]

/-! ## What the body stores, from its input blocks -/

/-- A block's buffers and what its inputs hold. -/
structure Blk where
  a2 : Memref sig .tc .vmem S1x1024x1024 .bf16
  h2 : a2.IsWhole
  a3 : Memref sig .tc .vmem S1x1024x1024 .f32
  h3 : a3.IsWhole
  a4 : Memref sig .tc .vmem S1x1024x1024 .bf16
  h4 : a4.IsWhole
  a5 : Memref sig .tc .vmem S1x1024 .f32
  h5 : a5.IsWhole
  a6 : Memref sig .tc .vmem S1024x5632 .bf16
  h6 : a6.IsWhole
  a7 : Memref sig .tc .vmem S2816x1024 .bf16
  h7 : a7.IsWhole
  a8 : Memref sig .tc .vmem S1x1024x1024 .f32
  h8 : a8.IsWhole
  a9 : Memref sig .tc .vmem S1024x1024 .bf16
  h9 : a9.IsWhole
  a10 : Memref sig .tc .vmem S1024x2816 .bf16
  h10 : a10.IsWhole
  x0 : Vec Ideal S1x1024x1024 .bf16
  x1 : Vec Ideal S1x1024x1024 .f32
  x2 : Vec Ideal S1x1024x1024 .bf16
  x3 : Vec Ideal S1x1024 .f32
  x4 : Vec Ideal S1024x5632 .bf16
  x5 : Vec Ideal S2816x1024 .bf16

/-- A row after the projection and its residual. -/
def midAt (q : Blk) (ρ : Fin 1024) (n : Fin 1024) : EReal :=
  mid (fun k => q.x0 (ix3 0 ρ k)) (fun k => q.x1 (ix3 0 ρ k)) (fun k n => q.x2 (ix3 0 k n)) n
/-- The same row normed. -/
def nrmAt (q : Blk) (ρ : Fin 1024) : Fin 1024 → EReal := nrm (midAt q ρ) (fun k => q.x3 (ix2 0 k))
/-- Its hidden units. -/
def hidAt (q : Blk) (ρ : Fin 1024) (j : Fin 2816) : EReal := hid (nrmAt q ρ) (fun k j => q.x4 (ix2 k j)) j
/-- The row with the feed-forward part. -/
def sumAt (q : Blk) (ρ : Fin 1024) (n : Fin 1024) : EReal := midAt q ρ n + ∑ j, hidAt q ρ j * q.x5 (ix2 j n)
/-- The row as it is stored. -/
def outAt (q : Blk) (ρ : Fin 1024) (n : Fin 1024) : EReal := sumAt q ρ n

theorem inbO (r : Fin 4) : ∀ a : Fin 3, ![0, 256 * r.val, 0] a + S1x256x1024.size a ≤ S1x1024x1024.size a := by
  have := r.isLt
  intro a; fin_cases a <;> simp [S1x256x1024, S1x1024x1024] <;> omega
theorem inbA (r : Fin 4) : ∀ a : Fin 2, ![256 * r.val, 0] a + S256x1024.size a ≤ S1024x1024.size a := by
  have := r.isLt
  intro a; fin_cases a <;> simp [S256x1024, S1024x1024] <;> omega
theorem inbT (r : Fin 4) (j : Fin 11) : ∀ a : Fin 2, ![256 * r.val, 256 * j.val] a + S256x256.size a ≤ S1024x2816.size a := by
  have := r.isLt; have := j.isLt
  intro a; fin_cases a <;> simp [S256x256, S1024x2816] <;> omega
theorem inbH (r : Fin 4) : ∀ a : Fin 2, ![256 * r.val, 0] a + S256x2816.size a ≤ S1024x2816.size a := by
  have := r.isLt
  intro a; fin_cases a <;> simp [S256x2816, S1024x2816] <;> omega
theorem inbG (o : Nat) (h : o + 256 ≤ 5632) : ∀ a : Fin 2, ![0, o] a + S1024x256.size a ≤ S1024x5632.size a := by
  intro a; fin_cases a <;> simp [S1024x256, S1024x5632] <;> omega

/-- Rows of an input, read. -/
def rows {e : EltTy} (a : Memref sig .tc .vmem S1x1024x1024 e) (h : a.IsWhole) (x : Vec Ideal S1x1024x1024 e) (r : Fin 4) : Vec Ideal S1x256x1024 e :=
  View.readAt (Elt Ideal) a.view (Rect.unit (s := S1x1024x1024) ![0, 256 * r.val, 0] S1x256x1024.size (inbO r)).toLoadRect (h.unread x)

theorem rows_apply {e : EltTy} (a : Memref sig .tc .vmem S1x1024x1024 e) (h : a.IsWhole) (x : Vec Ideal S1x1024x1024 e) (r : Fin 4) (i : Fin 256) (n : Fin 1024) :
    rows a h x r (ix3 0 i n) = x (ix3 0 ⟨256 * r.val + i.val, by omega⟩ n) := by
  unfold rows
  rw [Memref.IsWhole.readAt_unread]
  refine congrArg x (funext fun e => ?_)
  fin_cases e
  · rfl
  · exact Fin.ext (show 256 * r.val + 1 * i.val = 256 * r.val + i.val by omega)
  · exact Fin.ext (show 0 + 1 * n.val = n.val by omega)

/-- A row vector, read. -/
def vec (a : Memref sig .tc .vmem S1x1024 .f32) (h : a.IsWhole) (x : Vec Ideal S1x1024 .f32) : Vec Ideal S1x1024 .f32 :=
  View.readAt (Elt Ideal) a.view (Rect.unit (s := S1x1024) ![0, 0] S1x1024.size inb_S1x1024_S1x1024_0_0).toLoadRect (h.unread x)
theorem vec_eq (a : Memref sig .tc .vmem S1x1024 .f32) (h : a.IsWhole) (x : Vec Ideal S1x1024 .f32) : vec a h x = x :=
  readWhole a h x zeros2 _

/-- The projection's weights, read. -/
def wOut (q : Blk) : Vec Ideal S1x1024x1024 .bf16 :=
  View.readAt (Elt Ideal) q.a4.view (Rect.unit (s := S1x1024x1024) ![0, 0, 0] S1x1024x1024.size inb_S1x1024x1024_S1x1024x1024_0_0_0).toLoadRect (q.h4.unread q.x2)
theorem wOut_eq (q : Blk) : wOut q = q.x2 := readWhole _ _ _ zeros3 _
/-- The feed-forward part's second weights, read. -/
def wDown (q : Blk) : Vec Ideal S2816x1024 .bf16 :=
  View.readAt (Elt Ideal) q.a7.view (Rect.unit (s := S2816x1024) ![0, 0] S2816x1024.size inb_S2816x1024_S2816x1024_0_0).toLoadRect (q.h7.unread q.x5)
theorem wDown_eq (q : Blk) : wDown q = q.x5 := readWhole _ _ _ zeros2 _

/-- Columns of the feed-forward part's first weights, read. -/
def cols (q : Blk) (o : Nat) (h : o + 256 ≤ 5632) : Vec Ideal S1024x256 .bf16 :=
  View.readAt (Elt Ideal) q.a6.view (Rect.unit (s := S1024x5632) ![0, o] S1024x256.size (inbG o h)).toLoadRect (q.h6.unread q.x4)

theorem cols_apply (q : Blk) (o : Nat) (h : o + 256 ≤ 5632) (k : Fin 1024) (n : Fin 256) :
    cols q o h (ix2 k n) = q.x4 (ix2 k ⟨o + n.val, by omega⟩) := by
  unfold cols
  rw [Memref.IsWhole.readAt_unread]
  refine congrArg q.x4 (funext fun e => ?_)
  fin_cases e
  · exact Fin.ext (show 0 + 1 * k.val = k.val by omega)
  · exact Fin.ext (show o + 1 * n.val = o + n.val by omega)

/-- The first store of a part of the rows. -/
def midT (q : Blk) (r : Fin 4) : FVec Ideal S1x256x1024 .f32 :=
  projT (rows q.a2 q.h2 q.x0 r) (rows q.a3 q.h3 q.x1 r) (wOut q)

theorem midT_apply (q : Blk) (r : Fin 4) (i : Fin 256) (n : Fin 1024) :
    midT q r (ix3 0 i n) = midAt q ⟨256 * r.val + i.val, by omega⟩ n := by
  unfold midT
  rw [projT_apply, wOut_eq]
  unfold midAt
  simp only [rows_apply]

def rectO (r : Fin 4) : Rect S1x1024x1024 := Rect.unit (s := S1x1024x1024) ![0, 256 * r.val, 0] S1x256x1024.size (inbO r)
def rectA (r : Fin 4) : Rect S1024x1024 := Rect.unit (s := S1024x1024) ![256 * r.val, 0] S256x1024.size (inbA r)
def rectT (r : Fin 4) (j : Fin 11) : Rect S1024x2816 := Rect.unit (s := S1024x2816) ![256 * r.val, 256 * j.val] S256x256.size (inbT r j)
def rectH (r : Fin 4) : Rect S1024x2816 := Rect.unit (s := S1024x2816) ![256 * r.val, 0] S256x2816.size (inbH r)

/-- The first stores into the output's buffer. -/
def midL (q : Blk) : List (View.Piece (Elt Ideal) S1x1024x1024 .f32) :=
  [⟨rectO 3, midT q 3⟩, ⟨rectO 2, midT q 2⟩, ⟨rectO 1, midT q 1⟩, ⟨rectO 0, midT q 0⟩]

theorem canon_midL (q : Blk) (r : Fin 4) (i : Fin 256) (n : Fin 1024) :
    View.canon (midL q) (ix3 0 ⟨256 * r.val + i.val, by omega⟩ n) = midAt q ⟨256 * r.val + i.val, by omega⟩ n := by
  rw [← midT_apply]
  have hi := i.isLt
  fin_cases r
  · exact (rows3_miss _ _ _ _ _ (by left; simp; try omega)).trans ((rows3_miss _ _ _ _ _ (by left; simp; try omega)).trans ((rows3_miss _ _ _ _ _ (by left; simp; try omega)).trans (rows3_hit _ _ _ i n _ rfl)))
  · exact (rows3_miss _ _ _ _ _ (by left; simp; try omega)).trans ((rows3_miss _ _ _ _ _ (by left; simp; try omega)).trans (rows3_hit _ _ _ i n _ rfl))
  · exact (rows3_miss _ _ _ _ _ (by left; simp; try omega)).trans (rows3_hit _ _ _ i n _ rfl)
  · exact rows3_hit _ _ _ i n _ rfl

/-- A part of the rows, read back over given stores. -/
def rdO (q : Blk) (L : List (View.Piece (Elt Ideal) S1x1024x1024 .f32)) (r : Fin 4) : Vec Ideal S1x256x1024 .f32 :=
  q.a8.view.readCov L (rectO r).toLoadRect

theorem rdO_apply (q : Blk) (L : List (View.Piece (Elt Ideal) S1x1024x1024 .f32)) (r : Fin 4) (i : Fin 256) (n : Fin 1024) :
    rdO q L r (ix3 0 i n) = View.canon L (ix3 0 ⟨256 * r.val + i.val, by omega⟩ n) := by
  unfold rdO
  rw [View.readCov_eq_canon']
  refine congrArg (View.canon L) (funext fun e => ?_)
  fin_cases e
  · rfl
  · exact Fin.ext (show 256 * r.val + 1 * i.val = 256 * r.val + i.val by omega)
  · exact Fin.ext (show 0 + 1 * n.val = n.val by omega)

/-- The stores of the normed rows. -/
def nrmL (q : Blk) : List (View.Piece (Elt Ideal) S1024x1024 .bf16) :=
  [⟨rectA 3, nrmT (rdO q (midL q) 3) (vec q.a5 q.h5 q.x3)⟩, ⟨rectA 2, nrmT (rdO q (midL q) 2) (vec q.a5 q.h5 q.x3)⟩, ⟨rectA 1, nrmT (rdO q (midL q) 1) (vec q.a5 q.h5 q.x3)⟩, ⟨rectA 0, nrmT (rdO q (midL q) 0) (vec q.a5 q.h5 q.x3)⟩]

theorem canon_nrmL (q : Blk) (r : Fin 4) (i : Fin 256) (n : Fin 1024) :
    View.canon (nrmL q) (ix2 ⟨256 * r.val + i.val, by omega⟩ n) = nrmAt q ⟨256 * r.val + i.val, by omega⟩ n := by
  have e : nrmT (rdO q (midL q) r) (vec q.a5 q.h5 q.x3) (ix2 i n) = nrmAt q ⟨256 * r.val + i.val, by omega⟩ n := by
    rw [nrmT_apply, vec_eq]
    unfold nrmAt
    simp only [rdO_apply, canon_midL]
  rw [← e]
  have hi := i.isLt
  fin_cases r
  · exact (rows2_miss _ _ _ _ _ (by left; left; simp; try omega)).trans ((rows2_miss _ _ _ _ _ (by left; left; simp; try omega)).trans ((rows2_miss _ _ _ _ _ (by left; left; simp; try omega)).trans (rows2_hit _ _ _ i n _ _ rfl (by simp))))
  · exact (rows2_miss _ _ _ _ _ (by left; left; simp; try omega)).trans ((rows2_miss _ _ _ _ _ (by left; left; simp; try omega)).trans (rows2_hit _ _ _ i n _ _ rfl (by simp)))
  · exact (rows2_miss _ _ _ _ _ (by left; left; simp; try omega)).trans (rows2_hit _ _ _ i n _ _ rfl (by simp))
  · exact rows2_hit _ _ _ i n _ _ rfl (by simp)

/-- A part of the normed rows, read back. -/
def rdA (q : Blk) (r : Fin 4) : Vec Ideal S256x1024 .bf16 := q.a9.view.readCov (nrmL q) (rectA r).toLoadRect

theorem rdA_apply (q : Blk) (r : Fin 4) (i : Fin 256) (n : Fin 1024) :
    rdA q r (ix2 i n) = nrmAt q ⟨256 * r.val + i.val, by omega⟩ n := by
  rw [← canon_nrmL]
  unfold rdA
  rw [View.readCov_eq_canon']
  refine congrArg (View.canon (nrmL q)) (funext fun e => ?_)
  fin_cases e
  · exact Fin.ext (show 256 * r.val + 1 * i.val = 256 * r.val + i.val by omega)
  · exact Fin.ext (show 0 + 1 * n.val = n.val by omega)

/-- A tile of the hidden units. -/
def tile (q : Blk) (r : Fin 4) (j : Fin 11) : FVec Ideal S256x256 .bf16 :=
  hidT (rdA q r) (cols q (256 * j.val) (by omega)) (cols q (2816 + 256 * j.val) (by omega))

theorem tile_apply (q : Blk) (r : Fin 4) (j : Fin 11) (i n : Fin 256) :
    tile q r j (ix2 i n) = hidAt q ⟨256 * r.val + i.val, by omega⟩ ⟨256 * j.val + n.val, by omega⟩ := by
  unfold tile
  rw [hidT_apply]
  unfold hidAt hid
  simp only [rdA_apply, cols_apply, Nat.add_assoc]

/-- The stores of the hidden units. -/
def hidL (q : Blk) : List (View.Piece (Elt Ideal) S1024x2816 .bf16) :=
  [⟨rectT 3 10, tile q 3 10⟩,
   ⟨rectT 3 9, tile q 3 9⟩,
   ⟨rectT 3 8, tile q 3 8⟩,
   ⟨rectT 3 7, tile q 3 7⟩,
   ⟨rectT 3 6, tile q 3 6⟩,
   ⟨rectT 3 5, tile q 3 5⟩,
   ⟨rectT 3 4, tile q 3 4⟩,
   ⟨rectT 3 3, tile q 3 3⟩,
   ⟨rectT 3 2, tile q 3 2⟩,
   ⟨rectT 3 1, tile q 3 1⟩,
   ⟨rectT 3 0, tile q 3 0⟩,
   ⟨rectT 2 10, tile q 2 10⟩,
   ⟨rectT 2 9, tile q 2 9⟩,
   ⟨rectT 2 8, tile q 2 8⟩,
   ⟨rectT 2 7, tile q 2 7⟩,
   ⟨rectT 2 6, tile q 2 6⟩,
   ⟨rectT 2 5, tile q 2 5⟩,
   ⟨rectT 2 4, tile q 2 4⟩,
   ⟨rectT 2 3, tile q 2 3⟩,
   ⟨rectT 2 2, tile q 2 2⟩,
   ⟨rectT 2 1, tile q 2 1⟩,
   ⟨rectT 2 0, tile q 2 0⟩,
   ⟨rectT 1 10, tile q 1 10⟩,
   ⟨rectT 1 9, tile q 1 9⟩,
   ⟨rectT 1 8, tile q 1 8⟩,
   ⟨rectT 1 7, tile q 1 7⟩,
   ⟨rectT 1 6, tile q 1 6⟩,
   ⟨rectT 1 5, tile q 1 5⟩,
   ⟨rectT 1 4, tile q 1 4⟩,
   ⟨rectT 1 3, tile q 1 3⟩,
   ⟨rectT 1 2, tile q 1 2⟩,
   ⟨rectT 1 1, tile q 1 1⟩,
   ⟨rectT 1 0, tile q 1 0⟩,
   ⟨rectT 0 10, tile q 0 10⟩,
   ⟨rectT 0 9, tile q 0 9⟩,
   ⟨rectT 0 8, tile q 0 8⟩,
   ⟨rectT 0 7, tile q 0 7⟩,
   ⟨rectT 0 6, tile q 0 6⟩,
   ⟨rectT 0 5, tile q 0 5⟩,
   ⟨rectT 0 4, tile q 0 4⟩,
   ⟨rectT 0 3, tile q 0 3⟩,
   ⟨rectT 0 2, tile q 0 2⟩,
   ⟨rectT 0 1, tile q 0 1⟩,
   ⟨rectT 0 0, tile q 0 0⟩]

theorem canon_hidL (q : Blk) (ρ : Fin 1024) (ν : Fin 2816) : View.canon (hidL q) (ix2 ρ ν) = hidAt q ρ ν := by
  refine View.canon_apply_of_pieces (fun y : S1024x2816.Idx => hidAt q (y 0) (y 1)) _ (fun p hp x => ?_) (ix2 ρ ν)
    (View.cover_of_tiledL (hidL q) S256x256.size (by sl_kernel_rfl) _)
  have key : ∀ (r : Fin 4) (j : Fin 11) (x : S256x256.Idx), tile q r j x = hidAt q ((rectT r j).emb x 0) ((rectT r j).emb x 1) := by
    intro r j x
    obtain ⟨i, n, rfl⟩ : ∃ (i n : Fin 256), x = ix2 i n := ⟨x 0, x 1, ValueIdx.eq_ix2 x⟩
    rw [tile_apply]
    refine congrArg₂ (hidAt q) (Fin.ext ?_) (Fin.ext ?_)
    · show 256 * r.val + i.val = 256 * r.val + 1 * i.val; omega
    · show 256 * j.val + n.val = 256 * j.val + 1 * n.val; omega
  simp only [hidL, List.mem_cons, List.not_mem_nil, or_false] at hp
  rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  all_goals exact key _ _ x

/-- A part of the hidden units, read back. -/
def rdH (q : Blk) (r : Fin 4) : Vec Ideal S256x2816 .bf16 := q.a10.view.readCov (hidL q) (rectH r).toLoadRect

theorem rdH_apply (q : Blk) (r : Fin 4) (i : Fin 256) (j : Fin 2816) :
    rdH q r (ix2 i j) = hidAt q ⟨256 * r.val + i.val, by omega⟩ j := by
  rw [← canon_hidL]
  unfold rdH
  rw [View.readCov_eq_canon']
  refine congrArg (View.canon (hidL q)) (funext fun e => ?_)
  fin_cases e
  · exact Fin.ext (show 256 * r.val + 1 * i.val = 256 * r.val + i.val by omega)
  · exact Fin.ext (show 0 + 1 * j.val = j.val by omega)

/-- The last store of a part of the rows, over given stores. -/
def outT (q : Blk) (L : List (View.Piece (Elt Ideal) S1x1024x1024 .f32)) (r : Fin 4) : FVec Ideal S1x256x1024 .f32 :=
  topT (rdO q L r) (rdH q r) (wDown q)

theorem outT_apply (q : Blk) (L : List (View.Piece (Elt Ideal) S1x1024x1024 .f32)) (r : Fin 4) (i : Fin 256) (n : Fin 1024)
    (hL : ∀ n, View.canon L (ix3 0 ⟨256 * r.val + i.val, by omega⟩ n) = midAt q ⟨256 * r.val + i.val, by omega⟩ n) :
    outT q L r (ix3 0 i n) = outAt q ⟨256 * r.val + i.val, by omega⟩ n := by
  unfold outT
  rw [topT_apply, wDown_eq]
  unfold outAt
  simp only [rdO_apply, rdH_apply, hL]
  rfl

def outL0 (q : Blk) : List (View.Piece (Elt Ideal) S1x1024x1024 .f32) := ⟨rectO 0, outT q (midL q) 0⟩ :: midL q
def outL1 (q : Blk) : List (View.Piece (Elt Ideal) S1x1024x1024 .f32) := ⟨rectO 1, outT q (outL0 q) 1⟩ :: outL0 q
def outL2 (q : Blk) : List (View.Piece (Elt Ideal) S1x1024x1024 .f32) := ⟨rectO 2, outT q (outL1 q) 2⟩ :: outL1 q
def outL3 (q : Blk) : List (View.Piece (Elt Ideal) S1x1024x1024 .f32) := ⟨rectO 3, outT q (outL2 q) 3⟩ :: outL2 q

theorem before0 (q : Blk) (i : Fin 256) (n : Fin 1024) :
    View.canon (midL q) (ix3 0 ⟨256 * (0 : Fin 4).val + i.val, by have := i.isLt; simp; omega⟩ n) = midAt q ⟨256 * (0 : Fin 4).val + i.val, by have := i.isLt; simp; omega⟩ n :=
  canon_midL q 0 i n

theorem before1 (q : Blk) (i : Fin 256) (n : Fin 1024) :
    View.canon (outL0 q) (ix3 0 ⟨256 * (1 : Fin 4).val + i.val, by have := i.isLt; simp; omega⟩ n) = midAt q ⟨256 * (1 : Fin 4).val + i.val, by have := i.isLt; simp; omega⟩ n :=
  (rows3_miss _ _ _ _ _ (by right; simp; try omega)).trans (canon_midL q 1 i n)

theorem before2 (q : Blk) (i : Fin 256) (n : Fin 1024) :
    View.canon (outL1 q) (ix3 0 ⟨256 * (2 : Fin 4).val + i.val, by have := i.isLt; simp; omega⟩ n) = midAt q ⟨256 * (2 : Fin 4).val + i.val, by have := i.isLt; simp; omega⟩ n :=
  (rows3_miss _ _ _ _ _ (by right; simp; try omega)).trans ((rows3_miss _ _ _ _ _ (by right; simp; try omega)).trans (canon_midL q 2 i n))

theorem before3 (q : Blk) (i : Fin 256) (n : Fin 1024) :
    View.canon (outL2 q) (ix3 0 ⟨256 * (3 : Fin 4).val + i.val, by have := i.isLt; simp; omega⟩ n) = midAt q ⟨256 * (3 : Fin 4).val + i.val, by have := i.isLt; simp; omega⟩ n :=
  (rows3_miss _ _ _ _ _ (by right; simp; try omega)).trans ((rows3_miss _ _ _ _ _ (by right; simp; try omega)).trans ((rows3_miss _ _ _ _ _ (by right; simp; try omega)).trans (canon_midL q 3 i n)))

theorem canon_out (q : Blk) (r : Fin 4) (i : Fin 256) (n : Fin 1024) :
    View.canon (outL3 q) (ix3 0 ⟨256 * r.val + i.val, by omega⟩ n) = outAt q ⟨256 * r.val + i.val, by omega⟩ n := by
  have hi := i.isLt
  fin_cases r
  · exact (rows3_miss _ _ _ _ _ (by left; simp; try omega)).trans ((rows3_miss _ _ _ _ _ (by left; simp; try omega)).trans ((rows3_miss _ _ _ _ _ (by left; simp; try omega)).trans ((rows3_hit _ _ _ i n _ rfl).trans (outT_apply q (midL q) 0 i n (before0 q i)))))
  · exact (rows3_miss _ _ _ _ _ (by left; simp; try omega)).trans ((rows3_miss _ _ _ _ _ (by left; simp; try omega)).trans ((rows3_hit _ _ _ i n _ rfl).trans (outT_apply q (outL0 q) 1 i n (before1 q i))))
  · exact (rows3_miss _ _ _ _ _ (by left; simp; try omega)).trans ((rows3_hit _ _ _ i n _ rfl).trans (outT_apply q (outL1 q) 2 i n (before2 q i)))
  · exact (rows3_hit _ _ _ i n _ rfl).trans (outT_apply q (outL2 q) 3 i n (before3 q i))

/-- The body's stores are these. -/
theorem run_eq (c : Dev nD) (i : grid0.Coords) (q : Blk) :
    (kernelRun0_A (F := Ideal) c i q.a2 q.h2 q.a3 q.h3 q.a4 q.h4 q.a5 q.h5 q.a6 q.h6 q.a7 q.h7 q.a8 q.h8 q.a9 q.h9 q.a10 q.h10 q.x0 q.x1 q.x2 q.x3 q.x4 q.x5).1 = outL3 q := rfl

theorem block (c : Dev nD) (i : grid0.Coords) (q : Blk) (ρ : Fin 1024) (n : Fin 1024) :
    out0_A_6 (F := Ideal) c i q.a2 q.h2 q.a3 q.h3 q.a4 q.h4 q.a5 q.h5 q.a6 q.h6 q.a7 q.h7 q.a8 q.h8 q.a9 q.h9 q.a10 q.h10 q.x0 q.x1 q.x2 q.x3 q.x4 q.x5 (ix3 0 ρ n) = outAt q ρ n := by
  unfold out0_A_6
  rw [View.read_writes_junk_eq_canon, run_eq]
  have h := ρ.isLt
  refine (congrArg (fun ρ => View.canon (outL3 q) (ix3 0 ρ n)) (Fin.ext (show ρ.val = 256 * (ρ.val / 256) + ρ.val % 256 by omega))).trans
    ((canon_out q ⟨ρ.val / 256, by omega⟩ ⟨ρ.val % 256, by omega⟩ n).trans ?_)
  exact congrArg (fun ρ => outAt q ρ n) (Fin.ext (show 256 * (ρ.val / 256) + ρ.val % 256 = ρ.val by omega))

end Cert.AttnTail

end
-- ==== Proof.AttnTailArr.lean ====
module

public import proofs.«01_k».proof.Proof.AttnTail
public import Idealize.ShloMosaic.Lib.StableHlo.RunRead

@[expose] public section

set_option maxRecDepth 16384

noncomputable section

namespace Cert.AttnTail

open Cert.Kernel3Ideal Cert.Kernel3Ideal.Gen Cert.Tail
open Idealize.ShloMosaic Idealize.ShloMosaic.TcCoe
open Idealize.ShloMosaic.Pipeline (Window)

/-! ## The result, from the arguments' arrays -/

/-- One entry of the result: position `s` of sequence `b`, component `n`. -/
def resAt (a : FVec Ideal S2x8192x1024 .bf16) (x : FVec Ideal S2x8192x1024 .f32) (W : FVec Ideal S2x1024x1024 .f32) (nw : FVec Ideal S1024 .f32) (wi : FVec Ideal S1024x5632 .bf16) (wo : FVec Ideal S2816x1024 .bf16) (b : Fin 2) (s : Fin 8192) (n : Fin 1024) : EReal :=
  layer (fun k => a (ix3 b s k)) (fun k => x (ix3 b s k)) (fun k => nw (ix1 k)) (fun k n => W (ix3 0 k n)) (fun k j => wi (ix2 k j)) (fun j n => wo (ix2 j n)) n

variable (m : (ℓ : Loc nD τ sig) → Buf (Elt Ideal) ℓ)

/-! ## The arguments' arrays -/

abbrev arg0 (c : Dev nD) : FVec Ideal S2x8192x1024 .bf16 := m ((c : Thread nD τ).loc main_arg0)
abbrev arg1 (c : Dev nD) : FVec Ideal S2x8192x1024 .f32 := m ((c : Thread nD τ).loc main_arg1)
abbrev arg2 (c : Dev nD) : FVec Ideal S2x1024x1024 .f32 := m ((c : Thread nD τ).loc main_arg2)
abbrev arg3 (c : Dev nD) : FVec Ideal S1024 .f32 := m ((c : Thread nD τ).loc main_arg3)
abbrev arg4 (c : Dev nD) : FVec Ideal S1024x5632 .bf16 := m ((c : Thread nD τ).loc main_arg4)
abbrev arg5 (c : Dev nD) : FVec Ideal S2816x1024 .bf16 := m ((c : Thread nD τ).loc main_arg5)

/-- The sequence of a point. -/
abbrev seqOf (t : Fin cfg0.N) : Fin 2 := ⟨(grid0.coords t 0).val, (grid0.coords t 0).isLt⟩
theorem chunk_lt (t : Fin cfg0.N) : (grid0.coords t 1).val < 8 := (grid0.coords t 1).isLt
/-- The position of a point's row. -/
abbrev posOf (t : Fin cfg0.N) (ρ : Fin 1024) : Fin 8192 := ⟨1024 * (grid0.coords t 1).val + ρ.val, by have := chunk_lt t; omega⟩

theorem index0 : ∀ t : Fin grid0.N, win0_0.index t = ![(grid0.coords t 0).val, (grid0.coords t 1).val, 0] := by decide +kernel
theorem blk0 (c : Dev nD) (t : Fin cfg0.N) (ρ : Fin 1024) (k : Fin 1024) : iblk m c 0 t (ix3 0 ρ k) = arg0 m c (ix3 (seqOf t) (posOf t ρ) k) := by
  show V m c main_arg0 ((win0_0.rect t).emb (ix3 0 ρ k)) = _
  rw [V_main_arg0]
  refine congrArg (arg0 m c) (funext fun a => ?_)
  fin_cases a <;> refine Fin.ext ?_ <;> refine (Window.rect_emb_val win0_0 t _ _).trans ?_ <;> rw [index0]
  · show (grid0.coords t 0).val * 1 + 0 = (grid0.coords t 0).val; omega
  · show (grid0.coords t 1).val * 1024 + ρ.val = 1024 * (grid0.coords t 1).val + ρ.val; omega
  · show 0 * 1024 + k.val = k.val; omega

theorem index1 : ∀ t : Fin grid0.N, win0_1.index t = ![(grid0.coords t 0).val, (grid0.coords t 1).val, 0] := by decide +kernel
theorem blk1 (c : Dev nD) (t : Fin cfg0.N) (ρ : Fin 1024) (k : Fin 1024) : iblk m c 1 t (ix3 0 ρ k) = arg1 m c (ix3 (seqOf t) (posOf t ρ) k) := by
  show V m c main_arg1 ((win0_1.rect t).emb (ix3 0 ρ k)) = _
  rw [V_main_arg1]
  refine congrArg (arg1 m c) (funext fun a => ?_)
  fin_cases a <;> refine Fin.ext ?_ <;> refine (Window.rect_emb_val win0_1 t _ _).trans ?_ <;> rw [index1]
  · show (grid0.coords t 0).val * 1 + 0 = (grid0.coords t 0).val; omega
  · show (grid0.coords t 1).val * 1024 + ρ.val = 1024 * (grid0.coords t 1).val + ρ.val; omega
  · show 0 * 1024 + k.val = k.val; omega

theorem index2 : ∀ t : Fin grid0.N, win0_2.index t = ![0, 0, 0] := by decide +kernel
/-- The projection's weights as the host casts them. -/
theorem host2 (c : Dev nD) : V m c main_v0 = truncf .bf16 (arg2 m c) bitsLt_bf16_f32 := by
  rfl
theorem blk2 (c : Dev nD) (t : Fin cfg0.N) (r k : Fin 1024) : iblk m c 2 t (ix3 0 r k) = arg2 m c (ix3 0 r k) := by
  have e : iblk m c 2 t (ix3 0 r k) = V m c main_v0 (ix3 0 r k) := by
    show V m c main_v0 ((win0_2.rect t).emb (ix3 0 r k)) = _
    refine congrArg (V m c main_v0) (funext fun a => ?_)
    fin_cases a <;> refine Fin.ext ?_ <;> refine (Window.rect_emb_val win0_2 t _ _).trans ?_ <;> rw [index2]
    · rfl
    · show 0 * 1024 + r.val = r.val; omega
    · show 0 * 1024 + k.val = k.val; omega
  rw [e, host2]
  rfl

theorem index3 : ∀ t : Fin grid0.N, win0_3.index t = ![0, 0] := by decide +kernel
/-- The vector as the host lays it out. -/
theorem host3 (c : Dev nD) : V m c main_v1 = shapeCast S1x1024 (arg3 m c) shapeCasts_S1024_S1x1024 := by
  rfl
theorem blk3 (c : Dev nD) (t : Fin cfg0.N) (k : Fin 1024) : iblk m c 3 t (ix2 0 k) = arg3 m c (ix1 k) := by
  have e : iblk m c 3 t (ix2 0 k) = V m c main_v1 (ix2 0 k) := by
    show V m c main_v1 ((win0_3.rect t).emb (ix2 0 k)) = _
    refine congrArg (V m c main_v1) (funext fun a => ?_)
    fin_cases a <;> refine Fin.ext ?_ <;> refine (Window.rect_emb_val win0_3 t _ _).trans ?_ <;> rw [index3]
    · show 0 * 1 + 0 = 0; omega
    · show 0 * 1024 + k.val = k.val; omega
  rw [e, host3]
  pointwise []

theorem index4 : ∀ t : Fin grid0.N, win0_4.index t = ![0, 0] := by decide +kernel
theorem blk4 (c : Dev nD) (t : Fin cfg0.N) (r : Fin 1024) (k : Fin 5632) : iblk m c 4 t (ix2 r k) = arg4 m c (ix2 r k) := by
  show V m c main_arg4 ((win0_4.rect t).emb (ix2 r k)) = _
  rw [V_main_arg4]
  refine congrArg (arg4 m c) (funext fun a => ?_)
  fin_cases a <;> refine Fin.ext ?_ <;> refine (Window.rect_emb_val win0_4 t _ _).trans ?_ <;> rw [index4]
  · show 0 * 1024 + r.val = r.val; omega
  · show 0 * 5632 + k.val = k.val; omega

theorem index5 : ∀ t : Fin grid0.N, win0_5.index t = ![0, 0] := by decide +kernel
theorem blk5 (c : Dev nD) (t : Fin cfg0.N) (r : Fin 2816) (k : Fin 1024) : iblk m c 5 t (ix2 r k) = arg5 m c (ix2 r k) := by
  show V m c main_arg5 ((win0_5.rect t).emb (ix2 r k)) = _
  rw [V_main_arg5]
  refine congrArg (arg5 m c) (funext fun a => ?_)
  fin_cases a <;> refine Fin.ext ?_ <;> refine (Window.rect_emb_val win0_5 t _ _).trans ?_ <;> rw [index5]
  · show 0 * 2816 + r.val = r.val; omega
  · show 0 * 1024 + k.val = k.val; omega

/-- A point's buffers and input blocks. -/
def ptBlk (c : Dev nD) (t : Fin cfg0.N) : Blk :=
  { a2 := ms0_0 t, h2 := hs0_0 t, a3 := ms0_1 t, h3 := hs0_1 t, a4 := ms0_2 t, h4 := hs0_2 t, a5 := ms0_3 t, h5 := hs0_3 t, a6 := ms0_4 t, h6 := hs0_4 t, a7 := ms0_5 t, h7 := hs0_5 t, a8 := ms0_6 t, h8 := hs0_6 t, a9 := scM0_0, h9 := Memref.isWhole_whole _, a10 := scM0_1, h10 := Memref.isWhole_whole _, x0 := iblk m c 0 t, x1 := iblk m c 1 t, x2 := iblk m c 2 t, x3 := iblk m c 3 t, x4 := iblk m c 4 t, x5 := iblk m c 5 t }

theorem outAt_eq (c : Dev nD) (t : Fin cfg0.N) (ρ : Fin 1024) (n : Fin 1024) :
    outAt (ptBlk m c t) ρ n = resAt (arg0 m c) (arg1 m c) (arg2 m c) (arg3 m c) (arg4 m c) (arg5 m c) (seqOf t) (posOf t ρ) n := by
  unfold outAt sumAt hidAt nrmAt midAt resAt layer
  dsimp only [ptBlk]
  simp only [blk0, blk1, blk2, blk3, blk4, blk5]

theorem flushed_apply (c : Dev nD) (t : Fin cfg0.N) (ρ : Fin 1024) (n : Fin 1024) :
    (dats m 0 c).flushed 6 t (ix3 0 ρ n) = resAt (arg0 m c) (arg1 m c) (arg2 m c) (arg3 m c) (arg4 m c) (arg5 m c) (seqOf t) (posOf t ρ) n := by
  rw [Value.flushed6_A]
  exact (block c (grid0.coords t) (ptBlk m c t) ρ n).trans (outAt_eq m c t ρ n)

/-- The result's array. -/
def res (c : Dev nD) : Buf (Elt Ideal) ((c : Thread nD τ).loc main_v2) := fun y : S2x8192x1024.Idx =>
  resAt (arg0 m c) (arg1 m c) (arg2 m c) (arg3 m c) (arg4 m c) (arg5 m c) (y 0) (y 1) (y 2)

theorem index6 : ∀ t : Fin grid0.N, win0_6.index t = ![(grid0.coords t 0).val, (grid0.coords t 1).val, 0] := by decide +kernel
theorem flush6 : ∀ t : Fin grid0.N, win0_6.flush t = true := by decide +kernel

theorem embOut (t : Fin cfg0.N) (ρ : Fin 1024) (n : Fin 1024) : (win0_6.rect t).emb (ix3 0 ρ n) = ix3 (seqOf t) (posOf t ρ) n := by
  funext a
  fin_cases a <;> refine Fin.ext ?_ <;> refine (Window.rect_emb_val win0_6 t _ _).trans ?_ <;> rw [index6]
  · show (grid0.coords t 0).val * 1 + 0 = (grid0.coords t 0).val; omega
  · show (grid0.coords t 1).val * 1024 + ρ.val = 1024 * (grid0.coords t 1).val + ρ.val; omega
  · show 0 * 1024 + n.val = n.val; omega

theorem result (c : Dev nD) : (dats m 0 c).arrAt 6 cfg0.N = res m c := by
  refine (dats m 0 c).arrAt_eq_of_cover 6 (res m c) (fun t _ => ?_) (fun i => ?_)
  · funext y
    obtain ⟨b, ρ, n, rfl⟩ : ∃ (b : Fin 1) (ρ : Fin 1024) (n : Fin 1024), y = ix3 b ρ n := ⟨y 0, y 1, y 2, ValueIdx.eq_ix3 y⟩
    obtain rfl : b = 0 := Subsingleton.elim _ _
    refine (flushed_apply m c t ρ n).trans ?_
    refine Eq.trans ?_ (show res m c ((win0_6.rect t).emb (ix3 0 ρ n)) = _ from rfl)
    rw [embOut]; rfl
  · obtain ⟨b, s, n, rfl⟩ : ∃ (b : Fin 2) (s : Fin 8192) (n : Fin 1024), i = ix3 b s n := ⟨i 0, i 1, i 2, ValueIdx.eq_ix3 i⟩
    have key : ∀ (p : Fin 2) (q : Fin 8), ∃ t : Fin grid0.N, (grid0.coords t 0).val = p.val ∧ (grid0.coords t 1).val = q.val := by decide +kernel
    obtain ⟨t, ht0, ht1⟩ := key b ⟨s.val / 1024, by omega⟩
    refine ⟨t, flush6 t, ?_⟩
    have e : ix3 b s n = (win0_6.rect t).emb (ix3 (0 : Fin 1) (⟨s.val % 1024, by omega⟩ : Fin 1024) n) := by
      rw [embOut]
      refine congrArg₂ (fun b s => ix3 b s n) (Fin.ext ht0.symm) (Fin.ext ?_)
      show s.val = 1024 * (grid0.coords t 1).val + s.val % 1024
      rw [ht1]; show s.val = 1024 * (s.val / 1024) + s.val % 1024; omega
    rw [e]
    exact View.emb_mem_set _ _

end Cert.AttnTail

end
-- ==== Proof.AttnTailRef.lean ====
module

public import proofs.«01_k».proof.Proof.AttnTailArr
public import proofs.«01_k».proof.Proof.Gen.Reference3Ideal.Run
public import proofs.«01_k».proof.Proof.Gen.Reference3Ideal.Read
public import Idealize.ShloMosaic.Lib.KernelVsHost

@[expose] public section

set_option maxRecDepth 16384

/-! The reference's values, read off its operations. -/

noncomputable section

namespace Cert.AttnTailRef

open Cert.Reference3Ideal Cert.Reference3Ideal.Gen Cert.Reference3Ideal.Read Cert.Tail
open Idealize.ShloMosaic Idealize.ShloMosaic.TcCoe

variable (x0 : FVec Ideal S2x8192x1024 .bf16) (x1 : FVec Ideal S2x8192x1024 .f32) (x2 : FVec Ideal S2x1024x1024 .f32) (x3 : FVec Ideal S1024 .f32) (x4 : FVec Ideal S1024x5632 .bf16) (x5 : FVec Ideal S2816x1024 .bf16)

theorem weights (k n : Fin 1024) : val_main_v2 (F := Ideal) x2 (ix2 k n) = x2 (ix3 0 k n) := by
  rw [val_main_v2_apply, val_main_v1_apply]
  refine congrArg x2 (funext fun a => ?_)
  fin_cases a <;> refine Fin.ext ?_
  · rfl
  · show (k.val * 1024 + n.val) / 1024 % 1024 = k.val; omega
  · show (k.val * 1024 + n.val) % 1024 = n.val; omega

theorem middle (b : Fin 2) (s : Fin 8192) (n : Fin 1024) :
    val_main_v4 (F := Ideal) x0 x1 x2 (ix3 b s n)
      = mid (fun k => x0 (ix3 b s k)) (fun k => x1 (ix3 b s k)) (fun k n => x2 (ix3 0 k n)) n := by
  rw [val_main_v4_apply, val_main_v3_apply]
  unfold mid
  refine congrArg (x1 (ix3 b s n) + ·) (Finset.sum_congr rfl fun k _ => ?_)
  rw [show lidx_main_v3 (ix3 b s n) k = ix3 b s k from funext fun a => by fin_cases a <;> rfl,
    show ridx_main_v3 (ix3 b s n) k = ix2 k n from funext fun a => by fin_cases a <;> rfl, weights]
  skip
  rfl
theorem normed (b : Fin 2) (s : Fin 8192) (n : Fin 1024) :
    val_main_v17 (F := Ideal) x0 x1 x2 x3 (ix3 b s n)
      = nrm (fun n => val_main_v4 (F := Ideal) x0 x1 x2 (ix3 b s n)) (fun k => x3 (ix1 k)) n := by
  rw [val_main_v17_apply, val_main_v14_apply, val_main_v13_apply, val_main_v12_apply, val_main_v11_apply, val_main_v9_apply, val_main_v7_apply, val_main_v6_apply, val_main_v8_apply, val_main_v10_apply, val_main_v16_apply, val_main_v15_apply]
  unfold nrm rms
  refine congrArg₂ (· * ·) (congrArg (val_main_v4 (F := Ideal) x0 x1 x2 (ix3 b s n) * ·) (congrArg (fun z => Ideal.rsqrt (Ideal.div z n1024 + eps)) ?_)) ?_
  · refine (congrArg₂ (· + ·) zero_bits (Finset.sum_congr rfl fun k _ => ?_)).trans (zero_add _)
    rw [val_main_v5_apply, show idx_main_v6 _ k = ix3 b s k from funext fun a => by fin_cases a <;> rfl]
    rfl
  · exact congrArg x3 (funext fun a => by fin_cases a; rfl)

theorem hidden_in (b : Fin 2) (s : Fin 8192) (j : Fin 5632) :
    val_main_v20 (F := Ideal) x0 x1 x2 x3 x4 (ix3 b s j) = ∑ k, val_main_v17 (F := Ideal) x0 x1 x2 x3 (ix3 b s k) * x4 (ix2 k j) := by
  rw [val_main_v20_apply]
  refine Finset.sum_congr rfl fun k _ => ?_
  rw [show lidx_main_v20 (ix3 b s j) k = ix3 b s k from funext fun a => by fin_cases a <;> rfl,
    show ridx_main_v20 (ix3 b s j) k = ix2 k j from funext fun a => by fin_cases a <;> rfl]
  rfl

theorem hidden (b : Fin 2) (s : Fin 8192) (j : Fin 2816) :
    val_main_v24 (F := Ideal) x0 x1 x2 x3 x4 (ix3 b s j)
      = hid (fun k => val_main_v17 (F := Ideal) x0 x1 x2 x3 (ix3 b s k)) (fun k j => x4 (ix2 k j)) j := by
  have e1 : val_main_v21 (F := Ideal) x0 x1 x2 x3 x4 (ix3 b s j) = ∑ k, val_main_v17 (F := Ideal) x0 x1 x2 x3 (ix3 b s k) * x4 (ix2 k ⟨j.val, by omega⟩) := by
    rw [val_main_v21_apply, ← hidden_in]
    exact congrArg _ (funext fun a => by fin_cases a <;> rfl)
  have e2 : val_main_v22 (F := Ideal) x0 x1 x2 x3 x4 (ix3 b s j) = ∑ k, val_main_v17 (F := Ideal) x0 x1 x2 x3 (ix3 b s k) * x4 (ix2 k ⟨2816 + j.val, by omega⟩) := by
    rw [val_main_v22_apply, ← hidden_in]
    exact congrArg _ (funext fun a => by fin_cases a <;> rfl)
  rw [val_main_v24_apply, val_main_v23_apply, val_main_call0_v5_apply, val_main_call0_v4_apply, val_main_call0_v3_apply, val_main_call0_v2_apply,
    val_main_call0_v1_apply, val_main_call0_v0_apply, e1, e2]
  unfold hid act
  generalize (∑ k, val_main_v17 (F := Ideal) x0 x1 x2 x3 (ix3 b s k) * x4 (ix2 k ⟨j.val, by omega⟩)) = g
  generalize (∑ k, val_main_v17 (F := Ideal) x0 x1 x2 x3 (ix3 b s k) * x4 (ix2 k ⟨2816 + j.val, by omega⟩)) = u
  show g * Ideal.div (Ideal.ofBits .f32 0x3F800000#32) (Ideal.ofBits .f32 0x3F800000#32 + Ideal.exp (-g)) * u = _
  rw [one_bits, zero_sub]

theorem summed (b : Fin 2) (s : Fin 8192) (n : Fin 1024) :
    val_main_v26 (F := Ideal) x0 x1 x2 x3 x4 x5 (ix3 b s n)
      = layer (fun k => x0 (ix3 b s k)) (fun k => x1 (ix3 b s k)) (fun k => x3 (ix1 k)) (fun k n => x2 (ix3 0 k n)) (fun k j => x4 (ix2 k j)) (fun j n => x5 (ix2 j n)) n := by
  rw [val_main_v26_apply, val_main_v25_apply, middle]
  unfold layer
  refine congrArg (mid (fun k => x0 (ix3 b s k)) (fun k => x1 (ix3 b s k)) (fun k n => x2 (ix3 0 k n)) n + ·) (Finset.sum_congr rfl fun j _ => ?_)
  rw [show lidx_main_v25 (ix3 b s n) j = ix3 b s j from funext fun a => by fin_cases a <;> rfl,
    show ridx_main_v25 (ix3 b s n) j = ix2 j n from funext fun a => by fin_cases a <;> rfl, hidden]
  simp only [normed, middle]
  rfl

theorem result (y : S2x8192x1024.Idx) :
    val_main_v26 (F := Ideal) x0 x1 x2 x3 x4 x5 y = Cert.AttnTail.resAt x0 x1 x2 x3 x4 x5 (y 0) (y 1) (y 2) := by
  obtain ⟨b, s, n, rfl⟩ : ∃ (b : Fin 2) (s : Fin 8192) (n : Fin 1024), y = ix3 b s n := ⟨y 0, y 1, y 2, ValueIdx.eq_ix3 y⟩
  refine (summed x0 x1 x2 x3 x4 x5 b s n).trans ?_
  rfl

end Cert.AttnTailRef

end
-- ==== Proof.LastTail.lean ====
module

public import proofs.«01_k».proof.Proof.Gen.Kernel4Ideal.Value
public import proofs.«01_k».proof.Proof.TailMath

@[expose] public section

set_option maxRecDepth 16384

noncomputable section

namespace Cert.LastTail

open Cert.Kernel4Ideal Cert.Kernel4Ideal.Gen Cert.Tail
open Idealize.ShloMosaic Idealize.ShloMosaic.TcCoe

/-! ## What the body computes from what it reads -/

theorem readWhole {S : Shape} {e : EltTy} (m : Memref sig .tc .vmem S e) (h : m.IsWhole) (X : S.Idx → Elt Ideal e)
    {off : Fin S.rank → Nat} (h0 : off = fun _ => 0) (inb : ∀ a, off a + S.size a ≤ S.size a) :
    View.readAt (Elt Ideal) m.view (Rect.unit off S.size inb).toLoadRect (h.unread X) = X := by
  have e := View.ld_unit_zero (Val := Elt Ideal) h0 inb X
  refine Eq.trans ?_ e
  funext x
  rw [h.readAt_unread]

theorem zeros2 : (![0, 0] : Fin 2 → Nat) = fun _ => 0 := by funext a; fin_cases a <;> rfl
theorem zeros3 : (![0, 0, 0] : Fin 3 → Nat) = fun _ => 0 := by funext a; fin_cases a <;> rfl

/-- The rows after the projection and its residual. -/
def projT (a : FVec Ideal S1x256x1024 .bf16) (x : FVec Ideal S1x256x1024 .f32) (W : FVec Ideal S1x1024x1024 .bf16) : FVec Ideal S1x256x1024 .f32 :=
  k0_pay2 (F := Ideal) a x W

theorem projT_apply (a : FVec Ideal S1x256x1024 .bf16) (x : FVec Ideal S1x256x1024 .f32) (W : FVec Ideal S1x1024x1024 .bf16) (i : Fin 256) (n : Fin 1024) :
    projT a x W (ix3 0 i n) = mid (fun k => a (ix3 0 i k)) (fun k => x (ix3 0 i k)) (fun k n => W (ix3 0 k n)) n := by
  pointwise [projT, k0_pay2, mid]

/-- The rows normed. -/
def nrmT (v : FVec Ideal S1x256x1024 .f32) (w : FVec Ideal S1x1024 .f32) : FVec Ideal S256x1024 .bf16 := k0_pay17 (F := Ideal) v w

theorem nrmT_apply (v : FVec Ideal S1x256x1024 .f32) (w : FVec Ideal S1x1024 .f32) (i : Fin 256) (n : Fin 1024) :
    nrmT v w (ix2 i n) = nrm (fun k => v (ix3 0 i k)) (fun k => w (ix2 0 k)) n := by
  pointwise [nrmT, k0_pay17, nrm, rms, n1024, eps]

/-- A tile of the hidden units. -/
def hidT (v : FVec Ideal S256x1024 .bf16) (g u : FVec Ideal S1024x256 .bf16) : FVec Ideal S256x256 .bf16 := k0_pay21 (F := Ideal) v g u

theorem hidT_apply (v : FVec Ideal S256x1024 .bf16) (g u : FVec Ideal S1024x256 .bf16) (i n : Fin 256) :
    hidT v g u (ix2 i n) = act (∑ k, v (ix2 i k) * g (ix2 k n)) (∑ k, v (ix2 i k) * u (ix2 k n)) := by
  pointwise [hidT, k0_pay21, act]

/-- The rows with the feed-forward part, normed. -/
def topT (v : FVec Ideal S1x256x1024 .f32) (a : FVec Ideal S256x2816 .bf16) (W : FVec Ideal S2816x1024 .bf16) (w : FVec Ideal S1x1024 .f32) : FVec Ideal S1x256x1024 .f32 :=
  k0_pay98 (F := Ideal) v a W w

theorem topT_apply (v : FVec Ideal S1x256x1024 .f32) (a : FVec Ideal S256x2816 .bf16) (W : FVec Ideal S2816x1024 .bf16) (w : FVec Ideal S1x1024 .f32) (i : Fin 256) (n : Fin 1024) :
    topT v a W w (ix3 0 i n) = nrm (fun n => v (ix3 0 i n) + ∑ j, a (ix2 i j) * W (ix2 j n)) (fun k => w (ix2 0 k)) n := by
  pointwise [topT, k0_pay98, nrm, rms, n1024, eps]

/-! ## What the body stores, from its input blocks -/

/-- A block's buffers and what its inputs hold. -/
structure Blk where
  a2 : Memref sig .tc .vmem S1x1024x1024 .bf16
  h2 : a2.IsWhole
  a3 : Memref sig .tc .vmem S1x1024x1024 .f32
  h3 : a3.IsWhole
  a4 : Memref sig .tc .vmem S1x1024x1024 .bf16
  h4 : a4.IsWhole
  a5 : Memref sig .tc .vmem S1x1024 .f32
  h5 : a5.IsWhole
  a6 : Memref sig .tc .vmem S1024x5632 .bf16
  h6 : a6.IsWhole
  a7 : Memref sig .tc .vmem S2816x1024 .bf16
  h7 : a7.IsWhole
  a8 : Memref sig .tc .vmem S1x1024 .f32
  h8 : a8.IsWhole
  a9 : Memref sig .tc .vmem S1x1024x1024 .f32
  h9 : a9.IsWhole
  a10 : Memref sig .tc .vmem S1024x1024 .bf16
  h10 : a10.IsWhole
  a11 : Memref sig .tc .vmem S1024x2816 .bf16
  h11 : a11.IsWhole
  x0 : Vec Ideal S1x1024x1024 .bf16
  x1 : Vec Ideal S1x1024x1024 .f32
  x2 : Vec Ideal S1x1024x1024 .bf16
  x3 : Vec Ideal S1x1024 .f32
  x4 : Vec Ideal S1024x5632 .bf16
  x5 : Vec Ideal S2816x1024 .bf16
  x6 : Vec Ideal S1x1024 .f32

/-- A row after the projection and its residual. -/
def midAt (q : Blk) (ρ : Fin 1024) (n : Fin 1024) : EReal :=
  mid (fun k => q.x0 (ix3 0 ρ k)) (fun k => q.x1 (ix3 0 ρ k)) (fun k n => q.x2 (ix3 0 k n)) n
/-- The same row normed. -/
def nrmAt (q : Blk) (ρ : Fin 1024) : Fin 1024 → EReal := nrm (midAt q ρ) (fun k => q.x3 (ix2 0 k))
/-- Its hidden units. -/
def hidAt (q : Blk) (ρ : Fin 1024) (j : Fin 2816) : EReal := hid (nrmAt q ρ) (fun k j => q.x4 (ix2 k j)) j
/-- The row with the feed-forward part. -/
def sumAt (q : Blk) (ρ : Fin 1024) (n : Fin 1024) : EReal := midAt q ρ n + ∑ j, hidAt q ρ j * q.x5 (ix2 j n)
/-- The row as it is stored. -/
def outAt (q : Blk) (ρ : Fin 1024) (n : Fin 1024) : EReal := nrm (sumAt q ρ) (fun k => q.x6 (ix2 0 k)) n

theorem inbO (r : Fin 4) : ∀ a : Fin 3, ![0, 256 * r.val, 0] a + S1x256x1024.size a ≤ S1x1024x1024.size a := by
  have := r.isLt
  intro a; fin_cases a <;> simp [S1x256x1024, S1x1024x1024] <;> omega
theorem inbA (r : Fin 4) : ∀ a : Fin 2, ![256 * r.val, 0] a + S256x1024.size a ≤ S1024x1024.size a := by
  have := r.isLt
  intro a; fin_cases a <;> simp [S256x1024, S1024x1024] <;> omega
theorem inbT (r : Fin 4) (j : Fin 11) : ∀ a : Fin 2, ![256 * r.val, 256 * j.val] a + S256x256.size a ≤ S1024x2816.size a := by
  have := r.isLt; have := j.isLt
  intro a; fin_cases a <;> simp [S256x256, S1024x2816] <;> omega
theorem inbH (r : Fin 4) : ∀ a : Fin 2, ![256 * r.val, 0] a + S256x2816.size a ≤ S1024x2816.size a := by
  have := r.isLt
  intro a; fin_cases a <;> simp [S256x2816, S1024x2816] <;> omega
theorem inbG (o : Nat) (h : o + 256 ≤ 5632) : ∀ a : Fin 2, ![0, o] a + S1024x256.size a ≤ S1024x5632.size a := by
  intro a; fin_cases a <;> simp [S1024x256, S1024x5632] <;> omega

/-- Rows of an input, read. -/
def rows {e : EltTy} (a : Memref sig .tc .vmem S1x1024x1024 e) (h : a.IsWhole) (x : Vec Ideal S1x1024x1024 e) (r : Fin 4) : Vec Ideal S1x256x1024 e :=
  View.readAt (Elt Ideal) a.view (Rect.unit (s := S1x1024x1024) ![0, 256 * r.val, 0] S1x256x1024.size (inbO r)).toLoadRect (h.unread x)

theorem rows_apply {e : EltTy} (a : Memref sig .tc .vmem S1x1024x1024 e) (h : a.IsWhole) (x : Vec Ideal S1x1024x1024 e) (r : Fin 4) (i : Fin 256) (n : Fin 1024) :
    rows a h x r (ix3 0 i n) = x (ix3 0 ⟨256 * r.val + i.val, by omega⟩ n) := by
  unfold rows
  rw [Memref.IsWhole.readAt_unread]
  refine congrArg x (funext fun e => ?_)
  fin_cases e
  · rfl
  · exact Fin.ext (show 256 * r.val + 1 * i.val = 256 * r.val + i.val by omega)
  · exact Fin.ext (show 0 + 1 * n.val = n.val by omega)

/-- A row vector, read. -/
def vec (a : Memref sig .tc .vmem S1x1024 .f32) (h : a.IsWhole) (x : Vec Ideal S1x1024 .f32) : Vec Ideal S1x1024 .f32 :=
  View.readAt (Elt Ideal) a.view (Rect.unit (s := S1x1024) ![0, 0] S1x1024.size inb_S1x1024_S1x1024_0_0).toLoadRect (h.unread x)
theorem vec_eq (a : Memref sig .tc .vmem S1x1024 .f32) (h : a.IsWhole) (x : Vec Ideal S1x1024 .f32) : vec a h x = x :=
  readWhole a h x zeros2 _

/-- The projection's weights, read. -/
def wOut (q : Blk) : Vec Ideal S1x1024x1024 .bf16 :=
  View.readAt (Elt Ideal) q.a4.view (Rect.unit (s := S1x1024x1024) ![0, 0, 0] S1x1024x1024.size inb_S1x1024x1024_S1x1024x1024_0_0_0).toLoadRect (q.h4.unread q.x2)
theorem wOut_eq (q : Blk) : wOut q = q.x2 := readWhole _ _ _ zeros3 _
/-- The feed-forward part's second weights, read. -/
def wDown (q : Blk) : Vec Ideal S2816x1024 .bf16 :=
  View.readAt (Elt Ideal) q.a7.view (Rect.unit (s := S2816x1024) ![0, 0] S2816x1024.size inb_S2816x1024_S2816x1024_0_0).toLoadRect (q.h7.unread q.x5)
theorem wDown_eq (q : Blk) : wDown q = q.x5 := readWhole _ _ _ zeros2 _

/-- Columns of the feed-forward part's first weights, read. -/
def cols (q : Blk) (o : Nat) (h : o + 256 ≤ 5632) : Vec Ideal S1024x256 .bf16 :=
  View.readAt (Elt Ideal) q.a6.view (Rect.unit (s := S1024x5632) ![0, o] S1024x256.size (inbG o h)).toLoadRect (q.h6.unread q.x4)

theorem cols_apply (q : Blk) (o : Nat) (h : o + 256 ≤ 5632) (k : Fin 1024) (n : Fin 256) :
    cols q o h (ix2 k n) = q.x4 (ix2 k ⟨o + n.val, by omega⟩) := by
  unfold cols
  rw [Memref.IsWhole.readAt_unread]
  refine congrArg q.x4 (funext fun e => ?_)
  fin_cases e
  · exact Fin.ext (show 0 + 1 * k.val = k.val by omega)
  · exact Fin.ext (show o + 1 * n.val = o + n.val by omega)

/-- The first store of a part of the rows. -/
def midT (q : Blk) (r : Fin 4) : FVec Ideal S1x256x1024 .f32 :=
  projT (rows q.a2 q.h2 q.x0 r) (rows q.a3 q.h3 q.x1 r) (wOut q)

theorem midT_apply (q : Blk) (r : Fin 4) (i : Fin 256) (n : Fin 1024) :
    midT q r (ix3 0 i n) = midAt q ⟨256 * r.val + i.val, by omega⟩ n := by
  unfold midT
  rw [projT_apply, wOut_eq]
  unfold midAt
  simp only [rows_apply]

def rectO (r : Fin 4) : Rect S1x1024x1024 := Rect.unit (s := S1x1024x1024) ![0, 256 * r.val, 0] S1x256x1024.size (inbO r)
def rectA (r : Fin 4) : Rect S1024x1024 := Rect.unit (s := S1024x1024) ![256 * r.val, 0] S256x1024.size (inbA r)
def rectT (r : Fin 4) (j : Fin 11) : Rect S1024x2816 := Rect.unit (s := S1024x2816) ![256 * r.val, 256 * j.val] S256x256.size (inbT r j)
def rectH (r : Fin 4) : Rect S1024x2816 := Rect.unit (s := S1024x2816) ![256 * r.val, 0] S256x2816.size (inbH r)

/-- The first stores into the output's buffer. -/
def midL (q : Blk) : List (View.Piece (Elt Ideal) S1x1024x1024 .f32) :=
  [⟨rectO 3, midT q 3⟩, ⟨rectO 2, midT q 2⟩, ⟨rectO 1, midT q 1⟩, ⟨rectO 0, midT q 0⟩]

theorem canon_midL (q : Blk) (r : Fin 4) (i : Fin 256) (n : Fin 1024) :
    View.canon (midL q) (ix3 0 ⟨256 * r.val + i.val, by omega⟩ n) = midAt q ⟨256 * r.val + i.val, by omega⟩ n := by
  rw [← midT_apply]
  have hi := i.isLt
  fin_cases r
  · exact (rows3_miss _ _ _ _ _ (by left; simp; try omega)).trans ((rows3_miss _ _ _ _ _ (by left; simp; try omega)).trans ((rows3_miss _ _ _ _ _ (by left; simp; try omega)).trans (rows3_hit _ _ _ i n _ rfl)))
  · exact (rows3_miss _ _ _ _ _ (by left; simp; try omega)).trans ((rows3_miss _ _ _ _ _ (by left; simp; try omega)).trans (rows3_hit _ _ _ i n _ rfl))
  · exact (rows3_miss _ _ _ _ _ (by left; simp; try omega)).trans (rows3_hit _ _ _ i n _ rfl)
  · exact rows3_hit _ _ _ i n _ rfl

/-- A part of the rows, read back over given stores. -/
def rdO (q : Blk) (L : List (View.Piece (Elt Ideal) S1x1024x1024 .f32)) (r : Fin 4) : Vec Ideal S1x256x1024 .f32 :=
  q.a9.view.readCov L (rectO r).toLoadRect

theorem rdO_apply (q : Blk) (L : List (View.Piece (Elt Ideal) S1x1024x1024 .f32)) (r : Fin 4) (i : Fin 256) (n : Fin 1024) :
    rdO q L r (ix3 0 i n) = View.canon L (ix3 0 ⟨256 * r.val + i.val, by omega⟩ n) := by
  unfold rdO
  rw [View.readCov_eq_canon']
  refine congrArg (View.canon L) (funext fun e => ?_)
  fin_cases e
  · rfl
  · exact Fin.ext (show 256 * r.val + 1 * i.val = 256 * r.val + i.val by omega)
  · exact Fin.ext (show 0 + 1 * n.val = n.val by omega)

/-- The stores of the normed rows. -/
def nrmL (q : Blk) : List (View.Piece (Elt Ideal) S1024x1024 .bf16) :=
  [⟨rectA 3, nrmT (rdO q (midL q) 3) (vec q.a5 q.h5 q.x3)⟩, ⟨rectA 2, nrmT (rdO q (midL q) 2) (vec q.a5 q.h5 q.x3)⟩, ⟨rectA 1, nrmT (rdO q (midL q) 1) (vec q.a5 q.h5 q.x3)⟩, ⟨rectA 0, nrmT (rdO q (midL q) 0) (vec q.a5 q.h5 q.x3)⟩]

theorem canon_nrmL (q : Blk) (r : Fin 4) (i : Fin 256) (n : Fin 1024) :
    View.canon (nrmL q) (ix2 ⟨256 * r.val + i.val, by omega⟩ n) = nrmAt q ⟨256 * r.val + i.val, by omega⟩ n := by
  have e : nrmT (rdO q (midL q) r) (vec q.a5 q.h5 q.x3) (ix2 i n) = nrmAt q ⟨256 * r.val + i.val, by omega⟩ n := by
    rw [nrmT_apply, vec_eq]
    unfold nrmAt
    simp only [rdO_apply, canon_midL]
  rw [← e]
  have hi := i.isLt
  fin_cases r
  · exact (rows2_miss _ _ _ _ _ (by left; left; simp; try omega)).trans ((rows2_miss _ _ _ _ _ (by left; left; simp; try omega)).trans ((rows2_miss _ _ _ _ _ (by left; left; simp; try omega)).trans (rows2_hit _ _ _ i n _ _ rfl (by simp))))
  · exact (rows2_miss _ _ _ _ _ (by left; left; simp; try omega)).trans ((rows2_miss _ _ _ _ _ (by left; left; simp; try omega)).trans (rows2_hit _ _ _ i n _ _ rfl (by simp)))
  · exact (rows2_miss _ _ _ _ _ (by left; left; simp; try omega)).trans (rows2_hit _ _ _ i n _ _ rfl (by simp))
  · exact rows2_hit _ _ _ i n _ _ rfl (by simp)

/-- A part of the normed rows, read back. -/
def rdA (q : Blk) (r : Fin 4) : Vec Ideal S256x1024 .bf16 := q.a10.view.readCov (nrmL q) (rectA r).toLoadRect

theorem rdA_apply (q : Blk) (r : Fin 4) (i : Fin 256) (n : Fin 1024) :
    rdA q r (ix2 i n) = nrmAt q ⟨256 * r.val + i.val, by omega⟩ n := by
  rw [← canon_nrmL]
  unfold rdA
  rw [View.readCov_eq_canon']
  refine congrArg (View.canon (nrmL q)) (funext fun e => ?_)
  fin_cases e
  · exact Fin.ext (show 256 * r.val + 1 * i.val = 256 * r.val + i.val by omega)
  · exact Fin.ext (show 0 + 1 * n.val = n.val by omega)

/-- A tile of the hidden units. -/
def tile (q : Blk) (r : Fin 4) (j : Fin 11) : FVec Ideal S256x256 .bf16 :=
  hidT (rdA q r) (cols q (256 * j.val) (by omega)) (cols q (2816 + 256 * j.val) (by omega))

theorem tile_apply (q : Blk) (r : Fin 4) (j : Fin 11) (i n : Fin 256) :
    tile q r j (ix2 i n) = hidAt q ⟨256 * r.val + i.val, by omega⟩ ⟨256 * j.val + n.val, by omega⟩ := by
  unfold tile
  rw [hidT_apply]
  unfold hidAt hid
  simp only [rdA_apply, cols_apply, Nat.add_assoc]

/-- The stores of the hidden units. -/
def hidL (q : Blk) : List (View.Piece (Elt Ideal) S1024x2816 .bf16) :=
  [⟨rectT 3 10, tile q 3 10⟩,
   ⟨rectT 3 9, tile q 3 9⟩,
   ⟨rectT 3 8, tile q 3 8⟩,
   ⟨rectT 3 7, tile q 3 7⟩,
   ⟨rectT 3 6, tile q 3 6⟩,
   ⟨rectT 3 5, tile q 3 5⟩,
   ⟨rectT 3 4, tile q 3 4⟩,
   ⟨rectT 3 3, tile q 3 3⟩,
   ⟨rectT 3 2, tile q 3 2⟩,
   ⟨rectT 3 1, tile q 3 1⟩,
   ⟨rectT 3 0, tile q 3 0⟩,
   ⟨rectT 2 10, tile q 2 10⟩,
   ⟨rectT 2 9, tile q 2 9⟩,
   ⟨rectT 2 8, tile q 2 8⟩,
   ⟨rectT 2 7, tile q 2 7⟩,
   ⟨rectT 2 6, tile q 2 6⟩,
   ⟨rectT 2 5, tile q 2 5⟩,
   ⟨rectT 2 4, tile q 2 4⟩,
   ⟨rectT 2 3, tile q 2 3⟩,
   ⟨rectT 2 2, tile q 2 2⟩,
   ⟨rectT 2 1, tile q 2 1⟩,
   ⟨rectT 2 0, tile q 2 0⟩,
   ⟨rectT 1 10, tile q 1 10⟩,
   ⟨rectT 1 9, tile q 1 9⟩,
   ⟨rectT 1 8, tile q 1 8⟩,
   ⟨rectT 1 7, tile q 1 7⟩,
   ⟨rectT 1 6, tile q 1 6⟩,
   ⟨rectT 1 5, tile q 1 5⟩,
   ⟨rectT 1 4, tile q 1 4⟩,
   ⟨rectT 1 3, tile q 1 3⟩,
   ⟨rectT 1 2, tile q 1 2⟩,
   ⟨rectT 1 1, tile q 1 1⟩,
   ⟨rectT 1 0, tile q 1 0⟩,
   ⟨rectT 0 10, tile q 0 10⟩,
   ⟨rectT 0 9, tile q 0 9⟩,
   ⟨rectT 0 8, tile q 0 8⟩,
   ⟨rectT 0 7, tile q 0 7⟩,
   ⟨rectT 0 6, tile q 0 6⟩,
   ⟨rectT 0 5, tile q 0 5⟩,
   ⟨rectT 0 4, tile q 0 4⟩,
   ⟨rectT 0 3, tile q 0 3⟩,
   ⟨rectT 0 2, tile q 0 2⟩,
   ⟨rectT 0 1, tile q 0 1⟩,
   ⟨rectT 0 0, tile q 0 0⟩]

theorem canon_hidL (q : Blk) (ρ : Fin 1024) (ν : Fin 2816) : View.canon (hidL q) (ix2 ρ ν) = hidAt q ρ ν := by
  refine View.canon_apply_of_pieces (fun y : S1024x2816.Idx => hidAt q (y 0) (y 1)) _ (fun p hp x => ?_) (ix2 ρ ν)
    (View.cover_of_tiledL (hidL q) S256x256.size (by sl_kernel_rfl) _)
  have key : ∀ (r : Fin 4) (j : Fin 11) (x : S256x256.Idx), tile q r j x = hidAt q ((rectT r j).emb x 0) ((rectT r j).emb x 1) := by
    intro r j x
    obtain ⟨i, n, rfl⟩ : ∃ (i n : Fin 256), x = ix2 i n := ⟨x 0, x 1, ValueIdx.eq_ix2 x⟩
    rw [tile_apply]
    refine congrArg₂ (hidAt q) (Fin.ext ?_) (Fin.ext ?_)
    · show 256 * r.val + i.val = 256 * r.val + 1 * i.val; omega
    · show 256 * j.val + n.val = 256 * j.val + 1 * n.val; omega
  simp only [hidL, List.mem_cons, List.not_mem_nil, or_false] at hp
  rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  all_goals exact key _ _ x

/-- A part of the hidden units, read back. -/
def rdH (q : Blk) (r : Fin 4) : Vec Ideal S256x2816 .bf16 := q.a11.view.readCov (hidL q) (rectH r).toLoadRect

theorem rdH_apply (q : Blk) (r : Fin 4) (i : Fin 256) (j : Fin 2816) :
    rdH q r (ix2 i j) = hidAt q ⟨256 * r.val + i.val, by omega⟩ j := by
  rw [← canon_hidL]
  unfold rdH
  rw [View.readCov_eq_canon']
  refine congrArg (View.canon (hidL q)) (funext fun e => ?_)
  fin_cases e
  · exact Fin.ext (show 256 * r.val + 1 * i.val = 256 * r.val + i.val by omega)
  · exact Fin.ext (show 0 + 1 * j.val = j.val by omega)

/-- The last store of a part of the rows, over given stores. -/
def outT (q : Blk) (L : List (View.Piece (Elt Ideal) S1x1024x1024 .f32)) (r : Fin 4) : FVec Ideal S1x256x1024 .f32 :=
  topT (rdO q L r) (rdH q r) (wDown q) (vec q.a8 q.h8 q.x6)

theorem outT_apply (q : Blk) (L : List (View.Piece (Elt Ideal) S1x1024x1024 .f32)) (r : Fin 4) (i : Fin 256) (n : Fin 1024)
    (hL : ∀ n, View.canon L (ix3 0 ⟨256 * r.val + i.val, by omega⟩ n) = midAt q ⟨256 * r.val + i.val, by omega⟩ n) :
    outT q L r (ix3 0 i n) = outAt q ⟨256 * r.val + i.val, by omega⟩ n := by
  unfold outT
  rw [topT_apply, wDown_eq, vec_eq]
  unfold outAt
  simp only [rdO_apply, rdH_apply, hL]
  rfl

def outL0 (q : Blk) : List (View.Piece (Elt Ideal) S1x1024x1024 .f32) := ⟨rectO 0, outT q (midL q) 0⟩ :: midL q
def outL1 (q : Blk) : List (View.Piece (Elt Ideal) S1x1024x1024 .f32) := ⟨rectO 1, outT q (outL0 q) 1⟩ :: outL0 q
def outL2 (q : Blk) : List (View.Piece (Elt Ideal) S1x1024x1024 .f32) := ⟨rectO 2, outT q (outL1 q) 2⟩ :: outL1 q
def outL3 (q : Blk) : List (View.Piece (Elt Ideal) S1x1024x1024 .f32) := ⟨rectO 3, outT q (outL2 q) 3⟩ :: outL2 q

theorem before0 (q : Blk) (i : Fin 256) (n : Fin 1024) :
    View.canon (midL q) (ix3 0 ⟨256 * (0 : Fin 4).val + i.val, by have := i.isLt; simp; omega⟩ n) = midAt q ⟨256 * (0 : Fin 4).val + i.val, by have := i.isLt; simp; omega⟩ n :=
  canon_midL q 0 i n

theorem before1 (q : Blk) (i : Fin 256) (n : Fin 1024) :
    View.canon (outL0 q) (ix3 0 ⟨256 * (1 : Fin 4).val + i.val, by have := i.isLt; simp; omega⟩ n) = midAt q ⟨256 * (1 : Fin 4).val + i.val, by have := i.isLt; simp; omega⟩ n :=
  (rows3_miss _ _ _ _ _ (by right; simp; try omega)).trans (canon_midL q 1 i n)

theorem before2 (q : Blk) (i : Fin 256) (n : Fin 1024) :
    View.canon (outL1 q) (ix3 0 ⟨256 * (2 : Fin 4).val + i.val, by have := i.isLt; simp; omega⟩ n) = midAt q ⟨256 * (2 : Fin 4).val + i.val, by have := i.isLt; simp; omega⟩ n :=
  (rows3_miss _ _ _ _ _ (by right; simp; try omega)).trans ((rows3_miss _ _ _ _ _ (by right; simp; try omega)).trans (canon_midL q 2 i n))

theorem before3 (q : Blk) (i : Fin 256) (n : Fin 1024) :
    View.canon (outL2 q) (ix3 0 ⟨256 * (3 : Fin 4).val + i.val, by have := i.isLt; simp; omega⟩ n) = midAt q ⟨256 * (3 : Fin 4).val + i.val, by have := i.isLt; simp; omega⟩ n :=
  (rows3_miss _ _ _ _ _ (by right; simp; try omega)).trans ((rows3_miss _ _ _ _ _ (by right; simp; try omega)).trans ((rows3_miss _ _ _ _ _ (by right; simp; try omega)).trans (canon_midL q 3 i n)))

theorem canon_out (q : Blk) (r : Fin 4) (i : Fin 256) (n : Fin 1024) :
    View.canon (outL3 q) (ix3 0 ⟨256 * r.val + i.val, by omega⟩ n) = outAt q ⟨256 * r.val + i.val, by omega⟩ n := by
  have hi := i.isLt
  fin_cases r
  · exact (rows3_miss _ _ _ _ _ (by left; simp; try omega)).trans ((rows3_miss _ _ _ _ _ (by left; simp; try omega)).trans ((rows3_miss _ _ _ _ _ (by left; simp; try omega)).trans ((rows3_hit _ _ _ i n _ rfl).trans (outT_apply q (midL q) 0 i n (before0 q i)))))
  · exact (rows3_miss _ _ _ _ _ (by left; simp; try omega)).trans ((rows3_miss _ _ _ _ _ (by left; simp; try omega)).trans ((rows3_hit _ _ _ i n _ rfl).trans (outT_apply q (outL0 q) 1 i n (before1 q i))))
  · exact (rows3_miss _ _ _ _ _ (by left; simp; try omega)).trans ((rows3_hit _ _ _ i n _ rfl).trans (outT_apply q (outL1 q) 2 i n (before2 q i)))
  · exact (rows3_hit _ _ _ i n _ rfl).trans (outT_apply q (outL2 q) 3 i n (before3 q i))

/-- The body's stores are these. -/
theorem run_eq (c : Dev nD) (i : grid0.Coords) (q : Blk) :
    (kernelRun0_A (F := Ideal) c i q.a2 q.h2 q.a3 q.h3 q.a4 q.h4 q.a5 q.h5 q.a6 q.h6 q.a7 q.h7 q.a8 q.h8 q.a9 q.h9 q.a10 q.h10 q.a11 q.h11 q.x0 q.x1 q.x2 q.x3 q.x4 q.x5 q.x6).1 = outL3 q := rfl

theorem block (c : Dev nD) (i : grid0.Coords) (q : Blk) (ρ : Fin 1024) (n : Fin 1024) :
    out0_A_7 (F := Ideal) c i q.a2 q.h2 q.a3 q.h3 q.a4 q.h4 q.a5 q.h5 q.a6 q.h6 q.a7 q.h7 q.a8 q.h8 q.a9 q.h9 q.a10 q.h10 q.a11 q.h11 q.x0 q.x1 q.x2 q.x3 q.x4 q.x5 q.x6 (ix3 0 ρ n) = outAt q ρ n := by
  unfold out0_A_7
  rw [View.read_writes_junk_eq_canon, run_eq]
  have h := ρ.isLt
  refine (congrArg (fun ρ => View.canon (outL3 q) (ix3 0 ρ n)) (Fin.ext (show ρ.val = 256 * (ρ.val / 256) + ρ.val % 256 by omega))).trans
    ((canon_out q ⟨ρ.val / 256, by omega⟩ ⟨ρ.val % 256, by omega⟩ n).trans ?_)
  exact congrArg (fun ρ => outAt q ρ n) (Fin.ext (show 256 * (ρ.val / 256) + ρ.val % 256 = ρ.val by omega))

end Cert.LastTail

end
-- ==== Proof.LastTailArr.lean ====
module

public import proofs.«01_k».proof.Proof.LastTail
public import Idealize.ShloMosaic.Lib.StableHlo.RunRead

@[expose] public section

set_option maxRecDepth 16384

noncomputable section

namespace Cert.LastTail

open Cert.Kernel4Ideal Cert.Kernel4Ideal.Gen Cert.Tail
open Idealize.ShloMosaic Idealize.ShloMosaic.TcCoe
open Idealize.ShloMosaic.Pipeline (Window)

/-! ## The result, from the arguments' arrays -/

/-- One entry of the result: position `s` of sequence `b`, component `n`. -/
def resAt (a : FVec Ideal S2x8192x1024 .bf16) (x : FVec Ideal S2x8192x1024 .f32) (W : FVec Ideal S2x1024x1024 .f32) (nw : FVec Ideal S1024 .f32) (wi : FVec Ideal S1024x5632 .bf16) (wo : FVec Ideal S2816x1024 .bf16) (fw : FVec Ideal S1024 .f32) (b : Fin 2) (s : Fin 8192) (n : Fin 1024) : EReal :=
  nrm (layer (fun k => a (ix3 b s k)) (fun k => x (ix3 b s k)) (fun k => nw (ix1 k)) (fun k n => W (ix3 1 k n)) (fun k j => wi (ix2 k j)) (fun j n => wo (ix2 j n))) (fun k => fw (ix1 k)) n

variable (m : (ℓ : Loc nD τ sig) → Buf (Elt Ideal) ℓ)

/-! ## The arguments' arrays -/

abbrev arg0 (c : Dev nD) : FVec Ideal S2x8192x1024 .bf16 := m ((c : Thread nD τ).loc main_arg0)
abbrev arg1 (c : Dev nD) : FVec Ideal S2x8192x1024 .f32 := m ((c : Thread nD τ).loc main_arg1)
abbrev arg2 (c : Dev nD) : FVec Ideal S2x1024x1024 .f32 := m ((c : Thread nD τ).loc main_arg2)
abbrev arg3 (c : Dev nD) : FVec Ideal S1024 .f32 := m ((c : Thread nD τ).loc main_arg3)
abbrev arg4 (c : Dev nD) : FVec Ideal S1024x5632 .bf16 := m ((c : Thread nD τ).loc main_arg4)
abbrev arg5 (c : Dev nD) : FVec Ideal S2816x1024 .bf16 := m ((c : Thread nD τ).loc main_arg5)
abbrev arg6 (c : Dev nD) : FVec Ideal S1024 .f32 := m ((c : Thread nD τ).loc main_arg6)

/-- The sequence of a point. -/
abbrev seqOf (t : Fin cfg0.N) : Fin 2 := ⟨(grid0.coords t 0).val, (grid0.coords t 0).isLt⟩
theorem chunk_lt (t : Fin cfg0.N) : (grid0.coords t 1).val < 8 := (grid0.coords t 1).isLt
/-- The position of a point's row. -/
abbrev posOf (t : Fin cfg0.N) (ρ : Fin 1024) : Fin 8192 := ⟨1024 * (grid0.coords t 1).val + ρ.val, by have := chunk_lt t; omega⟩

theorem index0 : ∀ t : Fin grid0.N, win0_0.index t = ![(grid0.coords t 0).val, (grid0.coords t 1).val, 0] := by decide +kernel
theorem blk0 (c : Dev nD) (t : Fin cfg0.N) (ρ : Fin 1024) (k : Fin 1024) : iblk m c 0 t (ix3 0 ρ k) = arg0 m c (ix3 (seqOf t) (posOf t ρ) k) := by
  show V m c main_arg0 ((win0_0.rect t).emb (ix3 0 ρ k)) = _
  rw [V_main_arg0]
  refine congrArg (arg0 m c) (funext fun a => ?_)
  fin_cases a <;> refine Fin.ext ?_ <;> refine (Window.rect_emb_val win0_0 t _ _).trans ?_ <;> rw [index0]
  · show (grid0.coords t 0).val * 1 + 0 = (grid0.coords t 0).val; omega
  · show (grid0.coords t 1).val * 1024 + ρ.val = 1024 * (grid0.coords t 1).val + ρ.val; omega
  · show 0 * 1024 + k.val = k.val; omega

theorem index1 : ∀ t : Fin grid0.N, win0_1.index t = ![(grid0.coords t 0).val, (grid0.coords t 1).val, 0] := by decide +kernel
theorem blk1 (c : Dev nD) (t : Fin cfg0.N) (ρ : Fin 1024) (k : Fin 1024) : iblk m c 1 t (ix3 0 ρ k) = arg1 m c (ix3 (seqOf t) (posOf t ρ) k) := by
  show V m c main_arg1 ((win0_1.rect t).emb (ix3 0 ρ k)) = _
  rw [V_main_arg1]
  refine congrArg (arg1 m c) (funext fun a => ?_)
  fin_cases a <;> refine Fin.ext ?_ <;> refine (Window.rect_emb_val win0_1 t _ _).trans ?_ <;> rw [index1]
  · show (grid0.coords t 0).val * 1 + 0 = (grid0.coords t 0).val; omega
  · show (grid0.coords t 1).val * 1024 + ρ.val = 1024 * (grid0.coords t 1).val + ρ.val; omega
  · show 0 * 1024 + k.val = k.val; omega

theorem index2 : ∀ t : Fin grid0.N, win0_2.index t = ![1, 0, 0] := by decide +kernel
/-- The projection's weights as the host casts them. -/
theorem host2 (c : Dev nD) : V m c main_v0 = truncf .bf16 (arg2 m c) bitsLt_bf16_f32 := by
  rfl
theorem blk2 (c : Dev nD) (t : Fin cfg0.N) (r k : Fin 1024) : iblk m c 2 t (ix3 0 r k) = arg2 m c (ix3 1 r k) := by
  have e : iblk m c 2 t (ix3 0 r k) = V m c main_v0 (ix3 1 r k) := by
    show V m c main_v0 ((win0_2.rect t).emb (ix3 0 r k)) = _
    refine congrArg (V m c main_v0) (funext fun a => ?_)
    fin_cases a <;> refine Fin.ext ?_ <;> refine (Window.rect_emb_val win0_2 t _ _).trans ?_ <;> rw [index2]
    · rfl
    · show 0 * 1024 + r.val = r.val; omega
    · show 0 * 1024 + k.val = k.val; omega
  rw [e, host2]
  rfl

theorem index3 : ∀ t : Fin grid0.N, win0_3.index t = ![0, 0] := by decide +kernel
/-- The vector as the host lays it out. -/
theorem host3 (c : Dev nD) : V m c main_v1 = shapeCast S1x1024 (arg3 m c) shapeCasts_S1024_S1x1024 := by
  rfl
theorem blk3 (c : Dev nD) (t : Fin cfg0.N) (k : Fin 1024) : iblk m c 3 t (ix2 0 k) = arg3 m c (ix1 k) := by
  have e : iblk m c 3 t (ix2 0 k) = V m c main_v1 (ix2 0 k) := by
    show V m c main_v1 ((win0_3.rect t).emb (ix2 0 k)) = _
    refine congrArg (V m c main_v1) (funext fun a => ?_)
    fin_cases a <;> refine Fin.ext ?_ <;> refine (Window.rect_emb_val win0_3 t _ _).trans ?_ <;> rw [index3]
    · show 0 * 1 + 0 = 0; omega
    · show 0 * 1024 + k.val = k.val; omega
  rw [e, host3]
  pointwise []

theorem index4 : ∀ t : Fin grid0.N, win0_4.index t = ![0, 0] := by decide +kernel
theorem blk4 (c : Dev nD) (t : Fin cfg0.N) (r : Fin 1024) (k : Fin 5632) : iblk m c 4 t (ix2 r k) = arg4 m c (ix2 r k) := by
  show V m c main_arg4 ((win0_4.rect t).emb (ix2 r k)) = _
  rw [V_main_arg4]
  refine congrArg (arg4 m c) (funext fun a => ?_)
  fin_cases a <;> refine Fin.ext ?_ <;> refine (Window.rect_emb_val win0_4 t _ _).trans ?_ <;> rw [index4]
  · show 0 * 1024 + r.val = r.val; omega
  · show 0 * 5632 + k.val = k.val; omega

theorem index5 : ∀ t : Fin grid0.N, win0_5.index t = ![0, 0] := by decide +kernel
theorem blk5 (c : Dev nD) (t : Fin cfg0.N) (r : Fin 2816) (k : Fin 1024) : iblk m c 5 t (ix2 r k) = arg5 m c (ix2 r k) := by
  show V m c main_arg5 ((win0_5.rect t).emb (ix2 r k)) = _
  rw [V_main_arg5]
  refine congrArg (arg5 m c) (funext fun a => ?_)
  fin_cases a <;> refine Fin.ext ?_ <;> refine (Window.rect_emb_val win0_5 t _ _).trans ?_ <;> rw [index5]
  · show 0 * 2816 + r.val = r.val; omega
  · show 0 * 1024 + k.val = k.val; omega

theorem index6 : ∀ t : Fin grid0.N, win0_6.index t = ![0, 0] := by decide +kernel
/-- The vector as the host lays it out. -/
theorem host6 (c : Dev nD) : V m c main_v2 = shapeCast S1x1024 (arg6 m c) shapeCasts_S1024_S1x1024 := by
  rfl
theorem blk6 (c : Dev nD) (t : Fin cfg0.N) (k : Fin 1024) : iblk m c 6 t (ix2 0 k) = arg6 m c (ix1 k) := by
  have e : iblk m c 6 t (ix2 0 k) = V m c main_v2 (ix2 0 k) := by
    show V m c main_v2 ((win0_6.rect t).emb (ix2 0 k)) = _
    refine congrArg (V m c main_v2) (funext fun a => ?_)
    fin_cases a <;> refine Fin.ext ?_ <;> refine (Window.rect_emb_val win0_6 t _ _).trans ?_ <;> rw [index6]
    · show 0 * 1 + 0 = 0; omega
    · show 0 * 1024 + k.val = k.val; omega
  rw [e, host6]
  pointwise []

/-- A point's buffers and input blocks. -/
def ptBlk (c : Dev nD) (t : Fin cfg0.N) : Blk :=
  { a2 := ms0_0 t, h2 := hs0_0 t, a3 := ms0_1 t, h3 := hs0_1 t, a4 := ms0_2 t, h4 := hs0_2 t, a5 := ms0_3 t, h5 := hs0_3 t, a6 := ms0_4 t, h6 := hs0_4 t, a7 := ms0_5 t, h7 := hs0_5 t, a8 := ms0_6 t, h8 := hs0_6 t, a9 := ms0_7 t, h9 := hs0_7 t, a10 := scM0_0, h10 := Memref.isWhole_whole _, a11 := scM0_1, h11 := Memref.isWhole_whole _, x0 := iblk m c 0 t, x1 := iblk m c 1 t, x2 := iblk m c 2 t, x3 := iblk m c 3 t, x4 := iblk m c 4 t, x5 := iblk m c 5 t, x6 := iblk m c 6 t }

theorem outAt_eq (c : Dev nD) (t : Fin cfg0.N) (ρ : Fin 1024) (n : Fin 1024) :
    outAt (ptBlk m c t) ρ n = resAt (arg0 m c) (arg1 m c) (arg2 m c) (arg3 m c) (arg4 m c) (arg5 m c) (arg6 m c) (seqOf t) (posOf t ρ) n := by
  unfold outAt sumAt hidAt nrmAt midAt resAt layer
  dsimp only [ptBlk]
  simp only [blk0, blk1, blk2, blk3, blk4, blk5, blk6]

theorem flushed_apply (c : Dev nD) (t : Fin cfg0.N) (ρ : Fin 1024) (n : Fin 1024) :
    (dats m 0 c).flushed 7 t (ix3 0 ρ n) = resAt (arg0 m c) (arg1 m c) (arg2 m c) (arg3 m c) (arg4 m c) (arg5 m c) (arg6 m c) (seqOf t) (posOf t ρ) n := by
  rw [Value.flushed7_A]
  exact (block c (grid0.coords t) (ptBlk m c t) ρ n).trans (outAt_eq m c t ρ n)

/-- The result's array. -/
def res (c : Dev nD) : Buf (Elt Ideal) ((c : Thread nD τ).loc main_v3) := fun y : S2x8192x1024.Idx =>
  resAt (arg0 m c) (arg1 m c) (arg2 m c) (arg3 m c) (arg4 m c) (arg5 m c) (arg6 m c) (y 0) (y 1) (y 2)

theorem index7 : ∀ t : Fin grid0.N, win0_7.index t = ![(grid0.coords t 0).val, (grid0.coords t 1).val, 0] := by decide +kernel
theorem flush7 : ∀ t : Fin grid0.N, win0_7.flush t = true := by decide +kernel

theorem embOut (t : Fin cfg0.N) (ρ : Fin 1024) (n : Fin 1024) : (win0_7.rect t).emb (ix3 0 ρ n) = ix3 (seqOf t) (posOf t ρ) n := by
  funext a
  fin_cases a <;> refine Fin.ext ?_ <;> refine (Window.rect_emb_val win0_7 t _ _).trans ?_ <;> rw [index7]
  · show (grid0.coords t 0).val * 1 + 0 = (grid0.coords t 0).val; omega
  · show (grid0.coords t 1).val * 1024 + ρ.val = 1024 * (grid0.coords t 1).val + ρ.val; omega
  · show 0 * 1024 + n.val = n.val; omega

theorem result (c : Dev nD) : (dats m 0 c).arrAt 7 cfg0.N = res m c := by
  refine (dats m 0 c).arrAt_eq_of_cover 7 (res m c) (fun t _ => ?_) (fun i => ?_)
  · funext y
    obtain ⟨b, ρ, n, rfl⟩ : ∃ (b : Fin 1) (ρ : Fin 1024) (n : Fin 1024), y = ix3 b ρ n := ⟨y 0, y 1, y 2, ValueIdx.eq_ix3 y⟩
    obtain rfl : b = 0 := Subsingleton.elim _ _
    refine (flushed_apply m c t ρ n).trans ?_
    refine Eq.trans ?_ (show res m c ((win0_7.rect t).emb (ix3 0 ρ n)) = _ from rfl)
    rw [embOut]; rfl
  · obtain ⟨b, s, n, rfl⟩ : ∃ (b : Fin 2) (s : Fin 8192) (n : Fin 1024), i = ix3 b s n := ⟨i 0, i 1, i 2, ValueIdx.eq_ix3 i⟩
    have key : ∀ (p : Fin 2) (q : Fin 8), ∃ t : Fin grid0.N, (grid0.coords t 0).val = p.val ∧ (grid0.coords t 1).val = q.val := by decide +kernel
    obtain ⟨t, ht0, ht1⟩ := key b ⟨s.val / 1024, by omega⟩
    refine ⟨t, flush7 t, ?_⟩
    have e : ix3 b s n = (win0_7.rect t).emb (ix3 (0 : Fin 1) (⟨s.val % 1024, by omega⟩ : Fin 1024) n) := by
      rw [embOut]
      refine congrArg₂ (fun b s => ix3 b s n) (Fin.ext ht0.symm) (Fin.ext ?_)
      show s.val = 1024 * (grid0.coords t 1).val + s.val % 1024
      rw [ht1]; show s.val = 1024 * (s.val / 1024) + s.val % 1024; omega
    rw [e]
    exact View.emb_mem_set _ _

end Cert.LastTail

end
-- ==== Proof.LastTailRef.lean ====
module

public import proofs.«01_k».proof.Proof.LastTailArr
public import proofs.«01_k».proof.Proof.Gen.Reference4Ideal.Run
public import proofs.«01_k».proof.Proof.Gen.Reference4Ideal.Read
public import Idealize.ShloMosaic.Lib.KernelVsHost

@[expose] public section

set_option maxRecDepth 16384

/-! The reference's values, read off its operations. -/

noncomputable section

namespace Cert.LastTailRef

open Cert.Reference4Ideal Cert.Reference4Ideal.Gen Cert.Reference4Ideal.Read Cert.Tail
open Idealize.ShloMosaic Idealize.ShloMosaic.TcCoe

variable (x0 : FVec Ideal S2x8192x1024 .bf16) (x1 : FVec Ideal S2x8192x1024 .f32) (x2 : FVec Ideal S2x1024x1024 .f32) (x3 : FVec Ideal S1024 .f32) (x4 : FVec Ideal S1024x5632 .bf16) (x5 : FVec Ideal S2816x1024 .bf16) (x6 : FVec Ideal S1024 .f32)

theorem weights (k n : Fin 1024) : val_main_v2 (F := Ideal) x2 (ix2 k n) = x2 (ix3 1 k n) := by
  rw [val_main_v2_apply, val_main_v1_apply]
  refine congrArg x2 (funext fun a => ?_)
  fin_cases a <;> refine Fin.ext ?_
  · rfl
  · show (k.val * 1024 + n.val) / 1024 % 1024 = k.val; omega
  · show (k.val * 1024 + n.val) % 1024 = n.val; omega

theorem middle (b : Fin 2) (s : Fin 8192) (n : Fin 1024) :
    val_main_v4 (F := Ideal) x0 x1 x2 (ix3 b s n)
      = mid (fun k => x0 (ix3 b s k)) (fun k => x1 (ix3 b s k)) (fun k n => x2 (ix3 1 k n)) n := by
  rw [val_main_v4_apply, val_main_v3_apply]
  unfold mid
  refine congrArg (x1 (ix3 b s n) + ·) (Finset.sum_congr rfl fun k _ => ?_)
  rw [show lidx_main_v3 (ix3 b s n) k = ix3 b s k from funext fun a => by fin_cases a <;> rfl,
    show ridx_main_v3 (ix3 b s n) k = ix2 k n from funext fun a => by fin_cases a <;> rfl, weights]
  skip
  rfl
theorem normed (b : Fin 2) (s : Fin 8192) (n : Fin 1024) :
    val_main_v17 (F := Ideal) x0 x1 x2 x3 (ix3 b s n)
      = nrm (fun n => val_main_v4 (F := Ideal) x0 x1 x2 (ix3 b s n)) (fun k => x3 (ix1 k)) n := by
  rw [val_main_v17_apply, val_main_v14_apply, val_main_v13_apply, val_main_v12_apply, val_main_v11_apply, val_main_v9_apply, val_main_v7_apply, val_main_v6_apply, val_main_v8_apply, val_main_v10_apply, val_main_v16_apply, val_main_v15_apply]
  unfold nrm rms
  refine congrArg₂ (· * ·) (congrArg (val_main_v4 (F := Ideal) x0 x1 x2 (ix3 b s n) * ·) (congrArg (fun z => Ideal.rsqrt (Ideal.div z n1024 + eps)) ?_)) ?_
  · refine (congrArg₂ (· + ·) zero_bits (Finset.sum_congr rfl fun k _ => ?_)).trans (zero_add _)
    rw [val_main_v5_apply, show idx_main_v6 _ k = ix3 b s k from funext fun a => by fin_cases a <;> rfl]
    rfl
  · exact congrArg x3 (funext fun a => by fin_cases a; rfl)

theorem hidden_in (b : Fin 2) (s : Fin 8192) (j : Fin 5632) :
    val_main_v20 (F := Ideal) x0 x1 x2 x3 x4 (ix3 b s j) = ∑ k, val_main_v17 (F := Ideal) x0 x1 x2 x3 (ix3 b s k) * x4 (ix2 k j) := by
  rw [val_main_v20_apply]
  refine Finset.sum_congr rfl fun k _ => ?_
  rw [show lidx_main_v20 (ix3 b s j) k = ix3 b s k from funext fun a => by fin_cases a <;> rfl,
    show ridx_main_v20 (ix3 b s j) k = ix2 k j from funext fun a => by fin_cases a <;> rfl]
  rfl

theorem hidden (b : Fin 2) (s : Fin 8192) (j : Fin 2816) :
    val_main_v24 (F := Ideal) x0 x1 x2 x3 x4 (ix3 b s j)
      = hid (fun k => val_main_v17 (F := Ideal) x0 x1 x2 x3 (ix3 b s k)) (fun k j => x4 (ix2 k j)) j := by
  have e1 : val_main_v21 (F := Ideal) x0 x1 x2 x3 x4 (ix3 b s j) = ∑ k, val_main_v17 (F := Ideal) x0 x1 x2 x3 (ix3 b s k) * x4 (ix2 k ⟨j.val, by omega⟩) := by
    rw [val_main_v21_apply, ← hidden_in]
    exact congrArg _ (funext fun a => by fin_cases a <;> rfl)
  have e2 : val_main_v22 (F := Ideal) x0 x1 x2 x3 x4 (ix3 b s j) = ∑ k, val_main_v17 (F := Ideal) x0 x1 x2 x3 (ix3 b s k) * x4 (ix2 k ⟨2816 + j.val, by omega⟩) := by
    rw [val_main_v22_apply, ← hidden_in]
    exact congrArg _ (funext fun a => by fin_cases a <;> rfl)
  rw [val_main_v24_apply, val_main_v23_apply, val_main_call0_v5_apply, val_main_call0_v4_apply, val_main_call0_v3_apply, val_main_call0_v2_apply,
    val_main_call0_v1_apply, val_main_call0_v0_apply, e1, e2]
  unfold hid act
  generalize (∑ k, val_main_v17 (F := Ideal) x0 x1 x2 x3 (ix3 b s k) * x4 (ix2 k ⟨j.val, by omega⟩)) = g
  generalize (∑ k, val_main_v17 (F := Ideal) x0 x1 x2 x3 (ix3 b s k) * x4 (ix2 k ⟨2816 + j.val, by omega⟩)) = u
  show g * Ideal.div (Ideal.ofBits .f32 0x3F800000#32) (Ideal.ofBits .f32 0x3F800000#32 + Ideal.exp (-g)) * u = _
  rw [one_bits, zero_sub]

theorem summed (b : Fin 2) (s : Fin 8192) (n : Fin 1024) :
    val_main_v26 (F := Ideal) x0 x1 x2 x3 x4 x5 (ix3 b s n)
      = layer (fun k => x0 (ix3 b s k)) (fun k => x1 (ix3 b s k)) (fun k => x3 (ix1 k)) (fun k n => x2 (ix3 1 k n)) (fun k j => x4 (ix2 k j)) (fun j n => x5 (ix2 j n)) n := by
  rw [val_main_v26_apply, val_main_v25_apply, middle]
  unfold layer
  refine congrArg (mid (fun k => x0 (ix3 b s k)) (fun k => x1 (ix3 b s k)) (fun k n => x2 (ix3 1 k n)) n + ·) (Finset.sum_congr rfl fun j _ => ?_)
  rw [show lidx_main_v25 (ix3 b s n) j = ix3 b s j from funext fun a => by fin_cases a <;> rfl,
    show ridx_main_v25 (ix3 b s n) j = ix2 j n from funext fun a => by fin_cases a <;> rfl, hidden]
  simp only [normed, middle]
  rfl

theorem last (b : Fin 2) (s : Fin 8192) (n : Fin 1024) :
    val_main_v39 (F := Ideal) x0 x1 x2 x3 x4 x5 x6 (ix3 b s n)
      = nrm (fun n => val_main_v26 (F := Ideal) x0 x1 x2 x3 x4 x5 (ix3 b s n)) (fun k => x6 (ix1 k)) n := by
  rw [val_main_v39_apply, val_main_v36_apply, val_main_v35_apply, val_main_v34_apply, val_main_v33_apply, val_main_v31_apply, val_main_v29_apply,
    val_main_v28_apply, val_main_v30_apply, val_main_v32_apply, val_main_v38_apply, val_main_v37_apply]
  unfold nrm rms
  refine congrArg₂ (· * ·) (congrArg (val_main_v26 (F := Ideal) x0 x1 x2 x3 x4 x5 (ix3 b s n) * ·) (congrArg (fun z => Ideal.rsqrt (Ideal.div z n1024 + eps)) ?_)) ?_
  · refine (congrArg₂ (· + ·) zero_bits (Finset.sum_congr rfl fun k _ => ?_)).trans (zero_add _)
    rw [val_main_v27_apply, show idx_main_v28 _ k = ix3 b s k from funext fun a => by fin_cases a <;> rfl]
    rfl
  · exact congrArg x6 (funext fun a => by fin_cases a; rfl)

theorem result (y : S2x8192x1024.Idx) :
    val_main_v39 (F := Ideal) x0 x1 x2 x3 x4 x5 x6 y = Cert.LastTail.resAt x0 x1 x2 x3 x4 x5 x6 (y 0) (y 1) (y 2) := by
  obtain ⟨b, s, n, rfl⟩ : ∃ (b : Fin 2) (s : Fin 8192) (n : Fin 1024), y = ix3 b s n := ⟨y 0, y 1, y 2, ValueIdx.eq_ix3 y⟩
  refine (last x0 x1 x2 x3 x4 x5 x6 b s n).trans ?_
  simp only [summed]
  rfl

end Cert.LastTailRef

end
-- ==== Proof.TailClaim.lean ====
module

public import proofs.«01_k».proof.Defs
public import proofs.«01_k».proof.Proof.Gen.Kernel2.Frame
public import proofs.«01_k».proof.Proof.Gen.Kernel3.Frame
public import proofs.«01_k».proof.Proof.Gen.Kernel4.Frame
public import proofs.«01_k».proof.Proof.MlstmTailRef
public import proofs.«01_k».proof.Proof.AttnTailRef
public import proofs.«01_k».proof.Proof.LastTailRef
public import Idealize.ShloMosaic.Lib.Quiescent

@[expose] public section

set_option maxRecDepth 16384

noncomputable section

namespace Cert.TailClaim

open Idealize.ShloMosaic Idealize.ShloMosaic.TcCoe Idealize.SL.Sem

attribute [local instance] Cert.Kernel2.Gen.facts Cert.Kernel2Ideal.Gen.facts Cert.Reference2Ideal.Gen.facts Cert.Kernel3.Gen.facts Cert.Kernel3Ideal.Gen.facts Cert.Reference3Ideal.Gen.facts Cert.Kernel4.Gen.facts Cert.Kernel4Ideal.Gen.facts Cert.Reference4Ideal.Gen.facts

/-! ## MlstmTail -/

theorem kernel2_frame : Cert.quiescent_Kernel2 := fun m g _ => Cert.Kernel2.Gen.frame m g
theorem ideal2_frame : Cert.quiescent_Kernel2Ideal := fun m g _ => Cert.Kernel2Ideal.Gen.frame m g
theorem reference2_frame : Cert.quiescent_Reference2Ideal := fun m g _ =>
  (θ_run _ _ _).mono (fun r h => ⟨fun c => (h c).2, sem_eq_zero_of_no_sems (by decide) r.2⟩) (Cert.Reference2Ideal.Value.run m g)

theorem algebraic2 : Cert.algebraic_Kernel2Ideal_Reference2Ideal := by
  intro m g m' g' _ hm
  refine ⟨Cert.MlstmTail.res m, ?_, ?_⟩
  · exact (θ_run _ _ _).mono (fun r h c => ⟨(h c).1.trans (Cert.MlstmTail.result m c), (h c).2⟩) (Cert.Kernel2Ideal.Value.run_blocks m g)
  · refine (θ_run _ _ _).mono (fun r h c => ?_) (Cert.Reference2Ideal.Value.run m' g')
    obtain ⟨e0, e1, e2, e3, e4, e5, e6, e7⟩ := hm c
    obtain ⟨r0, hr⟩ := h c
    refine ⟨r0.trans ?_, hr⟩
    rw [Cert.Reference2Ideal.Read.val_main_v42_eq, e0, e1, e2, e3, e4, e5, e6, e7]
    funext y
    exact Cert.MlstmTailRef.result _ _ _ _ _ _ _ _ y

/-! ## AttnTail -/

theorem kernel3_frame : Cert.quiescent_Kernel3 := fun m g _ => Cert.Kernel3.Gen.frame m g
theorem ideal3_frame : Cert.quiescent_Kernel3Ideal := fun m g _ => Cert.Kernel3Ideal.Gen.frame m g
theorem reference3_frame : Cert.quiescent_Reference3Ideal := fun m g _ =>
  (θ_run _ _ _).mono (fun r h => ⟨fun c => (h c).2, sem_eq_zero_of_no_sems (by decide) r.2⟩) (Cert.Reference3Ideal.Value.run m g)

theorem algebraic3 : Cert.algebraic_Kernel3Ideal_Reference3Ideal := by
  intro m g m' g' _ hm
  refine ⟨Cert.AttnTail.res m, ?_, ?_⟩
  · exact (θ_run _ _ _).mono (fun r h c => ⟨(h c).1.trans (Cert.AttnTail.result m c), (h c).2⟩) (Cert.Kernel3Ideal.Value.run_blocks m g)
  · refine (θ_run _ _ _).mono (fun r h c => ?_) (Cert.Reference3Ideal.Value.run m' g')
    obtain ⟨e0, e1, e2, e3, e4, e5⟩ := hm c
    obtain ⟨r0, hr⟩ := h c
    refine ⟨r0.trans ?_, hr⟩
    rw [Cert.Reference3Ideal.Read.val_main_v26_eq, e0, e1, e2, e3, e4, e5]
    funext y
    exact Cert.AttnTailRef.result _ _ _ _ _ _ y

/-! ## LastTail -/

theorem kernel4_frame : Cert.quiescent_Kernel4 := fun m g _ => Cert.Kernel4.Gen.frame m g
theorem ideal4_frame : Cert.quiescent_Kernel4Ideal := fun m g _ => Cert.Kernel4Ideal.Gen.frame m g
theorem reference4_frame : Cert.quiescent_Reference4Ideal := fun m g _ =>
  (θ_run _ _ _).mono (fun r h => ⟨fun c => (h c).2, sem_eq_zero_of_no_sems (by decide) r.2⟩) (Cert.Reference4Ideal.Value.run m g)

theorem algebraic4 : Cert.algebraic_Kernel4Ideal_Reference4Ideal := by
  intro m g m' g' _ hm
  refine ⟨Cert.LastTail.res m, ?_, ?_⟩
  · exact (θ_run _ _ _).mono (fun r h c => ⟨(h c).1.trans (Cert.LastTail.result m c), (h c).2⟩) (Cert.Kernel4Ideal.Value.run_blocks m g)
  · refine (θ_run _ _ _).mono (fun r h c => ?_) (Cert.Reference4Ideal.Value.run m' g')
    obtain ⟨e0, e1, e2, e3, e4, e5, e6⟩ := hm c
    obtain ⟨r0, hr⟩ := h c
    refine ⟨r0.trans ?_, hr⟩
    rw [Cert.Reference4Ideal.Read.val_main_v39_eq, e0, e1, e2, e3, e4, e5, e6]
    funext y
    exact Cert.LastTailRef.result _ _ _ _ _ _ _ y

end Cert.TailClaim

end
-- ==== Proof.MlstmProj.lean ====
module

public import proofs.«01_k».proof.Proof.Gen.Kernel5Ideal.Value
public import proofs.«01_k».proof.Proof.TailMath

@[expose] public section

set_option maxRecDepth 16384

/-! The mLSTM's projections: what the kernel's body stores, from what it reads. -/

noncomputable section

namespace Cert.MlstmProj

open Cert.Kernel5Ideal Cert.Kernel5Ideal.Gen Cert.Tail
open Idealize.ShloMosaic Idealize.ShloMosaic.TcCoe

/-! ## One row's projections -/

/-- One column of a row's projection; `w` gives the weights column by column. -/
def proj (h : Fin 1024 → EReal) (w : Fin 3088 → Fin 1024 → EReal) (j : Fin 3088) : EReal := ∑ k, h k * w j k
/-- The logistic function. -/
def lgs (x : EReal) : EReal := Ideal.div 1 (1 + Ideal.exp (0 - x))
/-- The queries' scale. -/
def qscale : EReal := Ideal.ofBits .f32 0x3DB504F3#32

/-! ## What the body computes from what it reads -/

theorem readWhole {S : Shape} {e : EltTy} (m : Memref sig .tc .vmem S e) (h : m.IsWhole) (X : S.Idx → Elt Ideal e)
    {off : Fin S.rank → Nat} (h0 : off = fun _ => 0) (inb : ∀ a, off a + S.size a ≤ S.size a) :
    View.readAt (Elt Ideal) m.view (Rect.unit off S.size inb).toLoadRect (h.unread X) = X := by
  have e := View.ld_unit_zero (Val := Elt Ideal) h0 inb X
  refine Eq.trans ?_ e
  funext x
  rw [h.readAt_unread]

theorem zeros2 : (![0, 0] : Fin 2 → Nat) = fun _ => 0 := by funext a; fin_cases a <;> rfl

/-- A strip of the weights turned and cast. -/
def stripT (v : FVec Ideal S1x128x1024 .f32) : FVec Ideal S1024x128 .bf16 := k0_pay5 (F := Ideal) v
theorem stripT_apply (v : FVec Ideal S1x128x1024 .f32) (d : Fin 1024) (n : Fin 128) : stripT v (ix2 d n) = v (ix3 0 n d) := by
  pointwise [stripT, k0_pay5]

/-- Rows of the weights cast. -/
def rowsT (v : FVec Ideal S1x128x1024 .f32) : FVec Ideal S128x1024 .bf16 := k0_pay6 (F := Ideal) v
theorem rowsT_apply (v : FVec Ideal S1x128x1024 .f32) (n : Fin 128) (d : Fin 1024) : rowsT v (ix2 n d) = v (ix3 0 n d) := by
  pointwise [rowsT, k0_pay6]
/-- The gates' rows of the weights cast. -/
def gateT (v : FVec Ideal S1x16x1024 .f32) : FVec Ideal S16x1024 .bf16 := k0_pay33 (F := Ideal) v
theorem gateT_apply (v : FVec Ideal S1x16x1024 .f32) (n : Fin 16) (d : Fin 1024) : gateT v (ix2 n d) = v (ix3 0 n d) := by
  pointwise [gateT, k0_pay33]

/-- The rows normed. -/
def hnT (v : FVec Ideal S1x256x1024 .f32) (w : FVec Ideal S1x1024 .f32) : FVec Ideal S256x1024 .bf16 := k0_pay34 (F := Ideal) v w
theorem hnT_apply (v : FVec Ideal S1x256x1024 .f32) (w : FVec Ideal S1x1024 .f32) (i : Fin 256) (n : Fin 1024) :
    hnT v w (ix2 i n) = nrm (fun k => v (ix3 0 i k)) (fun k => w (ix2 0 k)) n := by
  pointwise [hnT, k0_pay34, nrm, rms, n1024, eps]

/-- The output gate's rows. -/
def ogT (v : FVec Ideal S1x256x1024 .f32) (w : FVec Ideal S1x1024 .f32) (W : FVec Ideal S1024x1024 .bf16) : FVec Ideal S1x256x1024 .bf16 :=
  k0_pay35 (F := Ideal) v w W
theorem ogT_apply (v : FVec Ideal S1x256x1024 .f32) (w : FVec Ideal S1x1024 .f32) (W : FVec Ideal S1024x1024 .bf16) (i : Fin 256) (n : Fin 1024) :
    ogT v w W (ix3 0 i n) = lgs (∑ k, hnT v w (ix2 i k) * W (ix2 k n)) := by
  pointwise [ogT, k0_pay35, lgs]
  try rfl

/-- The values' rows. -/
def vT (h : FVec Ideal S256x1024 .bf16) (W : FVec Ideal S1024x1024 .bf16) : FVec Ideal S1x256x1024 .bf16 := k0_pay36 (F := Ideal) h W
theorem vT_apply (h : FVec Ideal S256x1024 .bf16) (W : FVec Ideal S1024x1024 .bf16) (i : Fin 256) (n : Fin 1024) :
    vT h W (ix3 0 i n) = ∑ k, h (ix2 i k) * W (ix2 k n) := by
  pointwise [vT, k0_pay36]

/-- The queries' rows. -/
def qT (h : FVec Ideal S256x1024 .bf16) (W : FVec Ideal S1024x512 .bf16) : FVec Ideal S1x256x512 .bf16 := k0_pay37 (F := Ideal) h W
theorem qT_apply (h : FVec Ideal S256x1024 .bf16) (W : FVec Ideal S1024x512 .bf16) (i : Fin 256) (n : Fin 512) :
    qT h W (ix3 0 i n) = (∑ k, h (ix2 i k) * W (ix2 k n)) * qscale := by
  pointwise [qT, k0_pay37, qscale]

/-- The keys and gates of the rows, by column. -/
def kgT (h : FVec Ideal S256x1024 .bf16) (W : FVec Ideal S528x1024 .bf16) : FVec Ideal S528x256 .f32 := k0_pay38 (F := Ideal) h W
theorem kgT_apply (h : FVec Ideal S256x1024 .bf16) (W : FVec Ideal S528x1024 .bf16) (f : Fin 528) (i : Fin 256) :
    kgT h W (ix2 f i) = ∑ k, h (ix2 i k) * W (ix2 f k) := by
  refine Eq.trans (b := ∑ k, W (ix2 f k) * h (ix2 i k)) ?_ (Finset.sum_congr rfl fun k _ => mul_comm _ _)
  pointwise [kgT, k0_pay38]

/-- The keys of the rows' first and second chunks. -/
def ktT0 (h : FVec Ideal S256x1024 .bf16) (W : FVec Ideal S528x1024 .bf16) : FVec Ideal S1x1x512x128 .bf16 := k0_pay40 (F := Ideal) h W
def ktT1 (h : FVec Ideal S256x1024 .bf16) (W : FVec Ideal S528x1024 .bf16) : FVec Ideal S1x1x512x128 .bf16 := k0_pay43 (F := Ideal) (k0_pay42 (F := Ideal) h W)
theorem ktT0_apply (h : FVec Ideal S256x1024 .bf16) (W : FVec Ideal S528x1024 .bf16) (f : Fin 512) (l : Fin 128) :
    ktT0 h W (ix4 0 0 f l) = kgT h W (ix2 ⟨f.val, by omega⟩ ⟨l.val, by omega⟩) := by
  pointwise [ktT0, k0_pay40, k0_pay39]
  try rfl
theorem ktT1_apply (h : FVec Ideal S256x1024 .bf16) (W : FVec Ideal S528x1024 .bf16) (f : Fin 512) (l : Fin 128) :
    ktT1 h W (ix4 0 0 f l) = kgT h W (ix2 ⟨f.val, by omega⟩ ⟨128 + l.val, by omega⟩) := by
  pointwise [ktT1, k0_pay43, k0_pay42, k0_pay39]
  try rfl

/-- The gates of the rows' first and second chunks. -/
def rfT0 (h : FVec Ideal S256x1024 .bf16) (W : FVec Ideal S528x1024 .bf16) (b : FVec Ideal S16x128 .f32) : FVec Ideal S1x16x128 .f32 := k0_pay41 (F := Ideal) h W b
def rfT1 (h : FVec Ideal S256x1024 .bf16) (W : FVec Ideal S528x1024 .bf16) (b : FVec Ideal S16x128 .f32) : FVec Ideal S1x16x128 .f32 := k0_pay44 (F := Ideal) (kgT h W) b
theorem rfT0_apply (h : FVec Ideal S256x1024 .bf16) (W : FVec Ideal S528x1024 .bf16) (b : FVec Ideal S16x128 .f32) (g : Fin 16) (l : Fin 128) :
    rfT0 h W b (ix3 0 g l) = kgT h W (ix2 ⟨512 + g.val, by omega⟩ ⟨l.val, by omega⟩) + b (ix2 g l) := by
  pointwise [rfT0, k0_pay41]
  try rfl
theorem rfT1_apply (h : FVec Ideal S256x1024 .bf16) (W : FVec Ideal S528x1024 .bf16) (b : FVec Ideal S16x128 .f32) (g : Fin 16) (l : Fin 128) :
    rfT1 h W b (ix3 0 g l) = kgT h W (ix2 ⟨512 + g.val, by omega⟩ ⟨128 + l.val, by omega⟩) + b (ix2 g l) := by
  pointwise [rfT1, k0_pay44]
  try rfl

/-! ## What the body reads and stores -/

/-- A point's buffers and what its inputs hold. -/
structure Blk where
  a2 : Memref sig .tc .vmem S1x1024x1024 .f32
  h2 : a2.IsWhole
  a3 : Memref sig .tc .vmem S1x1024 .f32
  h3 : a3.IsWhole
  a4 : Memref sig .tc .vmem S1x3088x1024 .f32
  h4 : a4.IsWhole
  a5 : Memref sig .tc .vmem S16x128 .f32
  h5 : a5.IsWhole
  a6 : Memref sig .tc .vmem S1x1024x512 .bf16
  h6 : a6.IsWhole
  a7 : Memref sig .tc .vmem S1x8x512x128 .bf16
  h7 : a7.IsWhole
  a8 : Memref sig .tc .vmem S1x1024x1024 .bf16
  h8 : a8.IsWhole
  a9 : Memref sig .tc .vmem S1x1024x1024 .bf16
  h9 : a9.IsWhole
  a10 : Memref sig .tc .vmem S1x128x128 .f32
  h10 : a10.IsWhole
  a11 : Memref sig .tc .vmem S1024x2560 .bf16
  h11 : a11.IsWhole
  a12 : Memref sig .tc .vmem S528x1024 .bf16
  h12 : a12.IsWhole
  x0 : Vec Ideal S1x1024x1024 .f32
  x1 : Vec Ideal S1x1024 .f32
  x2 : Vec Ideal S1x3088x1024 .f32
  x3 : Vec Ideal S16x128 .f32

/-- The weights a block gives, column by column. -/
def wts (q : Blk) (j : Fin 3088) (k : Fin 1024) : EReal := q.x2 (ix3 0 j k)
/-- A row normed. -/
def hnAt (q : Blk) (ρ : Fin 1024) : Fin 1024 → EReal := nrm (fun k => q.x0 (ix3 0 ρ k)) (fun k => q.x1 (ix2 0 k))

theorem inbR (r : Fin 4) : ∀ a : Fin 3, ![0, 256 * r.val, 0] a + S1x256x1024.size a ≤ S1x1024x1024.size a := by
  have := r.isLt
  intro a; fin_cases a <;> simp [S1x256x1024, S1x1024x1024] <;> omega
theorem inbQ (r : Fin 4) : ∀ a : Fin 3, ![0, 256 * r.val, 0] a + S1x256x512.size a ≤ S1x1024x512.size a := by
  have := r.isLt
  intro a; fin_cases a <;> simp [S1x256x512, S1x1024x512] <;> omega
theorem inbK (j : Fin 8) : ∀ a : Fin 4, ![0, j.val, 0, 0] a + S1x1x512x128.size a ≤ S1x8x512x128.size a := by
  have := j.isLt
  intro a; fin_cases a <;> simp [S1x1x512x128, S1x8x512x128] <;> omega
theorem inbF (j : Fin 8) : ∀ a : Fin 3, ![0, 16 * j.val, 0] a + S1x16x128.size a ≤ S1x128x128.size a := by
  have := j.isLt
  intro a; fin_cases a <;> simp [S1x16x128, S1x128x128] <;> omega
theorem inbW (o : Nat) (h : o + 128 ≤ 2560) : ∀ a : Fin 2, ![0, o] a + S1024x128.size a ≤ S1024x2560.size a := by
  intro a; fin_cases a <;> simp [S1024x128, S1024x2560] <;> omega
theorem inbV (o : Nat) (h : o + 128 ≤ 528) : ∀ a : Fin 2, ![o, 0] a + S128x1024.size a ≤ S528x1024.size a := by
  intro a; fin_cases a <;> simp [S128x1024, S528x1024] <;> omega
theorem inbS (o : Nat) (h : o + 128 ≤ 3088) : ∀ a : Fin 3, ![0, o, 0] a + S1x128x1024.size a ≤ S1x3088x1024.size a := by
  intro a; fin_cases a <;> simp [S1x128x1024, S1x3088x1024] <;> omega

/-- Rows of the input, read. -/
def xRd (q : Blk) (r : Fin 4) : Vec Ideal S1x256x1024 .f32 :=
  View.readAt (Elt Ideal) q.a2.view (Rect.unit (s := S1x1024x1024) ![0, 256 * r.val, 0] S1x256x1024.size (inbR r)).toLoadRect (q.h2.unread q.x0)
theorem xRd_apply (q : Blk) (r : Fin 4) (i : Fin 256) (n : Fin 1024) :
    xRd q r (ix3 0 i n) = q.x0 (ix3 0 ⟨256 * r.val + i.val, by omega⟩ n) := by
  unfold xRd
  rw [Memref.IsWhole.readAt_unread]
  refine congrArg q.x0 (funext fun e => ?_)
  fin_cases e
  · rfl
  · exact Fin.ext (show 256 * r.val + 1 * i.val = 256 * r.val + i.val by omega)
  · exact Fin.ext (show 0 + 1 * n.val = n.val by omega)

/-- The norm's weights, read. -/
def nwRd (q : Blk) : Vec Ideal S1x1024 .f32 :=
  View.readAt (Elt Ideal) q.a3.view (Rect.unit (s := S1x1024) ![0, 0] S1x1024.size inb_S1x1024_S1x1024_0_0).toLoadRect (q.h3.unread q.x1)
theorem nwRd_eq (q : Blk) : nwRd q = q.x1 := readWhole _ _ _ zeros2 _
/-- The gates' biases, read. -/
def bRd (q : Blk) : Vec Ideal S16x128 .f32 :=
  View.readAt (Elt Ideal) q.a5.view (Rect.unit (s := S16x128) ![0, 0] S16x128.size inb_S16x128_S16x128_0_0).toLoadRect (q.h5.unread q.x3)
theorem bRd_eq (q : Blk) : bRd q = q.x3 := readWhole _ _ _ zeros2 _
/-- Rows of the weights, read. -/
def srcRd (q : Blk) (o : Nat) (h : o + 128 ≤ 3088) : Vec Ideal S1x128x1024 .f32 :=
  View.readAt (Elt Ideal) q.a4.view (Rect.unit (s := S1x3088x1024) ![0, o, 0] S1x128x1024.size (inbS o h)).toLoadRect (q.h4.unread q.x2)
theorem srcRd_apply (q : Blk) (o : Nat) (h : o + 128 ≤ 3088) (i : Fin 128) (d : Fin 1024) :
    srcRd q o h (ix3 0 i d) = wts q ⟨o + i.val, by omega⟩ d := by
  unfold srcRd
  rw [Memref.IsWhole.readAt_unread]
  refine congrArg q.x2 (funext fun e => ?_)
  fin_cases e
  · rfl
  · exact Fin.ext (show o + 1 * i.val = o + i.val by omega)
  · exact Fin.ext (show 0 + 1 * d.val = d.val by omega)
/-- The gates' rows of the weights, read. -/
def gRd (q : Blk) : Vec Ideal S1x16x1024 .f32 :=
  View.readAt (Elt Ideal) q.a4.view (Rect.unit (s := S1x3088x1024) ![0, 3072, 0] S1x16x1024.size inb_S1x3088x1024_S1x16x1024_0_3072_0).toLoadRect (q.h4.unread q.x2)
theorem gRd_apply (q : Blk) (i : Fin 16) (d : Fin 1024) : gRd q (ix3 0 i d) = wts q ⟨3072 + i.val, by omega⟩ d := by
  unfold gRd
  rw [Memref.IsWhole.readAt_unread]
  refine congrArg q.x2 (funext fun e => ?_)
  fin_cases e
  · rfl
  · exact Fin.ext (show 3072 + 1 * i.val = 3072 + i.val by omega)
  · exact Fin.ext (show 0 + 1 * d.val = d.val by omega)

def rectR (r : Fin 4) : Rect S1x1024x1024 := Rect.unit (s := S1x1024x1024) ![0, 256 * r.val, 0] S1x256x1024.size (inbR r)
def rectQ (r : Fin 4) : Rect S1x1024x512 := Rect.unit (s := S1x1024x512) ![0, 256 * r.val, 0] S1x256x512.size (inbQ r)
def rectK (j : Fin 8) : Rect S1x8x512x128 := Rect.unit (s := S1x8x512x128) ![0, j.val, 0, 0] S1x1x512x128.size (inbK j)
def rectF (j : Fin 8) : Rect S1x128x128 := Rect.unit (s := S1x128x128) ![0, 16 * j.val, 0] S1x16x128.size (inbF j)
def rectW (o : Nat) (h : o + 128 ≤ 2560) : Rect S1024x2560 := Rect.unit (s := S1024x2560) ![0, o] S1024x128.size (inbW o h)
def rectV (o : Nat) (h : o + 128 ≤ 528) : Rect S528x1024 := Rect.unit (s := S528x1024) ![o, 0] S128x1024.size (inbV o h)
def rectG : Rect S528x1024 := Rect.unit (s := S528x1024) ![512, 0] S16x1024.size inb_S528x1024_S16x1024_512_0

/-! ## The weights kept for all points -/

/-- The column of the weights that is kept at `j`. -/
def col0 (j : Fin 2560) : Fin 3088 := if h : j.val < 512 then ⟨j.val, by omega⟩ else ⟨j.val + 512, by omega⟩
def col1 (r : Fin 528) : Fin 3088 := if h : r.val < 512 then ⟨r.val + 512, by omega⟩ else ⟨r.val + 2560, by omega⟩

/-- The stores of the queries', values' and output gate's weights. -/
def wL (q : Blk) : List (View.Piece (Elt Ideal) S1024x2560 .bf16) :=
  [⟨rectW 2432 (by omega), stripT (srcRd q 2944 (by omega))⟩,
   ⟨rectW 2304 (by omega), stripT (srcRd q 2816 (by omega))⟩,
   ⟨rectW 2176 (by omega), stripT (srcRd q 2688 (by omega))⟩,
   ⟨rectW 2048 (by omega), stripT (srcRd q 2560 (by omega))⟩,
   ⟨rectW 1920 (by omega), stripT (srcRd q 2432 (by omega))⟩,
   ⟨rectW 1792 (by omega), stripT (srcRd q 2304 (by omega))⟩,
   ⟨rectW 1664 (by omega), stripT (srcRd q 2176 (by omega))⟩,
   ⟨rectW 1536 (by omega), stripT (srcRd q 2048 (by omega))⟩,
   ⟨rectW 1408 (by omega), stripT (srcRd q 1920 (by omega))⟩,
   ⟨rectW 1280 (by omega), stripT (srcRd q 1792 (by omega))⟩,
   ⟨rectW 1152 (by omega), stripT (srcRd q 1664 (by omega))⟩,
   ⟨rectW 1024 (by omega), stripT (srcRd q 1536 (by omega))⟩,
   ⟨rectW 896 (by omega), stripT (srcRd q 1408 (by omega))⟩,
   ⟨rectW 768 (by omega), stripT (srcRd q 1280 (by omega))⟩,
   ⟨rectW 640 (by omega), stripT (srcRd q 1152 (by omega))⟩,
   ⟨rectW 512 (by omega), stripT (srcRd q 1024 (by omega))⟩,
   ⟨rectW 384 (by omega), stripT (srcRd q 384 (by omega))⟩,
   ⟨rectW 256 (by omega), stripT (srcRd q 256 (by omega))⟩,
   ⟨rectW 128 (by omega), stripT (srcRd q 128 (by omega))⟩,
   ⟨rectW 0 (by omega), stripT (srcRd q 0 (by omega))⟩]

theorem canon_wL (q : Blk) (d : Fin 1024) (j : Fin 2560) : View.canon (wL q) (ix2 d j) = wts q (col0 j) d := by
  refine View.canon_apply_of_pieces (fun y : S1024x2560.Idx => wts q (col0 (y 1)) (y 0)) _ (fun p hp x => ?_) (ix2 d j)
    (View.cover_of_tiledL (wL q) S1024x128.size (by sl_kernel_rfl) _)
  have key : ∀ (o s : Nat) (ho : o + 128 ≤ 2560) (hs : s + 128 ≤ 3088) (_ : ∀ n : Fin 128, col0 ⟨o + n.val, by omega⟩ = ⟨s + n.val, by omega⟩) (x : S1024x128.Idx),
      stripT (srcRd q s hs) x = wts q (col0 ((rectW o ho).emb x 1)) ((rectW o ho).emb x 0) := by
    intro o s ho hs hc x
    obtain ⟨i, n, rfl⟩ : ∃ (i : Fin 1024) (n : Fin 128), x = ix2 i n := ⟨x 0, x 1, ValueIdx.eq_ix2 x⟩
    rw [stripT_apply, srcRd_apply, ← hc]
    refine congrArg₂ (fun a b => wts q (col0 a) b) (Fin.ext ?_) (Fin.ext ?_)
    · show o + n.val = o + 1 * n.val; omega
    · show i.val = 0 + 1 * i.val; omega
  simp only [wL, List.mem_cons, List.not_mem_nil, or_false] at hp
  rcases hp with rfl | rfl | rfl | rfl | rfl | rfl | rfl | rfl | rfl | rfl | rfl | rfl | rfl | rfl | rfl | rfl | rfl | rfl | rfl | rfl
  · exact key 2432 2944 (by omega) (by omega) (fun n => by have := n.isLt; unfold col0; rw [dif_neg (show ¬ 2432 + n.val < 512 by omega)]; exact Fin.ext (show 2432 + n.val + 512 = 2944 + n.val by omega)) x
  · exact key 2304 2816 (by omega) (by omega) (fun n => by have := n.isLt; unfold col0; rw [dif_neg (show ¬ 2304 + n.val < 512 by omega)]; exact Fin.ext (show 2304 + n.val + 512 = 2816 + n.val by omega)) x
  · exact key 2176 2688 (by omega) (by omega) (fun n => by have := n.isLt; unfold col0; rw [dif_neg (show ¬ 2176 + n.val < 512 by omega)]; exact Fin.ext (show 2176 + n.val + 512 = 2688 + n.val by omega)) x
  · exact key 2048 2560 (by omega) (by omega) (fun n => by have := n.isLt; unfold col0; rw [dif_neg (show ¬ 2048 + n.val < 512 by omega)]; exact Fin.ext (show 2048 + n.val + 512 = 2560 + n.val by omega)) x
  · exact key 1920 2432 (by omega) (by omega) (fun n => by have := n.isLt; unfold col0; rw [dif_neg (show ¬ 1920 + n.val < 512 by omega)]; exact Fin.ext (show 1920 + n.val + 512 = 2432 + n.val by omega)) x
  · exact key 1792 2304 (by omega) (by omega) (fun n => by have := n.isLt; unfold col0; rw [dif_neg (show ¬ 1792 + n.val < 512 by omega)]; exact Fin.ext (show 1792 + n.val + 512 = 2304 + n.val by omega)) x
  · exact key 1664 2176 (by omega) (by omega) (fun n => by have := n.isLt; unfold col0; rw [dif_neg (show ¬ 1664 + n.val < 512 by omega)]; exact Fin.ext (show 1664 + n.val + 512 = 2176 + n.val by omega)) x
  · exact key 1536 2048 (by omega) (by omega) (fun n => by have := n.isLt; unfold col0; rw [dif_neg (show ¬ 1536 + n.val < 512 by omega)]; exact Fin.ext (show 1536 + n.val + 512 = 2048 + n.val by omega)) x
  · exact key 1408 1920 (by omega) (by omega) (fun n => by have := n.isLt; unfold col0; rw [dif_neg (show ¬ 1408 + n.val < 512 by omega)]; exact Fin.ext (show 1408 + n.val + 512 = 1920 + n.val by omega)) x
  · exact key 1280 1792 (by omega) (by omega) (fun n => by have := n.isLt; unfold col0; rw [dif_neg (show ¬ 1280 + n.val < 512 by omega)]; exact Fin.ext (show 1280 + n.val + 512 = 1792 + n.val by omega)) x
  · exact key 1152 1664 (by omega) (by omega) (fun n => by have := n.isLt; unfold col0; rw [dif_neg (show ¬ 1152 + n.val < 512 by omega)]; exact Fin.ext (show 1152 + n.val + 512 = 1664 + n.val by omega)) x
  · exact key 1024 1536 (by omega) (by omega) (fun n => by have := n.isLt; unfold col0; rw [dif_neg (show ¬ 1024 + n.val < 512 by omega)]; exact Fin.ext (show 1024 + n.val + 512 = 1536 + n.val by omega)) x
  · exact key 896 1408 (by omega) (by omega) (fun n => by have := n.isLt; unfold col0; rw [dif_neg (show ¬ 896 + n.val < 512 by omega)]; exact Fin.ext (show 896 + n.val + 512 = 1408 + n.val by omega)) x
  · exact key 768 1280 (by omega) (by omega) (fun n => by have := n.isLt; unfold col0; rw [dif_neg (show ¬ 768 + n.val < 512 by omega)]; exact Fin.ext (show 768 + n.val + 512 = 1280 + n.val by omega)) x
  · exact key 640 1152 (by omega) (by omega) (fun n => by have := n.isLt; unfold col0; rw [dif_neg (show ¬ 640 + n.val < 512 by omega)]; exact Fin.ext (show 640 + n.val + 512 = 1152 + n.val by omega)) x
  · exact key 512 1024 (by omega) (by omega) (fun n => by have := n.isLt; unfold col0; rw [dif_neg (show ¬ 512 + n.val < 512 by omega)]; exact Fin.ext (show 512 + n.val + 512 = 1024 + n.val by omega)) x
  · exact key 384 384 (by omega) (by omega) (fun n => by have := n.isLt; unfold col0; rw [dif_pos (show 384 + n.val < 512 by omega)]) x
  · exact key 256 256 (by omega) (by omega) (fun n => by have := n.isLt; unfold col0; rw [dif_pos (show 256 + n.val < 512 by omega)]) x
  · exact key 128 128 (by omega) (by omega) (fun n => by have := n.isLt; unfold col0; rw [dif_pos (show 128 + n.val < 512 by omega)]) x
  · exact key 0 0 (by omega) (by omega) (fun n => by have := n.isLt; unfold col0; rw [dif_pos (show 0 + n.val < 512 by omega)]) x

/-- The stores of the keys' and gates' weights. -/
def vL (q : Blk) : List (View.Piece (Elt Ideal) S528x1024 .bf16) :=
  [⟨rectG, gateT (gRd q)⟩,
   ⟨rectV 384 (by omega), rowsT (srcRd q 896 (by omega))⟩,
   ⟨rectV 256 (by omega), rowsT (srcRd q 768 (by omega))⟩,
   ⟨rectV 128 (by omega), rowsT (srcRd q 640 (by omega))⟩,
   ⟨rectV 0 (by omega), rowsT (srcRd q 512 (by omega))⟩]

theorem canon_vL (q : Blk) (r : Fin 528) (d : Fin 1024) : View.canon (vL q) (ix2 r d) = wts q (col1 r) d := by
  refine View.canon_apply_of_pieces (fun y : S528x1024.Idx => wts q (col1 (y 0)) (y 1)) _ (fun p hp x => ?_) (ix2 r d)
    (View.cover_of_tiledBy (vL q) ![16, 1024] (by sl_kernel_rfl) _)
  have key : ∀ (o : Nat) (ho : o + 128 ≤ 512) (x : S128x1024.Idx),
      rowsT (srcRd q (o + 512) (by omega)) x = wts q (col1 ((rectV o (by omega)).emb x 0)) ((rectV o (by omega)).emb x 1) := by
    intro o ho x
    obtain ⟨i, n, rfl⟩ : ∃ (i : Fin 128) (n : Fin 1024), x = ix2 i n := ⟨x 0, x 1, ValueIdx.eq_ix2 x⟩
    rw [rowsT_apply, srcRd_apply]
    refine congrArg₂ (wts q) ?_ (Fin.ext ?_)
    · have h : (rectV o (by omega)).emb (ix2 i n) 0 = (⟨o + i.val, by omega⟩ : Fin 528) := Fin.ext (show o + 1 * i.val = o + i.val by omega)
      rw [h]
      unfold col1
      rw [dif_pos (show o + i.val < 512 by omega)]
      exact Fin.ext (show o + 512 + i.val = o + i.val + 512 by omega)
    · show n.val = 0 + 1 * n.val; omega
  simp only [vL, List.mem_cons, List.not_mem_nil, or_false] at hp
  rcases hp with rfl | rfl | rfl | rfl | rfl
  · obtain ⟨i, n, rfl⟩ : ∃ (i : Fin 16) (n : Fin 1024), x = ix2 i n := ⟨x 0, x 1, ValueIdx.eq_ix2 x⟩
    show gateT (gRd q) (ix2 i n) = wts q (col1 (rectG.emb (ix2 i n) 0)) (rectG.emb (ix2 i n) 1)
    rw [gateT_apply, gRd_apply]
    refine congrArg₂ (wts q) ?_ (Fin.ext ?_)
    · have h : rectG.emb (ix2 i n) 0 = (⟨512 + i.val, by omega⟩ : Fin 528) := Fin.ext (show 512 + 1 * i.val = 512 + i.val by omega)
      rw [h]
      unfold col1
      rw [dif_neg (show ¬ 512 + i.val < 512 by omega)]
      exact Fin.ext (show 3072 + i.val = 512 + i.val + 2560 by omega)
    · show n.val = 0 + 1 * n.val; omega
  · exact key 384 (by omega) x
  · exact key 256 (by omega) x
  · exact key 128 (by omega) x
  · exact key 0 (by omega) x

/-! ## The stores of the results, given the weights read -/

/-- The rows normed. -/
def hn (q : Blk) (r : Fin 4) : FVec Ideal S256x1024 .bf16 := hnT (xRd q r) (nwRd q)
theorem hn_apply (q : Blk) (r : Fin 4) (i : Fin 256) (n : Fin 1024) : hn q r (ix2 i n) = hnAt q ⟨256 * r.val + i.val, by omega⟩ n := by
  unfold hn
  rw [hnT_apply, nwRd_eq]
  unfold hnAt
  simp only [xRd_apply]

section Rows
variable (q : Blk) (WQ : Vec Ideal S1024x512 .bf16) (WV WO : Vec Ideal S1024x1024 .bf16) (WK : Vec Ideal S528x1024 .bf16)
  (w : Fin 3088 → Fin 1024 → EReal)

def qL : List (View.Piece (Elt Ideal) S1x1024x512 .bf16) :=
  [⟨rectQ 3, qT (hn q 3) WQ⟩, ⟨rectQ 2, qT (hn q 2) WQ⟩, ⟨rectQ 1, qT (hn q 1) WQ⟩, ⟨rectQ 0, qT (hn q 0) WQ⟩]
def vvL : List (View.Piece (Elt Ideal) S1x1024x1024 .bf16) :=
  [⟨rectR 3, vT (hn q 3) WV⟩, ⟨rectR 2, vT (hn q 2) WV⟩, ⟨rectR 1, vT (hn q 1) WV⟩, ⟨rectR 0, vT (hn q 0) WV⟩]
def ogL : List (View.Piece (Elt Ideal) S1x1024x1024 .bf16) :=
  [⟨rectR 3, ogT (xRd q 3) (nwRd q) WO⟩, ⟨rectR 2, ogT (xRd q 2) (nwRd q) WO⟩, ⟨rectR 1, ogT (xRd q 1) (nwRd q) WO⟩, ⟨rectR 0, ogT (xRd q 0) (nwRd q) WO⟩]
def ktL : List (View.Piece (Elt Ideal) S1x8x512x128 .bf16) :=
  [⟨rectK 7, ktT1 (hn q 3) WK⟩, ⟨rectK 6, ktT0 (hn q 3) WK⟩, ⟨rectK 5, ktT1 (hn q 2) WK⟩, ⟨rectK 4, ktT0 (hn q 2) WK⟩,
   ⟨rectK 3, ktT1 (hn q 1) WK⟩, ⟨rectK 2, ktT0 (hn q 1) WK⟩, ⟨rectK 1, ktT1 (hn q 0) WK⟩, ⟨rectK 0, ktT0 (hn q 0) WK⟩]
def rfL : List (View.Piece (Elt Ideal) S1x128x128 .f32) :=
  [⟨rectF 7, rfT1 (hn q 3) WK (bRd q)⟩, ⟨rectF 6, rfT0 (hn q 3) WK (bRd q)⟩, ⟨rectF 5, rfT1 (hn q 2) WK (bRd q)⟩, ⟨rectF 4, rfT0 (hn q 2) WK (bRd q)⟩,
   ⟨rectF 3, rfT1 (hn q 1) WK (bRd q)⟩, ⟨rectF 2, rfT0 (hn q 1) WK (bRd q)⟩, ⟨rectF 1, rfT1 (hn q 0) WK (bRd q)⟩, ⟨rectF 0, rfT0 (hn q 0) WK (bRd q)⟩]

/-- The five results' entries. -/
def qAt (ρ : Fin 1024) (n : Fin 512) : EReal := proj (hnAt q ρ) w ⟨n.val, by omega⟩ * qscale
def vAt (ρ : Fin 1024) (n : Fin 1024) : EReal := proj (hnAt q ρ) w ⟨1024 + n.val, by omega⟩
def ogAt (ρ : Fin 1024) (n : Fin 1024) : EReal := lgs (proj (hnAt q ρ) w ⟨2048 + n.val, by omega⟩)
def ktAt (j : Fin 8) (f : Fin 512) (l : Fin 128) : EReal := proj (hnAt q ⟨128 * j.val + l.val, by omega⟩) w ⟨512 + f.val, by omega⟩
def rfAt (j : Fin 8) (g : Fin 16) (l : Fin 128) : EReal :=
  proj (hnAt q ⟨128 * j.val + l.val, by omega⟩) w ⟨3072 + g.val, by omega⟩ + q.x3 (ix2 g l)

theorem canon_qL (hq : ∀ k n, WQ (ix2 k n) = w ⟨n.val, by omega⟩ k) (ρ : Fin 1024) (n : Fin 512) :
    View.canon (qL q WQ) (ix3 0 ρ n) = qAt q w ρ n := by
  refine View.canon_apply_of_pieces (fun y : S1x1024x512.Idx => qAt q w (y 1) (y 2)) _ (fun p hp x => ?_) (ix3 0 ρ n)
    (View.cover_of_tiledL (qL q WQ) S1x256x512.size (by sl_kernel_rfl) _)
  have key : ∀ (r : Fin 4) (x : S1x256x512.Idx), qT (hn q r) WQ x = qAt q w ((rectQ r).emb x 1) ((rectQ r).emb x 2) := by
    intro r x
    obtain ⟨b, i, n, rfl⟩ : ∃ (b : Fin 1) (i : Fin 256) (n : Fin 512), x = ix3 b i n := ⟨x 0, x 1, x 2, ValueIdx.eq_ix3 x⟩
    obtain rfl : b = 0 := Subsingleton.elim _ _
    rw [qT_apply]
    refine Eq.trans (b := qAt q w ⟨256 * r.val + i.val, by omega⟩ n) ?_ (congrArg₂ (qAt q w) (Fin.ext ?_) (Fin.ext ?_))
    · unfold qAt proj
      simp only [hn_apply, hq]
    · show 256 * r.val + i.val = 256 * r.val + 1 * i.val; omega
    · show n.val = 0 + 1 * n.val; omega
  simp only [qL, List.mem_cons, List.not_mem_nil, or_false] at hp
  rcases hp with rfl | rfl | rfl | rfl
  all_goals exact key _ x

theorem canon_vvL (hv : ∀ k n, WV (ix2 k n) = w ⟨1024 + n.val, by omega⟩ k) (ρ : Fin 1024) (n : Fin 1024) :
    View.canon (vvL q WV) (ix3 0 ρ n) = vAt q w ρ n := by
  refine View.canon_apply_of_pieces (fun y : S1x1024x1024.Idx => vAt q w (y 1) (y 2)) _ (fun p hp x => ?_) (ix3 0 ρ n)
    (View.cover_of_tiledL (vvL q WV) S1x256x1024.size (by sl_kernel_rfl) _)
  have key : ∀ (r : Fin 4) (x : S1x256x1024.Idx), vT (hn q r) WV x = vAt q w ((rectR r).emb x 1) ((rectR r).emb x 2) := by
    intro r x
    obtain ⟨b, i, n, rfl⟩ : ∃ (b : Fin 1) (i : Fin 256) (n : Fin 1024), x = ix3 b i n := ⟨x 0, x 1, x 2, ValueIdx.eq_ix3 x⟩
    obtain rfl : b = 0 := Subsingleton.elim _ _
    rw [vT_apply]
    refine Eq.trans (b := vAt q w ⟨256 * r.val + i.val, by omega⟩ n) ?_ (congrArg₂ (vAt q w) (Fin.ext ?_) (Fin.ext ?_))
    · unfold vAt proj
      simp only [hn_apply, hv]
    · show 256 * r.val + i.val = 256 * r.val + 1 * i.val; omega
    · show n.val = 0 + 1 * n.val; omega
  simp only [vvL, List.mem_cons, List.not_mem_nil, or_false] at hp
  rcases hp with rfl | rfl | rfl | rfl
  all_goals exact key _ x

theorem canon_ogL (ho : ∀ k n, WO (ix2 k n) = w ⟨2048 + n.val, by omega⟩ k) (ρ : Fin 1024) (n : Fin 1024) :
    View.canon (ogL q WO) (ix3 0 ρ n) = ogAt q w ρ n := by
  refine View.canon_apply_of_pieces (fun y : S1x1024x1024.Idx => ogAt q w (y 1) (y 2)) _ (fun p hp x => ?_) (ix3 0 ρ n)
    (View.cover_of_tiledL (ogL q WO) S1x256x1024.size (by sl_kernel_rfl) _)
  have key : ∀ (r : Fin 4) (x : S1x256x1024.Idx), ogT (xRd q r) (nwRd q) WO x = ogAt q w ((rectR r).emb x 1) ((rectR r).emb x 2) := by
    intro r x
    obtain ⟨b, i, n, rfl⟩ : ∃ (b : Fin 1) (i : Fin 256) (n : Fin 1024), x = ix3 b i n := ⟨x 0, x 1, x 2, ValueIdx.eq_ix3 x⟩
    obtain rfl : b = 0 := Subsingleton.elim _ _
    rw [ogT_apply, show hnT (xRd q r) (nwRd q) = hn q r from rfl]
    refine Eq.trans (b := ogAt q w ⟨256 * r.val + i.val, by omega⟩ n) ?_ (congrArg₂ (ogAt q w) (Fin.ext ?_) (Fin.ext ?_))
    · unfold ogAt proj
      simp only [hn_apply, ho]
    · show 256 * r.val + i.val = 256 * r.val + 1 * i.val; omega
    · show n.val = 0 + 1 * n.val; omega
  simp only [ogL, List.mem_cons, List.not_mem_nil, or_false] at hp
  rcases hp with rfl | rfl | rfl | rfl
  all_goals exact key _ x

theorem kg_apply (hk : ∀ f k, WK (ix2 f k) = w (col1 f) k) (r : Fin 4) (f : Fin 528) (i : Fin 256) :
    kgT (hn q r) WK (ix2 f i) = proj (hnAt q ⟨256 * r.val + i.val, by omega⟩) w (col1 f) := by
  rw [kgT_apply]
  unfold proj
  simp only [hn_apply, hk]

theorem canon_ktL (hk : ∀ f k, WK (ix2 f k) = w (col1 f) k) (j : Fin 8) (f : Fin 512) (l : Fin 128) :
    View.canon (ktL q WK) (ix4 0 j f l) = ktAt q w j f l := by
  refine View.canon_apply_of_pieces (fun y : S1x8x512x128.Idx => ktAt q w (y 1) (y 2) (y 3)) _ (fun p hp x => ?_) (ix4 0 j f l)
    (View.cover_of_tiledL (ktL q WK) S1x1x512x128.size (by sl_kernel_rfl) _)
  have fin : ∀ (j : Fin 8) (f : Fin 512) (l : Fin 128), ktAt q w j f l = ktAt q w ((rectK j).emb (ix4 (0 : Fin 1) (0 : Fin 1) f l) 1) ((rectK j).emb (ix4 (0 : Fin 1) (0 : Fin 1) f l) 2) ((rectK j).emb (ix4 (0 : Fin 1) (0 : Fin 1) f l) 3) := by
    intro j f l
    have e1 : (rectK j).emb (ix4 (0 : Fin 1) (0 : Fin 1) f l) 1 = j := Fin.ext (show j.val + 1 * 0 = j.val by omega)
    have e2 : (rectK j).emb (ix4 (0 : Fin 1) (0 : Fin 1) f l) 2 = f := Fin.ext (show 0 + 1 * f.val = f.val by omega)
    have e3 : (rectK j).emb (ix4 (0 : Fin 1) (0 : Fin 1) f l) 3 = l := Fin.ext (show 0 + 1 * l.val = l.val by omega)
    rw [e1, e2, e3]
  have ec : ∀ f : Fin 512, col1 ⟨f.val, by omega⟩ = ⟨512 + f.val, by omega⟩ := by
    intro f
    unfold col1
    rw [dif_pos (show f.val < 512 from f.isLt)]
    exact Fin.ext (show f.val + 512 = 512 + f.val by omega)
  have key0 : ∀ (r : Fin 4) (j : Fin 8) (_ : j.val = 2 * r.val) (x : S1x1x512x128.Idx), ktT0 (hn q r) WK x = ktAt q w ((rectK j).emb x 1) ((rectK j).emb x 2) ((rectK j).emb x 3) := by
    intro r j hj x
    obtain ⟨b, b', f, l, rfl⟩ : ∃ (b b' : Fin 1) (f : Fin 512) (l : Fin 128), x = ix4 b b' f l := ⟨x 0, x 1, x 2, x 3, ValueIdx.eq_ix4 x⟩
    obtain rfl : b = 0 := Subsingleton.elim _ _
    obtain rfl : b' = 0 := Subsingleton.elim _ _
    rw [ktT0_apply, kg_apply q WK w hk, ec, ← fin]
    unfold ktAt
    exact congrArg (fun ρ => proj (hnAt q ρ) w _) (Fin.ext (show 256 * r.val + l.val = 128 * j.val + l.val by omega))
  have key1 : ∀ (r : Fin 4) (j : Fin 8) (_ : j.val = 2 * r.val + 1) (x : S1x1x512x128.Idx), ktT1 (hn q r) WK x = ktAt q w ((rectK j).emb x 1) ((rectK j).emb x 2) ((rectK j).emb x 3) := by
    intro r j hj x
    obtain ⟨b, b', f, l, rfl⟩ : ∃ (b b' : Fin 1) (f : Fin 512) (l : Fin 128), x = ix4 b b' f l := ⟨x 0, x 1, x 2, x 3, ValueIdx.eq_ix4 x⟩
    obtain rfl : b = 0 := Subsingleton.elim _ _
    obtain rfl : b' = 0 := Subsingleton.elim _ _
    rw [ktT1_apply, kg_apply q WK w hk, ec, ← fin]
    unfold ktAt
    exact congrArg (fun ρ => proj (hnAt q ρ) w _) (Fin.ext (show 256 * r.val + (128 + l.val) = 128 * j.val + l.val by omega))
  simp only [ktL, List.mem_cons, List.not_mem_nil, or_false] at hp
  rcases hp with rfl | rfl | rfl | rfl | rfl | rfl | rfl | rfl
  · exact key1 3 7 rfl x
  · exact key0 3 6 rfl x
  · exact key1 2 5 rfl x
  · exact key0 2 4 rfl x
  · exact key1 1 3 rfl x
  · exact key0 1 2 rfl x
  · exact key1 0 1 rfl x
  · exact key0 0 0 rfl x

theorem canon_rfL (hk : ∀ f k, WK (ix2 f k) = w (col1 f) k) (ρ : Fin 128) (l : Fin 128) :
    View.canon (rfL q WK) (ix3 0 ρ l) = rfAt q w ⟨ρ.val / 16, by omega⟩ ⟨ρ.val % 16, by omega⟩ l := by
  refine View.canon_apply_of_pieces (fun y : S1x128x128.Idx => rfAt q w ⟨(y 1).val / 16, by have : (y 1).val < 128 := (y 1).isLt; omega⟩ ⟨(y 1).val % 16, by omega⟩ (y 2)) _ (fun p hp x => ?_) (ix3 0 ρ l)
    (View.cover_of_tiledL (rfL q WK) S1x16x128.size (by sl_kernel_rfl) _)
  have fin : ∀ (j : Fin 8) (g : Fin 16) (l : Fin 128), rfAt q w j g l = rfAt q w ⟨((rectF j).emb (ix3 (0 : Fin 1) g l) 1).val / 16, by have : ((rectF j).emb (ix3 (0 : Fin 1) g l) 1).val < 128 := Fin.isLt _; omega⟩ ⟨((rectF j).emb (ix3 (0 : Fin 1) g l) 1).val % 16, by omega⟩ ((rectF j).emb (ix3 (0 : Fin 1) g l) 2) := by
    intro j g l
    have e1 : ((rectF j).emb (ix3 (0 : Fin 1) g l) 1).val = 16 * j.val + 1 * g.val := rfl
    have e2 : (rectF j).emb (ix3 (0 : Fin 1) g l) 2 = l := Fin.ext (show 0 + 1 * l.val = l.val by omega)
    rw [e2]
    exact congrArg₂ (fun a b => rfAt q w a b l) (Fin.ext (show j.val = ((rectF j).emb (ix3 (0 : Fin 1) g l) 1).val / 16 by omega))
      (Fin.ext (show g.val = ((rectF j).emb (ix3 (0 : Fin 1) g l) 1).val % 16 by omega))
  have ec : ∀ g : Fin 16, col1 ⟨512 + g.val, by omega⟩ = ⟨3072 + g.val, by omega⟩ := by
    intro g
    unfold col1
    rw [dif_neg (show ¬ 512 + g.val < 512 by omega)]
    exact Fin.ext (show 512 + g.val + 2560 = 3072 + g.val by omega)
  have key0 : ∀ (r : Fin 4) (j : Fin 8) (_ : j.val = 2 * r.val) (g : Fin 16) (l : Fin 128), rfT0 (hn q r) WK (bRd q) (ix3 0 g l) = rfAt q w j g l := by
    intro r j hj g l
    rw [rfT0_apply, kg_apply q WK w hk, ec, bRd_eq]
    unfold rfAt
    exact congrArg (fun ρ => proj (hnAt q ρ) w _ + q.x3 (ix2 g l)) (Fin.ext (show 256 * r.val + l.val = 128 * j.val + l.val by omega))
  have key1 : ∀ (r : Fin 4) (j : Fin 8) (_ : j.val = 2 * r.val + 1) (g : Fin 16) (l : Fin 128), rfT1 (hn q r) WK (bRd q) (ix3 0 g l) = rfAt q w j g l := by
    intro r j hj g l
    rw [rfT1_apply, kg_apply q WK w hk, ec, bRd_eq]
    unfold rfAt
    exact congrArg (fun ρ => proj (hnAt q ρ) w _ + q.x3 (ix2 g l)) (Fin.ext (show 256 * r.val + (128 + l.val) = 128 * j.val + l.val by omega))
  have split : ∀ x : S1x16x128.Idx, ∃ (g : Fin 16) (l : Fin 128), x = ix3 0 g l := by
    intro x
    obtain ⟨b, g, l, rfl⟩ : ∃ (b : Fin 1) (g : Fin 16) (l : Fin 128), x = ix3 b g l := ⟨x 0, x 1, x 2, ValueIdx.eq_ix3 x⟩
    obtain rfl : b = 0 := Subsingleton.elim _ _
    exact ⟨g, l, rfl⟩
  simp only [rfL, List.mem_cons, List.not_mem_nil, or_false] at hp
  rcases hp with rfl | rfl | rfl | rfl | rfl | rfl | rfl | rfl <;> obtain ⟨g, l, rfl⟩ := split x
  · exact (key1 3 7 rfl g l).trans (fin 7 g l)
  · exact (key0 3 6 rfl g l).trans (fin 6 g l)
  · exact (key1 2 5 rfl g l).trans (fin 5 g l)
  · exact (key0 2 4 rfl g l).trans (fin 4 g l)
  · exact (key1 1 3 rfl g l).trans (fin 3 g l)
  · exact (key0 1 2 rfl g l).trans (fin 2 g l)
  · exact (key1 0 1 rfl g l).trans (fin 1 g l)
  · exact (key0 0 0 rfl g l).trans (fin 0 g l)

end Rows

end Cert.MlstmProj

end
-- ==== Proof.MlstmProjRun.lean ====
module

public import proofs.«01_k».proof.Proof.MlstmProj

@[expose] public section

set_option maxRecDepth 16384

/-! The mLSTM's projections: the body at the first point, where it stores the weights, and at the others, where it finds them. -/

noncomputable section

namespace Cert.MlstmProj

open Cert.Kernel5Ideal Cert.Kernel5Ideal.Gen Cert.Tail
open Idealize.ShloMosaic Idealize.ShloMosaic.TcCoe

def rectWQ : Rect S1024x2560 := Rect.unit (s := S1024x2560) ![0, 0] S1024x512.size inb_S1024x2560_S1024x512_0_0
def rectWV : Rect S1024x2560 := Rect.unit (s := S1024x2560) ![0, 512] S1024x1024.size inb_S1024x2560_S1024x1024_0_512
def rectWO : Rect S1024x2560 := Rect.unit (s := S1024x2560) ![0, 1536] S1024x1024.size inb_S1024x2560_S1024x1024_0_1536
def rectWK : Rect S528x1024 := Rect.unit (s := S528x1024) ![0, 0] S528x1024.size inb_S528x1024_S528x1024_0_0

theorem colQ (n : Fin 512) : col0 ⟨n.val, by omega⟩ = ⟨n.val, by omega⟩ := by
  unfold col0; rw [dif_pos (show n.val < 512 from n.isLt)]
theorem colV (n : Fin 1024) : col0 ⟨512 + n.val, by omega⟩ = ⟨1024 + n.val, by omega⟩ := by
  unfold col0; rw [dif_neg (show ¬ 512 + n.val < 512 by omega)]; exact Fin.ext (show 512 + n.val + 512 = 1024 + n.val by omega)
theorem colO (n : Fin 1024) : col0 ⟨1536 + n.val, by omega⟩ = ⟨2048 + n.val, by omega⟩ := by
  unfold col0; rw [dif_neg (show ¬ 1536 + n.val < 512 by omega)]; exact Fin.ext (show 1536 + n.val + 512 = 2048 + n.val by omega)

theorem embWQ (k : Fin 1024) (n : Fin 512) : rectWQ.emb (ix2 k n) = ix2 k (⟨n.val, by omega⟩ : Fin 2560) := by
  funext a; fin_cases a
  · exact Fin.ext (show 0 + 1 * k.val = k.val by omega)
  · exact Fin.ext (show 0 + 1 * n.val = n.val by omega)
theorem embWV (k n : Fin 1024) : rectWV.emb (ix2 k n) = ix2 k (⟨512 + n.val, by omega⟩ : Fin 2560) := by
  funext a; fin_cases a
  · exact Fin.ext (show 0 + 1 * k.val = k.val by omega)
  · exact Fin.ext (show 512 + 1 * n.val = 512 + n.val by omega)
theorem embWO (k n : Fin 1024) : rectWO.emb (ix2 k n) = ix2 k (⟨1536 + n.val, by omega⟩ : Fin 2560) := by
  funext a; fin_cases a
  · exact Fin.ext (show 0 + 1 * k.val = k.val by omega)
  · exact Fin.ext (show 1536 + 1 * n.val = 1536 + n.val by omega)
theorem embWK (f : Fin 528) (k : Fin 1024) : rectWK.emb (ix2 f k) = ix2 f k := by
  funext a; fin_cases a
  · exact Fin.ext (show 0 + 1 * f.val = f.val by omega)
  · exact Fin.ext (show 0 + 1 * k.val = k.val by omega)

/-! ## The first point: the weights read back over their stores -/

def wqA (q : Blk) : Vec Ideal S1024x512 .bf16 := q.a11.view.readCov (wL q) rectWQ.toLoadRect
def wvA (q : Blk) : Vec Ideal S1024x1024 .bf16 := q.a11.view.readCov (wL q) rectWV.toLoadRect
def woA (q : Blk) : Vec Ideal S1024x1024 .bf16 := q.a11.view.readCov (wL q) rectWO.toLoadRect
def wkA (q : Blk) : Vec Ideal S528x1024 .bf16 := q.a12.view.readCov (vL q) rectWK.toLoadRect

theorem wqA_apply (q : Blk) (k : Fin 1024) (n : Fin 512) : wqA q (ix2 k n) = wts q ⟨n.val, by omega⟩ k := by
  rw [← colQ, ← canon_wL, ← embWQ]; unfold wqA; rw [View.readCov_eq_canon']; rfl
theorem wvA_apply (q : Blk) (k n : Fin 1024) : wvA q (ix2 k n) = wts q ⟨1024 + n.val, by omega⟩ k := by
  rw [← colV, ← canon_wL, ← embWV]; unfold wvA; rw [View.readCov_eq_canon']; rfl
theorem woA_apply (q : Blk) (k n : Fin 1024) : woA q (ix2 k n) = wts q ⟨2048 + n.val, by omega⟩ k := by
  rw [← colO, ← canon_wL, ← embWO]; unfold woA; rw [View.readCov_eq_canon']; rfl
theorem wkA_apply (q : Blk) (f : Fin 528) (k : Fin 1024) : wkA q (ix2 f k) = wts q (col1 f) k := by
  rw [← canon_vL]
  refine Eq.trans (b := View.canon (vL q) (rectWK.emb (ix2 f k))) ?_ (by rw [embWK])
  unfold wkA; rw [View.readCov_eq_canon']; rfl

section A
variable (c : Dev nD) (i : grid0.Coords) (q : Blk) (hc : cond0_0 i)

theorem runA_4 : (kernelRun0_A (F := Ideal) c i q.a2 q.h2 q.a3 q.h3 q.a4 q.h4 q.a5 q.h5 q.a6 q.h6 q.a7 q.h7 q.a8 q.h8 q.a9 q.h9 q.a10 q.h10 q.a11 q.h11 q.a12 q.h12 hc q.x0 q.x1 q.x2 q.x3).1 = qL q (wqA q) := rfl
theorem blockA_4 (ρ : Fin 1024) (n : Fin 512) :
    out0_A_4 (F := Ideal) c i q.a2 q.h2 q.a3 q.h3 q.a4 q.h4 q.a5 q.h5 q.a6 q.h6 q.a7 q.h7 q.a8 q.h8 q.a9 q.h9 q.a10 q.h10 q.a11 q.h11 q.a12 q.h12 hc q.x0 q.x1 q.x2 q.x3 (ix3 0 ρ n) = qAt q (wts q) ρ n := by
  unfold out0_A_4
  rw [View.read_writes_junk_eq_canon, runA_4]
  exact canon_qL q _ (wts q) (wqA_apply q) ρ n
theorem runA_5 : (kernelRun0_A (F := Ideal) c i q.a2 q.h2 q.a3 q.h3 q.a4 q.h4 q.a5 q.h5 q.a6 q.h6 q.a7 q.h7 q.a8 q.h8 q.a9 q.h9 q.a10 q.h10 q.a11 q.h11 q.a12 q.h12 hc q.x0 q.x1 q.x2 q.x3).2.1 = ktL q (wkA q) := rfl
theorem blockA_5 (j : Fin 8) (f : Fin 512) (l : Fin 128) :
    out0_A_5 (F := Ideal) c i q.a2 q.h2 q.a3 q.h3 q.a4 q.h4 q.a5 q.h5 q.a6 q.h6 q.a7 q.h7 q.a8 q.h8 q.a9 q.h9 q.a10 q.h10 q.a11 q.h11 q.a12 q.h12 hc q.x0 q.x1 q.x2 q.x3 (ix4 0 j f l) = ktAt q (wts q) j f l := by
  unfold out0_A_5
  rw [View.read_writes_junk_eq_canon, runA_5]
  exact canon_ktL q _ (wts q) (wkA_apply q) j f l
theorem runA_6 : (kernelRun0_A (F := Ideal) c i q.a2 q.h2 q.a3 q.h3 q.a4 q.h4 q.a5 q.h5 q.a6 q.h6 q.a7 q.h7 q.a8 q.h8 q.a9 q.h9 q.a10 q.h10 q.a11 q.h11 q.a12 q.h12 hc q.x0 q.x1 q.x2 q.x3).2.2.1 = vvL q (wvA q) := rfl
theorem blockA_6 (ρ : Fin 1024) (n : Fin 1024) :
    out0_A_6 (F := Ideal) c i q.a2 q.h2 q.a3 q.h3 q.a4 q.h4 q.a5 q.h5 q.a6 q.h6 q.a7 q.h7 q.a8 q.h8 q.a9 q.h9 q.a10 q.h10 q.a11 q.h11 q.a12 q.h12 hc q.x0 q.x1 q.x2 q.x3 (ix3 0 ρ n) = vAt q (wts q) ρ n := by
  unfold out0_A_6
  rw [View.read_writes_junk_eq_canon, runA_6]
  exact canon_vvL q _ (wts q) (wvA_apply q) ρ n
theorem runA_7 : (kernelRun0_A (F := Ideal) c i q.a2 q.h2 q.a3 q.h3 q.a4 q.h4 q.a5 q.h5 q.a6 q.h6 q.a7 q.h7 q.a8 q.h8 q.a9 q.h9 q.a10 q.h10 q.a11 q.h11 q.a12 q.h12 hc q.x0 q.x1 q.x2 q.x3).2.2.2.1 = ogL q (woA q) := rfl
theorem blockA_7 (ρ : Fin 1024) (n : Fin 1024) :
    out0_A_7 (F := Ideal) c i q.a2 q.h2 q.a3 q.h3 q.a4 q.h4 q.a5 q.h5 q.a6 q.h6 q.a7 q.h7 q.a8 q.h8 q.a9 q.h9 q.a10 q.h10 q.a11 q.h11 q.a12 q.h12 hc q.x0 q.x1 q.x2 q.x3 (ix3 0 ρ n) = ogAt q (wts q) ρ n := by
  unfold out0_A_7
  rw [View.read_writes_junk_eq_canon, runA_7]
  exact canon_ogL q _ (wts q) (woA_apply q) ρ n
theorem runA_8 : (kernelRun0_A (F := Ideal) c i q.a2 q.h2 q.a3 q.h3 q.a4 q.h4 q.a5 q.h5 q.a6 q.h6 q.a7 q.h7 q.a8 q.h8 q.a9 q.h9 q.a10 q.h10 q.a11 q.h11 q.a12 q.h12 hc q.x0 q.x1 q.x2 q.x3).2.2.2.2.1 = rfL q (wkA q) := rfl
theorem blockA_8 (ρ : Fin 128) (l : Fin 128) :
    out0_A_8 (F := Ideal) c i q.a2 q.h2 q.a3 q.h3 q.a4 q.h4 q.a5 q.h5 q.a6 q.h6 q.a7 q.h7 q.a8 q.h8 q.a9 q.h9 q.a10 q.h10 q.a11 q.h11 q.a12 q.h12 hc q.x0 q.x1 q.x2 q.x3 (ix3 0 ρ l) = rfAt q (wts q) ⟨ρ.val / 16, by omega⟩ ⟨ρ.val % 16, by omega⟩ l := by
  unfold out0_A_8
  rw [View.read_writes_junk_eq_canon, runA_8]
  exact canon_rfL q _ (wts q) (wkA_apply q) ρ l
theorem runA_s0 : (kernelRun0_A (F := Ideal) c i q.a2 q.h2 q.a3 q.h3 q.a4 q.h4 q.a5 q.h5 q.a6 q.h6 q.a7 q.h7 q.a8 q.h8 q.a9 q.h9 q.a10 q.h10 q.a11 q.h11 q.a12 q.h12 hc q.x0 q.x1 q.x2 q.x3).2.2.2.2.2.1 = wL q := rfl
theorem keptA_0 (d : Fin 1024) (j : Fin 2560) :
    sout0_A_0 (F := Ideal) c i q.a2 q.h2 q.a3 q.h3 q.a4 q.h4 q.a5 q.h5 q.a6 q.h6 q.a7 q.h7 q.a8 q.h8 q.a9 q.h9 q.a10 q.h10 q.a11 q.h11 q.a12 q.h12 hc q.x0 q.x1 q.x2 q.x3 (ix2 d j) = wts q (col0 j) d := by
  unfold sout0_A_0
  rw [View.read_writes_junk_eq_canon, runA_s0]
  exact canon_wL q d j
theorem runA_s1 : (kernelRun0_A (F := Ideal) c i q.a2 q.h2 q.a3 q.h3 q.a4 q.h4 q.a5 q.h5 q.a6 q.h6 q.a7 q.h7 q.a8 q.h8 q.a9 q.h9 q.a10 q.h10 q.a11 q.h11 q.a12 q.h12 hc q.x0 q.x1 q.x2 q.x3).2.2.2.2.2.2.1 = vL q := rfl
theorem keptA_1 (r : Fin 528) (d : Fin 1024) :
    sout0_A_1 (F := Ideal) c i q.a2 q.h2 q.a3 q.h3 q.a4 q.h4 q.a5 q.h5 q.a6 q.h6 q.a7 q.h7 q.a8 q.h8 q.a9 q.h9 q.a10 q.h10 q.a11 q.h11 q.a12 q.h12 hc q.x0 q.x1 q.x2 q.x3 (ix2 r d) = wts q (col1 r) d := by
  unfold sout0_A_1
  rw [View.read_writes_junk_eq_canon, runA_s1]
  exact canon_vL q r d

end A

/-! ## The other points: the weights as the point before left them -/

section B
variable (c : Dev nD) (i : grid0.Coords) (q : Blk) (hc : ¬cond0_0 i) (xs0 : Vec Ideal S1024x2560 .bf16) (xs1 : Vec Ideal S528x1024 .bf16)
  (w : Fin 3088 → Fin 1024 → EReal)

def wqB : Vec Ideal S1024x512 .bf16 := View.readAt (Elt Ideal) q.a11.view rectWQ.toLoadRect (q.h11.unread xs0)
def wvB : Vec Ideal S1024x1024 .bf16 := View.readAt (Elt Ideal) q.a11.view rectWV.toLoadRect (q.h11.unread xs0)
def woB : Vec Ideal S1024x1024 .bf16 := View.readAt (Elt Ideal) q.a11.view rectWO.toLoadRect (q.h11.unread xs0)
def wkB : Vec Ideal S528x1024 .bf16 := View.readAt (Elt Ideal) q.a12.view rectWK.toLoadRect (q.h12.unread xs1)

theorem wqB_apply (h0 : ∀ d j, xs0 (ix2 d j) = w (col0 j) d) (k : Fin 1024) (n : Fin 512) : wqB q xs0 (ix2 k n) = w ⟨n.val, by omega⟩ k := by
  rw [← colQ, ← h0, ← embWQ]; exact Memref.IsWhole.readAt_unread q.h11 xs0 rectWQ.toLoadRect (ix2 k n)
theorem wvB_apply (h0 : ∀ d j, xs0 (ix2 d j) = w (col0 j) d) (k n : Fin 1024) : wvB q xs0 (ix2 k n) = w ⟨1024 + n.val, by omega⟩ k := by
  rw [← colV, ← h0, ← embWV]; exact Memref.IsWhole.readAt_unread q.h11 xs0 rectWV.toLoadRect (ix2 k n)
theorem woB_apply (h0 : ∀ d j, xs0 (ix2 d j) = w (col0 j) d) (k n : Fin 1024) : woB q xs0 (ix2 k n) = w ⟨2048 + n.val, by omega⟩ k := by
  rw [← colO, ← h0, ← embWO]; exact Memref.IsWhole.readAt_unread q.h11 xs0 rectWO.toLoadRect (ix2 k n)
theorem wkB_apply (h1 : ∀ f k, xs1 (ix2 f k) = w (col1 f) k) (f : Fin 528) (k : Fin 1024) : wkB q xs1 (ix2 f k) = w (col1 f) k := by
  rw [← h1]
  exact congrFun (readWhole q.a12 q.h12 xs1 zeros2 _) (ix2 f k)

theorem runB_4 : (kernelRun0_B (F := Ideal) c i q.a2 q.h2 q.a3 q.h3 q.a4 q.h4 q.a5 q.h5 q.a6 q.h6 q.a7 q.h7 q.a8 q.h8 q.a9 q.h9 q.a10 q.h10 q.a11 q.h11 q.a12 q.h12 hc q.x0 q.x1 q.x2 q.x3 xs0 xs1).1 = qL q (wqB q xs0) := rfl
theorem blockB_4 (h0 : ∀ d j, xs0 (ix2 d j) = w (col0 j) d) (ρ : Fin 1024) (n : Fin 512) :
    out0_B_4 (F := Ideal) c i q.a2 q.h2 q.a3 q.h3 q.a4 q.h4 q.a5 q.h5 q.a6 q.h6 q.a7 q.h7 q.a8 q.h8 q.a9 q.h9 q.a10 q.h10 q.a11 q.h11 q.a12 q.h12 hc q.x0 q.x1 q.x2 q.x3 xs0 xs1 (ix3 0 ρ n) = qAt q w ρ n := by
  unfold out0_B_4
  rw [View.read_writes_junk_eq_canon, runB_4]
  exact canon_qL q _ w (wqB_apply q xs0 w h0) ρ n
theorem runB_5 : (kernelRun0_B (F := Ideal) c i q.a2 q.h2 q.a3 q.h3 q.a4 q.h4 q.a5 q.h5 q.a6 q.h6 q.a7 q.h7 q.a8 q.h8 q.a9 q.h9 q.a10 q.h10 q.a11 q.h11 q.a12 q.h12 hc q.x0 q.x1 q.x2 q.x3 xs0 xs1).2.1 = ktL q (wkB q xs1) := rfl
theorem blockB_5 (h1 : ∀ f k, xs1 (ix2 f k) = w (col1 f) k) (j : Fin 8) (f : Fin 512) (l : Fin 128) :
    out0_B_5 (F := Ideal) c i q.a2 q.h2 q.a3 q.h3 q.a4 q.h4 q.a5 q.h5 q.a6 q.h6 q.a7 q.h7 q.a8 q.h8 q.a9 q.h9 q.a10 q.h10 q.a11 q.h11 q.a12 q.h12 hc q.x0 q.x1 q.x2 q.x3 xs0 xs1 (ix4 0 j f l) = ktAt q w j f l := by
  unfold out0_B_5
  rw [View.read_writes_junk_eq_canon, runB_5]
  exact canon_ktL q _ w (wkB_apply q xs1 w h1) j f l
theorem runB_6 : (kernelRun0_B (F := Ideal) c i q.a2 q.h2 q.a3 q.h3 q.a4 q.h4 q.a5 q.h5 q.a6 q.h6 q.a7 q.h7 q.a8 q.h8 q.a9 q.h9 q.a10 q.h10 q.a11 q.h11 q.a12 q.h12 hc q.x0 q.x1 q.x2 q.x3 xs0 xs1).2.2.1 = vvL q (wvB q xs0) := rfl
theorem blockB_6 (h0 : ∀ d j, xs0 (ix2 d j) = w (col0 j) d) (ρ : Fin 1024) (n : Fin 1024) :
    out0_B_6 (F := Ideal) c i q.a2 q.h2 q.a3 q.h3 q.a4 q.h4 q.a5 q.h5 q.a6 q.h6 q.a7 q.h7 q.a8 q.h8 q.a9 q.h9 q.a10 q.h10 q.a11 q.h11 q.a12 q.h12 hc q.x0 q.x1 q.x2 q.x3 xs0 xs1 (ix3 0 ρ n) = vAt q w ρ n := by
  unfold out0_B_6
  rw [View.read_writes_junk_eq_canon, runB_6]
  exact canon_vvL q _ w (wvB_apply q xs0 w h0) ρ n
theorem runB_7 : (kernelRun0_B (F := Ideal) c i q.a2 q.h2 q.a3 q.h3 q.a4 q.h4 q.a5 q.h5 q.a6 q.h6 q.a7 q.h7 q.a8 q.h8 q.a9 q.h9 q.a10 q.h10 q.a11 q.h11 q.a12 q.h12 hc q.x0 q.x1 q.x2 q.x3 xs0 xs1).2.2.2.1 = ogL q (woB q xs0) := rfl
theorem blockB_7 (h0 : ∀ d j, xs0 (ix2 d j) = w (col0 j) d) (ρ : Fin 1024) (n : Fin 1024) :
    out0_B_7 (F := Ideal) c i q.a2 q.h2 q.a3 q.h3 q.a4 q.h4 q.a5 q.h5 q.a6 q.h6 q.a7 q.h7 q.a8 q.h8 q.a9 q.h9 q.a10 q.h10 q.a11 q.h11 q.a12 q.h12 hc q.x0 q.x1 q.x2 q.x3 xs0 xs1 (ix3 0 ρ n) = ogAt q w ρ n := by
  unfold out0_B_7
  rw [View.read_writes_junk_eq_canon, runB_7]
  exact canon_ogL q _ w (woB_apply q xs0 w h0) ρ n
theorem runB_8 : (kernelRun0_B (F := Ideal) c i q.a2 q.h2 q.a3 q.h3 q.a4 q.h4 q.a5 q.h5 q.a6 q.h6 q.a7 q.h7 q.a8 q.h8 q.a9 q.h9 q.a10 q.h10 q.a11 q.h11 q.a12 q.h12 hc q.x0 q.x1 q.x2 q.x3 xs0 xs1).2.2.2.2.1 = rfL q (wkB q xs1) := rfl
theorem blockB_8 (h1 : ∀ f k, xs1 (ix2 f k) = w (col1 f) k) (ρ : Fin 128) (l : Fin 128) :
    out0_B_8 (F := Ideal) c i q.a2 q.h2 q.a3 q.h3 q.a4 q.h4 q.a5 q.h5 q.a6 q.h6 q.a7 q.h7 q.a8 q.h8 q.a9 q.h9 q.a10 q.h10 q.a11 q.h11 q.a12 q.h12 hc q.x0 q.x1 q.x2 q.x3 xs0 xs1 (ix3 0 ρ l) = rfAt q w ⟨ρ.val / 16, by omega⟩ ⟨ρ.val % 16, by omega⟩ l := by
  unfold out0_B_8
  rw [View.read_writes_junk_eq_canon, runB_8]
  exact canon_rfL q _ w (wkB_apply q xs1 w h1) ρ l

end B

end Cert.MlstmProj

end
-- ==== Proof.MlstmProjArr.lean ====
module

public import proofs.«01_k».proof.Proof.MlstmProjRun
public import Idealize.ShloMosaic.Lib.StableHlo.RunRead

@[expose] public section

set_option maxRecDepth 16384

/-! The mLSTM's projections: the five results' arrays, from the arguments'. -/

noncomputable section

namespace Cert.MlstmProj

open Cert.Kernel5Ideal Cert.Kernel5Ideal.Gen Cert.Tail
open Idealize.ShloMosaic Idealize.ShloMosaic.TcCoe
open Idealize.ShloMosaic.Pipeline (Window)

/-! ## The results' entries -/

section
variable (x : FVec Ideal S2x8192x1024 .f32) (nw : FVec Ideal S1024 .f32) (W : FVec Ideal S2x1024x3088 .f32) (bg : FVec Ideal S16 .f32)

/-- Position `s` of sequence `b`, normed. -/
def rowAt (b : Fin 2) (s : Fin 8192) : Fin 1024 → EReal := nrm (fun k => x (ix3 b s k)) (fun k => nw (ix1 k))
/-- Layer 0's weights, by output column. -/
def colsOf (j : Fin 3088) (k : Fin 1024) : EReal := W (ix3 0 k j)
/-- A query's component. -/
def qEnt (b : Fin 2) (s : Fin 8192) (n : Fin 512) : EReal := proj (rowAt x nw b s) (colsOf W) ⟨n.val, by omega⟩ * qscale
/-- A key's component: chunk `j`, feature `f`, position `l` of the chunk. -/
def ktEnt (b : Fin 2) (j : Fin 64) (f : Fin 512) (l : Fin 128) : EReal :=
  proj (rowAt x nw b ⟨128 * j.val + l.val, by omega⟩) (colsOf W) ⟨512 + f.val, by omega⟩
/-- A value's component. -/
def vEnt (b : Fin 2) (s : Fin 8192) (n : Fin 1024) : EReal := proj (rowAt x nw b s) (colsOf W) ⟨1024 + n.val, by omega⟩
/-- An output gate's component. -/
def ogEnt (b : Fin 2) (s : Fin 8192) (n : Fin 1024) : EReal := lgs (proj (rowAt x nw b s) (colsOf W) ⟨2048 + n.val, by omega⟩)
/-- A gate before its nonlinearity: row `r` is gate `r % 16` of chunk `r / 16`. -/
def rfEnt (b : Fin 2) (r : Fin 1024) (l : Fin 128) : EReal :=
  proj (rowAt x nw b ⟨128 * (r.val / 16) + l.val, by omega⟩) (colsOf W) ⟨3072 + r.val % 16, by omega⟩ + bg (ix1 ⟨r.val % 16, by omega⟩)
end

variable (m : (ℓ : Loc nD τ sig) → Buf (Elt Ideal) ℓ)

/-! ## The arguments' arrays -/

abbrev arg0 (c : Dev nD) : FVec Ideal S2x8192x1024 .f32 := m ((c : Thread nD τ).loc main_arg0)
abbrev arg1 (c : Dev nD) : FVec Ideal S1024 .f32 := m ((c : Thread nD τ).loc main_arg1)
abbrev arg2 (c : Dev nD) : FVec Ideal S2x1024x3088 .f32 := m ((c : Thread nD τ).loc main_arg2)
abbrev arg3 (c : Dev nD) : FVec Ideal S16 .f32 := m ((c : Thread nD τ).loc main_arg3)

/-- The sequence of a point. -/
abbrev seqOf (t : Fin cfg0.N) : Fin 2 := ⟨(grid0.coords t 0).val, (grid0.coords t 0).isLt⟩
theorem chunk_lt (t : Fin cfg0.N) : (grid0.coords t 1).val < 8 := (grid0.coords t 1).isLt
/-- The position of a point's row. -/
abbrev posOf (t : Fin cfg0.N) (ρ : Fin 1024) : Fin 8192 := ⟨1024 * (grid0.coords t 1).val + ρ.val, by have := chunk_lt t; omega⟩
/-- The chunk of a point's chunk. -/
abbrev chOf (t : Fin cfg0.N) (j : Fin 8) : Fin 64 := ⟨8 * (grid0.coords t 1).val + j.val, by have := chunk_lt t; omega⟩
/-- The gates' row of a point's row. -/
abbrev gateOf (t : Fin cfg0.N) (ρ : Fin 128) : Fin 1024 := ⟨128 * (grid0.coords t 1).val + ρ.val, by have := chunk_lt t; omega⟩

theorem index0 : ∀ t : Fin grid0.N, win0_0.index t = ![(grid0.coords t 0).val, (grid0.coords t 1).val, 0] := by decide +kernel
theorem blk0 (c : Dev nD) (t : Fin cfg0.N) (ρ : Fin 1024) (k : Fin 1024) : iblk m c 0 t (ix3 0 ρ k) = arg0 m c (ix3 (seqOf t) (posOf t ρ) k) := by
  show V m c main_arg0 ((win0_0.rect t).emb (ix3 0 ρ k)) = _
  rw [V_main_arg0]
  refine congrArg (arg0 m c) (funext fun a => ?_)
  fin_cases a <;> refine Fin.ext ?_ <;> refine (Window.rect_emb_val win0_0 t _ _).trans ?_ <;> rw [index0]
  · show (grid0.coords t 0).val * 1 + 0 = (grid0.coords t 0).val; omega
  · show (grid0.coords t 1).val * 1024 + ρ.val = 1024 * (grid0.coords t 1).val + ρ.val; omega
  · show 0 * 1024 + k.val = k.val; omega

theorem index1 : ∀ t : Fin grid0.N, win0_1.index t = ![0, 0] := by decide +kernel
/-- The vector as the host lays it out. -/
theorem host1 (c : Dev nD) : V m c main_v3 = shapeCast S1x1024 (arg1 m c) shapeCasts_S1024_S1x1024 := by
  rfl
theorem blk1 (c : Dev nD) (t : Fin cfg0.N) (k : Fin 1024) : iblk m c 1 t (ix2 0 k) = arg1 m c (ix1 k) := by
  have e : iblk m c 1 t (ix2 0 k) = V m c main_v3 (ix2 0 k) := by
    show V m c main_v3 ((win0_1.rect t).emb (ix2 0 k)) = _
    refine congrArg (V m c main_v3) (funext fun a => ?_)
    fin_cases a <;> refine Fin.ext ?_ <;> refine (Window.rect_emb_val win0_1 t _ _).trans ?_ <;> rw [index1]
    · show 0 * 1 + 0 = 0; omega
    · show 0 * 1024 + k.val = k.val; omega
  rw [e, host1]
  pointwise []

theorem index2 : ∀ t : Fin grid0.N, win0_2.index t = ![0, 0, 0] := by decide +kernel
/-- The weights as the host turns them. -/
theorem host2 (c : Dev nD) : V m c main_v2 = transpose S2x3088x1024 [0, 2, 1] (arg2 m c) transposes_S2x1024x3088_S2x3088x1024_0_2_1 := by
  rfl
theorem blk2 (c : Dev nD) (t : Fin cfg0.N) (j : Fin 3088) (k : Fin 1024) : iblk m c 2 t (ix3 0 j k) = colsOf (arg2 m c) j k := by
  have e : iblk m c 2 t (ix3 0 j k) = V m c main_v2 (ix3 0 j k) := by
    show V m c main_v2 ((win0_2.rect t).emb (ix3 0 j k)) = _
    refine congrArg (V m c main_v2) (funext fun a => ?_)
    fin_cases a <;> refine Fin.ext ?_ <;> refine (Window.rect_emb_val win0_2 t _ _).trans ?_ <;> rw [index2]
    · rfl
    · show 0 * 3088 + j.val = j.val; omega
    · show 0 * 1024 + k.val = k.val; omega
  rw [e, host2]
  unfold colsOf
  pointwise []

theorem index3 : ∀ t : Fin grid0.N, win0_3.index t = ![0, 0] := by decide +kernel
/-- The biases as the host lays them out. -/
theorem host3 (c : Dev nD) : V m c main_v1 = broadcastInDim S16x128 ![0, 1] bcast_S16x1_S16x128_0_1 (shapeCast S16x1 (arg3 m c) shapeCasts_S16_S16x1) := by
  rfl
theorem blk3 (c : Dev nD) (t : Fin cfg0.N) (g : Fin 16) (l : Fin 128) : iblk m c 3 t (ix2 g l) = arg3 m c (ix1 g) := by
  have e : iblk m c 3 t (ix2 g l) = V m c main_v1 (ix2 g l) := by
    show V m c main_v1 ((win0_3.rect t).emb (ix2 g l)) = _
    refine congrArg (V m c main_v1) (funext fun a => ?_)
    fin_cases a <;> refine Fin.ext ?_ <;> refine (Window.rect_emb_val win0_3 t _ _).trans ?_ <;> rw [index3]
    · show 0 * 16 + g.val = g.val; omega
    · show 0 * 128 + l.val = l.val; omega
  rw [e, host3]
  rw [broadcastInDim_apply ![0, 1] bcast_S16x1_S16x128_0_1 (shapeCast S16x1 (arg3 m c) shapeCasts_S16_S16x1) (ix2 g l) (ix2 g (0 : Fin 1))
    (fun a => by fin_cases a <;> rfl)]
  pointwise []

/-- A point's buffers and input blocks. -/
def ptBlk (c : Dev nD) (t : Fin cfg0.N) : Blk :=
  { a2 := ms0_0 t, h2 := hs0_0 t, a3 := ms0_1 t, h3 := hs0_1 t, a4 := ms0_2 t, h4 := hs0_2 t, a5 := ms0_3 t, h5 := hs0_3 t, a6 := ms0_4 t, h6 := hs0_4 t, a7 := ms0_5 t, h7 := hs0_5 t, a8 := ms0_6 t, h8 := hs0_6 t, a9 := ms0_7 t, h9 := hs0_7 t, a10 := ms0_8 t, h10 := hs0_8 t, a11 := scM0_0, h11 := Memref.isWhole_whole _, a12 := scM0_1, h12 := Memref.isWhole_whole _, x0 := iblk m c 0 t, x1 := iblk m c 1 t, x2 := iblk m c 2 t, x3 := iblk m c 3 t }

theorem wts_eq (c : Dev nD) (t : Fin cfg0.N) : wts (ptBlk m c t) = colsOf (arg2 m c) := by
  funext j k
  exact blk2 m c t j k
theorem hnAt_eq (c : Dev nD) (t : Fin cfg0.N) (ρ : Fin 1024) : hnAt (ptBlk m c t) ρ = rowAt (arg0 m c) (arg1 m c) (seqOf t) (posOf t ρ) := by
  unfold hnAt rowAt
  dsimp only [ptBlk]
  simp only [blk0, blk1]

/-- Every point leaves the weights in the kept buffers. -/
theorem kept (c : Dev nD) : ∀ (n : Nat) (h : n < cfg0.N),
    (∀ d j, (outsAt0 m c n h).2.2.2.2.2.1 (ix2 d j) = colsOf (arg2 m c) (col0 j) d)
    ∧ (∀ r d, (outsAt0 m c n h).2.2.2.2.2.2 (ix2 r d) = colsOf (arg2 m c) (col1 r) d) := by
  have first : ∀ (n : Nat) (h : n < cfg0.N), n % 16 = 0 →
      (∀ d j, (outsAt0 m c n h).2.2.2.2.2.1 (ix2 d j) = colsOf (arg2 m c) (col0 j) d)
      ∧ (∀ r d, (outsAt0 m c n h).2.2.2.2.2.2 (ix2 r d) = colsOf (arg2 m c) (col1 r) d) := by
    intro n h h0
    refine ⟨fun d j => ?_, fun r d => ?_⟩
    · rw [outsAt0_A m c ⟨n, h⟩ h0, ← wts_eq m c ⟨n, h⟩]
      dsimp only
      exact keptA_0 c (grid0.coords ⟨n, h⟩) (ptBlk m c ⟨n, h⟩) ((hcond0_0 ⟨n, h⟩).mpr h0) d j
    · rw [outsAt0_A m c ⟨n, h⟩ h0, ← wts_eq m c ⟨n, h⟩]
      dsimp only
      exact keptA_1 c (grid0.coords ⟨n, h⟩) (ptBlk m c ⟨n, h⟩) ((hcond0_0 ⟨n, h⟩).mpr h0) r d
  intro n
  induction n with
  | zero => exact fun h => first 0 h rfl
  | succ n ih =>
    intro h
    by_cases h0 : (n + 1) % 16 = 0
    · exact first (n + 1) h h0
    · have i := ih (by omega)
      refine ⟨fun d j => ?_, fun r d => ?_⟩
      · rw [outsAt0_B m c ⟨n + 1, h⟩ h0]
        dsimp only
        exact i.1 d j
      · rw [outsAt0_B m c ⟨n + 1, h⟩ h0]
        dsimp only
        exact i.2 r d

theorem ent4 (c : Dev nD) (t : Fin cfg0.N) (ρ : Fin 1024) (n : Fin 512) : qAt (ptBlk m c t) (colsOf (arg2 m c)) ρ n = qEnt (arg0 m c) (arg1 m c) (arg2 m c) (seqOf t) (posOf t ρ) n := by
  unfold qAt qEnt
  rw [hnAt_eq]
theorem flushed4_apply (c : Dev nD) (t : Fin cfg0.N) (ρ : Fin 1024) (n : Fin 512) :
    (dats m 0 c).flushed 4 t (ix3 0 ρ n) = qEnt (arg0 m c) (arg1 m c) (arg2 m c) (seqOf t) (posOf t ρ) n := by
  rw [← ent4]
  by_cases h0 : t.val % 16 = 0
  · rw [Value.flushed4_A m c t h0, ← wts_eq m c t]
    exact blockA_4 c (grid0.coords t) (ptBlk m c t) ((hcond0_0 t).mpr h0) ρ n
  · rw [Value.flushed4_B m c t h0]
    exact blockB_4 c (grid0.coords t) (ptBlk m c t) (fun h => h0 ((hcond0_0 t).mp h)) _ _ (colsOf (arg2 m c)) (kept m c (t.val - 1) (Nat.lt_of_le_of_lt (Nat.sub_le _ _) t.isLt)).1 ρ n

/-- The result's array. -/
def res4 (c : Dev nD) : Buf (Elt Ideal) ((c : Thread nD τ).loc main_v4_0) := fun y : S2x8192x512.Idx =>
  qEnt (arg0 m c) (arg1 m c) (arg2 m c) (y 0) (y 1) (y 2)

theorem index4 : ∀ t : Fin grid0.N, win0_4.index t = ![(grid0.coords t 0).val, (grid0.coords t 1).val, 0] := by decide +kernel
theorem flush4 : ∀ t : Fin grid0.N, win0_4.flush t = true := by decide +kernel

theorem emb4 (t : Fin cfg0.N) (ρ : Fin 1024) (n : Fin 512) : (win0_4.rect t).emb (ix3 0 ρ n) = ix3 (seqOf t) (posOf t ρ) n := by
  funext a
  fin_cases a <;> refine Fin.ext ?_ <;> refine (Window.rect_emb_val win0_4 t _ _).trans ?_ <;> rw [index4]
  · show (grid0.coords t 0).val * 1 + 0 = (grid0.coords t 0).val; omega
  · show (grid0.coords t 1).val * 1024 + ρ.val = 1024 * (grid0.coords t 1).val + ρ.val; omega
  · show 0 * 512 + n.val = n.val; omega

theorem result4 (c : Dev nD) : (dats m 0 c).arrAt 4 cfg0.N = res4 m c := by
  refine (dats m 0 c).arrAt_eq_of_cover 4 (res4 m c) (fun t _ => ?_) (fun i => ?_)
  · funext y
    obtain ⟨b, ρ, n, rfl⟩ : ∃ (b : Fin 1) (ρ : Fin 1024) (n : Fin 512), y = ix3 b ρ n := ⟨y 0, y 1, y 2, ValueIdx.eq_ix3 y⟩
    obtain rfl : b = 0 := Subsingleton.elim _ _
    refine (flushed4_apply m c t ρ n).trans ?_
    refine Eq.trans ?_ (show res4 m c ((win0_4.rect t).emb (ix3 0 ρ n)) = _ from rfl)
    rw [emb4]; rfl
  · obtain ⟨b, s, n, rfl⟩ : ∃ (b : Fin 2) (s : Fin 8192) (n : Fin 512), i = ix3 b s n := ⟨i 0, i 1, i 2, ValueIdx.eq_ix3 i⟩
    have key : ∀ (p : Fin 2) (q : Fin 8), ∃ t : Fin grid0.N, (grid0.coords t 0).val = p.val ∧ (grid0.coords t 1).val = q.val := by decide +kernel
    obtain ⟨t, ht0, ht1⟩ := key b ⟨s.val / 1024, by omega⟩
    refine ⟨t, flush4 t, ?_⟩
    have e : ix3 b s n = (win0_4.rect t).emb (ix3 (0 : Fin 1) (⟨s.val % 1024, by omega⟩ : Fin 1024) n) := by
      rw [emb4]
      refine congrArg₂ (fun b s => ix3 b s n) (Fin.ext ht0.symm) (Fin.ext ?_)
      show s.val = 1024 * (grid0.coords t 1).val + s.val % 1024
      rw [ht1]; show s.val = 1024 * (s.val / 1024) + s.val % 1024; omega
    rw [e]
    exact View.emb_mem_set _ _

theorem ent5 (c : Dev nD) (t : Fin cfg0.N) (j : Fin 8) (f : Fin 512) (l : Fin 128) : ktAt (ptBlk m c t) (colsOf (arg2 m c)) j f l = ktEnt (arg0 m c) (arg1 m c) (arg2 m c) (seqOf t) (chOf t j) f l := by
  unfold ktAt ktEnt
  rw [hnAt_eq]
  refine congrArg (fun s => proj (rowAt (arg0 m c) (arg1 m c) (seqOf t) s) (colsOf (arg2 m c)) _) (Fin.ext ?_)
  show 1024 * (grid0.coords t 1).val + (128 * j.val + l.val) = 128 * (8 * (grid0.coords t 1).val + j.val) + l.val
  omega
theorem flushed5_apply (c : Dev nD) (t : Fin cfg0.N) (j : Fin 8) (f : Fin 512) (l : Fin 128) :
    (dats m 0 c).flushed 5 t (ix4 0 j f l) = ktEnt (arg0 m c) (arg1 m c) (arg2 m c) (seqOf t) (chOf t j) f l := by
  rw [← ent5]
  by_cases h0 : t.val % 16 = 0
  · rw [Value.flushed5_A m c t h0, ← wts_eq m c t]
    exact blockA_5 c (grid0.coords t) (ptBlk m c t) ((hcond0_0 t).mpr h0) j f l
  · rw [Value.flushed5_B m c t h0]
    exact blockB_5 c (grid0.coords t) (ptBlk m c t) (fun h => h0 ((hcond0_0 t).mp h)) _ _ (colsOf (arg2 m c)) (kept m c (t.val - 1) (Nat.lt_of_le_of_lt (Nat.sub_le _ _) t.isLt)).2 j f l

/-- The result's array. -/
def res5 (c : Dev nD) : Buf (Elt Ideal) ((c : Thread nD τ).loc main_v4_1) := fun y : S2x64x512x128.Idx =>
  ktEnt (arg0 m c) (arg1 m c) (arg2 m c) (y 0) (y 1) (y 2) (y 3)

theorem index5 : ∀ t : Fin grid0.N, win0_5.index t = ![(grid0.coords t 0).val, (grid0.coords t 1).val, 0, 0] := by decide +kernel
theorem flush5 : ∀ t : Fin grid0.N, win0_5.flush t = true := by decide +kernel

theorem emb5 (t : Fin cfg0.N) (j : Fin 8) (f : Fin 512) (l : Fin 128) : (win0_5.rect t).emb (ix4 0 j f l) = ix4 (seqOf t) (chOf t j) f l := by
  funext a
  fin_cases a <;> refine Fin.ext ?_ <;> refine (Window.rect_emb_val win0_5 t _ _).trans ?_ <;> rw [index5]
  · show (grid0.coords t 0).val * 1 + 0 = (grid0.coords t 0).val; omega
  · show (grid0.coords t 1).val * 8 + j.val = 8 * (grid0.coords t 1).val + j.val; omega
  · show 0 * 512 + f.val = f.val; omega
  · show 0 * 128 + l.val = l.val; omega

theorem result5 (c : Dev nD) : (dats m 0 c).arrAt 5 cfg0.N = res5 m c := by
  refine (dats m 0 c).arrAt_eq_of_cover 5 (res5 m c) (fun t _ => ?_) (fun i => ?_)
  · funext y
    obtain ⟨b, j, f, l, rfl⟩ : ∃ (b : Fin 1) (j : Fin 8) (f : Fin 512) (l : Fin 128), y = ix4 b j f l := ⟨y 0, y 1, y 2, y 3, ValueIdx.eq_ix4 y⟩
    obtain rfl : b = 0 := Subsingleton.elim _ _
    refine (flushed5_apply m c t j f l).trans ?_
    refine Eq.trans ?_ (show res5 m c ((win0_5.rect t).emb (ix4 0 j f l)) = _ from rfl)
    rw [emb5]; rfl
  · obtain ⟨b, s, f, l, rfl⟩ : ∃ (b : Fin 2) (s : Fin 64) (f : Fin 512) (l : Fin 128), i = ix4 b s f l := ⟨i 0, i 1, i 2, i 3, ValueIdx.eq_ix4 i⟩
    have key : ∀ (p : Fin 2) (q : Fin 8), ∃ t : Fin grid0.N, (grid0.coords t 0).val = p.val ∧ (grid0.coords t 1).val = q.val := by decide +kernel
    obtain ⟨t, ht0, ht1⟩ := key b ⟨s.val / 8, by omega⟩
    refine ⟨t, flush5 t, ?_⟩
    have e : ix4 b s f l = (win0_5.rect t).emb (ix4 (0 : Fin 1) (⟨s.val % 8, by omega⟩ : Fin 8) f l) := by
      rw [emb5]
      refine congrArg₂ (fun b s => ix4 b s f l) (Fin.ext ht0.symm) (Fin.ext ?_)
      show s.val = 8 * (grid0.coords t 1).val + s.val % 8
      rw [ht1]; show s.val = 8 * (s.val / 8) + s.val % 8; omega
    rw [e]
    exact View.emb_mem_set _ _

theorem ent6 (c : Dev nD) (t : Fin cfg0.N) (ρ : Fin 1024) (n : Fin 1024) : vAt (ptBlk m c t) (colsOf (arg2 m c)) ρ n = vEnt (arg0 m c) (arg1 m c) (arg2 m c) (seqOf t) (posOf t ρ) n := by
  unfold vAt vEnt
  rw [hnAt_eq]
theorem flushed6_apply (c : Dev nD) (t : Fin cfg0.N) (ρ : Fin 1024) (n : Fin 1024) :
    (dats m 0 c).flushed 6 t (ix3 0 ρ n) = vEnt (arg0 m c) (arg1 m c) (arg2 m c) (seqOf t) (posOf t ρ) n := by
  rw [← ent6]
  by_cases h0 : t.val % 16 = 0
  · rw [Value.flushed6_A m c t h0, ← wts_eq m c t]
    exact blockA_6 c (grid0.coords t) (ptBlk m c t) ((hcond0_0 t).mpr h0) ρ n
  · rw [Value.flushed6_B m c t h0]
    exact blockB_6 c (grid0.coords t) (ptBlk m c t) (fun h => h0 ((hcond0_0 t).mp h)) _ _ (colsOf (arg2 m c)) (kept m c (t.val - 1) (Nat.lt_of_le_of_lt (Nat.sub_le _ _) t.isLt)).1 ρ n

/-- The result's array. -/
def res6 (c : Dev nD) : Buf (Elt Ideal) ((c : Thread nD τ).loc main_v4_2) := fun y : S2x8192x1024.Idx =>
  vEnt (arg0 m c) (arg1 m c) (arg2 m c) (y 0) (y 1) (y 2)

theorem index6 : ∀ t : Fin grid0.N, win0_6.index t = ![(grid0.coords t 0).val, (grid0.coords t 1).val, 0] := by decide +kernel
theorem flush6 : ∀ t : Fin grid0.N, win0_6.flush t = true := by decide +kernel

theorem emb6 (t : Fin cfg0.N) (ρ : Fin 1024) (n : Fin 1024) : (win0_6.rect t).emb (ix3 0 ρ n) = ix3 (seqOf t) (posOf t ρ) n := by
  funext a
  fin_cases a <;> refine Fin.ext ?_ <;> refine (Window.rect_emb_val win0_6 t _ _).trans ?_ <;> rw [index6]
  · show (grid0.coords t 0).val * 1 + 0 = (grid0.coords t 0).val; omega
  · show (grid0.coords t 1).val * 1024 + ρ.val = 1024 * (grid0.coords t 1).val + ρ.val; omega
  · show 0 * 1024 + n.val = n.val; omega

theorem result6 (c : Dev nD) : (dats m 0 c).arrAt 6 cfg0.N = res6 m c := by
  refine (dats m 0 c).arrAt_eq_of_cover 6 (res6 m c) (fun t _ => ?_) (fun i => ?_)
  · funext y
    obtain ⟨b, ρ, n, rfl⟩ : ∃ (b : Fin 1) (ρ : Fin 1024) (n : Fin 1024), y = ix3 b ρ n := ⟨y 0, y 1, y 2, ValueIdx.eq_ix3 y⟩
    obtain rfl : b = 0 := Subsingleton.elim _ _
    refine (flushed6_apply m c t ρ n).trans ?_
    refine Eq.trans ?_ (show res6 m c ((win0_6.rect t).emb (ix3 0 ρ n)) = _ from rfl)
    rw [emb6]; rfl
  · obtain ⟨b, s, n, rfl⟩ : ∃ (b : Fin 2) (s : Fin 8192) (n : Fin 1024), i = ix3 b s n := ⟨i 0, i 1, i 2, ValueIdx.eq_ix3 i⟩
    have key : ∀ (p : Fin 2) (q : Fin 8), ∃ t : Fin grid0.N, (grid0.coords t 0).val = p.val ∧ (grid0.coords t 1).val = q.val := by decide +kernel
    obtain ⟨t, ht0, ht1⟩ := key b ⟨s.val / 1024, by omega⟩
    refine ⟨t, flush6 t, ?_⟩
    have e : ix3 b s n = (win0_6.rect t).emb (ix3 (0 : Fin 1) (⟨s.val % 1024, by omega⟩ : Fin 1024) n) := by
      rw [emb6]
      refine congrArg₂ (fun b s => ix3 b s n) (Fin.ext ht0.symm) (Fin.ext ?_)
      show s.val = 1024 * (grid0.coords t 1).val + s.val % 1024
      rw [ht1]; show s.val = 1024 * (s.val / 1024) + s.val % 1024; omega
    rw [e]
    exact View.emb_mem_set _ _

theorem ent7 (c : Dev nD) (t : Fin cfg0.N) (ρ : Fin 1024) (n : Fin 1024) : ogAt (ptBlk m c t) (colsOf (arg2 m c)) ρ n = ogEnt (arg0 m c) (arg1 m c) (arg2 m c) (seqOf t) (posOf t ρ) n := by
  unfold ogAt ogEnt
  rw [hnAt_eq]
theorem flushed7_apply (c : Dev nD) (t : Fin cfg0.N) (ρ : Fin 1024) (n : Fin 1024) :
    (dats m 0 c).flushed 7 t (ix3 0 ρ n) = ogEnt (arg0 m c) (arg1 m c) (arg2 m c) (seqOf t) (posOf t ρ) n := by
  rw [← ent7]
  by_cases h0 : t.val % 16 = 0
  · rw [Value.flushed7_A m c t h0, ← wts_eq m c t]
    exact blockA_7 c (grid0.coords t) (ptBlk m c t) ((hcond0_0 t).mpr h0) ρ n
  · rw [Value.flushed7_B m c t h0]
    exact blockB_7 c (grid0.coords t) (ptBlk m c t) (fun h => h0 ((hcond0_0 t).mp h)) _ _ (colsOf (arg2 m c)) (kept m c (t.val - 1) (Nat.lt_of_le_of_lt (Nat.sub_le _ _) t.isLt)).1 ρ n

/-- The result's array. -/
def res7 (c : Dev nD) : Buf (Elt Ideal) ((c : Thread nD τ).loc main_v4_3) := fun y : S2x8192x1024.Idx =>
  ogEnt (arg0 m c) (arg1 m c) (arg2 m c) (y 0) (y 1) (y 2)

theorem index7 : ∀ t : Fin grid0.N, win0_7.index t = ![(grid0.coords t 0).val, (grid0.coords t 1).val, 0] := by decide +kernel
theorem flush7 : ∀ t : Fin grid0.N, win0_7.flush t = true := by decide +kernel

theorem emb7 (t : Fin cfg0.N) (ρ : Fin 1024) (n : Fin 1024) : (win0_7.rect t).emb (ix3 0 ρ n) = ix3 (seqOf t) (posOf t ρ) n := by
  funext a
  fin_cases a <;> refine Fin.ext ?_ <;> refine (Window.rect_emb_val win0_7 t _ _).trans ?_ <;> rw [index7]
  · show (grid0.coords t 0).val * 1 + 0 = (grid0.coords t 0).val; omega
  · show (grid0.coords t 1).val * 1024 + ρ.val = 1024 * (grid0.coords t 1).val + ρ.val; omega
  · show 0 * 1024 + n.val = n.val; omega

theorem result7 (c : Dev nD) : (dats m 0 c).arrAt 7 cfg0.N = res7 m c := by
  refine (dats m 0 c).arrAt_eq_of_cover 7 (res7 m c) (fun t _ => ?_) (fun i => ?_)
  · funext y
    obtain ⟨b, ρ, n, rfl⟩ : ∃ (b : Fin 1) (ρ : Fin 1024) (n : Fin 1024), y = ix3 b ρ n := ⟨y 0, y 1, y 2, ValueIdx.eq_ix3 y⟩
    obtain rfl : b = 0 := Subsingleton.elim _ _
    refine (flushed7_apply m c t ρ n).trans ?_
    refine Eq.trans ?_ (show res7 m c ((win0_7.rect t).emb (ix3 0 ρ n)) = _ from rfl)
    rw [emb7]; rfl
  · obtain ⟨b, s, n, rfl⟩ : ∃ (b : Fin 2) (s : Fin 8192) (n : Fin 1024), i = ix3 b s n := ⟨i 0, i 1, i 2, ValueIdx.eq_ix3 i⟩
    have key : ∀ (p : Fin 2) (q : Fin 8), ∃ t : Fin grid0.N, (grid0.coords t 0).val = p.val ∧ (grid0.coords t 1).val = q.val := by decide +kernel
    obtain ⟨t, ht0, ht1⟩ := key b ⟨s.val / 1024, by omega⟩
    refine ⟨t, flush7 t, ?_⟩
    have e : ix3 b s n = (win0_7.rect t).emb (ix3 (0 : Fin 1) (⟨s.val % 1024, by omega⟩ : Fin 1024) n) := by
      rw [emb7]
      refine congrArg₂ (fun b s => ix3 b s n) (Fin.ext ht0.symm) (Fin.ext ?_)
      show s.val = 1024 * (grid0.coords t 1).val + s.val % 1024
      rw [ht1]; show s.val = 1024 * (s.val / 1024) + s.val % 1024; omega
    rw [e]
    exact View.emb_mem_set _ _

theorem ent8 (c : Dev nD) (t : Fin cfg0.N) (ρ : Fin 128) (l : Fin 128) : rfAt (ptBlk m c t) (colsOf (arg2 m c)) ⟨ρ.val / 16, by omega⟩ ⟨ρ.val % 16, by omega⟩ l = rfEnt (arg0 m c) (arg1 m c) (arg2 m c) (arg3 m c) (seqOf t) (gateOf t ρ) l := by
  unfold rfAt rfEnt
  rw [hnAt_eq]
  have e1 : posOf t ⟨128 * (ρ.val / 16) + l.val, by omega⟩ = ⟨128 * ((gateOf t ρ).val / 16) + l.val, by have := (gateOf t ρ).isLt; omega⟩ := Fin.ext (by
    show 1024 * (grid0.coords t 1).val + (128 * (ρ.val / 16) + l.val) = 128 * ((128 * (grid0.coords t 1).val + ρ.val) / 16) + l.val
    omega)
  have e2 : ρ.val % 16 = (gateOf t ρ).val % 16 := by
    show ρ.val % 16 = (128 * (grid0.coords t 1).val + ρ.val) % 16
    omega
  refine congrArg₂ (· + ·) ?_ ?_
  · exact congrArg₂ (fun s j => proj (rowAt (arg0 m c) (arg1 m c) (seqOf t) s) (colsOf (arg2 m c)) j) e1 (Fin.ext (congrArg (3072 + ·) e2))
  · refine (blk3 m c t _ _).trans ?_
    exact congrArg (fun g => arg3 m c (ix1 g)) (Fin.ext e2)
theorem flushed8_apply (c : Dev nD) (t : Fin cfg0.N) (ρ : Fin 128) (l : Fin 128) :
    (dats m 0 c).flushed 8 t (ix3 0 ρ l) = rfEnt (arg0 m c) (arg1 m c) (arg2 m c) (arg3 m c) (seqOf t) (gateOf t ρ) l := by
  rw [← ent8]
  by_cases h0 : t.val % 16 = 0
  · rw [Value.flushed8_A m c t h0, ← wts_eq m c t]
    exact blockA_8 c (grid0.coords t) (ptBlk m c t) ((hcond0_0 t).mpr h0) ρ l
  · rw [Value.flushed8_B m c t h0]
    exact blockB_8 c (grid0.coords t) (ptBlk m c t) (fun h => h0 ((hcond0_0 t).mp h)) _ _ (colsOf (arg2 m c)) (kept m c (t.val - 1) (Nat.lt_of_le_of_lt (Nat.sub_le _ _) t.isLt)).2 ρ l

/-- The result's array. -/
def res8 (c : Dev nD) : Buf (Elt Ideal) ((c : Thread nD τ).loc main_v4_4) := fun y : S2x1024x128.Idx =>
  rfEnt (arg0 m c) (arg1 m c) (arg2 m c) (arg3 m c) (y 0) (y 1) (y 2)

theorem index8 : ∀ t : Fin grid0.N, win0_8.index t = ![(grid0.coords t 0).val, (grid0.coords t 1).val, 0] := by decide +kernel
theorem flush8 : ∀ t : Fin grid0.N, win0_8.flush t = true := by decide +kernel

theorem emb8 (t : Fin cfg0.N) (ρ : Fin 128) (l : Fin 128) : (win0_8.rect t).emb (ix3 0 ρ l) = ix3 (seqOf t) (gateOf t ρ) l := by
  funext a
  fin_cases a <;> refine Fin.ext ?_ <;> refine (Window.rect_emb_val win0_8 t _ _).trans ?_ <;> rw [index8]
  · show (grid0.coords t 0).val * 1 + 0 = (grid0.coords t 0).val; omega
  · show (grid0.coords t 1).val * 128 + ρ.val = 128 * (grid0.coords t 1).val + ρ.val; omega
  · show 0 * 128 + l.val = l.val; omega

theorem result8 (c : Dev nD) : (dats m 0 c).arrAt 8 cfg0.N = res8 m c := by
  refine (dats m 0 c).arrAt_eq_of_cover 8 (res8 m c) (fun t _ => ?_) (fun i => ?_)
  · funext y
    obtain ⟨b, ρ, l, rfl⟩ : ∃ (b : Fin 1) (ρ : Fin 128) (l : Fin 128), y = ix3 b ρ l := ⟨y 0, y 1, y 2, ValueIdx.eq_ix3 y⟩
    obtain rfl : b = 0 := Subsingleton.elim _ _
    refine (flushed8_apply m c t ρ l).trans ?_
    refine Eq.trans ?_ (show res8 m c ((win0_8.rect t).emb (ix3 0 ρ l)) = _ from rfl)
    rw [emb8]; rfl
  · obtain ⟨b, s, l, rfl⟩ : ∃ (b : Fin 2) (s : Fin 1024) (l : Fin 128), i = ix3 b s l := ⟨i 0, i 1, i 2, ValueIdx.eq_ix3 i⟩
    have key : ∀ (p : Fin 2) (q : Fin 8), ∃ t : Fin grid0.N, (grid0.coords t 0).val = p.val ∧ (grid0.coords t 1).val = q.val := by decide +kernel
    obtain ⟨t, ht0, ht1⟩ := key b ⟨s.val / 128, by omega⟩
    refine ⟨t, flush8 t, ?_⟩
    have e : ix3 b s l = (win0_8.rect t).emb (ix3 (0 : Fin 1) (⟨s.val % 128, by omega⟩ : Fin 128) l) := by
      rw [emb8]
      refine congrArg₂ (fun b s => ix3 b s l) (Fin.ext ht0.symm) (Fin.ext ?_)
      show s.val = 128 * (grid0.coords t 1).val + s.val % 128
      rw [ht1]; show s.val = 128 * (s.val / 128) + s.val % 128; omega
    rw [e]
    exact View.emb_mem_set _ _

end Cert.MlstmProj

end
-- ==== Proof.MlstmProjRef.lean ====
module

public import proofs.«01_k».proof.Proof.MlstmProjArr
public import proofs.«01_k».proof.Proof.Gen.Reference5Ideal.Run
public import proofs.«01_k».proof.Proof.Gen.Reference5Ideal.Read
public import Idealize.ShloMosaic.Lib.KernelVsHost

@[expose] public section

set_option maxRecDepth 16384

/-! The reference's values, read off its operations. -/

noncomputable section

namespace Cert.MlstmProjRef

open Cert.Reference5Ideal Cert.Reference5Ideal.Gen Cert.Reference5Ideal.Read Cert.Tail Cert.MlstmProj
open Idealize.ShloMosaic Idealize.ShloMosaic.TcCoe

variable (x0 : FVec Ideal S2x8192x1024 .f32) (x1 : FVec Ideal S1024 .f32) (x2 : FVec Ideal S2x1024x3088 .f32) (x3 : FVec Ideal S16 .f32)

theorem normed (b : Fin 2) (s : Fin 8192) (n : Fin 1024) :
    val_main_v12 (F := Ideal) x0 x1 (ix3 b s n) = rowAt x0 x1 b s n := by
  rw [val_main_v12_apply, val_main_v9_apply, val_main_v8_apply, val_main_v7_apply, val_main_v6_apply, val_main_v4_apply, val_main_v2_apply, val_main_v1_apply, val_main_v3_apply, val_main_v5_apply, val_main_v11_apply, val_main_v10_apply]
  unfold rowAt nrm rms
  refine congrArg₂ (· * ·) (congrArg (x0 (ix3 b s n) * ·) (congrArg (fun z => Ideal.rsqrt (Ideal.div z n1024 + eps)) ?_)) ?_
  · refine (congrArg₂ (· + ·) zero_bits (Finset.sum_congr rfl fun k _ => ?_)).trans (zero_add _)
    rw [val_main_v0_apply, show idx_main_v1 _ k = ix3 b s k from funext fun a => by fin_cases a <;> rfl]
    rfl
  · exact congrArg x1 (funext fun a => by fin_cases a; rfl)

theorem weights (k : Fin 1024) (j : Fin 3088) : val_main_v14 (F := Ideal) x2 (ix2 k j) = colsOf x2 j k := by
  rw [val_main_v14_apply, val_main_v13_apply]
  refine congrArg x2 (funext fun a => ?_)
  fin_cases a <;> refine Fin.ext ?_
  · rfl
  · show (k.val * 3088 + j.val) / 3088 % 1024 = k.val; omega
  · show (k.val * 3088 + j.val) % 3088 = j.val; omega

theorem projected (b : Fin 2) (s : Fin 8192) (j : Fin 3088) :
    val_main_v15 (F := Ideal) x0 x1 x2 (ix3 b s j) = proj (rowAt x0 x1 b s) (colsOf x2) j := by
  rw [val_main_v15_apply]
  unfold proj
  refine Finset.sum_congr rfl fun k _ => ?_
  rw [show lidx_main_v15 (ix3 b s j) k = ix3 b s k from funext fun a => by fin_cases a <;> rfl,
    show ridx_main_v15 (ix3 b s j) k = ix2 k j from funext fun a => by fin_cases a <;> rfl, normed, weights]

theorem queries (y : S2x8192x512.Idx) : val_main_v37 (F := Ideal) x0 x1 x2 y = qEnt x0 x1 x2 (y 0) (y 1) (y 2) := by
  obtain ⟨b, s, n, rfl⟩ : ∃ (b : Fin 2) (s : Fin 8192) (n : Fin 512), y = ix3 b s n := ⟨y 0, y 1, y 2, ValueIdx.eq_ix3 y⟩
  rw [val_main_v37_apply, val_main_v18_apply, val_main_v16_apply, val_main_v17_apply,
    show idx_main_v16 (ix3 b s n) = ix3 b s (⟨n.val, by omega⟩ : Fin 3088) from funext fun a => by fin_cases a <;> rfl, projected]
  rfl

theorem values (y : S2x8192x1024.Idx) : val_main_v39 (F := Ideal) x0 x1 x2 y = vEnt x0 x1 x2 (y 0) (y 1) (y 2) := by
  obtain ⟨b, s, n, rfl⟩ : ∃ (b : Fin 2) (s : Fin 8192) (n : Fin 1024), y = ix3 b s n := ⟨y 0, y 1, y 2, ValueIdx.eq_ix3 y⟩
  rw [val_main_v39_apply, val_main_v20_apply,
    show idx_main_v20 (ix3 b s n) = ix3 b s (⟨1024 + n.val, by omega⟩ : Fin 3088) from funext fun a => by fin_cases a <;> rfl, projected]
  rfl

theorem outGates (y : S2x8192x1024.Idx) : val_main_v40 (F := Ideal) x0 x1 x2 y = ogEnt x0 x1 x2 (y 0) (y 1) (y 2) := by
  obtain ⟨b, s, n, rfl⟩ : ∃ (b : Fin 2) (s : Fin 8192) (n : Fin 1024), y = ix3 b s n := ⟨y 0, y 1, y 2, ValueIdx.eq_ix3 y⟩
  rw [val_main_v40_apply, val_main_v27_apply, val_main_v26_apply, val_main_v25_apply, val_main_v24_apply, val_main_v23_apply, val_main_v22_apply, val_main_v21_apply,
    show idx_main_v21 (ix3 b s n) = ix3 b s (⟨2048 + n.val, by omega⟩ : Fin 3088) from funext fun a => by fin_cases a <;> rfl, projected]
  refine Eq.trans ?_ (show lgs (proj (rowAt x0 x1 b s) (colsOf x2) ⟨2048 + n.val, by omega⟩) = ogEnt x0 x1 x2 b s n from rfl)
  generalize proj (rowAt x0 x1 b s) (colsOf x2) ⟨2048 + n.val, by omega⟩ = g
  unfold lgs
  show Ideal.div (Ideal.ofBits .f32 0x3F800000#32) (Ideal.ofBits .f32 0x3F800000#32 + Ideal.exp (-g)) = _
  rw [one_bits, zero_sub]

theorem keys (y : S2x64x512x128.Idx) : val_main_v38 (F := Ideal) x0 x1 x2 y = ktEnt x0 x1 x2 (y 0) (y 1) (y 2) (y 3) := by
  obtain ⟨b, j, f, l, rfl⟩ : ∃ (b : Fin 2) (j : Fin 64) (f : Fin 512) (l : Fin 128), y = ix4 b j f l := ⟨y 0, y 1, y 2, y 3, ValueIdx.eq_ix4 y⟩
  have e32 : idx_main_v32 (ix4 b j l f) = ix3 b (⟨128 * j.val + l.val, by omega⟩ : Fin 8192) f := by
    funext a
    fin_cases a <;> refine Fin.ext ?_
    · show (((b.val * 64 + j.val) * 128 + l.val) * 512 + f.val) / 4194304 = b.val; omega
    · show (((b.val * 64 + j.val) * 128 + l.val) * 512 + f.val) / 512 % 8192 = 128 * j.val + l.val; omega
    · show (((b.val * 64 + j.val) * 128 + l.val) * 512 + f.val) % 512 = f.val; omega
  rw [val_main_v38_apply, val_main_v33_apply, show idx_main_v33 (ix4 b j f l) = ix4 b j l f from funext fun a => by fin_cases a <;> rfl,
    val_main_v32_apply, e32, val_main_v19_apply,
    show idx_main_v19 (ix3 b (⟨128 * j.val + l.val, by omega⟩ : Fin 8192) f) = ix3 b (⟨128 * j.val + l.val, by omega⟩ : Fin 8192) (⟨512 + f.val, by omega⟩ : Fin 3088) from funext fun a => by fin_cases a <;> rfl,
    projected]
  rfl

theorem gates (y : S2x1024x128.Idx) : val_main_v36 (F := Ideal) x0 x1 x2 x3 y = rfEnt x0 x1 x2 x3 (y 0) (y 1) (y 2) := by
  obtain ⟨b, r, l, rfl⟩ : ∃ (b : Fin 2) (r : Fin 1024) (l : Fin 128), y = ix3 b r l := ⟨y 0, y 1, y 2, ValueIdx.eq_ix3 y⟩
  have e36 : idx_main_v36 (ix3 b r l) = ix4 b (⟨r.val / 16, by omega⟩ : Fin 64) (⟨r.val % 16, by omega⟩ : Fin 16) l := by
    funext a
    fin_cases a <;> refine Fin.ext ?_
    · show ((b.val * 1024 + r.val) * 128 + l.val) / 131072 = b.val; omega
    · show ((b.val * 1024 + r.val) * 128 + l.val) / 2048 % 64 = r.val / 16; omega
    · show ((b.val * 1024 + r.val) * 128 + l.val) / 128 % 16 = r.val % 16; omega
    · show ((b.val * 1024 + r.val) * 128 + l.val) % 128 = l.val; omega
  have e34 : ∀ (j : Fin 64) (g : Fin 16), idx_main_v34 (ix4 b j l g) = ix3 b (⟨128 * j.val + l.val, by omega⟩ : Fin 8192) g := by
    intro j g
    funext a
    fin_cases a <;> refine Fin.ext ?_
    · show (((b.val * 64 + j.val) * 128 + l.val) * 16 + g.val) / 131072 = b.val; omega
    · show (((b.val * 64 + j.val) * 128 + l.val) * 16 + g.val) / 16 % 8192 = 128 * j.val + l.val; omega
    · show (((b.val * 64 + j.val) * 128 + l.val) * 16 + g.val) % 16 = g.val; omega
  have e28 : ∀ (s : Fin 8192) (g : Fin 16), idx_main_v28 (ix3 b s g) = ix3 b s (⟨3072 + g.val, by omega⟩ : Fin 3088) :=
    fun s g => funext fun a => by fin_cases a <;> rfl
  rw [val_main_v36_apply, e36, val_main_v35_apply,
    show idx_main_v35 (ix4 b (⟨r.val / 16, by omega⟩ : Fin 64) (⟨r.val % 16, by omega⟩ : Fin 16) l) = ix4 b (⟨r.val / 16, by omega⟩ : Fin 64) l (⟨r.val % 16, by omega⟩ : Fin 16) from funext fun a => by fin_cases a <;> rfl,
    val_main_v34_apply, e34, val_main_v31_apply, val_main_v28_apply, e28, projected, val_main_v30_apply, val_main_v29_apply]
  refine congrArg (proj (rowAt x0 x1 b ⟨128 * (r.val / 16) + l.val, by omega⟩) (colsOf x2) ⟨3072 + r.val % 16, by omega⟩ + ·) ?_
  exact congrArg x3 (funext fun a => by fin_cases a; rfl)

end Cert.MlstmProjRef

end
-- ==== Proof.ProjClaim.lean ====
module

public import proofs.«01_k».proof.Defs
public import proofs.«01_k».proof.Proof.Gen.Kernel5.Frame
public import proofs.«01_k».proof.Proof.MlstmProjRef
public import Idealize.ShloMosaic.Lib.Quiescent

@[expose] public section

set_option maxRecDepth 16384

noncomputable section

namespace Cert.ProjClaim

open Idealize.ShloMosaic Idealize.ShloMosaic.TcCoe Idealize.SL.Sem

attribute [local instance] Cert.Kernel5.Gen.facts Cert.Kernel5Ideal.Gen.facts Cert.Reference5Ideal.Gen.facts

/-! ## The mLSTM's projections -/

theorem kernel5_frame : Cert.quiescent_Kernel5 := fun m g _ => Cert.Kernel5.Gen.frame m g
theorem ideal5_frame : Cert.quiescent_Kernel5Ideal := fun m g _ => Cert.Kernel5Ideal.Gen.frame m g
theorem reference5_frame : Cert.quiescent_Reference5Ideal := fun m g _ =>
  (θ_run _ _ _).mono (fun r h => ⟨fun c => (h c).2.2.2.2.2, sem_eq_zero_of_no_sems (by decide) r.2⟩) (Cert.Reference5Ideal.Value.run m g)

theorem algebraic5 : Cert.algebraic_Kernel5Ideal_Reference5Ideal := by
  intro m g m' g' _ hm
  refine ⟨Cert.MlstmProj.res4 m, Cert.MlstmProj.res5 m, Cert.MlstmProj.res6 m, Cert.MlstmProj.res7 m, Cert.MlstmProj.res8 m, ?_, ?_⟩
  · exact (θ_run _ _ _).mono (fun r h c => ⟨(h c).1.trans (Cert.MlstmProj.result4 m c), (h c).2.1.trans (Cert.MlstmProj.result5 m c),
      (h c).2.2.1.trans (Cert.MlstmProj.result6 m c), (h c).2.2.2.1.trans (Cert.MlstmProj.result7 m c),
      (h c).2.2.2.2.1.trans (Cert.MlstmProj.result8 m c), (h c).2.2.2.2.2⟩) (Cert.Kernel5Ideal.Value.run_blocks m g)
  · refine (θ_run _ _ _).mono (fun r h c => ?_) (Cert.Reference5Ideal.Value.run m' g')
    obtain ⟨e0, e1, e2, e3⟩ := hm c
    obtain ⟨r0, r1, r2, r3, r4, hr⟩ := h c
    refine ⟨r0.trans ?_, r1.trans ?_, r2.trans ?_, r3.trans ?_, r4.trans ?_, hr⟩
    · rw [Cert.Reference5Ideal.Read.val_main_v37_eq, e0, e1, e2]
      funext y
      exact Cert.MlstmProjRef.queries _ _ _ y
    · rw [Cert.Reference5Ideal.Read.val_main_v38_eq, e0, e1, e2]
      funext y
      exact Cert.MlstmProjRef.keys _ _ _ y
    · rw [Cert.Reference5Ideal.Read.val_main_v39_eq, e0, e1, e2]
      funext y
      exact Cert.MlstmProjRef.values _ _ _ y
    · rw [Cert.Reference5Ideal.Read.val_main_v40_eq, e0, e1, e2]
      funext y
      exact Cert.MlstmProjRef.outGates _ _ _ y
    · rw [Cert.Reference5Ideal.Read.val_main_v36_eq, e0, e1, e2, e3]
      funext y
      exact Cert.MlstmProjRef.gates _ _ _ _ y

end Cert.ProjClaim

end
-- ==== Proof.AttnProj.lean ====
module

public import proofs.«01_k».proof.Proof.Gen.Kernel6Ideal.Value
public import proofs.«01_k».proof.Proof.TailMath

@[expose] public section

set_option maxRecDepth 16384

/-! The attention's projections: what the kernel's body stores, from what it reads. -/

noncomputable section

namespace Cert.AttnProj

open Cert.Kernel6Ideal Cert.Kernel6Ideal.Gen Cert.Tail
open Idealize.ShloMosaic Idealize.ShloMosaic.TcCoe

/-! ## One row's projections -/

/-- One column of a row's projection; `w` gives the weights column by column. -/
def proj (h : Fin 1024 → EReal) (w : Fin 1536 → Fin 1024 → EReal) (j : Fin 1536) : EReal := ∑ k, h k * w j k
/-- The queries' scale. -/
def qscale : EReal := Ideal.ofBits .f32 0x3E38AA3B#32
/-- A position as a number. -/
def posR (b : BitVec 32) : EReal := ((b.toInt : ℝ) : EReal)
/-- A head's 64 numbers turned by the 32 angles whose cosines and sines are `c` and `s`. -/
def turn (v : Fin 64 → EReal) (c s : Fin 32 → EReal) (e : Fin 64) : EReal :=
  if h : e.val < 32 then v e * c ⟨e.val, h⟩ - v ⟨32 + e.val, by omega⟩ * s ⟨e.val, h⟩
  else v e * c ⟨e.val - 32, by omega⟩ + v ⟨e.val - 32, by omega⟩ * s ⟨e.val - 32, by omega⟩
theorem turn_lo (v : Fin 64 → EReal) (c s : Fin 32 → EReal) (e : Fin 32) :
    turn v c s ⟨e.val, by omega⟩ = v ⟨e.val, by omega⟩ * c e - v ⟨32 + e.val, by omega⟩ * s e := by
  unfold turn
  rw [dif_pos (show e.val < 32 from e.isLt)]
theorem turn_hi (v : Fin 64 → EReal) (c s : Fin 32 → EReal) (e : Fin 32) :
    turn v c s ⟨32 + e.val, by omega⟩ = v ⟨32 + e.val, by omega⟩ * c e + v ⟨e.val, by omega⟩ * s e := by
  have h : ∀ (n : Nat) (hn : n < 32) (_ : n = e.val), (⟨n, hn⟩ : Fin 32) = e := fun n _ h => Fin.ext h
  have h' : ∀ (n : Nat) (hn : n < 64) (_ : n = e.val), (⟨n, hn⟩ : Fin 64) = ⟨e.val, by omega⟩ := fun n _ h => Fin.ext h
  unfold turn
  rw [dif_neg (show ¬ 32 + e.val < 32 by omega)]
  rw [h _ _ (show 32 + e.val - 32 = e.val by omega), h' _ _ (show 32 + e.val - 32 = e.val by omega)]
theorem halves (e : Fin 64) : (∃ e' : Fin 32, e = ⟨e'.val, by omega⟩) ∨ ∃ e' : Fin 32, e = ⟨32 + e'.val, by omega⟩ := by
  by_cases h : e.val < 32
  · exact .inl ⟨⟨e.val, h⟩, rfl⟩
  · exact .inr ⟨⟨e.val - 32, by omega⟩, Fin.ext (show e.val = 32 + (e.val - 32) by omega)⟩

/-! ## What the body computes from what it reads -/

theorem readWhole {S : Shape} {e : EltTy} (m : Memref sig .tc .vmem S e) (h : m.IsWhole) (X : S.Idx → Elt Ideal e)
    {off : Fin S.rank → Nat} (h0 : off = fun _ => 0) (inb : ∀ a, off a + S.size a ≤ S.size a) :
    View.readAt (Elt Ideal) m.view (Rect.unit off S.size inb).toLoadRect (h.unread X) = X := by
  have e := View.ld_unit_zero (Val := Elt Ideal) h0 inb X
  refine Eq.trans ?_ e
  funext x
  rw [h.readAt_unread]

theorem zeros2 : (![0, 0] : Fin 2 → Nat) = fun _ => 0 := by funext a; fin_cases a <;> rfl

/-- A strip of the weights turned and cast. -/
def stripT (v : FVec Ideal S1x1024x128 .f32) : FVec Ideal S128x1024 .bf16 := k0_pay3 (F := Ideal) v
theorem stripT_apply (v : FVec Ideal S1x1024x128 .f32) (n : Fin 128) (d : Fin 1024) : stripT v (ix2 n d) = v (ix3 0 d n) := by
  pointwise [stripT, k0_pay3]

/-- The rows normed. -/
def hnT (v : FVec Ideal S1x256x1024 .f32) (w : FVec Ideal S1x1024 .f32) : FVec Ideal S256x1024 .bf16 := k0_pay16 (F := Ideal) v w
theorem hnT_apply (v : FVec Ideal S1x256x1024 .f32) (w : FVec Ideal S1x1024 .f32) (i : Fin 256) (n : Fin 1024) :
    hnT v w (ix2 i n) = nrm (fun k => v (ix3 0 i k)) (fun k => w (ix2 0 k)) n := by
  pointwise [hnT, k0_pay16, nrm, rms, n1024, eps]

/-- The angles' cosines and sines. -/
def cosT (p : Vec Ideal S1x1x256 .i32) (v : FVec Ideal S32x1 .f32) : FVec Ideal S32x256 .f32 := k0_pay18 (F := Ideal) p v
def sinT (p : Vec Ideal S1x1x256 .i32) (v : FVec Ideal S32x1 .f32) : FVec Ideal S32x256 .f32 := k0_pay19 (F := Ideal) p v
theorem cosT_apply (p : Vec Ideal S1x1x256 .i32) (v : FVec Ideal S32x1 .f32) (e : Fin 32) (i : Fin 256) :
    cosT p v (ix2 e i) = Ideal.cos (posR (p (ix3 0 0 i)) * v (ix2 e 0)) := by
  rw [mul_comm]
  pointwise [cosT, k0_pay18, k0_pay17, posR]
  try rfl
theorem sinT_apply (p : Vec Ideal S1x1x256 .i32) (v : FVec Ideal S32x1 .f32) (e : Fin 32) (i : Fin 256) :
    sinT p v (ix2 e i) = Ideal.sin (posR (p (ix3 0 0 i)) * v (ix2 e 0)) := by
  rw [mul_comm]
  pointwise [sinT, k0_pay19, k0_pay17, posR]
  try rfl

/-- The queries, and the keys with the values, by column. -/
def qpT (h : FVec Ideal S256x1024 .bf16) (W : FVec Ideal S1024x1024 .bf16) : FVec Ideal S1024x256 .f32 :=
  matmul dot_S1024x1024_S256x1024_S1024x256_1_1_0_0_n_n none W h (constant S1024x256 .f32 0x00000000#32)
theorem qpT_apply (h : FVec Ideal S256x1024 .bf16) (W : FVec Ideal S1024x1024 .bf16) (f : Fin 1024) (i : Fin 256) :
    qpT h W (ix2 f i) = ∑ k, h (ix2 i k) * W (ix2 f k) := by
  refine Eq.trans (b := ∑ k, W (ix2 f k) * h (ix2 i k)) ?_ (Finset.sum_congr rfl fun k _ => mul_comm _ _)
  pointwise [qpT]
def kvT (h : FVec Ideal S256x1024 .bf16) (W : FVec Ideal S512x1024 .bf16) : FVec Ideal S512x256 .f32 :=
  matmul dot_S512x1024_S256x1024_S512x256_1_1_0_0_n_n none W h (constant S512x256 .f32 0x00000000#32)
theorem kvT_apply (h : FVec Ideal S256x1024 .bf16) (W : FVec Ideal S512x1024 .bf16) (f : Fin 512) (i : Fin 256) :
    kvT h W (ix2 f i) = ∑ k, h (ix2 i k) * W (ix2 f k) := by
  refine Eq.trans (b := ∑ k, W (ix2 f k) * h (ix2 i k)) ?_ (Finset.sum_congr rfl fun k _ => mul_comm _ _)
  pointwise [kvT]

/-- A head turned. -/
def rot (c s : FVec Ideal S32x256 .f32) (x : FVec Ideal S64x256 .f32) : FVec Ideal S64x256 .f32 :=
  concatenate S64x256 0
    [⟨S32x256, subf (mulf (extractStridedSlice S32x256 ![0, 0] x slices_S64x256_o0_0_S32x256) c) (mulf (extractStridedSlice S32x256 ![32, 0] x slices_S64x256_o32_0_S32x256) s)⟩,
     ⟨S32x256, addf (mulf (extractStridedSlice S32x256 ![32, 0] x slices_S64x256_o32_0_S32x256) c) (mulf (extractStridedSlice S32x256 ![0, 0] x slices_S64x256_o0_0_S32x256) s)⟩]
    concatenates_S32x256_S32x256_S64x256_d0
theorem half0 (x : FVec Ideal S64x256 .f32) (e : Fin 32) (i : Fin 256) :
    extractStridedSlice S32x256 ![0, 0] x slices_S64x256_o0_0_S32x256 (ix2 e i) = x (ix2 ⟨e.val, by omega⟩ i) := by
  pointwise []
theorem half1 (x : FVec Ideal S64x256 .f32) (e : Fin 32) (i : Fin 256) :
    extractStridedSlice S32x256 ![32, 0] x slices_S64x256_o32_0_S32x256 (ix2 e i) = x (ix2 ⟨32 + e.val, by omega⟩ i) := by
  pointwise []
theorem rot_apply (c s : FVec Ideal S32x256 .f32) (x : FVec Ideal S64x256 .f32) (e : Fin 64) (i : Fin 256) :
    rot c s x (ix2 e i) = turn (fun e => x (ix2 e i)) (fun e => c (ix2 e i)) (fun e => s (ix2 e i)) e := by
  rcases halves e with ⟨e', rfl⟩ | ⟨e', rfl⟩
  · rw [turn_lo]
    refine (concatenate_apply_piece (t := S64x256) (0 : Fin 2)
      [⟨S32x256, subf (mulf (extractStridedSlice S32x256 ![0, 0] x slices_S64x256_o0_0_S32x256) c) (mulf (extractStridedSlice S32x256 ![32, 0] x slices_S64x256_o32_0_S32x256) s)⟩, ⟨S32x256, addf (mulf (extractStridedSlice S32x256 ![32, 0] x slices_S64x256_o32_0_S32x256) c) (mulf (extractStridedSlice S32x256 ![0, 0] x slices_S64x256_o0_0_S32x256) s)⟩] concatenates_S32x256_S32x256_S64x256_d0 _ 0 (by show 0 < 2; omega) S32x256 _ rfl rfl 0 rfl (ix2 e' i)
      (fun b hb => ?_) ?_).trans ?_
    · fin_cases b
      · exact absurd rfl hb
      · rfl
    · show 0 + e'.val = e'.val; omega
    · beta_reduce
      rw [← half0 x e' i, ← half1 x e' i]; rfl
  · rw [turn_hi]
    refine (concatenate_apply_piece (t := S64x256) (0 : Fin 2)
      [⟨S32x256, subf (mulf (extractStridedSlice S32x256 ![0, 0] x slices_S64x256_o0_0_S32x256) c) (mulf (extractStridedSlice S32x256 ![32, 0] x slices_S64x256_o32_0_S32x256) s)⟩, ⟨S32x256, addf (mulf (extractStridedSlice S32x256 ![32, 0] x slices_S64x256_o32_0_S32x256) c) (mulf (extractStridedSlice S32x256 ![0, 0] x slices_S64x256_o0_0_S32x256) s)⟩] concatenates_S32x256_S32x256_S64x256_d0 _ 1 (by show 1 < 2; omega) S32x256 _ rfl rfl 32 rfl (ix2 e' i)
      (fun b hb => ?_) ?_).trans ?_
    · fin_cases b
      · exact absurd rfl hb
      · rfl
    · show 32 + e'.val = 32 + e'.val; rfl
    · beta_reduce
      rw [← half0 x e' i, ← half1 x e' i]; rfl

/-- Eight heads, one after the other. -/
def cat8 (f : Fin 8 → FVec Ideal S64x256 .f32) : FVec Ideal S512x256 .f32 :=
  concatenate S512x256 0 [⟨S64x256, f 0⟩, ⟨S64x256, f 1⟩, ⟨S64x256, f 2⟩, ⟨S64x256, f 3⟩, ⟨S64x256, f 4⟩, ⟨S64x256, f 5⟩, ⟨S64x256, f 6⟩, ⟨S64x256, f 7⟩]
    concatenates_S64x256_S64x256_S64x256_S64x256_S64x256_S64x256_S64x256_S64x256_S512x256_d0
theorem cat8_apply (f : Fin 8 → FVec Ideal S64x256 .f32) (h : Fin 8) (e : Fin 64) (i : Fin 256) :
    cat8 f (ix2 ⟨64 * h.val + e.val, by omega⟩ i) = f h (ix2 e i) := by
  have key : ∀ (k : Fin 8) (hk : k.val < 8), cat8 f (ix2 ⟨64 * k.val + e.val, by omega⟩ i) = f k (ix2 e i) := by
    intro k hk
    fin_cases k
    · refine concatenate_apply_piece (t := S512x256) (0 : Fin 2) [⟨S64x256, f 0⟩, ⟨S64x256, f 1⟩, ⟨S64x256, f 2⟩, ⟨S64x256, f 3⟩, ⟨S64x256, f 4⟩, ⟨S64x256, f 5⟩, ⟨S64x256, f 6⟩, ⟨S64x256, f 7⟩] concatenates_S64x256_S64x256_S64x256_S64x256_S64x256_S64x256_S64x256_S64x256_S512x256_d0 _ 0 (by show 0 < 8; omega) S64x256 (f 0) rfl rfl 0 rfl (ix2 e i) (fun b hb => ?_) (by show 0 + e.val = 64 * 0 + e.val; omega)
      fin_cases b
      · exact absurd rfl hb
      · rfl
    · refine concatenate_apply_piece (t := S512x256) (0 : Fin 2) [⟨S64x256, f 0⟩, ⟨S64x256, f 1⟩, ⟨S64x256, f 2⟩, ⟨S64x256, f 3⟩, ⟨S64x256, f 4⟩, ⟨S64x256, f 5⟩, ⟨S64x256, f 6⟩, ⟨S64x256, f 7⟩] concatenates_S64x256_S64x256_S64x256_S64x256_S64x256_S64x256_S64x256_S64x256_S512x256_d0 _ 1 (by show 1 < 8; omega) S64x256 (f 1) rfl rfl 64 rfl (ix2 e i) (fun b hb => ?_) (by show 64 + e.val = 64 * 1 + e.val; omega)
      fin_cases b
      · exact absurd rfl hb
      · rfl
    · refine concatenate_apply_piece (t := S512x256) (0 : Fin 2) [⟨S64x256, f 0⟩, ⟨S64x256, f 1⟩, ⟨S64x256, f 2⟩, ⟨S64x256, f 3⟩, ⟨S64x256, f 4⟩, ⟨S64x256, f 5⟩, ⟨S64x256, f 6⟩, ⟨S64x256, f 7⟩] concatenates_S64x256_S64x256_S64x256_S64x256_S64x256_S64x256_S64x256_S64x256_S512x256_d0 _ 2 (by show 2 < 8; omega) S64x256 (f 2) rfl rfl 128 rfl (ix2 e i) (fun b hb => ?_) (by show 128 + e.val = 64 * 2 + e.val; omega)
      fin_cases b
      · exact absurd rfl hb
      · rfl
    · refine concatenate_apply_piece (t := S512x256) (0 : Fin 2) [⟨S64x256, f 0⟩, ⟨S64x256, f 1⟩, ⟨S64x256, f 2⟩, ⟨S64x256, f 3⟩, ⟨S64x256, f 4⟩, ⟨S64x256, f 5⟩, ⟨S64x256, f 6⟩, ⟨S64x256, f 7⟩] concatenates_S64x256_S64x256_S64x256_S64x256_S64x256_S64x256_S64x256_S64x256_S512x256_d0 _ 3 (by show 3 < 8; omega) S64x256 (f 3) rfl rfl 192 rfl (ix2 e i) (fun b hb => ?_) (by show 192 + e.val = 64 * 3 + e.val; omega)
      fin_cases b
      · exact absurd rfl hb
      · rfl
    · refine concatenate_apply_piece (t := S512x256) (0 : Fin 2) [⟨S64x256, f 0⟩, ⟨S64x256, f 1⟩, ⟨S64x256, f 2⟩, ⟨S64x256, f 3⟩, ⟨S64x256, f 4⟩, ⟨S64x256, f 5⟩, ⟨S64x256, f 6⟩, ⟨S64x256, f 7⟩] concatenates_S64x256_S64x256_S64x256_S64x256_S64x256_S64x256_S64x256_S64x256_S512x256_d0 _ 4 (by show 4 < 8; omega) S64x256 (f 4) rfl rfl 256 rfl (ix2 e i) (fun b hb => ?_) (by show 256 + e.val = 64 * 4 + e.val; omega)
      fin_cases b
      · exact absurd rfl hb
      · rfl
    · refine concatenate_apply_piece (t := S512x256) (0 : Fin 2) [⟨S64x256, f 0⟩, ⟨S64x256, f 1⟩, ⟨S64x256, f 2⟩, ⟨S64x256, f 3⟩, ⟨S64x256, f 4⟩, ⟨S64x256, f 5⟩, ⟨S64x256, f 6⟩, ⟨S64x256, f 7⟩] concatenates_S64x256_S64x256_S64x256_S64x256_S64x256_S64x256_S64x256_S64x256_S512x256_d0 _ 5 (by show 5 < 8; omega) S64x256 (f 5) rfl rfl 320 rfl (ix2 e i) (fun b hb => ?_) (by show 320 + e.val = 64 * 5 + e.val; omega)
      fin_cases b
      · exact absurd rfl hb
      · rfl
    · refine concatenate_apply_piece (t := S512x256) (0 : Fin 2) [⟨S64x256, f 0⟩, ⟨S64x256, f 1⟩, ⟨S64x256, f 2⟩, ⟨S64x256, f 3⟩, ⟨S64x256, f 4⟩, ⟨S64x256, f 5⟩, ⟨S64x256, f 6⟩, ⟨S64x256, f 7⟩] concatenates_S64x256_S64x256_S64x256_S64x256_S64x256_S64x256_S64x256_S64x256_S512x256_d0 _ 6 (by show 6 < 8; omega) S64x256 (f 6) rfl rfl 384 rfl (ix2 e i) (fun b hb => ?_) (by show 384 + e.val = 64 * 6 + e.val; omega)
      fin_cases b
      · exact absurd rfl hb
      · rfl
    · refine concatenate_apply_piece (t := S512x256) (0 : Fin 2) [⟨S64x256, f 0⟩, ⟨S64x256, f 1⟩, ⟨S64x256, f 2⟩, ⟨S64x256, f 3⟩, ⟨S64x256, f 4⟩, ⟨S64x256, f 5⟩, ⟨S64x256, f 6⟩, ⟨S64x256, f 7⟩] concatenates_S64x256_S64x256_S64x256_S64x256_S64x256_S64x256_S64x256_S64x256_S512x256_d0 _ 7 (by show 7 < 8; omega) S64x256 (f 7) rfl rfl 448 rfl (ix2 e i) (fun b hb => ?_) (by show 448 + e.val = 64 * 7 + e.val; omega)
      fin_cases b
      · exact absurd rfl hb
      · rfl
  exact key h h.isLt

/-- Four heads, one after the other. -/
def cat4 (f : Fin 4 → FVec Ideal S64x256 .f32) : FVec Ideal S256x256 .f32 :=
  concatenate S256x256 0 [⟨S64x256, f 0⟩, ⟨S64x256, f 1⟩, ⟨S64x256, f 2⟩, ⟨S64x256, f 3⟩] concatenates_S64x256_S64x256_S64x256_S64x256_S256x256_d0
theorem cat4_apply (f : Fin 4 → FVec Ideal S64x256 .f32) (h : Fin 4) (e : Fin 64) (i : Fin 256) :
    cat4 f (ix2 ⟨64 * h.val + e.val, by omega⟩ i) = f h (ix2 e i) := by
  have key : ∀ (k : Fin 4) (hk : k.val < 4), cat4 f (ix2 ⟨64 * k.val + e.val, by omega⟩ i) = f k (ix2 e i) := by
    intro k hk
    fin_cases k
    · refine concatenate_apply_piece (t := S256x256) (0 : Fin 2) [⟨S64x256, f 0⟩, ⟨S64x256, f 1⟩, ⟨S64x256, f 2⟩, ⟨S64x256, f 3⟩] concatenates_S64x256_S64x256_S64x256_S64x256_S256x256_d0 _ 0 (by show 0 < 4; omega) S64x256 (f 0) rfl rfl 0 rfl (ix2 e i) (fun b hb => ?_) (by show 0 + e.val = 64 * 0 + e.val; omega)
      fin_cases b
      · exact absurd rfl hb
      · rfl
    · refine concatenate_apply_piece (t := S256x256) (0 : Fin 2) [⟨S64x256, f 0⟩, ⟨S64x256, f 1⟩, ⟨S64x256, f 2⟩, ⟨S64x256, f 3⟩] concatenates_S64x256_S64x256_S64x256_S64x256_S256x256_d0 _ 1 (by show 1 < 4; omega) S64x256 (f 1) rfl rfl 64 rfl (ix2 e i) (fun b hb => ?_) (by show 64 + e.val = 64 * 1 + e.val; omega)
      fin_cases b
      · exact absurd rfl hb
      · rfl
    · refine concatenate_apply_piece (t := S256x256) (0 : Fin 2) [⟨S64x256, f 0⟩, ⟨S64x256, f 1⟩, ⟨S64x256, f 2⟩, ⟨S64x256, f 3⟩] concatenates_S64x256_S64x256_S64x256_S64x256_S256x256_d0 _ 2 (by show 2 < 4; omega) S64x256 (f 2) rfl rfl 128 rfl (ix2 e i) (fun b hb => ?_) (by show 128 + e.val = 64 * 2 + e.val; omega)
      fin_cases b
      · exact absurd rfl hb
      · rfl
    · refine concatenate_apply_piece (t := S256x256) (0 : Fin 2) [⟨S64x256, f 0⟩, ⟨S64x256, f 1⟩, ⟨S64x256, f 2⟩, ⟨S64x256, f 3⟩] concatenates_S64x256_S64x256_S64x256_S64x256_S256x256_d0 _ 3 (by show 3 < 4; omega) S64x256 (f 3) rfl rfl 192 rfl (ix2 e i) (fun b hb => ?_) (by show 192 + e.val = 64 * 3 + e.val; omega)
      fin_cases b
      · exact absurd rfl hb
      · rfl
  exact key h h.isLt

theorem slQ (o : Nat) (h : o + 64 ≤ 1024) : S1024x256.Slices ![o, 0] S64x256 :=
  ⟨rfl, fun a => by fin_cases a; exacts [h, show 0 + 256 ≤ 256 by omega]⟩
theorem slK (o : Nat) (h : o + 64 ≤ 512) : S512x256.Slices ![o, 0] S64x256 :=
  ⟨rfl, fun a => by fin_cases a; exacts [h, show 0 + 256 ≤ 256 by omega]⟩
theorem slP (b : Nat) (h : b + 128 ≤ 256) : S512x256.Slices ![0, b] S512x128 :=
  ⟨rfl, fun a => by fin_cases a; exacts [show 0 + 512 ≤ 512 by omega, h]⟩
theorem slT (a b : Nat) (ha : a + 128 ≤ 256) (hb : b + 128 ≤ 256) : S256x256.Slices ![a, b] S128x128 :=
  ⟨rfl, fun d => by fin_cases d; exacts [ha, hb]⟩
theorem slV (b : Nat) (h : b + 128 ≤ 256) : S256x256.Slices ![0, b] S256x128 :=
  ⟨rfl, fun a => by fin_cases a; exacts [show 0 + 256 ≤ 256 by omega, h]⟩

/-- A head of the queries turned and scaled. -/
def qHead (c s : FVec Ideal S32x256 .f32) (p : FVec Ideal S1024x256 .f32) (o : Nat) (ho : o + 512 ≤ 1024) (h : Fin 8) : FVec Ideal S64x256 .f32 :=
  mulf (rot c s (extractStridedSlice S64x256 ![o + 64 * h.val, 0] p (slQ _ (by omega)))) (broadcast S64x256 (Scalar.ofBits (F := Ideal) .f32 0x3E38AA3B#32))
theorem sliceQ (p : FVec Ideal S1024x256 .f32) (a : Nat) (ha : a + 64 ≤ 1024) (e : Fin 64) (i : Fin 256) :
    extractStridedSlice S64x256 ![a, 0] p (slQ a ha) (ix2 e i) = p (ix2 ⟨a + e.val, by omega⟩ i) := by
  pointwise []
theorem sliceK (p : FVec Ideal S512x256 .f32) (a : Nat) (ha : a + 64 ≤ 512) (e : Fin 64) (i : Fin 256) :
    extractStridedSlice S64x256 ![a, 0] p (slK a ha) (ix2 e i) = p (ix2 ⟨a + e.val, by omega⟩ i) := by
  pointwise []
theorem mulf_at (x y : FVec Ideal S64x256 .f32) (z : S64x256.Idx) : mulf x y z = x z * y z := rfl
theorem scale_at (z : S64x256.Idx) : broadcast S64x256 (Scalar.ofBits (F := Ideal) .f32 0x3E38AA3B#32) z = qscale := rfl
theorem qHead_apply (c s : FVec Ideal S32x256 .f32) (p : FVec Ideal S1024x256 .f32) (o : Nat) (ho : o + 512 ≤ 1024) (h : Fin 8) (e : Fin 64) (i : Fin 256) :
    qHead c s p o ho h (ix2 e i)
      = turn (fun e => p (ix2 ⟨o + 64 * h.val + e.val, by omega⟩ i)) (fun e => c (ix2 e i)) (fun e => s (ix2 e i)) e * qscale := by
  unfold qHead
  rw [mulf_at, scale_at, rot_apply]
  exact congrArg (fun v => turn v _ _ e * qscale) (funext fun d => sliceQ p (o + 64 * h.val) (by omega) d i)
/-- Eight heads of the queries turned, scaled and cast. -/
def q512 (c s : FVec Ideal S32x256 .f32) (p : FVec Ideal S1024x256 .f32) (o : Nat) (ho : o + 512 ≤ 1024) : FVec Ideal S512x256 .bf16 :=
  truncf .bf16 (cat8 (qHead c s p o ho)) bitsLt_bf16_f32
theorem cast_at (x : FVec Ideal S512x256 .f32) (z : S512x256.Idx) : truncf .bf16 x bitsLt_bf16_f32 z = x z := rfl
theorem q512_apply (c s : FVec Ideal S32x256 .f32) (p : FVec Ideal S1024x256 .f32) (o : Nat) (ho : o + 512 ≤ 1024) (h : Fin 8) (e : Fin 64) (i : Fin 256) :
    q512 c s p o ho (ix2 ⟨64 * h.val + e.val, by omega⟩ i)
      = turn (fun e => p (ix2 ⟨o + 64 * h.val + e.val, by omega⟩ i)) (fun e => c (ix2 e i)) (fun e => s (ix2 e i)) e * qscale := by
  unfold q512
  rw [cast_at, cat8_apply, qHead_apply]

/-- A chunk of eight heads' queries. -/
def qT (c s : FVec Ideal S32x256 .f32) (p : FVec Ideal S1024x256 .f32) (o : Nat) (ho : o + 512 ≤ 1024) (b : Nat) (hb : b + 128 ≤ 256) : FVec Ideal S1x1x512x128 .bf16 :=
  shapeCast S1x1x512x128 (extractStridedSlice S512x128 ![0, b] (q512 c s p o ho) (slP b hb)) shapeCasts_S512x128_S1x1x512x128
theorem qT_apply (c s : FVec Ideal S32x256 .f32) (p : FVec Ideal S1024x256 .f32) (o : Nat) (ho : o + 512 ≤ 1024) (b : Nat) (hb : b + 128 ≤ 256) (n : Fin 512) (l : Fin 128) :
    qT c s p o ho b hb (ix4 0 0 n l) = q512 c s p o ho (ix2 n ⟨b + l.val, by omega⟩) := by
  pointwise [qT]

/-- The four heads of the keys turned. -/
def k256 (c s : FVec Ideal S32x256 .f32) (p : FVec Ideal S512x256 .f32) : FVec Ideal S256x256 .f32 :=
  cat4 fun h => rot c s (extractStridedSlice S64x256 ![64 * h.val, 0] p (slK _ (by omega)))
theorem k256_apply (c s : FVec Ideal S32x256 .f32) (p : FVec Ideal S512x256 .f32) (h : Fin 4) (e : Fin 64) (i : Fin 256) :
    k256 c s p (ix2 ⟨64 * h.val + e.val, by omega⟩ i)
      = turn (fun e => p (ix2 ⟨64 * h.val + e.val, by omega⟩ i)) (fun e => c (ix2 e i)) (fun e => s (ix2 e i)) e := by
  unfold k256
  rw [cat4_apply, rot_apply]
  exact congrArg (fun v => turn v _ _ e) (funext fun d => sliceK p (64 * h.val) (by omega) d i)

/-- A square of the keys, by position. -/
def kT (c s : FVec Ideal S32x256 .f32) (p : FVec Ideal S512x256 .f32) (a b : Nat) (ha : a + 128 ≤ 256) (hb : b + 128 ≤ 256) : FVec Ideal S1x128x128 .bf16 :=
  shapeCast S1x128x128 (truncf .bf16 (transpose S128x128 [1, 0] (extractStridedSlice S128x128 ![a, b] (k256 c s p) (slT a b ha hb)) transposes_S128x128_p1_0_S128x128) bitsLt_bf16_f32) shapeCasts_S128x128_S1x128x128
theorem kT_apply (c s : FVec Ideal S32x256 .f32) (p : FVec Ideal S512x256 .f32) (a b : Nat) (ha : a + 128 ≤ 256) (hb : b + 128 ≤ 256) (i n : Fin 128) :
    kT c s p a b ha hb (ix3 0 i n) = k256 c s p (ix2 ⟨a + n.val, by omega⟩ ⟨b + i.val, by omega⟩) := by
  pointwise [kT]

/-- A chunk of the values. -/
def vT (p : FVec Ideal S512x256 .f32) (b : Nat) (hb : b + 128 ≤ 256) : FVec Ideal S1x1x256x128 .bf16 :=
  shapeCast S1x1x256x128 (extractStridedSlice S256x128 ![0, b] (truncf .bf16 (extractStridedSlice S256x256 ![256, 0] p slices_S512x256_o256_0_S256x256) bitsLt_bf16_f32) (slV b hb)) shapeCasts_S256x128_S1x1x256x128
theorem vT_apply (p : FVec Ideal S512x256 .f32) (b : Nat) (hb : b + 128 ≤ 256) (f : Fin 256) (l : Fin 128) :
    vT p b hb (ix4 0 0 f l) = p (ix2 ⟨256 + f.val, by omega⟩ ⟨b + l.val, by omega⟩) := by
  pointwise [vT]

/-! ## What the body reads and stores -/

/-- A point's buffers and what its inputs hold. -/
structure Blk where
  a2 : Memref sig .tc .vmem S1x1024x1024 .f32
  h2 : a2.IsWhole
  a3 : Memref sig .tc .vmem S1x1024 .f32
  h3 : a3.IsWhole
  a4 : Memref sig .tc .vmem S1x1024x1536 .f32
  h4 : a4.IsWhole
  a5 : Memref sig .tc .vmem S1x1x1024 .i32
  h5 : a5.IsWhole
  a6 : Memref sig .tc .vmem S32x1 .f32
  h6 : a6.IsWhole
  a7 : Memref sig .tc .vmem S1x8x1024x128 .bf16
  h7 : a7.IsWhole
  a8 : Memref sig .tc .vmem S1x1024x256 .bf16
  h8 : a8.IsWhole
  a9 : Memref sig .tc .vmem S1x8x256x128 .bf16
  h9 : a9.IsWhole
  a10 : Memref sig .tc .vmem S1536x1024 .bf16
  h10 : a10.IsWhole
  x0 : Vec Ideal S1x1024x1024 .f32
  x1 : Vec Ideal S1x1024 .f32
  x2 : Vec Ideal S1x1024x1536 .f32
  x3 : Vec Ideal S1x1x1024 .i32
  x4 : Vec Ideal S32x1 .f32

/-- The weights a block gives, column by column. -/
def wts (q : Blk) (j : Fin 1536) (k : Fin 1024) : EReal := q.x2 (ix3 0 k j)
/-- A row normed. -/
def hnAt (q : Blk) (ρ : Fin 1024) : Fin 1024 → EReal := nrm (fun k => q.x0 (ix3 0 ρ k)) (fun k => q.x1 (ix2 0 k))
/-- The angles' cosines and sines at a row. -/
def cosAt (q : Blk) (ρ : Fin 1024) (e : Fin 32) : EReal := Ideal.cos (posR (q.x3 (ix3 0 0 ρ)) * q.x4 (ix2 e 0))
def sinAt (q : Blk) (ρ : Fin 1024) (e : Fin 32) : EReal := Ideal.sin (posR (q.x3 (ix3 0 0 ρ)) * q.x4 (ix2 e 0))

theorem inbR (r : Fin 4) : ∀ a : Fin 3, ![0, 256 * r.val, 0] a + S1x256x1024.size a ≤ S1x1024x1024.size a := by
  have := r.isLt
  intro a; fin_cases a <;> simp [S1x256x1024, S1x1024x1024] <;> omega
theorem inbP (r : Fin 4) : ∀ a : Fin 3, ![0, 0, 256 * r.val] a + S1x1x256.size a ≤ S1x1x1024.size a := by
  have := r.isLt
  intro a; fin_cases a <;> simp [S1x1x256, S1x1x1024] <;> omega
theorem inbQ (j : Fin 8) (o : Nat) (h : o + 512 ≤ 1024) : ∀ a : Fin 4, ![0, j.val, o, 0] a + S1x1x512x128.size a ≤ S1x8x1024x128.size a := by
  have := j.isLt
  intro a; fin_cases a <;> simp [S1x1x512x128, S1x8x1024x128] <;> omega
theorem inbV (j : Fin 8) : ∀ a : Fin 4, ![0, j.val, 0, 0] a + S1x1x256x128.size a ≤ S1x8x256x128.size a := by
  have := j.isLt
  intro a; fin_cases a <;> simp [S1x1x256x128, S1x8x256x128] <;> omega
theorem inbK (b a : Nat) (hb : b + 128 ≤ 1024) (ha : a + 128 ≤ 256) : ∀ d : Fin 3, ![0, b, a] d + S1x128x128.size d ≤ S1x1024x256.size d := by
  intro d; fin_cases d <;> simp [S1x128x128, S1x1024x256] <;> omega
theorem inbW (o : Nat) (h : o + 128 ≤ 1536) : ∀ a : Fin 2, ![o, 0] a + S128x1024.size a ≤ S1536x1024.size a := by
  intro a; fin_cases a <;> simp [S128x1024, S1536x1024] <;> omega
theorem inbS (o : Nat) (h : o + 128 ≤ 1536) : ∀ a : Fin 3, ![0, 0, o] a + S1x1024x128.size a ≤ S1x1024x1536.size a := by
  intro a; fin_cases a <;> simp [S1x1024x128, S1x1024x1536] <;> omega

/-- Rows of the input, read. -/
def xRd (q : Blk) (r : Fin 4) : Vec Ideal S1x256x1024 .f32 :=
  View.readAt (Elt Ideal) q.a2.view (Rect.unit (s := S1x1024x1024) ![0, 256 * r.val, 0] S1x256x1024.size (inbR r)).toLoadRect (q.h2.unread q.x0)
theorem xRd_apply (q : Blk) (r : Fin 4) (i : Fin 256) (n : Fin 1024) :
    xRd q r (ix3 0 i n) = q.x0 (ix3 0 ⟨256 * r.val + i.val, by omega⟩ n) := by
  unfold xRd
  rw [Memref.IsWhole.readAt_unread]
  refine congrArg q.x0 (funext fun e => ?_)
  fin_cases e
  · rfl
  · exact Fin.ext (show 256 * r.val + 1 * i.val = 256 * r.val + i.val by omega)
  · exact Fin.ext (show 0 + 1 * n.val = n.val by omega)
/-- Rows' positions, read. -/
def pRd (q : Blk) (r : Fin 4) : Vec Ideal S1x1x256 .i32 :=
  View.readAt (Elt Ideal) q.a5.view (Rect.unit (s := S1x1x1024) ![0, 0, 256 * r.val] S1x1x256.size (inbP r)).toLoadRect (q.h5.unread q.x3)
theorem pRd_apply (q : Blk) (r : Fin 4) (i : Fin 256) : pRd q r (ix3 0 0 i) = q.x3 (ix3 0 0 ⟨256 * r.val + i.val, by omega⟩) := by
  unfold pRd
  rw [Memref.IsWhole.readAt_unread]
  refine congrArg q.x3 (funext fun e => ?_)
  fin_cases e
  · rfl
  · rfl
  · exact Fin.ext (show 256 * r.val + 1 * i.val = 256 * r.val + i.val by omega)
/-- The norm's weights, read. -/
def nwRd (q : Blk) : Vec Ideal S1x1024 .f32 :=
  View.readAt (Elt Ideal) q.a3.view (Rect.unit (s := S1x1024) ![0, 0] S1x1024.size inb_S1x1024_S1x1024_0_0).toLoadRect (q.h3.unread q.x1)
theorem nwRd_eq (q : Blk) : nwRd q = q.x1 := readWhole _ _ _ zeros2 _
/-- The frequencies, read. -/
def fRd (q : Blk) : Vec Ideal S32x1 .f32 :=
  View.readAt (Elt Ideal) q.a6.view (Rect.unit (s := S32x1) ![0, 0] S32x1.size inb_S32x1_S32x1_0_0).toLoadRect (q.h6.unread q.x4)
theorem fRd_eq (q : Blk) : fRd q = q.x4 := readWhole _ _ _ zeros2 _
/-- Columns of the weights, read. -/
def srcRd (q : Blk) (o : Nat) (h : o + 128 ≤ 1536) : Vec Ideal S1x1024x128 .f32 :=
  View.readAt (Elt Ideal) q.a4.view (Rect.unit (s := S1x1024x1536) ![0, 0, o] S1x1024x128.size (inbS o h)).toLoadRect (q.h4.unread q.x2)
theorem srcRd_apply (q : Blk) (o : Nat) (h : o + 128 ≤ 1536) (i : Fin 128) (d : Fin 1024) :
    srcRd q o h (ix3 0 d i) = wts q ⟨o + i.val, by omega⟩ d := by
  unfold srcRd
  rw [Memref.IsWhole.readAt_unread]
  refine congrArg q.x2 (funext fun e => ?_)
  fin_cases e
  · rfl
  · exact Fin.ext (show 0 + 1 * d.val = d.val by omega)
  · exact Fin.ext (show o + 1 * i.val = o + i.val by omega)

def rectQ (j : Fin 8) (o : Nat) (h : o + 512 ≤ 1024) : Rect S1x8x1024x128 := Rect.unit (s := S1x8x1024x128) ![0, j.val, o, 0] S1x1x512x128.size (inbQ j o h)
def rectK (b a : Nat) (hb : b + 128 ≤ 1024) (ha : a + 128 ≤ 256) : Rect S1x1024x256 := Rect.unit (s := S1x1024x256) ![0, b, a] S1x128x128.size (inbK b a hb ha)
def rectV (j : Fin 8) : Rect S1x8x256x128 := Rect.unit (s := S1x8x256x128) ![0, j.val, 0, 0] S1x1x256x128.size (inbV j)
def rectW (o : Nat) (h : o + 128 ≤ 1536) : Rect S1536x1024 := Rect.unit (s := S1536x1024) ![o, 0] S128x1024.size (inbW o h)

/-! ## The weights kept for all points -/

/-- The stores of the weights. -/
def wL (q : Blk) : List (View.Piece (Elt Ideal) S1536x1024 .bf16) :=
  [⟨rectW 1408 (by omega), stripT (srcRd q 1408 (by omega))⟩,
   ⟨rectW 1280 (by omega), stripT (srcRd q 1280 (by omega))⟩,
   ⟨rectW 1152 (by omega), stripT (srcRd q 1152 (by omega))⟩,
   ⟨rectW 1024 (by omega), stripT (srcRd q 1024 (by omega))⟩,
   ⟨rectW 896 (by omega), stripT (srcRd q 896 (by omega))⟩,
   ⟨rectW 768 (by omega), stripT (srcRd q 768 (by omega))⟩,
   ⟨rectW 640 (by omega), stripT (srcRd q 640 (by omega))⟩,
   ⟨rectW 512 (by omega), stripT (srcRd q 512 (by omega))⟩,
   ⟨rectW 384 (by omega), stripT (srcRd q 384 (by omega))⟩,
   ⟨rectW 256 (by omega), stripT (srcRd q 256 (by omega))⟩,
   ⟨rectW 128 (by omega), stripT (srcRd q 128 (by omega))⟩,
   ⟨rectW 0 (by omega), stripT (srcRd q 0 (by omega))⟩]

theorem canon_wL (q : Blk) (j : Fin 1536) (d : Fin 1024) : View.canon (wL q) (ix2 j d) = wts q j d := by
  refine View.canon_apply_of_pieces (fun y : S1536x1024.Idx => wts q (y 0) (y 1)) _ (fun p hp x => ?_) (ix2 j d)
    (View.cover_of_tiledL (wL q) S128x1024.size (by sl_kernel_rfl) _)
  have key : ∀ (o : Nat) (ho : o + 128 ≤ 1536) (x : S128x1024.Idx), stripT (srcRd q o ho) x = wts q ((rectW o ho).emb x 0) ((rectW o ho).emb x 1) := by
    intro o ho x
    obtain ⟨n, i, rfl⟩ : ∃ (n : Fin 128) (i : Fin 1024), x = ix2 n i := ⟨x 0, x 1, ValueIdx.eq_ix2 x⟩
    rw [stripT_apply, srcRd_apply]
    refine congrArg₂ (wts q) (Fin.ext ?_) (Fin.ext ?_)
    · show o + n.val = o + 1 * n.val; omega
    · show i.val = 0 + 1 * i.val; omega
  simp only [wL, List.mem_cons, List.not_mem_nil, or_false] at hp
  rcases hp with rfl | rfl | rfl | rfl | rfl | rfl | rfl | rfl | rfl | rfl | rfl | rfl
  · exact key 1408 (by omega) x
  · exact key 1280 (by omega) x
  · exact key 1152 (by omega) x
  · exact key 1024 (by omega) x
  · exact key 896 (by omega) x
  · exact key 768 (by omega) x
  · exact key 640 (by omega) x
  · exact key 512 (by omega) x
  · exact key 384 (by omega) x
  · exact key 256 (by omega) x
  · exact key 128 (by omega) x
  · exact key 0 (by omega) x

/-! ## The stores of the results, given the weights read -/

/-- The rows normed, and the angles' cosines and sines at them. -/
def hn (q : Blk) (r : Fin 4) : FVec Ideal S256x1024 .bf16 := hnT (xRd q r) (nwRd q)
def cosR (q : Blk) (r : Fin 4) : FVec Ideal S32x256 .f32 := cosT (pRd q r) (fRd q)
def sinR (q : Blk) (r : Fin 4) : FVec Ideal S32x256 .f32 := sinT (pRd q r) (fRd q)
theorem hn_apply (q : Blk) (r : Fin 4) (i : Fin 256) (n : Fin 1024) : hn q r (ix2 i n) = hnAt q ⟨256 * r.val + i.val, by omega⟩ n := by
  unfold hn
  rw [hnT_apply, nwRd_eq]
  unfold hnAt
  simp only [xRd_apply]
theorem cosR_apply (q : Blk) (r : Fin 4) (e : Fin 32) (i : Fin 256) : cosR q r (ix2 e i) = cosAt q ⟨256 * r.val + i.val, by omega⟩ e := by
  unfold cosR
  rw [cosT_apply, fRd_eq, pRd_apply]
  rfl
theorem sinR_apply (q : Blk) (r : Fin 4) (e : Fin 32) (i : Fin 256) : sinR q r (ix2 e i) = sinAt q ⟨256 * r.val + i.val, by omega⟩ e := by
  unfold sinR
  rw [sinT_apply, fRd_eq, pRd_apply]
  rfl

section Rows
variable (q : Blk) (WQ : Vec Ideal S1024x1024 .bf16) (WK : Vec Ideal S512x1024 .bf16) (w : Fin 1536 → Fin 1024 → EReal)

def qP (r : Fin 4) (o : Nat) (ho : o + 512 ≤ 1024) (b : Nat) (hb : b + 128 ≤ 256) : FVec Ideal S1x1x512x128 .bf16 :=
  qT (cosR q r) (sinR q r) (qpT (hn q r) WQ) o ho b hb
def kP (r : Fin 4) (a b : Nat) (ha : a + 128 ≤ 256) (hb : b + 128 ≤ 256) : FVec Ideal S1x128x128 .bf16 :=
  kT (cosR q r) (sinR q r) (kvT (hn q r) WK) a b ha hb
def vP (r : Fin 4) (b : Nat) (hb : b + 128 ≤ 256) : FVec Ideal S1x1x256x128 .bf16 := vT (kvT (hn q r) WK) b hb

def qL : List (View.Piece (Elt Ideal) S1x8x1024x128 .bf16) :=
  [⟨rectQ 7 512 (by omega), qP q WQ 3 512 (by omega) 128 (by omega)⟩,
   ⟨rectQ 6 512 (by omega), qP q WQ 3 512 (by omega) 0 (by omega)⟩,
   ⟨rectQ 7 0 (by omega), qP q WQ 3 0 (by omega) 128 (by omega)⟩,
   ⟨rectQ 6 0 (by omega), qP q WQ 3 0 (by omega) 0 (by omega)⟩,
   ⟨rectQ 5 512 (by omega), qP q WQ 2 512 (by omega) 128 (by omega)⟩,
   ⟨rectQ 4 512 (by omega), qP q WQ 2 512 (by omega) 0 (by omega)⟩,
   ⟨rectQ 5 0 (by omega), qP q WQ 2 0 (by omega) 128 (by omega)⟩,
   ⟨rectQ 4 0 (by omega), qP q WQ 2 0 (by omega) 0 (by omega)⟩,
   ⟨rectQ 3 512 (by omega), qP q WQ 1 512 (by omega) 128 (by omega)⟩,
   ⟨rectQ 2 512 (by omega), qP q WQ 1 512 (by omega) 0 (by omega)⟩,
   ⟨rectQ 3 0 (by omega), qP q WQ 1 0 (by omega) 128 (by omega)⟩,
   ⟨rectQ 2 0 (by omega), qP q WQ 1 0 (by omega) 0 (by omega)⟩,
   ⟨rectQ 1 512 (by omega), qP q WQ 0 512 (by omega) 128 (by omega)⟩,
   ⟨rectQ 0 512 (by omega), qP q WQ 0 512 (by omega) 0 (by omega)⟩,
   ⟨rectQ 1 0 (by omega), qP q WQ 0 0 (by omega) 128 (by omega)⟩,
   ⟨rectQ 0 0 (by omega), qP q WQ 0 0 (by omega) 0 (by omega)⟩]
def kL : List (View.Piece (Elt Ideal) S1x1024x256 .bf16) :=
  [⟨rectK 896 128 (by omega) (by omega), kP q WK 3 128 128 (by omega) (by omega)⟩,
   ⟨rectK 896 0 (by omega) (by omega), kP q WK 3 0 128 (by omega) (by omega)⟩,
   ⟨rectK 768 128 (by omega) (by omega), kP q WK 3 128 0 (by omega) (by omega)⟩,
   ⟨rectK 768 0 (by omega) (by omega), kP q WK 3 0 0 (by omega) (by omega)⟩,
   ⟨rectK 640 128 (by omega) (by omega), kP q WK 2 128 128 (by omega) (by omega)⟩,
   ⟨rectK 640 0 (by omega) (by omega), kP q WK 2 0 128 (by omega) (by omega)⟩,
   ⟨rectK 512 128 (by omega) (by omega), kP q WK 2 128 0 (by omega) (by omega)⟩,
   ⟨rectK 512 0 (by omega) (by omega), kP q WK 2 0 0 (by omega) (by omega)⟩,
   ⟨rectK 384 128 (by omega) (by omega), kP q WK 1 128 128 (by omega) (by omega)⟩,
   ⟨rectK 384 0 (by omega) (by omega), kP q WK 1 0 128 (by omega) (by omega)⟩,
   ⟨rectK 256 128 (by omega) (by omega), kP q WK 1 128 0 (by omega) (by omega)⟩,
   ⟨rectK 256 0 (by omega) (by omega), kP q WK 1 0 0 (by omega) (by omega)⟩,
   ⟨rectK 128 128 (by omega) (by omega), kP q WK 0 128 128 (by omega) (by omega)⟩,
   ⟨rectK 128 0 (by omega) (by omega), kP q WK 0 0 128 (by omega) (by omega)⟩,
   ⟨rectK 0 128 (by omega) (by omega), kP q WK 0 128 0 (by omega) (by omega)⟩,
   ⟨rectK 0 0 (by omega) (by omega), kP q WK 0 0 0 (by omega) (by omega)⟩]
def vL : List (View.Piece (Elt Ideal) S1x8x256x128 .bf16) :=
  [⟨rectV 7, vP q WK 3 128 (by omega)⟩,
   ⟨rectV 6, vP q WK 3 0 (by omega)⟩,
   ⟨rectV 5, vP q WK 2 128 (by omega)⟩,
   ⟨rectV 4, vP q WK 2 0 (by omega)⟩,
   ⟨rectV 3, vP q WK 1 128 (by omega)⟩,
   ⟨rectV 2, vP q WK 1 0 (by omega)⟩,
   ⟨rectV 1, vP q WK 0 128 (by omega)⟩,
   ⟨rectV 0, vP q WK 0 0 (by omega)⟩]

/-- The three results' entries. -/
def qAt (j : Fin 8) (n : Fin 1024) (l : Fin 128) : EReal :=
  turn (fun e => proj (hnAt q ⟨128 * j.val + l.val, by omega⟩) w ⟨64 * (n.val / 64) + e.val, by omega⟩)
    (cosAt q ⟨128 * j.val + l.val, by omega⟩) (sinAt q ⟨128 * j.val + l.val, by omega⟩) ⟨n.val % 64, by omega⟩ * qscale
def kAt (ρ : Fin 1024) (n : Fin 256) : EReal :=
  turn (fun e => proj (hnAt q ρ) w ⟨1024 + 64 * (n.val / 64) + e.val, by omega⟩) (cosAt q ρ) (sinAt q ρ) ⟨n.val % 64, by omega⟩
def vAt (j : Fin 8) (f : Fin 256) (l : Fin 128) : EReal := proj (hnAt q ⟨128 * j.val + l.val, by omega⟩) w ⟨1280 + f.val, by omega⟩

theorem qp_apply (hq : ∀ n k, WQ (ix2 n k) = w ⟨n.val, by omega⟩ k) (r : Fin 4) (f : Fin 1024) (i : Fin 256) :
    qpT (hn q r) WQ (ix2 f i) = proj (hnAt q ⟨256 * r.val + i.val, by omega⟩) w ⟨f.val, by omega⟩ := by
  rw [qpT_apply]
  unfold proj
  simp only [hn_apply, hq]
theorem kv_apply (hk : ∀ n k, WK (ix2 n k) = w ⟨1024 + n.val, by omega⟩ k) (r : Fin 4) (f : Fin 512) (i : Fin 256) :
    kvT (hn q r) WK (ix2 f i) = proj (hnAt q ⟨256 * r.val + i.val, by omega⟩) w ⟨1024 + f.val, by omega⟩ := by
  rw [kvT_apply]
  unfold proj
  simp only [hn_apply, hk]

theorem qP_apply (hq : ∀ n k, WQ (ix2 n k) = w ⟨n.val, by omega⟩ k) (r : Fin 4) (o : Nat) (ho : o + 512 ≤ 1024) (h64 : o % 64 = 0) (b : Nat) (hb : b + 128 ≤ 256)
    (j : Fin 8) (hj : 128 * j.val = 256 * r.val + b) (n : Fin 512) (l : Fin 128) :
    qP q WQ r o ho b hb (ix4 0 0 n l) = qAt q w j ⟨o + n.val, by omega⟩ l := by
  obtain ⟨h, e, rfl⟩ : ∃ (h : Fin 8) (e : Fin 64), n = ⟨64 * h.val + e.val, by omega⟩ :=
    ⟨⟨n.val / 64, by omega⟩, ⟨n.val % 64, by omega⟩, Fin.ext (show n.val = 64 * (n.val / 64) + n.val % 64 by omega)⟩
  unfold qP qAt
  rw [qT_apply, q512_apply]
  have e1 : (⟨256 * r.val + (b + l.val), by omega⟩ : Fin 1024) = ⟨128 * j.val + l.val, by omega⟩ := Fin.ext (show 256 * r.val + (b + l.val) = 128 * j.val + l.val by omega)
  have e2 : (⟨(o + (64 * h.val + e.val)) % 64, by omega⟩ : Fin 64) = e := Fin.ext (show (o + (64 * h.val + e.val)) % 64 = e.val by omega)
  simp only [qp_apply q WQ w hq, cosR_apply, sinR_apply, e1, e2]
  refine congrArg (fun v => turn v _ _ e * qscale) (funext fun d => ?_)
  exact congrArg (proj _ w) (Fin.ext (show o + 64 * h.val + d.val = 64 * ((o + (64 * h.val + e.val)) / 64) + d.val by omega))
theorem kP_apply (hk : ∀ n k, WK (ix2 n k) = w ⟨1024 + n.val, by omega⟩ k) (r : Fin 4) (a b : Nat) (ha : a + 128 ≤ 256) (hb : b + 128 ≤ 256)
    (i n : Fin 128) :
    kP q WK r a b ha hb (ix3 0 i n) = kAt q w ⟨256 * r.val + b + i.val, by omega⟩ ⟨a + n.val, by omega⟩ := by
  unfold kP kAt
  rw [kT_apply]
  have e0 : (⟨a + n.val, by omega⟩ : Fin 256) = ⟨64 * (⟨(a + n.val) / 64, by omega⟩ : Fin 4).val + (⟨(a + n.val) % 64, by omega⟩ : Fin 64).val, by
      show 64 * ((a + n.val) / 64) + (a + n.val) % 64 < 256; omega⟩ := Fin.ext (show a + n.val = 64 * ((a + n.val) / 64) + (a + n.val) % 64 by omega)
  have e1 : (⟨256 * r.val + (b + i.val), by omega⟩ : Fin 1024) = ⟨256 * r.val + b + i.val, by omega⟩ := Fin.ext (show 256 * r.val + (b + i.val) = 256 * r.val + b + i.val by omega)
  refine (congrArg (fun z => k256 (cosR q r) (sinR q r) (kvT (hn q r) WK) (ix2 z ⟨b + i.val, by omega⟩)) e0).trans ?_
  rw [k256_apply]
  simp only [kv_apply q WK w hk, cosR_apply, sinR_apply, e1]
  refine congrArg (fun v => turn v _ _ _) (funext fun d => ?_)
  exact congrArg (proj _ w) (Fin.ext (show 1024 + (64 * ((a + n.val) / 64) + d.val) = 1024 + 64 * ((a + n.val) / 64) + d.val by omega))
theorem vP_apply (hk : ∀ n k, WK (ix2 n k) = w ⟨1024 + n.val, by omega⟩ k) (r : Fin 4) (b : Nat) (hb : b + 128 ≤ 256)
    (j : Fin 8) (hj : 128 * j.val = 256 * r.val + b) (f : Fin 256) (l : Fin 128) :
    vP q WK r b hb (ix4 0 0 f l) = vAt q w j f l := by
  unfold vP vAt
  rw [vT_apply, kv_apply q WK w hk]
  have e1 : (⟨256 * r.val + (b + l.val), by omega⟩ : Fin 1024) = ⟨128 * j.val + l.val, by omega⟩ := Fin.ext (show 256 * r.val + (b + l.val) = 128 * j.val + l.val by omega)
  have e2 : (⟨1024 + (256 + f.val), by omega⟩ : Fin 1536) = ⟨1280 + f.val, by omega⟩ := Fin.ext (show 1024 + (256 + f.val) = 1280 + f.val by omega)
  exact congrArg₂ (fun ρ j => proj (hnAt q ρ) w j) e1 e2

theorem canon_qL (hq : ∀ n k, WQ (ix2 n k) = w ⟨n.val, by omega⟩ k) (j : Fin 8) (n : Fin 1024) (l : Fin 128) :
    View.canon (qL q WQ) (ix4 0 j n l) = qAt q w j n l := by
  refine View.canon_apply_of_pieces (fun y : S1x8x1024x128.Idx => qAt q w (y 1) (y 2) (y 3)) _ (fun p hp x => ?_) (ix4 0 j n l)
    (View.cover_of_tiledL (qL q WQ) S1x1x512x128.size (by sl_kernel_rfl) _)
  have key : ∀ (r : Fin 4) (o : Nat) (ho : o + 512 ≤ 1024) (_ : o % 64 = 0) (b : Nat) (hb : b + 128 ≤ 256) (j : Fin 8) (_ : 128 * j.val = 256 * r.val + b) (x : S1x1x512x128.Idx),
      qP q WQ r o ho b hb x = qAt q w ((rectQ j o ho).emb x 1) ((rectQ j o ho).emb x 2) ((rectQ j o ho).emb x 3) := by
    intro r o ho h64 b hb j hj x
    obtain ⟨d, d', f, l, rfl⟩ : ∃ (d d' : Fin 1) (f : Fin 512) (l : Fin 128), x = ix4 d d' f l := ⟨x 0, x 1, x 2, x 3, ValueIdx.eq_ix4 x⟩
    obtain rfl : d = 0 := Subsingleton.elim _ _
    obtain rfl : d' = 0 := Subsingleton.elim _ _
    rw [qP_apply q WQ w hq r o ho h64 b hb j hj]
    have e1 : (rectQ j o ho).emb (ix4 (0 : Fin 1) (0 : Fin 1) f l) 1 = j := Fin.ext (show j.val + 1 * 0 = j.val by omega)
    have e2 : (rectQ j o ho).emb (ix4 (0 : Fin 1) (0 : Fin 1) f l) 2 = (⟨o + f.val, by omega⟩ : Fin 1024) := Fin.ext (show o + 1 * f.val = o + f.val by omega)
    have e3 : (rectQ j o ho).emb (ix4 (0 : Fin 1) (0 : Fin 1) f l) 3 = l := Fin.ext (show 0 + 1 * l.val = l.val by omega)
    rw [e1, e2, e3]
  simp only [qL, List.mem_cons, List.not_mem_nil, or_false] at hp
  rcases hp with rfl | rfl | rfl | rfl | rfl | rfl | rfl | rfl | rfl | rfl | rfl | rfl | rfl | rfl | rfl | rfl
  · exact key 3 512 (by omega) rfl 128 (by omega) 7 rfl x
  · exact key 3 512 (by omega) rfl 0 (by omega) 6 rfl x
  · exact key 3 0 (by omega) rfl 128 (by omega) 7 rfl x
  · exact key 3 0 (by omega) rfl 0 (by omega) 6 rfl x
  · exact key 2 512 (by omega) rfl 128 (by omega) 5 rfl x
  · exact key 2 512 (by omega) rfl 0 (by omega) 4 rfl x
  · exact key 2 0 (by omega) rfl 128 (by omega) 5 rfl x
  · exact key 2 0 (by omega) rfl 0 (by omega) 4 rfl x
  · exact key 1 512 (by omega) rfl 128 (by omega) 3 rfl x
  · exact key 1 512 (by omega) rfl 0 (by omega) 2 rfl x
  · exact key 1 0 (by omega) rfl 128 (by omega) 3 rfl x
  · exact key 1 0 (by omega) rfl 0 (by omega) 2 rfl x
  · exact key 0 512 (by omega) rfl 128 (by omega) 1 rfl x
  · exact key 0 512 (by omega) rfl 0 (by omega) 0 rfl x
  · exact key 0 0 (by omega) rfl 128 (by omega) 1 rfl x
  · exact key 0 0 (by omega) rfl 0 (by omega) 0 rfl x

theorem canon_kL (hk : ∀ n k, WK (ix2 n k) = w ⟨1024 + n.val, by omega⟩ k) (ρ : Fin 1024) (n : Fin 256) :
    View.canon (kL q WK) (ix3 0 ρ n) = kAt q w ρ n := by
  refine View.canon_apply_of_pieces (fun y : S1x1024x256.Idx => kAt q w (y 1) (y 2)) _ (fun p hp x => ?_) (ix3 0 ρ n)
    (View.cover_of_tiledL (kL q WK) S1x128x128.size (by sl_kernel_rfl) _)
  have key : ∀ (r : Fin 4) (a b c : Nat) (ha : a + 128 ≤ 256) (hb : b + 128 ≤ 256) (hc : c + 128 ≤ 1024) (_ : c = 256 * r.val + b) (x : S1x128x128.Idx),
      kP q WK r a b ha hb x = kAt q w ((rectK c a hc ha).emb x 1) ((rectK c a hc ha).emb x 2) := by
    intro r a b c ha hb hc e x
    obtain ⟨d, i, f, rfl⟩ : ∃ (d : Fin 1) (i : Fin 128) (f : Fin 128), x = ix3 d i f := ⟨x 0, x 1, x 2, ValueIdx.eq_ix3 x⟩
    obtain rfl : d = 0 := Subsingleton.elim _ _
    rw [kP_apply q WK w hk r a b ha hb]
    refine congrArg₂ (kAt q w) (Fin.ext ?_) (Fin.ext ?_)
    · show 256 * r.val + b + i.val = c + 1 * i.val; omega
    · show a + f.val = a + 1 * f.val; omega
  simp only [kL, List.mem_cons, List.not_mem_nil, or_false] at hp
  rcases hp with rfl | rfl | rfl | rfl | rfl | rfl | rfl | rfl | rfl | rfl | rfl | rfl | rfl | rfl | rfl | rfl
  · exact key 3 128 128 896 (by omega) (by omega) (by omega) rfl x
  · exact key 3 0 128 896 (by omega) (by omega) (by omega) rfl x
  · exact key 3 128 0 768 (by omega) (by omega) (by omega) rfl x
  · exact key 3 0 0 768 (by omega) (by omega) (by omega) rfl x
  · exact key 2 128 128 640 (by omega) (by omega) (by omega) rfl x
  · exact key 2 0 128 640 (by omega) (by omega) (by omega) rfl x
  · exact key 2 128 0 512 (by omega) (by omega) (by omega) rfl x
  · exact key 2 0 0 512 (by omega) (by omega) (by omega) rfl x
  · exact key 1 128 128 384 (by omega) (by omega) (by omega) rfl x
  · exact key 1 0 128 384 (by omega) (by omega) (by omega) rfl x
  · exact key 1 128 0 256 (by omega) (by omega) (by omega) rfl x
  · exact key 1 0 0 256 (by omega) (by omega) (by omega) rfl x
  · exact key 0 128 128 128 (by omega) (by omega) (by omega) rfl x
  · exact key 0 0 128 128 (by omega) (by omega) (by omega) rfl x
  · exact key 0 128 0 0 (by omega) (by omega) (by omega) rfl x
  · exact key 0 0 0 0 (by omega) (by omega) (by omega) rfl x

theorem canon_vL (hk : ∀ n k, WK (ix2 n k) = w ⟨1024 + n.val, by omega⟩ k) (j : Fin 8) (f : Fin 256) (l : Fin 128) :
    View.canon (vL q WK) (ix4 0 j f l) = vAt q w j f l := by
  refine View.canon_apply_of_pieces (fun y : S1x8x256x128.Idx => vAt q w (y 1) (y 2) (y 3)) _ (fun p hp x => ?_) (ix4 0 j f l)
    (View.cover_of_tiledL (vL q WK) S1x1x256x128.size (by sl_kernel_rfl) _)
  have key : ∀ (r : Fin 4) (b : Nat) (hb : b + 128 ≤ 256) (j : Fin 8) (_ : 128 * j.val = 256 * r.val + b) (x : S1x1x256x128.Idx),
      vP q WK r b hb x = vAt q w ((rectV j).emb x 1) ((rectV j).emb x 2) ((rectV j).emb x 3) := by
    intro r b hb j hj x
    obtain ⟨d, d', f, l, rfl⟩ : ∃ (d d' : Fin 1) (f : Fin 256) (l : Fin 128), x = ix4 d d' f l := ⟨x 0, x 1, x 2, x 3, ValueIdx.eq_ix4 x⟩
    obtain rfl : d = 0 := Subsingleton.elim _ _
    obtain rfl : d' = 0 := Subsingleton.elim _ _
    rw [vP_apply q WK w hk r b hb j hj]
    have e1 : (rectV j).emb (ix4 (0 : Fin 1) (0 : Fin 1) f l) 1 = j := Fin.ext (show j.val + 1 * 0 = j.val by omega)
    have e2 : (rectV j).emb (ix4 (0 : Fin 1) (0 : Fin 1) f l) 2 = f := Fin.ext (show 0 + 1 * f.val = f.val by omega)
    have e3 : (rectV j).emb (ix4 (0 : Fin 1) (0 : Fin 1) f l) 3 = l := Fin.ext (show 0 + 1 * l.val = l.val by omega)
    rw [e1, e2, e3]
  simp only [vL, List.mem_cons, List.not_mem_nil, or_false] at hp
  rcases hp with rfl | rfl | rfl | rfl | rfl | rfl | rfl | rfl
  · exact key 3 128 (by omega) 7 rfl x
  · exact key 3 0 (by omega) 6 rfl x
  · exact key 2 128 (by omega) 5 rfl x
  · exact key 2 0 (by omega) 4 rfl x
  · exact key 1 128 (by omega) 3 rfl x
  · exact key 1 0 (by omega) 2 rfl x
  · exact key 0 128 (by omega) 1 rfl x
  · exact key 0 0 (by omega) 0 rfl x

end Rows

end Cert.AttnProj

end
-- ==== Proof.AttnProjRun.lean ====
module

public import proofs.«01_k».proof.Proof.AttnProj

@[expose] public section

set_option maxRecDepth 16384

/-! The attention's projections: the body at the first point, where it stores the weights, and at the others, where it finds them. -/

noncomputable section

namespace Cert.AttnProj

open Cert.Kernel6Ideal Cert.Kernel6Ideal.Gen Cert.Tail
open Idealize.ShloMosaic Idealize.ShloMosaic.TcCoe

def rectWQ : Rect S1536x1024 := Rect.unit (s := S1536x1024) ![0, 0] S1024x1024.size inb_S1536x1024_S1024x1024_0_0
def rectWK : Rect S1536x1024 := Rect.unit (s := S1536x1024) ![1024, 0] S512x1024.size inb_S1536x1024_S512x1024_1024_0

theorem embWQ (n k : Fin 1024) : rectWQ.emb (ix2 n k) = ix2 (⟨n.val, by omega⟩ : Fin 1536) k := by
  funext a; fin_cases a
  · exact Fin.ext (show 0 + 1 * n.val = n.val by omega)
  · exact Fin.ext (show 0 + 1 * k.val = k.val by omega)
theorem embWK (n : Fin 512) (k : Fin 1024) : rectWK.emb (ix2 n k) = ix2 (⟨1024 + n.val, by omega⟩ : Fin 1536) k := by
  funext a; fin_cases a
  · exact Fin.ext (show 1024 + 1 * n.val = 1024 + n.val by omega)
  · exact Fin.ext (show 0 + 1 * k.val = k.val by omega)

/-! ## The first point: the weights read back over their stores -/

def wqA (q : Blk) : Vec Ideal S1024x1024 .bf16 := q.a10.view.readCov (wL q) rectWQ.toLoadRect
def wkA (q : Blk) : Vec Ideal S512x1024 .bf16 := q.a10.view.readCov (wL q) rectWK.toLoadRect

theorem wqA_apply (q : Blk) (n k : Fin 1024) : wqA q (ix2 n k) = wts q ⟨n.val, by omega⟩ k := by
  rw [← canon_wL, ← embWQ]; unfold wqA; rw [View.readCov_eq_canon']; rfl
theorem wkA_apply (q : Blk) (n : Fin 512) (k : Fin 1024) : wkA q (ix2 n k) = wts q ⟨1024 + n.val, by omega⟩ k := by
  rw [← canon_wL, ← embWK]; unfold wkA; rw [View.readCov_eq_canon']; rfl

section A
variable (c : Dev nD) (i : grid0.Coords) (q : Blk) (hc : cond0_0 i)

theorem runA_5 : (kernelRun0_A (F := Ideal) c i q.a2 q.h2 q.a3 q.h3 q.a4 q.h4 q.a5 q.h5 q.a6 q.h6 q.a7 q.h7 q.a8 q.h8 q.a9 q.h9 q.a10 q.h10 hc q.x0 q.x1 q.x2 q.x3 q.x4).1 = qL q (wqA q) := rfl
theorem blockA_5 (j : Fin 8) (n : Fin 1024) (l : Fin 128) :
    out0_A_5 (F := Ideal) c i q.a2 q.h2 q.a3 q.h3 q.a4 q.h4 q.a5 q.h5 q.a6 q.h6 q.a7 q.h7 q.a8 q.h8 q.a9 q.h9 q.a10 q.h10 hc q.x0 q.x1 q.x2 q.x3 q.x4 (ix4 0 j n l) = qAt q (wts q) j n l := by
  unfold out0_A_5
  rw [View.read_writes_junk_eq_canon, runA_5]
  exact canon_qL q _ (wts q) (wqA_apply q) j n l
theorem runA_6 : (kernelRun0_A (F := Ideal) c i q.a2 q.h2 q.a3 q.h3 q.a4 q.h4 q.a5 q.h5 q.a6 q.h6 q.a7 q.h7 q.a8 q.h8 q.a9 q.h9 q.a10 q.h10 hc q.x0 q.x1 q.x2 q.x3 q.x4).2.1 = kL q (wkA q) := rfl
theorem blockA_6 (ρ : Fin 1024) (n : Fin 256) :
    out0_A_6 (F := Ideal) c i q.a2 q.h2 q.a3 q.h3 q.a4 q.h4 q.a5 q.h5 q.a6 q.h6 q.a7 q.h7 q.a8 q.h8 q.a9 q.h9 q.a10 q.h10 hc q.x0 q.x1 q.x2 q.x3 q.x4 (ix3 0 ρ n) = kAt q (wts q) ρ n := by
  unfold out0_A_6
  rw [View.read_writes_junk_eq_canon, runA_6]
  exact canon_kL q _ (wts q) (wkA_apply q) ρ n
theorem runA_7 : (kernelRun0_A (F := Ideal) c i q.a2 q.h2 q.a3 q.h3 q.a4 q.h4 q.a5 q.h5 q.a6 q.h6 q.a7 q.h7 q.a8 q.h8 q.a9 q.h9 q.a10 q.h10 hc q.x0 q.x1 q.x2 q.x3 q.x4).2.2.1 = vL q (wkA q) := rfl
theorem blockA_7 (j : Fin 8) (f : Fin 256) (l : Fin 128) :
    out0_A_7 (F := Ideal) c i q.a2 q.h2 q.a3 q.h3 q.a4 q.h4 q.a5 q.h5 q.a6 q.h6 q.a7 q.h7 q.a8 q.h8 q.a9 q.h9 q.a10 q.h10 hc q.x0 q.x1 q.x2 q.x3 q.x4 (ix4 0 j f l) = vAt q (wts q) j f l := by
  unfold out0_A_7
  rw [View.read_writes_junk_eq_canon, runA_7]
  exact canon_vL q _ (wts q) (wkA_apply q) j f l
theorem runA_s0 : (kernelRun0_A (F := Ideal) c i q.a2 q.h2 q.a3 q.h3 q.a4 q.h4 q.a5 q.h5 q.a6 q.h6 q.a7 q.h7 q.a8 q.h8 q.a9 q.h9 q.a10 q.h10 hc q.x0 q.x1 q.x2 q.x3 q.x4).2.2.2.1 = wL q := rfl
theorem keptA_0 (j : Fin 1536) (d : Fin 1024) :
    sout0_A_0 (F := Ideal) c i q.a2 q.h2 q.a3 q.h3 q.a4 q.h4 q.a5 q.h5 q.a6 q.h6 q.a7 q.h7 q.a8 q.h8 q.a9 q.h9 q.a10 q.h10 hc q.x0 q.x1 q.x2 q.x3 q.x4 (ix2 j d) = wts q j d := by
  unfold sout0_A_0
  rw [View.read_writes_junk_eq_canon, runA_s0]
  exact canon_wL q j d

end A

/-! ## The other points: the weights as the point before left them -/

section B
variable (c : Dev nD) (i : grid0.Coords) (q : Blk) (hc : ¬cond0_0 i) (xs0 : Vec Ideal S1536x1024 .bf16)
  (w : Fin 1536 → Fin 1024 → EReal)

def wqB : Vec Ideal S1024x1024 .bf16 := View.readAt (Elt Ideal) q.a10.view rectWQ.toLoadRect (q.h10.unread xs0)
def wkB : Vec Ideal S512x1024 .bf16 := View.readAt (Elt Ideal) q.a10.view rectWK.toLoadRect (q.h10.unread xs0)

theorem wqB_apply (h0 : ∀ j d, xs0 (ix2 j d) = w j d) (n k : Fin 1024) : wqB q xs0 (ix2 n k) = w ⟨n.val, by omega⟩ k := by
  rw [← h0, ← embWQ]; exact Memref.IsWhole.readAt_unread q.h10 xs0 rectWQ.toLoadRect (ix2 n k)
theorem wkB_apply (h0 : ∀ j d, xs0 (ix2 j d) = w j d) (n : Fin 512) (k : Fin 1024) : wkB q xs0 (ix2 n k) = w ⟨1024 + n.val, by omega⟩ k := by
  rw [← h0, ← embWK]; exact Memref.IsWhole.readAt_unread q.h10 xs0 rectWK.toLoadRect (ix2 n k)

theorem runB_5 : (kernelRun0_B (F := Ideal) c i q.a2 q.h2 q.a3 q.h3 q.a4 q.h4 q.a5 q.h5 q.a6 q.h6 q.a7 q.h7 q.a8 q.h8 q.a9 q.h9 q.a10 q.h10 hc q.x0 q.x1 q.x2 q.x3 q.x4 xs0).1 = qL q (wqB q xs0) := rfl
theorem blockB_5 (h0 : ∀ j d, xs0 (ix2 j d) = w j d) (j : Fin 8) (n : Fin 1024) (l : Fin 128) :
    out0_B_5 (F := Ideal) c i q.a2 q.h2 q.a3 q.h3 q.a4 q.h4 q.a5 q.h5 q.a6 q.h6 q.a7 q.h7 q.a8 q.h8 q.a9 q.h9 q.a10 q.h10 hc q.x0 q.x1 q.x2 q.x3 q.x4 xs0 (ix4 0 j n l) = qAt q w j n l := by
  unfold out0_B_5
  rw [View.read_writes_junk_eq_canon, runB_5]
  exact canon_qL q _ w (wqB_apply q xs0 w h0) j n l
theorem runB_6 : (kernelRun0_B (F := Ideal) c i q.a2 q.h2 q.a3 q.h3 q.a4 q.h4 q.a5 q.h5 q.a6 q.h6 q.a7 q.h7 q.a8 q.h8 q.a9 q.h9 q.a10 q.h10 hc q.x0 q.x1 q.x2 q.x3 q.x4 xs0).2.1 = kL q (wkB q xs0) := rfl
theorem blockB_6 (h0 : ∀ j d, xs0 (ix2 j d) = w j d) (ρ : Fin 1024) (n : Fin 256) :
    out0_B_6 (F := Ideal) c i q.a2 q.h2 q.a3 q.h3 q.a4 q.h4 q.a5 q.h5 q.a6 q.h6 q.a7 q.h7 q.a8 q.h8 q.a9 q.h9 q.a10 q.h10 hc q.x0 q.x1 q.x2 q.x3 q.x4 xs0 (ix3 0 ρ n) = kAt q w ρ n := by
  unfold out0_B_6
  rw [View.read_writes_junk_eq_canon, runB_6]
  exact canon_kL q _ w (wkB_apply q xs0 w h0) ρ n
theorem runB_7 : (kernelRun0_B (F := Ideal) c i q.a2 q.h2 q.a3 q.h3 q.a4 q.h4 q.a5 q.h5 q.a6 q.h6 q.a7 q.h7 q.a8 q.h8 q.a9 q.h9 q.a10 q.h10 hc q.x0 q.x1 q.x2 q.x3 q.x4 xs0).2.2.1 = vL q (wkB q xs0) := rfl
theorem blockB_7 (h0 : ∀ j d, xs0 (ix2 j d) = w j d) (j : Fin 8) (f : Fin 256) (l : Fin 128) :
    out0_B_7 (F := Ideal) c i q.a2 q.h2 q.a3 q.h3 q.a4 q.h4 q.a5 q.h5 q.a6 q.h6 q.a7 q.h7 q.a8 q.h8 q.a9 q.h9 q.a10 q.h10 hc q.x0 q.x1 q.x2 q.x3 q.x4 xs0 (ix4 0 j f l) = vAt q w j f l := by
  unfold out0_B_7
  rw [View.read_writes_junk_eq_canon, runB_7]
  exact canon_vL q _ w (wkB_apply q xs0 w h0) j f l

end B

end Cert.AttnProj

end
-- ==== Proof.AttnProjArr.lean ====
module

public import proofs.«01_k».proof.Proof.AttnProjRun
public import Idealize.ShloMosaic.Lib.StableHlo.RunRead

@[expose] public section

set_option maxRecDepth 16384

/-! The attention's projections: the three results' arrays, from the arguments'. -/

noncomputable section

namespace Cert.AttnProj

open Cert.Kernel6Ideal Cert.Kernel6Ideal.Gen Cert.Tail
open Idealize.ShloMosaic Idealize.ShloMosaic.TcCoe
open Idealize.ShloMosaic.Pipeline (Window)

/-! ## The results' entries -/

/-- The rotation's 32 frequencies: 10000 to the power of minus the number over 32. -/
def freqV : FVec Ideal S32 .f32 :=
  Host.powf (broadcastInDim S32 ![] bcast_S_S32 (constant S_ .f32 0x461C4000#32))
    (Host.divf (Host.negf (sitofp .f32 (iotaInDim S32 32 0))) (broadcastInDim S32 ![] bcast_S_S32 (constant S_ .f32 0x42000000#32)))
def freq (e : Fin 32) : EReal := freqV (ix1 e)

section
variable (x : FVec Ideal S2x8192x1024 .f32) (P : Vec Ideal S2x8192 .i32) (nw : FVec Ideal S1024 .f32) (W : FVec Ideal S2x1024x1536 .f32)

/-- Position `s` of sequence `b`, normed. -/
def rowAt (b : Fin 2) (s : Fin 8192) : Fin 1024 → EReal := nrm (fun k => x (ix3 b s k)) (fun k => nw (ix1 k))
/-- Layer 0's weights, by output column. -/
def colsOf (j : Fin 1536) (k : Fin 1024) : EReal := W (ix3 0 k j)
/-- The angles' cosines and sines at a position. -/
def cosEnt (b : Fin 2) (s : Fin 8192) (e : Fin 32) : EReal := Ideal.cos (posR (P (ix2 b s)) * freq e)
def sinEnt (b : Fin 2) (s : Fin 8192) (e : Fin 32) : EReal := Ideal.sin (posR (P (ix2 b s)) * freq e)
/-- A query's component: chunk `j`, component `n`, position `l` of the chunk. -/
def qEnt (b : Fin 2) (j : Fin 64) (n : Fin 1024) (l : Fin 128) : EReal :=
  turn (fun e => proj (rowAt x nw b ⟨128 * j.val + l.val, by omega⟩) (colsOf W) ⟨64 * (n.val / 64) + e.val, by omega⟩)
    (cosEnt P b ⟨128 * j.val + l.val, by omega⟩) (sinEnt P b ⟨128 * j.val + l.val, by omega⟩) ⟨n.val % 64, by omega⟩ * qscale
/-- A key's component. -/
def kEnt (b : Fin 2) (s : Fin 8192) (n : Fin 256) : EReal :=
  turn (fun e => proj (rowAt x nw b s) (colsOf W) ⟨1024 + 64 * (n.val / 64) + e.val, by omega⟩) (cosEnt P b s) (sinEnt P b s) ⟨n.val % 64, by omega⟩
/-- A value's component: chunk `j`, component `f`, position `l` of the chunk. -/
def vEnt (b : Fin 2) (j : Fin 64) (f : Fin 256) (l : Fin 128) : EReal :=
  proj (rowAt x nw b ⟨128 * j.val + l.val, by omega⟩) (colsOf W) ⟨1280 + f.val, by omega⟩
end

variable (m : (ℓ : Loc nD τ sig) → Buf (Elt Ideal) ℓ)

/-! ## The arguments' arrays -/

abbrev arg0 (c : Dev nD) : FVec Ideal S2x8192x1024 .f32 := m ((c : Thread nD τ).loc main_arg0)
abbrev arg1 (c : Dev nD) : Vec Ideal S2x8192 .i32 := m ((c : Thread nD τ).loc main_arg1)
abbrev arg2 (c : Dev nD) : FVec Ideal S1024 .f32 := m ((c : Thread nD τ).loc main_arg2)
abbrev arg3 (c : Dev nD) : FVec Ideal S2x1024x1536 .f32 := m ((c : Thread nD τ).loc main_arg3)

/-- The sequence of a point. -/
abbrev seqOf (t : Fin cfg0.N) : Fin 2 := ⟨(grid0.coords t 0).val, (grid0.coords t 0).isLt⟩
theorem chunk_lt (t : Fin cfg0.N) : (grid0.coords t 1).val < 8 := (grid0.coords t 1).isLt
/-- The position of a point's row. -/
abbrev posOf (t : Fin cfg0.N) (ρ : Fin 1024) : Fin 8192 := ⟨1024 * (grid0.coords t 1).val + ρ.val, by have := chunk_lt t; omega⟩
/-- The chunk of a point's chunk. -/
abbrev chOf (t : Fin cfg0.N) (j : Fin 8) : Fin 64 := ⟨8 * (grid0.coords t 1).val + j.val, by have := chunk_lt t; omega⟩

theorem index0 : ∀ t : Fin grid0.N, win0_0.index t = ![(grid0.coords t 0).val, (grid0.coords t 1).val, 0] := by decide +kernel
theorem blk0 (c : Dev nD) (t : Fin cfg0.N) (ρ : Fin 1024) (k : Fin 1024) : iblk m c 0 t (ix3 0 ρ k) = arg0 m c (ix3 (seqOf t) (posOf t ρ) k) := by
  show V m c main_arg0 ((win0_0.rect t).emb (ix3 0 ρ k)) = _
  rw [V_main_arg0]
  refine congrArg (arg0 m c) (funext fun a => ?_)
  fin_cases a <;> refine Fin.ext ?_ <;> refine (Window.rect_emb_val win0_0 t _ _).trans ?_ <;> rw [index0]
  · show (grid0.coords t 0).val * 1 + 0 = (grid0.coords t 0).val; omega
  · show (grid0.coords t 1).val * 1024 + ρ.val = 1024 * (grid0.coords t 1).val + ρ.val; omega
  · show 0 * 1024 + k.val = k.val; omega

theorem index1 : ∀ t : Fin grid0.N, win0_1.index t = ![0, 0] := by decide +kernel
/-- The vector as the host lays it out. -/
theorem host1 (c : Dev nD) : V m c main_v8 = shapeCast S1x1024 (arg2 m c) shapeCasts_S1024_S1x1024 := by
  rfl
theorem blk1 (c : Dev nD) (t : Fin cfg0.N) (k : Fin 1024) : iblk m c 1 t (ix2 0 k) = arg2 m c (ix1 k) := by
  have e : iblk m c 1 t (ix2 0 k) = V m c main_v8 (ix2 0 k) := by
    show V m c main_v8 ((win0_1.rect t).emb (ix2 0 k)) = _
    refine congrArg (V m c main_v8) (funext fun a => ?_)
    fin_cases a <;> refine Fin.ext ?_ <;> refine (Window.rect_emb_val win0_1 t _ _).trans ?_ <;> rw [index1]
    · show 0 * 1 + 0 = 0; omega
    · show 0 * 1024 + k.val = k.val; omega
  rw [e, host1]
  pointwise []

theorem index2 : ∀ t : Fin grid0.N, win0_2.index t = ![0, 0, 0] := by decide +kernel
theorem blk2 (c : Dev nD) (t : Fin cfg0.N) (j : Fin 1536) (k : Fin 1024) : iblk m c 2 t (ix3 0 k j) = colsOf (arg3 m c) j k := by
  show V m c main_arg3 ((win0_2.rect t).emb (ix3 0 k j)) = _
  rw [V_main_arg3]
  unfold colsOf
  refine congrArg (arg3 m c) (funext fun a => ?_)
  fin_cases a <;> refine Fin.ext ?_ <;> refine (Window.rect_emb_val win0_2 t _ _).trans ?_ <;> rw [index2]
  · rfl
  · show 0 * 1024 + k.val = k.val; omega
  · show 0 * 1536 + j.val = j.val; omega

theorem index3 : ∀ t : Fin grid0.N, win0_3.index t = ![(grid0.coords t 0).val, 0, (grid0.coords t 1).val] := by decide +kernel
/-- The positions as the host lays them out. -/
theorem host3 (c : Dev nD) : V m c main_v7 = shapeCast S2x1x8192 (arg1 m c) shapeCasts_S2x8192_S2x1x8192 := by
  rfl
theorem blk3 (c : Dev nD) (t : Fin cfg0.N) (ρ : Fin 1024) : iblk m c 3 t (ix3 0 0 ρ) = arg1 m c (ix2 (seqOf t) (posOf t ρ)) := by
  have e : iblk m c 3 t (ix3 0 0 ρ) = V m c main_v7 (ix3 (seqOf t) 0 (posOf t ρ)) := by
    show V m c main_v7 ((win0_3.rect t).emb (ix3 0 0 ρ)) = _
    refine congrArg (V m c main_v7) (funext fun a => ?_)
    fin_cases a <;> refine Fin.ext ?_ <;> refine (Window.rect_emb_val win0_3 t _ _).trans ?_ <;> rw [index3]
    · show (grid0.coords t 0).val * 1 + 0 = (grid0.coords t 0).val; omega
    · rfl
    · show (grid0.coords t 1).val * 1024 + ρ.val = 1024 * (grid0.coords t 1).val + ρ.val; omega
  rw [e, host3]
  generalize posOf t ρ = s
  generalize seqOf t = b
  pointwise []

theorem index4 : ∀ t : Fin grid0.N, win0_4.index t = ![0, 0] := by decide +kernel
/-- The frequencies as the host lays them out. -/
theorem host4 (c : Dev nD) : V m c main_v6 = shapeCast S32x1 freqV shapeCasts_S32_S32x1 := by
  rfl
theorem blk4 (c : Dev nD) (t : Fin cfg0.N) (k : Fin 32) : iblk m c 4 t (ix2 k 0) = freq k := by
  have e : iblk m c 4 t (ix2 k 0) = V m c main_v6 (ix2 k 0) := by
    show V m c main_v6 ((win0_4.rect t).emb (ix2 k 0)) = _
    refine congrArg (V m c main_v6) (funext fun a => ?_)
    fin_cases a <;> refine Fin.ext ?_ <;> refine (Window.rect_emb_val win0_4 t _ _).trans ?_ <;> rw [index4]
    · show 0 * 32 + k.val = k.val; omega
    · rfl
  rw [e, host4]
  unfold freq
  generalize freqV = v
  pointwise []

/-- A point's buffers and input blocks. -/
def ptBlk (c : Dev nD) (t : Fin cfg0.N) : Blk :=
  { a2 := ms0_0 t, h2 := hs0_0 t, a3 := ms0_1 t, h3 := hs0_1 t, a4 := ms0_2 t, h4 := hs0_2 t, a5 := ms0_3 t, h5 := hs0_3 t, a6 := ms0_4 t, h6 := hs0_4 t, a7 := ms0_5 t, h7 := hs0_5 t, a8 := ms0_6 t, h8 := hs0_6 t, a9 := ms0_7 t, h9 := hs0_7 t, a10 := scM0_0, h10 := Memref.isWhole_whole _, x0 := iblk m c 0 t, x1 := iblk m c 1 t, x2 := iblk m c 2 t, x3 := iblk m c 3 t, x4 := iblk m c 4 t }

theorem wts_eq (c : Dev nD) (t : Fin cfg0.N) : wts (ptBlk m c t) = colsOf (arg3 m c) := by
  funext j k
  exact blk2 m c t j k
theorem hnAt_eq (c : Dev nD) (t : Fin cfg0.N) (ρ : Fin 1024) : hnAt (ptBlk m c t) ρ = rowAt (arg0 m c) (arg2 m c) (seqOf t) (posOf t ρ) := by
  unfold hnAt rowAt
  dsimp only [ptBlk]
  simp only [blk0, blk1]
theorem cosAt_eq (c : Dev nD) (t : Fin cfg0.N) (ρ : Fin 1024) : cosAt (ptBlk m c t) ρ = cosEnt (arg1 m c) (seqOf t) (posOf t ρ) := by
  funext e
  unfold cosAt cosEnt
  dsimp only [ptBlk]
  rw [blk3, blk4]
theorem sinAt_eq (c : Dev nD) (t : Fin cfg0.N) (ρ : Fin 1024) : sinAt (ptBlk m c t) ρ = sinEnt (arg1 m c) (seqOf t) (posOf t ρ) := by
  funext e
  unfold sinAt sinEnt
  dsimp only [ptBlk]
  rw [blk3, blk4]

/-- Every point leaves the weights in the kept buffer. -/
theorem kept (c : Dev nD) : ∀ (n : Nat) (h : n < cfg0.N), ∀ j d, (outsAt0 m c n h).2.2.2 (ix2 j d) = colsOf (arg3 m c) j d := by
  have first : ∀ (n : Nat) (h : n < cfg0.N), n % 16 = 0 → ∀ j d, (outsAt0 m c n h).2.2.2 (ix2 j d) = colsOf (arg3 m c) j d := by
    intro n h h0 j d
    rw [outsAt0_A m c ⟨n, h⟩ h0, ← wts_eq m c ⟨n, h⟩]
    dsimp only
    exact keptA_0 c (grid0.coords ⟨n, h⟩) (ptBlk m c ⟨n, h⟩) ((hcond0_0 ⟨n, h⟩).mpr h0) j d
  intro n
  induction n with
  | zero => exact fun h => first 0 h rfl
  | succ n ih =>
    intro h
    by_cases h0 : (n + 1) % 16 = 0
    · exact first (n + 1) h h0
    · have i := ih (by omega)
      intro j d
      rw [outsAt0_B m c ⟨n + 1, h⟩ h0]
      dsimp only
      exact i j d

theorem chunkPos (t : Fin cfg0.N) (j : Fin 8) (l : Fin 128) :
    posOf t ⟨128 * j.val + l.val, by omega⟩ = ⟨128 * (chOf t j).val + l.val, by have := (chOf t j).isLt; omega⟩ := Fin.ext (by
  show 1024 * (grid0.coords t 1).val + (128 * j.val + l.val) = 128 * (8 * (grid0.coords t 1).val + j.val) + l.val
  omega)

theorem ent5 (c : Dev nD) (t : Fin cfg0.N) (j : Fin 8) (f : Fin 1024) (l : Fin 128) : qAt (ptBlk m c t) (colsOf (arg3 m c)) j f l = qEnt (arg0 m c) (arg1 m c) (arg2 m c) (arg3 m c) (seqOf t) (chOf t j) f l := by
  unfold qAt qEnt
  rw [hnAt_eq, cosAt_eq, sinAt_eq, chunkPos]
theorem flushed5_apply (c : Dev nD) (t : Fin cfg0.N) (j : Fin 8) (f : Fin 1024) (l : Fin 128) :
    (dats m 0 c).flushed 5 t (ix4 0 j f l) = qEnt (arg0 m c) (arg1 m c) (arg2 m c) (arg3 m c) (seqOf t) (chOf t j) f l := by
  rw [← ent5]
  by_cases h0 : t.val % 16 = 0
  · rw [Value.flushed5_A m c t h0, ← wts_eq m c t]
    exact blockA_5 c (grid0.coords t) (ptBlk m c t) ((hcond0_0 t).mpr h0) j f l
  · rw [Value.flushed5_B m c t h0]
    exact blockB_5 c (grid0.coords t) (ptBlk m c t) (fun h => h0 ((hcond0_0 t).mp h)) _ (colsOf (arg3 m c)) (kept m c (t.val - 1) (Nat.lt_of_le_of_lt (Nat.sub_le _ _) t.isLt)) j f l

/-- The result's array. -/
def res5 (c : Dev nD) : Buf (Elt Ideal) ((c : Thread nD τ).loc main_v9_0) := fun y : S2x64x1024x128.Idx =>
  qEnt (arg0 m c) (arg1 m c) (arg2 m c) (arg3 m c) (y 0) (y 1) (y 2) (y 3)

theorem index5 : ∀ t : Fin grid0.N, win0_5.index t = ![(grid0.coords t 0).val, (grid0.coords t 1).val, 0, 0] := by decide +kernel
theorem flush5 : ∀ t : Fin grid0.N, win0_5.flush t = true := by decide +kernel

theorem emb5 (t : Fin cfg0.N) (j : Fin 8) (f : Fin 1024) (l : Fin 128) : (win0_5.rect t).emb (ix4 0 j f l) = ix4 (seqOf t) (chOf t j) f l := by
  funext a
  fin_cases a <;> refine Fin.ext ?_ <;> refine (Window.rect_emb_val win0_5 t _ _).trans ?_ <;> rw [index5]
  · show (grid0.coords t 0).val * 1 + 0 = (grid0.coords t 0).val; omega
  · show (grid0.coords t 1).val * 8 + j.val = 8 * (grid0.coords t 1).val + j.val; omega
  · show 0 * 1024 + f.val = f.val; omega
  · show 0 * 128 + l.val = l.val; omega

theorem result5 (c : Dev nD) : (dats m 0 c).arrAt 5 cfg0.N = res5 m c := by
  refine (dats m 0 c).arrAt_eq_of_cover 5 (res5 m c) (fun t _ => ?_) (fun i => ?_)
  · funext y
    obtain ⟨b, j, f, l, rfl⟩ : ∃ (b : Fin 1) (j : Fin 8) (f : Fin 1024) (l : Fin 128), y = ix4 b j f l := ⟨y 0, y 1, y 2, y 3, ValueIdx.eq_ix4 y⟩
    obtain rfl : b = 0 := Subsingleton.elim _ _
    refine (flushed5_apply m c t j f l).trans ?_
    refine Eq.trans ?_ (show res5 m c ((win0_5.rect t).emb (ix4 0 j f l)) = _ from rfl)
    rw [emb5]; rfl
  · obtain ⟨b, s, f, l, rfl⟩ : ∃ (b : Fin 2) (s : Fin 64) (f : Fin 1024) (l : Fin 128), i = ix4 b s f l := ⟨i 0, i 1, i 2, i 3, ValueIdx.eq_ix4 i⟩
    have key : ∀ (p : Fin 2) (q : Fin 8), ∃ t : Fin grid0.N, (grid0.coords t 0).val = p.val ∧ (grid0.coords t 1).val = q.val := by decide +kernel
    obtain ⟨t, ht0, ht1⟩ := key b ⟨s.val / 8, by omega⟩
    refine ⟨t, flush5 t, ?_⟩
    have e : ix4 b s f l = (win0_5.rect t).emb (ix4 (0 : Fin 1) (⟨s.val % 8, by omega⟩ : Fin 8) f l) := by
      rw [emb5]
      refine congrArg₂ (fun b s => ix4 b s f l) (Fin.ext ht0.symm) (Fin.ext ?_)
      show s.val = 8 * (grid0.coords t 1).val + s.val % 8
      rw [ht1]; show s.val = 8 * (s.val / 8) + s.val % 8; omega
    rw [e]
    exact View.emb_mem_set _ _

theorem ent6 (c : Dev nD) (t : Fin cfg0.N) (ρ : Fin 1024) (n : Fin 256) : kAt (ptBlk m c t) (colsOf (arg3 m c)) ρ n = kEnt (arg0 m c) (arg1 m c) (arg2 m c) (arg3 m c) (seqOf t) (posOf t ρ) n := by
  unfold kAt kEnt
  rw [hnAt_eq, cosAt_eq, sinAt_eq]
theorem flushed6_apply (c : Dev nD) (t : Fin cfg0.N) (ρ : Fin 1024) (n : Fin 256) :
    (dats m 0 c).flushed 6 t (ix3 0 ρ n) = kEnt (arg0 m c) (arg1 m c) (arg2 m c) (arg3 m c) (seqOf t) (posOf t ρ) n := by
  rw [← ent6]
  by_cases h0 : t.val % 16 = 0
  · rw [Value.flushed6_A m c t h0, ← wts_eq m c t]
    exact blockA_6 c (grid0.coords t) (ptBlk m c t) ((hcond0_0 t).mpr h0) ρ n
  · rw [Value.flushed6_B m c t h0]
    exact blockB_6 c (grid0.coords t) (ptBlk m c t) (fun h => h0 ((hcond0_0 t).mp h)) _ (colsOf (arg3 m c)) (kept m c (t.val - 1) (Nat.lt_of_le_of_lt (Nat.sub_le _ _) t.isLt)) ρ n

/-- The result's array. -/
def res6 (c : Dev nD) : Buf (Elt Ideal) ((c : Thread nD τ).loc main_v9_1) := fun y : S2x8192x256.Idx =>
  kEnt (arg0 m c) (arg1 m c) (arg2 m c) (arg3 m c) (y 0) (y 1) (y 2)

theorem index6 : ∀ t : Fin grid0.N, win0_6.index t = ![(grid0.coords t 0).val, (grid0.coords t 1).val, 0] := by decide +kernel
theorem flush6 : ∀ t : Fin grid0.N, win0_6.flush t = true := by decide +kernel

theorem emb6 (t : Fin cfg0.N) (ρ : Fin 1024) (n : Fin 256) : (win0_6.rect t).emb (ix3 0 ρ n) = ix3 (seqOf t) (posOf t ρ) n := by
  funext a
  fin_cases a <;> refine Fin.ext ?_ <;> refine (Window.rect_emb_val win0_6 t _ _).trans ?_ <;> rw [index6]
  · show (grid0.coords t 0).val * 1 + 0 = (grid0.coords t 0).val; omega
  · show (grid0.coords t 1).val * 1024 + ρ.val = 1024 * (grid0.coords t 1).val + ρ.val; omega
  · show 0 * 256 + n.val = n.val; omega

theorem result6 (c : Dev nD) : (dats m 0 c).arrAt 6 cfg0.N = res6 m c := by
  refine (dats m 0 c).arrAt_eq_of_cover 6 (res6 m c) (fun t _ => ?_) (fun i => ?_)
  · funext y
    obtain ⟨b, ρ, n, rfl⟩ : ∃ (b : Fin 1) (ρ : Fin 1024) (n : Fin 256), y = ix3 b ρ n := ⟨y 0, y 1, y 2, ValueIdx.eq_ix3 y⟩
    obtain rfl : b = 0 := Subsingleton.elim _ _
    refine (flushed6_apply m c t ρ n).trans ?_
    refine Eq.trans ?_ (show res6 m c ((win0_6.rect t).emb (ix3 0 ρ n)) = _ from rfl)
    rw [emb6]; rfl
  · obtain ⟨b, s, n, rfl⟩ : ∃ (b : Fin 2) (s : Fin 8192) (n : Fin 256), i = ix3 b s n := ⟨i 0, i 1, i 2, ValueIdx.eq_ix3 i⟩
    have key : ∀ (p : Fin 2) (q : Fin 8), ∃ t : Fin grid0.N, (grid0.coords t 0).val = p.val ∧ (grid0.coords t 1).val = q.val := by decide +kernel
    obtain ⟨t, ht0, ht1⟩ := key b ⟨s.val / 1024, by omega⟩
    refine ⟨t, flush6 t, ?_⟩
    have e : ix3 b s n = (win0_6.rect t).emb (ix3 (0 : Fin 1) (⟨s.val % 1024, by omega⟩ : Fin 1024) n) := by
      rw [emb6]
      refine congrArg₂ (fun b s => ix3 b s n) (Fin.ext ht0.symm) (Fin.ext ?_)
      show s.val = 1024 * (grid0.coords t 1).val + s.val % 1024
      rw [ht1]; show s.val = 1024 * (s.val / 1024) + s.val % 1024; omega
    rw [e]
    exact View.emb_mem_set _ _

theorem ent7 (c : Dev nD) (t : Fin cfg0.N) (j : Fin 8) (f : Fin 256) (l : Fin 128) : vAt (ptBlk m c t) (colsOf (arg3 m c)) j f l = vEnt (arg0 m c) (arg2 m c) (arg3 m c) (seqOf t) (chOf t j) f l := by
  unfold vAt vEnt
  rw [hnAt_eq, chunkPos]
theorem flushed7_apply (c : Dev nD) (t : Fin cfg0.N) (j : Fin 8) (f : Fin 256) (l : Fin 128) :
    (dats m 0 c).flushed 7 t (ix4 0 j f l) = vEnt (arg0 m c) (arg2 m c) (arg3 m c) (seqOf t) (chOf t j) f l := by
  rw [← ent7]
  by_cases h0 : t.val % 16 = 0
  · rw [Value.flushed7_A m c t h0, ← wts_eq m c t]
    exact blockA_7 c (grid0.coords t) (ptBlk m c t) ((hcond0_0 t).mpr h0) j f l
  · rw [Value.flushed7_B m c t h0]
    exact blockB_7 c (grid0.coords t) (ptBlk m c t) (fun h => h0 ((hcond0_0 t).mp h)) _ (colsOf (arg3 m c)) (kept m c (t.val - 1) (Nat.lt_of_le_of_lt (Nat.sub_le _ _) t.isLt)) j f l

/-- The result's array. -/
def res7 (c : Dev nD) : Buf (Elt Ideal) ((c : Thread nD τ).loc main_v9_2) := fun y : S2x64x256x128.Idx =>
  vEnt (arg0 m c) (arg2 m c) (arg3 m c) (y 0) (y 1) (y 2) (y 3)

theorem index7 : ∀ t : Fin grid0.N, win0_7.index t = ![(grid0.coords t 0).val, (grid0.coords t 1).val, 0, 0] := by decide +kernel
theorem flush7 : ∀ t : Fin grid0.N, win0_7.flush t = true := by decide +kernel

theorem emb7 (t : Fin cfg0.N) (j : Fin 8) (f : Fin 256) (l : Fin 128) : (win0_7.rect t).emb (ix4 0 j f l) = ix4 (seqOf t) (chOf t j) f l := by
  funext a
  fin_cases a <;> refine Fin.ext ?_ <;> refine (Window.rect_emb_val win0_7 t _ _).trans ?_ <;> rw [index7]
  · show (grid0.coords t 0).val * 1 + 0 = (grid0.coords t 0).val; omega
  · show (grid0.coords t 1).val * 8 + j.val = 8 * (grid0.coords t 1).val + j.val; omega
  · show 0 * 256 + f.val = f.val; omega
  · show 0 * 128 + l.val = l.val; omega

theorem result7 (c : Dev nD) : (dats m 0 c).arrAt 7 cfg0.N = res7 m c := by
  refine (dats m 0 c).arrAt_eq_of_cover 7 (res7 m c) (fun t _ => ?_) (fun i => ?_)
  · funext y
    obtain ⟨b, j, f, l, rfl⟩ : ∃ (b : Fin 1) (j : Fin 8) (f : Fin 256) (l : Fin 128), y = ix4 b j f l := ⟨y 0, y 1, y 2, y 3, ValueIdx.eq_ix4 y⟩
    obtain rfl : b = 0 := Subsingleton.elim _ _
    refine (flushed7_apply m c t j f l).trans ?_
    refine Eq.trans ?_ (show res7 m c ((win0_7.rect t).emb (ix4 0 j f l)) = _ from rfl)
    rw [emb7]; rfl
  · obtain ⟨b, s, f, l, rfl⟩ : ∃ (b : Fin 2) (s : Fin 64) (f : Fin 256) (l : Fin 128), i = ix4 b s f l := ⟨i 0, i 1, i 2, i 3, ValueIdx.eq_ix4 i⟩
    have key : ∀ (p : Fin 2) (q : Fin 8), ∃ t : Fin grid0.N, (grid0.coords t 0).val = p.val ∧ (grid0.coords t 1).val = q.val := by decide +kernel
    obtain ⟨t, ht0, ht1⟩ := key b ⟨s.val / 8, by omega⟩
    refine ⟨t, flush7 t, ?_⟩
    have e : ix4 b s f l = (win0_7.rect t).emb (ix4 (0 : Fin 1) (⟨s.val % 8, by omega⟩ : Fin 8) f l) := by
      rw [emb7]
      refine congrArg₂ (fun b s => ix4 b s f l) (Fin.ext ht0.symm) (Fin.ext ?_)
      show s.val = 8 * (grid0.coords t 1).val + s.val % 8
      rw [ht1]; show s.val = 8 * (s.val / 8) + s.val % 8; omega
    rw [e]
    exact View.emb_mem_set _ _

end Cert.AttnProj

end
-- ==== Proof.AttnProjRef.lean ====
module

public import proofs.«01_k».proof.Proof.AttnProjArr
public import proofs.«01_k».proof.Proof.Gen.Reference6Ideal.Run
public import proofs.«01_k».proof.Proof.Gen.Reference6Ideal.Read
public import Idealize.ShloMosaic.Lib.KernelVsHost

@[expose] public section

set_option maxRecDepth 16384

/-! The reference's values, read off its operations. -/

noncomputable section

namespace Cert.AttnProjRef

open Cert.Reference6Ideal Cert.Reference6Ideal.Gen Cert.Reference6Ideal.Read Cert.Tail Cert.AttnProj
open Idealize.ShloMosaic Idealize.ShloMosaic.TcCoe

variable (x0 : FVec Ideal S2x8192x1024 .f32) (x1 : Vec Ideal S2x8192 .i32) (x2 : FVec Ideal S1024 .f32) (x3 : FVec Ideal S2x1024x1536 .f32)

theorem normed (b : Fin 2) (s : Fin 8192) (n : Fin 1024) :
    val_main_v12 (F := Ideal) x0 x2 (ix3 b s n) = rowAt x0 x2 b s n := by
  rw [val_main_v12_apply, val_main_v9_apply, val_main_v8_apply, val_main_v7_apply, val_main_v6_apply, val_main_v4_apply, val_main_v2_apply, val_main_v1_apply, val_main_v3_apply, val_main_v5_apply, val_main_v11_apply, val_main_v10_apply]
  unfold rowAt nrm rms
  refine congrArg₂ (· * ·) (congrArg (x0 (ix3 b s n) * ·) (congrArg (fun z => Ideal.rsqrt (Ideal.div z n1024 + eps)) ?_)) ?_
  · refine (congrArg₂ (· + ·) zero_bits (Finset.sum_congr rfl fun k _ => ?_)).trans (zero_add _)
    rw [val_main_v0_apply, show idx_main_v1 _ k = ix3 b s k from funext fun a => by fin_cases a <;> rfl]
    rfl
  · exact congrArg x2 (funext fun a => by fin_cases a; rfl)

theorem weights (k : Fin 1024) (j : Fin 1536) : val_main_v14 (F := Ideal) x3 (ix2 k j) = colsOf x3 j k := by
  rw [val_main_v14_apply, val_main_v13_apply]
  refine congrArg x3 (funext fun a => ?_)
  fin_cases a <;> refine Fin.ext ?_
  · rfl
  · show (k.val * 1536 + j.val) / 1536 % 1024 = k.val; omega
  · show (k.val * 1536 + j.val) % 1536 = j.val; omega

theorem projected (b : Fin 2) (s : Fin 8192) (j : Fin 1536) :
    val_main_v15 (F := Ideal) x0 x2 x3 (ix3 b s j) = proj (rowAt x0 x2 b s) (colsOf x3) j := by
  rw [val_main_v15_apply]
  unfold proj
  refine Finset.sum_congr rfl fun k _ => ?_
  rw [show lidx_main_v15 (ix3 b s j) k = ix3 b s k from funext fun a => by fin_cases a <;> rfl,
    show ridx_main_v15 (ix3 b s j) k = ix2 k j from funext fun a => by fin_cases a <;> rfl, normed, weights]

theorem headsQ (b : Fin 2) (s : Fin 8192) (h : Fin 16) (e : Fin 64) :
    val_main_v17 (F := Ideal) x0 x2 x3 (ix4 b s h e) = proj (rowAt x0 x2 b s) (colsOf x3) ⟨64 * h.val + e.val, by omega⟩ := by
  have e1 : idx_main_v17 (ix4 b s h e) = ix3 b s (⟨64 * h.val + e.val, by omega⟩ : Fin 1024) := by
    funext a
    fin_cases a <;> refine Fin.ext ?_
    · show (((b.val * 8192 + s.val) * 16 + h.val) * 64 + e.val) / 8388608 = b.val; omega
    · show (((b.val * 8192 + s.val) * 16 + h.val) * 64 + e.val) / 1024 % 8192 = s.val; omega
    · show (((b.val * 8192 + s.val) * 16 + h.val) * 64 + e.val) % 1024 = 64 * h.val + e.val; omega
  have e2 : idx_main_v16 (ix3 b s (⟨64 * h.val + e.val, by omega⟩ : Fin 1024)) = ix3 b s (⟨64 * h.val + e.val, by omega⟩ : Fin 1536) := by
    funext a
    fin_cases a <;> refine Fin.ext ?_
    · rfl
    · rfl
    · show 64 * h.val + e.val = 64 * h.val + e.val; omega
  rw [val_main_v17_apply, e1, val_main_v16_apply, e2, projected]

theorem freqQ : val_main_v23 (F := Ideal) = freqV := rfl
theorem anglesQ (b : Fin 2) (s : Fin 8192) (e : Fin 32) : val_main_v29 (F := Ideal) x1 (ix3 b s e) = posR (x1 (ix2 b s)) * freq e := by
  rw [val_main_v29_apply, val_main_v27_apply, val_main_v25_apply, val_main_v24_apply, val_main_v28_apply, val_main_v26_apply, freqQ]
  unfold freq
  refine congrArg₂ (fun (z w : EReal) => z * w) (congrArg (fun i => posR (x1 i)) ?_) (congrArg freqV ?_)
  · funext a; fin_cases a <;> rfl
  · funext a; fin_cases a; rfl
theorem cosQ (b : Fin 2) (s : Fin 8192) (e : Fin 32) : val_main_v31 (F := Ideal) x1 (ix4 b s 0 e) = cosEnt x1 b s e := by
  rw [val_main_v31_apply, show idx_main_v31 (ix4 b s 0 e) = ix3 b s e from funext fun a => by fin_cases a <;> rfl, val_main_v30_apply, anglesQ]
  rfl
theorem sinQ (b : Fin 2) (s : Fin 8192) (e : Fin 32) : val_main_v33 (F := Ideal) x1 (ix4 b s 0 e) = sinEnt x1 b s e := by
  rw [val_main_v33_apply, show idx_main_v33 (ix4 b s 0 e) = ix3 b s e from funext fun a => by fin_cases a <;> rfl, val_main_v32_apply, anglesQ]
  rfl
theorem loQ (b : Fin 2) (s : Fin 8192) (h : Fin 16) (e : Fin 32) :
    val_main_v34 (F := Ideal) x0 x2 x3 (ix4 b s h e) = val_main_v17 (F := Ideal) x0 x2 x3 (ix4 b s h (⟨e.val, by omega⟩ : Fin 64)) := by
  rw [val_main_v34_apply]
  exact congrArg (val_main_v17 (F := Ideal) x0 x2 x3) (funext fun a => by fin_cases a <;> rfl)
theorem hiQ (b : Fin 2) (s : Fin 8192) (h : Fin 16) (e : Fin 32) :
    val_main_v35 (F := Ideal) x0 x2 x3 (ix4 b s h e) = val_main_v17 (F := Ideal) x0 x2 x3 (ix4 b s h (⟨32 + e.val, by omega⟩ : Fin 64)) := by
  rw [val_main_v35_apply]
  exact congrArg (val_main_v17 (F := Ideal) x0 x2 x3) (funext fun a => by fin_cases a <;> rfl)
theorem firstQ (b : Fin 2) (s : Fin 8192) (h : Fin 16) (e : Fin 32) :
    val_main_v40 (F := Ideal) x0 x1 x2 x3 (ix4 b s h e) = val_main_v17 (F := Ideal) x0 x2 x3 (ix4 b s h (⟨e.val, by omega⟩ : Fin 64)) * cosEnt x1 b s e
      - val_main_v17 (F := Ideal) x0 x2 x3 (ix4 b s h (⟨32 + e.val, by omega⟩ : Fin 64)) * sinEnt x1 b s e := by
  rw [val_main_v40_apply, val_main_v37_apply, val_main_v39_apply, val_main_v36_apply, val_main_v38_apply,
    show idx_main_v36 (ix4 b s h e) = ix4 b s 0 e from funext fun a => by fin_cases a <;> rfl,
    show idx_main_v38 (ix4 b s h e) = ix4 b s 0 e from funext fun a => by fin_cases a <;> rfl, cosQ, sinQ, loQ, hiQ]
  rfl
theorem secondQ (b : Fin 2) (s : Fin 8192) (h : Fin 16) (e : Fin 32) :
    val_main_v45 (F := Ideal) x0 x1 x2 x3 (ix4 b s h e) = val_main_v17 (F := Ideal) x0 x2 x3 (ix4 b s h (⟨32 + e.val, by omega⟩ : Fin 64)) * cosEnt x1 b s e
      + val_main_v17 (F := Ideal) x0 x2 x3 (ix4 b s h (⟨e.val, by omega⟩ : Fin 64)) * sinEnt x1 b s e := by
  rw [val_main_v45_apply, val_main_v42_apply, val_main_v44_apply, val_main_v41_apply, val_main_v43_apply,
    show idx_main_v41 (ix4 b s h e) = ix4 b s 0 e from funext fun a => by fin_cases a <;> rfl,
    show idx_main_v43 (ix4 b s h e) = ix4 b s 0 e from funext fun a => by fin_cases a <;> rfl, cosQ, sinQ, loQ, hiQ]
  rfl
/-- Both halves of a head, put together, are the head turned. -/
theorem joinQ (b : Fin 2) (s : Fin 8192) (h : Fin 16) (e : Fin 64) :
    val_main_v46 (F := Ideal) x0 x1 x2 x3 (ix4 b s h e) = turn (fun e => val_main_v17 (F := Ideal) x0 x2 x3 (ix4 b s h e)) (cosEnt x1 b s) (sinEnt x1 b s) e := by
  unfold val_main_v46
  rcases halves e with ⟨e', rfl⟩ | ⟨e', rfl⟩
  · rw [turn_lo, ← firstQ]
    generalize val_main_v40 (F := Ideal) x0 x1 x2 x3 = u
    generalize val_main_v45 (F := Ideal) x0 x1 x2 x3 = v
    refine concatenate_apply_piece (t := S2x8192x16x64) (3 : Fin 4) [⟨S2x8192x16x32, u⟩, ⟨S2x8192x16x32, v⟩] concatenates_S2x8192x16x32_S2x8192x16x32_S2x8192x16x64_d3 _ 0 (by show 0 < 2; omega) S2x8192x16x32 u rfl rfl 0 rfl (ix4 b s h e')
      (fun a ha => ?_) ?_
    · fin_cases a
      · rfl
      · rfl
      · rfl
      · exact absurd rfl ha
    · show 0 + e'.val = e'.val; omega
  · rw [turn_hi, ← secondQ]
    generalize val_main_v40 (F := Ideal) x0 x1 x2 x3 = u
    generalize val_main_v45 (F := Ideal) x0 x1 x2 x3 = v
    refine concatenate_apply_piece (t := S2x8192x16x64) (3 : Fin 4) [⟨S2x8192x16x32, u⟩, ⟨S2x8192x16x32, v⟩] concatenates_S2x8192x16x32_S2x8192x16x32_S2x8192x16x64_d3 _ 1 (by show 1 < 2; omega) S2x8192x16x32 v rfl rfl 32 rfl (ix4 b s h e')
      (fun a ha => ?_) ?_
    · fin_cases a
      · rfl
      · rfl
      · rfl
      · exact absurd rfl ha
    · show 32 + e'.val = 32 + e'.val; rfl

theorem headsK (b : Fin 2) (s : Fin 8192) (h : Fin 4) (e : Fin 64) :
    val_main_v48 (F := Ideal) x0 x2 x3 (ix4 b s h e) = proj (rowAt x0 x2 b s) (colsOf x3) ⟨1024 + 64 * h.val + e.val, by omega⟩ := by
  have e1 : idx_main_v48 (ix4 b s h e) = ix3 b s (⟨64 * h.val + e.val, by omega⟩ : Fin 256) := by
    funext a
    fin_cases a <;> refine Fin.ext ?_
    · show (((b.val * 8192 + s.val) * 4 + h.val) * 64 + e.val) / 2097152 = b.val; omega
    · show (((b.val * 8192 + s.val) * 4 + h.val) * 64 + e.val) / 256 % 8192 = s.val; omega
    · show (((b.val * 8192 + s.val) * 4 + h.val) * 64 + e.val) % 256 = 64 * h.val + e.val; omega
  have e2 : idx_main_v47 (ix3 b s (⟨64 * h.val + e.val, by omega⟩ : Fin 256)) = ix3 b s (⟨1024 + 64 * h.val + e.val, by omega⟩ : Fin 1536) := by
    funext a
    fin_cases a <;> refine Fin.ext ?_
    · rfl
    · rfl
    · show 1024 + (64 * h.val + e.val) = 1024 + 64 * h.val + e.val; omega
  rw [val_main_v48_apply, e1, val_main_v47_apply, e2, projected]

theorem freqK : val_main_v54 (F := Ideal) = freqV := rfl
theorem anglesK (b : Fin 2) (s : Fin 8192) (e : Fin 32) : val_main_v60 (F := Ideal) x1 (ix3 b s e) = posR (x1 (ix2 b s)) * freq e := by
  rw [val_main_v60_apply, val_main_v58_apply, val_main_v56_apply, val_main_v55_apply, val_main_v59_apply, val_main_v57_apply, freqK]
  unfold freq
  refine congrArg₂ (fun (z w : EReal) => z * w) (congrArg (fun i => posR (x1 i)) ?_) (congrArg freqV ?_)
  · funext a; fin_cases a <;> rfl
  · funext a; fin_cases a; rfl
theorem cosK (b : Fin 2) (s : Fin 8192) (e : Fin 32) : val_main_v62 (F := Ideal) x1 (ix4 b s 0 e) = cosEnt x1 b s e := by
  rw [val_main_v62_apply, show idx_main_v62 (ix4 b s 0 e) = ix3 b s e from funext fun a => by fin_cases a <;> rfl, val_main_v61_apply, anglesK]
  rfl
theorem sinK (b : Fin 2) (s : Fin 8192) (e : Fin 32) : val_main_v64 (F := Ideal) x1 (ix4 b s 0 e) = sinEnt x1 b s e := by
  rw [val_main_v64_apply, show idx_main_v64 (ix4 b s 0 e) = ix3 b s e from funext fun a => by fin_cases a <;> rfl, val_main_v63_apply, anglesK]
  rfl
theorem loK (b : Fin 2) (s : Fin 8192) (h : Fin 4) (e : Fin 32) :
    val_main_v65 (F := Ideal) x0 x2 x3 (ix4 b s h e) = val_main_v48 (F := Ideal) x0 x2 x3 (ix4 b s h (⟨e.val, by omega⟩ : Fin 64)) := by
  rw [val_main_v65_apply]
  exact congrArg (val_main_v48 (F := Ideal) x0 x2 x3) (funext fun a => by fin_cases a <;> rfl)
theorem hiK (b : Fin 2) (s : Fin 8192) (h : Fin 4) (e : Fin 32) :
    val_main_v66 (F := Ideal) x0 x2 x3 (ix4 b s h e) = val_main_v48 (F := Ideal) x0 x2 x3 (ix4 b s h (⟨32 + e.val, by omega⟩ : Fin 64)) := by
  rw [val_main_v66_apply]
  exact congrArg (val_main_v48 (F := Ideal) x0 x2 x3) (funext fun a => by fin_cases a <;> rfl)
theorem firstK (b : Fin 2) (s : Fin 8192) (h : Fin 4) (e : Fin 32) :
    val_main_v71 (F := Ideal) x0 x1 x2 x3 (ix4 b s h e) = val_main_v48 (F := Ideal) x0 x2 x3 (ix4 b s h (⟨e.val, by omega⟩ : Fin 64)) * cosEnt x1 b s e
      - val_main_v48 (F := Ideal) x0 x2 x3 (ix4 b s h (⟨32 + e.val, by omega⟩ : Fin 64)) * sinEnt x1 b s e := by
  rw [val_main_v71_apply, val_main_v68_apply, val_main_v70_apply, val_main_v67_apply, val_main_v69_apply,
    show idx_main_v67 (ix4 b s h e) = ix4 b s 0 e from funext fun a => by fin_cases a <;> rfl,
    show idx_main_v69 (ix4 b s h e) = ix4 b s 0 e from funext fun a => by fin_cases a <;> rfl, cosK, sinK, loK, hiK]
  rfl
theorem secondK (b : Fin 2) (s : Fin 8192) (h : Fin 4) (e : Fin 32) :
    val_main_v76 (F := Ideal) x0 x1 x2 x3 (ix4 b s h e) = val_main_v48 (F := Ideal) x0 x2 x3 (ix4 b s h (⟨32 + e.val, by omega⟩ : Fin 64)) * cosEnt x1 b s e
      + val_main_v48 (F := Ideal) x0 x2 x3 (ix4 b s h (⟨e.val, by omega⟩ : Fin 64)) * sinEnt x1 b s e := by
  rw [val_main_v76_apply, val_main_v73_apply, val_main_v75_apply, val_main_v72_apply, val_main_v74_apply,
    show idx_main_v72 (ix4 b s h e) = ix4 b s 0 e from funext fun a => by fin_cases a <;> rfl,
    show idx_main_v74 (ix4 b s h e) = ix4 b s 0 e from funext fun a => by fin_cases a <;> rfl, cosK, sinK, loK, hiK]
  rfl
/-- Both halves of a head, put together, are the head turned. -/
theorem joinK (b : Fin 2) (s : Fin 8192) (h : Fin 4) (e : Fin 64) :
    val_main_v77 (F := Ideal) x0 x1 x2 x3 (ix4 b s h e) = turn (fun e => val_main_v48 (F := Ideal) x0 x2 x3 (ix4 b s h e)) (cosEnt x1 b s) (sinEnt x1 b s) e := by
  unfold val_main_v77
  rcases halves e with ⟨e', rfl⟩ | ⟨e', rfl⟩
  · rw [turn_lo, ← firstK]
    generalize val_main_v71 (F := Ideal) x0 x1 x2 x3 = u
    generalize val_main_v76 (F := Ideal) x0 x1 x2 x3 = v
    refine concatenate_apply_piece (t := S2x8192x4x64) (3 : Fin 4) [⟨S2x8192x4x32, u⟩, ⟨S2x8192x4x32, v⟩] concatenates_S2x8192x4x32_S2x8192x4x32_S2x8192x4x64_d3 _ 0 (by show 0 < 2; omega) S2x8192x4x32 u rfl rfl 0 rfl (ix4 b s h e')
      (fun a ha => ?_) ?_
    · fin_cases a
      · rfl
      · rfl
      · rfl
      · exact absurd rfl ha
    · show 0 + e'.val = e'.val; omega
  · rw [turn_hi, ← secondK]
    generalize val_main_v71 (F := Ideal) x0 x1 x2 x3 = u
    generalize val_main_v76 (F := Ideal) x0 x1 x2 x3 = v
    refine concatenate_apply_piece (t := S2x8192x4x64) (3 : Fin 4) [⟨S2x8192x4x32, u⟩, ⟨S2x8192x4x32, v⟩] concatenates_S2x8192x4x32_S2x8192x4x32_S2x8192x4x64_d3 _ 1 (by show 1 < 2; omega) S2x8192x4x32 v rfl rfl 32 rfl (ix4 b s h e')
      (fun a ha => ?_) ?_
    · fin_cases a
      · rfl
      · rfl
      · rfl
      · exact absurd rfl ha
    · show 32 + e'.val = 32 + e'.val; rfl

theorem queries (y : S2x64x1024x128.Idx) : val_main_v85 (F := Ideal) x0 x1 x2 x3 y = qEnt x0 x1 x2 x3 (y 0) (y 1) (y 2) (y 3) := by
  obtain ⟨b, j, n, l, rfl⟩ : ∃ (b : Fin 2) (j : Fin 64) (n : Fin 1024) (l : Fin 128), y = ix4 b j n l := ⟨y 0, y 1, y 2, y 3, ValueIdx.eq_ix4 y⟩
  have e1 : idx_main_v81 (ix4 b j l n) = ix4 b (⟨128 * j.val + l.val, by omega⟩ : Fin 8192) (⟨n.val / 64, by omega⟩ : Fin 16) (⟨n.val % 64, by omega⟩ : Fin 64) := by
    funext a
    fin_cases a <;> refine Fin.ext ?_
    · show (((b.val * 64 + j.val) * 128 + l.val) * 1024 + n.val) / 8388608 = b.val; omega
    · show (((b.val * 64 + j.val) * 128 + l.val) * 1024 + n.val) / 1024 % 8192 = 128 * j.val + l.val; omega
    · show (((b.val * 64 + j.val) * 128 + l.val) * 1024 + n.val) / 64 % 16 = n.val / 64; omega
    · show (((b.val * 64 + j.val) * 128 + l.val) * 1024 + n.val) % 64 = n.val % 64; omega
  rw [val_main_v85_apply, val_main_v82_apply, show idx_main_v82 (ix4 b j n l) = ix4 b j l n from funext fun a => by fin_cases a <;> rfl,
    val_main_v81_apply, e1, val_main_v80_apply, joinQ, val_main_v79_apply, val_main_cst_6_apply]
  simp only [headsQ]
  rfl

theorem keys (y : S2x8192x256.Idx) : val_main_v87 (F := Ideal) x0 x1 x2 x3 y = kEnt x0 x1 x2 x3 (y 0) (y 1) (y 2) := by
  obtain ⟨b, s, n, rfl⟩ : ∃ (b : Fin 2) (s : Fin 8192) (n : Fin 256), y = ix3 b s n := ⟨y 0, y 1, y 2, ValueIdx.eq_ix3 y⟩
  have e1 : idx_main_v86 (ix3 b s n) = ix4 b s (⟨n.val / 64, by omega⟩ : Fin 4) (⟨n.val % 64, by omega⟩ : Fin 64) := by
    funext a
    fin_cases a <;> refine Fin.ext ?_
    · show ((b.val * 8192 + s.val) * 256 + n.val) / 2097152 = b.val; omega
    · show ((b.val * 8192 + s.val) * 256 + n.val) / 256 % 8192 = s.val; omega
    · show ((b.val * 8192 + s.val) * 256 + n.val) / 64 % 4 = n.val / 64; omega
    · show ((b.val * 8192 + s.val) * 256 + n.val) % 64 = n.val % 64; omega
  rw [val_main_v87_apply, val_main_v86_apply, e1, joinK]
  simp only [headsK]
  rfl

theorem values (y : S2x64x256x128.Idx) : val_main_v88 (F := Ideal) x0 x2 x3 y = vEnt x0 x2 x3 (y 0) (y 1) (y 2) (y 3) := by
  obtain ⟨b, j, f, l, rfl⟩ : ∃ (b : Fin 2) (j : Fin 64) (f : Fin 256) (l : Fin 128), y = ix4 b j f l := ⟨y 0, y 1, y 2, y 3, ValueIdx.eq_ix4 y⟩
  have e1 : idx_main_v83 (ix4 b j l f) = ix3 b (⟨128 * j.val + l.val, by omega⟩ : Fin 8192) f := by
    funext a
    fin_cases a <;> refine Fin.ext ?_
    · show (((b.val * 64 + j.val) * 128 + l.val) * 256 + f.val) / 2097152 = b.val; omega
    · show (((b.val * 64 + j.val) * 128 + l.val) * 256 + f.val) / 256 % 8192 = 128 * j.val + l.val; omega
    · show (((b.val * 64 + j.val) * 128 + l.val) * 256 + f.val) % 256 = f.val; omega
  rw [val_main_v88_apply, val_main_v84_apply, show idx_main_v84 (ix4 b j f l) = ix4 b j l f from funext fun a => by fin_cases a <;> rfl,
    val_main_v83_apply, e1, val_main_v78_apply,
    show idx_main_v78 (ix3 b (⟨128 * j.val + l.val, by omega⟩ : Fin 8192) f) = ix3 b (⟨128 * j.val + l.val, by omega⟩ : Fin 8192) (⟨1280 + f.val, by omega⟩ : Fin 1536) from funext fun a => by fin_cases a <;> rfl,
    projected]
  rfl

end Cert.AttnProjRef

end
-- ==== Proof.AttnProjClaim.lean ====
module

public import proofs.«01_k».proof.Defs
public import proofs.«01_k».proof.Proof.Gen.Kernel6.Frame
public import proofs.«01_k».proof.Proof.AttnProjRef
public import Idealize.ShloMosaic.Lib.Quiescent

@[expose] public section

set_option maxRecDepth 16384

noncomputable section

namespace Cert.AttnProjClaim

open Idealize.ShloMosaic Idealize.ShloMosaic.TcCoe Idealize.SL.Sem

attribute [local instance] Cert.Kernel6.Gen.facts Cert.Kernel6Ideal.Gen.facts Cert.Reference6Ideal.Gen.facts

/-! ## The attention's projections -/

theorem kernel6_frame : Cert.quiescent_Kernel6 := fun m g _ => Cert.Kernel6.Gen.frame m g
theorem ideal6_frame : Cert.quiescent_Kernel6Ideal := fun m g _ => Cert.Kernel6Ideal.Gen.frame m g
theorem reference6_frame : Cert.quiescent_Reference6Ideal := fun m g _ =>
  (θ_run _ _ _).mono (fun r h => ⟨fun c => (h c).2.2.2, sem_eq_zero_of_no_sems (by decide) r.2⟩) (Cert.Reference6Ideal.Value.run m g)

theorem algebraic6 : Cert.algebraic_Kernel6Ideal_Reference6Ideal := by
  intro m g m' g' _ hm
  refine ⟨Cert.AttnProj.res5 m, Cert.AttnProj.res6 m, Cert.AttnProj.res7 m, ?_, ?_⟩
  · exact (θ_run _ _ _).mono (fun r h c => ⟨(h c).1.trans (Cert.AttnProj.result5 m c), (h c).2.1.trans (Cert.AttnProj.result6 m c),
      (h c).2.2.1.trans (Cert.AttnProj.result7 m c), (h c).2.2.2⟩) (Cert.Kernel6Ideal.Value.run_blocks m g)
  · refine (θ_run _ _ _).mono (fun r h c => ?_) (Cert.Reference6Ideal.Value.run m' g')
    obtain ⟨e0, e1, e2, e3⟩ := hm c
    obtain ⟨r0, r1, r2, hr⟩ := h c
    refine ⟨r0.trans ?_, r1.trans ?_, (r2.trans (Cert.Reference6Ideal.Read.val_main_v88_eq _ _ _)).trans ?_, hr⟩
    · rw [Cert.Reference6Ideal.Read.val_main_v85_eq, e0, e1, e2, e3]
      funext y
      exact Cert.AttnProjRef.queries _ _ _ _ y
    · rw [Cert.Reference6Ideal.Read.val_main_v87_eq, e0, e1, e2, e3]
      funext y
      exact Cert.AttnProjRef.keys _ _ _ _ y
    · rw [e0, e2, e3]
      funext y
      exact Cert.AttnProjRef.values _ _ _ y

end Cert.AttnProjClaim

end
-- ==== Proof.lean ====
module

public import proofs.«01_k».proof.Defs
public import proofs.«01_k».proof.Proof.AttnClaim
public import proofs.«01_k».proof.Proof.TailClaim
public import proofs.«01_k».proof.Proof.ProjClaim
public import proofs.«01_k».proof.Proof.AttnProjClaim

@[expose] public section

noncomputable section

namespace Cert.Proof

/-- Everything that the certificate claims. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  AttnClaim.kernel_frame, AttnClaim.ideal_frame, AttnClaim.reference_frame,
  TailClaim.kernel2_frame, TailClaim.ideal2_frame, TailClaim.reference2_frame,
  TailClaim.kernel3_frame, TailClaim.ideal3_frame, TailClaim.reference3_frame,
  TailClaim.kernel4_frame, TailClaim.ideal4_frame, TailClaim.reference4_frame,
  ProjClaim.kernel5_frame, ProjClaim.ideal5_frame, ProjClaim.reference5_frame,
  AttnProjClaim.kernel6_frame, AttnProjClaim.ideal6_frame, AttnProjClaim.reference6_frame,
  AttnClaim.preserves, AttnClaim.algebraic, TailClaim.algebraic2, TailClaim.algebraic3, TailClaim.algebraic4,
  ProjClaim.algebraic5, AttnProjClaim.algebraic6⟩

end Cert.Proof

end
